-- ==== Defs.lean ====
def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal (m : (ℓ : Loc Cert.GatherReferenceIdeal.nD Cert.GatherReferenceIdeal.τ Cert.GatherReferenceIdeal.sig) → Buf (Elt Ideal) ℓ) : Prop :=
  True

def Pre_GatherReferenceIdeal_in_range [hPre_in_range : Cert.Pre_in_range.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_in_range.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeReferenceIdeal (m : (ℓ : Loc Cert.DecodeReferenceIdeal.nD Cert.DecodeReferenceIdeal.τ Cert.DecodeReferenceIdeal.sig) → Buf (Elt Ideal) ℓ) : Prop :=
  True

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_EncodeIdeal_finite [hPre_finite : Cert.Pre_finite.Facts] (m : (ℓ : Loc Cert.EncodeIdeal.nD Cert.EncodeIdeal.τ Cert.EncodeIdeal.sig) → Buf (Elt Ideal) ℓ) : Prop :=
  ∀ c : Dev Cert.EncodeIdeal.nD,
    (Cert.Pre_finite.fn (F := Ideal) (m ((c.tc : Thread Cert.EncodeIdeal.nD Cert.EncodeIdeal.τ).loc Cert.EncodeIdeal.main_arg0)) (m ((c.tc : Thread Cert.EncodeIdeal.nD Cert.EncodeIdeal.τ).loc Cert.EncodeIdeal.main_arg1)) (m ((c.tc : Thread Cert.EncodeIdeal.nD Cert.EncodeIdeal.τ).loc Cert.EncodeIdeal.main_arg2)) (m ((c.tc : Thread Cert.EncodeIdeal.nD Cert.EncodeIdeal.τ).loc Cert.EncodeIdeal.main_arg3)) (m ((c.tc : Thread Cert.EncodeIdeal.nD Cert.EncodeIdeal.τ).loc Cert.EncodeIdeal.main_arg4)) (m ((c.tc : Thread Cert.EncodeIdeal.nD Cert.EncodeIdeal.τ).loc Cert.EncodeIdeal.main_arg5)) (m ((c.tc : Thread Cert.EncodeIdeal.nD Cert.EncodeIdeal.τ).loc Cert.EncodeIdeal.main_arg6)) (m ((c.tc : Thread Cert.EncodeIdeal.nD Cert.EncodeIdeal.τ).loc Cert.EncodeIdeal.main_arg7))) = (fun _ => 1#1)

def Pre_EncodeReferenceIdeal (m : (ℓ : Loc Cert.EncodeReferenceIdeal.nD Cert.EncodeReferenceIdeal.τ Cert.EncodeReferenceIdeal.sig) → Buf (Elt Ideal) ℓ) : Prop :=
  True

def Pre_EncodeReferenceIdeal_finite [hPre_finite : Cert.Pre_finite.Facts] (m : (ℓ : Loc Cert.EncodeReferenceIdeal.nD Cert.EncodeReferenceIdeal.τ Cert.EncodeReferenceIdeal.sig) → Buf (Elt Ideal) ℓ) : Prop :=
  ∀ c : Dev Cert.EncodeReferenceIdeal.nD,
    (Cert.Pre_finite.fn (F := Ideal) (m ((c.tc : Thread Cert.EncodeReferenceIdeal.nD Cert.EncodeReferenceIdeal.τ).loc Cert.EncodeReferenceIdeal.main_arg0)) (m ((c.tc : Thread Cert.EncodeReferenceIdeal.nD Cert.EncodeReferenceIdeal.τ).loc Cert.EncodeReferenceIdeal.main_arg1)) (m ((c.tc : Thread Cert.EncodeReferenceIdeal.nD Cert.EncodeReferenceIdeal.τ).loc Cert.EncodeReferenceIdeal.main_arg2)) (m ((c.tc : Thread Cert.EncodeReferenceIdeal.nD Cert.EncodeReferenceIdeal.τ).loc Cert.EncodeReferenceIdeal.main_arg3)) (m ((c.tc : Thread Cert.EncodeReferenceIdeal.nD Cert.EncodeReferenceIdeal.τ).loc Cert.EncodeReferenceIdeal.main_arg4)) (m ((c.tc : Thread Cert.EncodeReferenceIdeal.nD Cert.EncodeReferenceIdeal.τ).loc Cert.EncodeReferenceIdeal.main_arg5)) (m ((c.tc : Thread Cert.EncodeReferenceIdeal.nD Cert.EncodeReferenceIdeal.τ).loc Cert.EncodeReferenceIdeal.main_arg6)) (m ((c.tc : Thread Cert.EncodeReferenceIdeal.nD Cert.EncodeReferenceIdeal.τ).loc Cert.EncodeReferenceIdeal.main_arg7))) = (fun _ => 1#1)

def Pre_Tally (m : (ℓ : Loc Cert.Tally.nD Cert.Tally.τ Cert.Tally.sig) → Buf (Elt Bits) ℓ) : Prop :=
  True

def Pre_TallyIdeal (m : (ℓ : Loc Cert.TallyIdeal.nD Cert.TallyIdeal.τ Cert.TallyIdeal.sig) → Buf (Elt Ideal) ℓ) : Prop :=
  True

def Pre_TallyIdeal_untied [hPre_untied : Cert.Pre_untied.Facts] (m : (ℓ : Loc Cert.TallyIdeal.nD Cert.TallyIdeal.τ Cert.TallyIdeal.sig) → Buf (Elt Ideal) ℓ) : Prop :=
  ∀ c : Dev Cert.TallyIdeal.nD,
    (Cert.Pre_untied.fn (F := Ideal) (m ((c.tc : Thread Cert.TallyIdeal.nD Cert.TallyIdeal.τ).loc Cert.TallyIdeal.main_arg0)) (m ((c.tc : Thread Cert.TallyIdeal.nD Cert.TallyIdeal.τ).loc Cert.TallyIdeal.main_arg1)) (m ((c.tc : Thread Cert.TallyIdeal.nD Cert.TallyIdeal.τ).loc Cert.TallyIdeal.main_arg2)) (m ((c.tc : Thread Cert.TallyIdeal.nD Cert.TallyIdeal.τ).loc Cert.TallyIdeal.main_arg3)) (m ((c.tc : Thread Cert.TallyIdeal.nD Cert.TallyIdeal.τ).loc Cert.TallyIdeal.main_arg4)) (m ((c.tc : Thread Cert.TallyIdeal.nD Cert.TallyIdeal.τ).loc Cert.TallyIdeal.main_arg5)) (m ((c.tc : Thread Cert.TallyIdeal.nD Cert.TallyIdeal.τ).loc Cert.TallyIdeal.main_arg6)) (m ((c.tc : Thread Cert.TallyIdeal.nD Cert.TallyIdeal.τ).loc Cert.TallyIdeal.main_arg7))) = (fun _ => 1#1)

def Pre_TallyReferenceIdeal (m : (ℓ : Loc Cert.TallyReferenceIdeal.nD Cert.TallyReferenceIdeal.τ Cert.TallyReferenceIdeal.sig) → Buf (Elt Ideal) ℓ) : Prop :=
  True

def Pre_TallyReferenceIdeal_untied [hPre_untied : Cert.Pre_untied.Facts] (m : (ℓ : Loc Cert.TallyReferenceIdeal.nD Cert.TallyReferenceIdeal.τ Cert.TallyReferenceIdeal.sig) → Buf (Elt Ideal) ℓ) : Prop :=
  ∀ c : Dev Cert.TallyReferenceIdeal.nD,
    (Cert.Pre_untied.fn (F := Ideal) (m ((c.tc : Thread Cert.TallyReferenceIdeal.nD Cert.TallyReferenceIdeal.τ).loc Cert.TallyReferenceIdeal.main_arg0)) (m ((c.tc : Thread Cert.TallyReferenceIdeal.nD Cert.TallyReferenceIdeal.τ).loc Cert.TallyReferenceIdeal.main_arg1)) (m ((c.tc : Thread Cert.TallyReferenceIdeal.nD Cert.TallyReferenceIdeal.τ).loc Cert.TallyReferenceIdeal.main_arg2)) (m ((c.tc : Thread Cert.TallyReferenceIdeal.nD Cert.TallyReferenceIdeal.τ).loc Cert.TallyReferenceIdeal.main_arg3)) (m ((c.tc : Thread Cert.TallyReferenceIdeal.nD Cert.TallyReferenceIdeal.τ).loc Cert.TallyReferenceIdeal.main_arg4)) (m ((c.tc : Thread Cert.TallyReferenceIdeal.nD Cert.TallyReferenceIdeal.τ).loc Cert.TallyReferenceIdeal.main_arg5)) (m ((c.tc : Thread Cert.TallyReferenceIdeal.nD Cert.TallyReferenceIdeal.τ).loc Cert.TallyReferenceIdeal.main_arg6)) (m ((c.tc : Thread Cert.TallyReferenceIdeal.nD Cert.TallyReferenceIdeal.τ).loc Cert.TallyReferenceIdeal.main_arg7))) = (fun _ => 1#1)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReferenceIdeal_pre_in_range [hGatherReferenceIdeal : Cert.GatherReferenceIdeal.Facts] [hPre_in_range : Cert.Pre_in_range.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal_in_range m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2)
      ∧ r.2.mem ((c.tc : Thread Cert.Decode.nD Cert.Decode.τ).loc Cert.Decode.main_arg3) = m ((c.tc : Thread Cert.Decode.nD Cert.Decode.τ).loc Cert.Decode.main_arg3)
      ∧ r.2.mem ((c.tc : Thread Cert.Decode.nD Cert.Decode.τ).loc Cert.Decode.main_arg4) = m ((c.tc : Thread Cert.Decode.nD Cert.Decode.τ).loc Cert.Decode.main_arg4)
      ∧ r.2.mem ((c.tc : Thread Cert.Decode.nD Cert.Decode.τ).loc Cert.Decode.main_arg5) = m ((c.tc : Thread Cert.Decode.nD Cert.Decode.τ).loc Cert.Decode.main_arg5)
      ∧ r.2.mem ((c.tc : Thread Cert.Decode.nD Cert.Decode.τ).loc Cert.Decode.main_arg6) = m ((c.tc : Thread Cert.Decode.nD Cert.Decode.τ).loc Cert.Decode.main_arg6)
      ∧ r.2.mem ((c.tc : Thread Cert.Decode.nD Cert.Decode.τ).loc Cert.Decode.main_arg7) = m ((c.tc : Thread Cert.Decode.nD Cert.Decode.τ).loc Cert.Decode.main_arg7))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
      ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
      ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
      ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
      ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6)
      ∧ r.2.mem ((c.tc : Thread Cert.DecodeIdeal.nD Cert.DecodeIdeal.τ).loc Cert.DecodeIdeal.main_arg7) = m ((c.tc : Thread Cert.DecodeIdeal.nD Cert.DecodeIdeal.τ).loc Cert.DecodeIdeal.main_arg7))
      ∧ r.2.sem = fun _ => 0)

def quiescent_DecodeReferenceIdeal [hDecodeReferenceIdeal : Cert.DecodeReferenceIdeal.Facts] : Prop :=
  ∀ (m : (ℓ : Loc Cert.DecodeReferenceIdeal.nD Cert.DecodeReferenceIdeal.τ Cert.DecodeReferenceIdeal.sig) → Buf (Elt Ideal) ℓ) (g : Dev Cert.DecodeReferenceIdeal.nD → PrngReg), Pre_DecodeReferenceIdeal m →
    θ_run (Cert.DecodeReferenceIdeal.defs (F := Ideal)) (onTc (τ := Cert.DecodeReferenceIdeal.τ) (Cert.DecodeReferenceIdeal.main (F := Ideal))) ⟨m, fun _ => 0, g⟩ (fun r => (∀ c : Dev Cert.DecodeReferenceIdeal.nD,
      r.2.mem ((c.tc : Thread Cert.DecodeReferenceIdeal.nD Cert.DecodeReferenceIdeal.τ).loc Cert.DecodeReferenceIdeal.main_arg0) = m ((c.tc : Thread Cert.DecodeReferenceIdeal.nD Cert.DecodeReferenceIdeal.τ).loc Cert.DecodeReferenceIdeal.main_arg0)
      ∧ r.2.mem ((c.tc : Thread Cert.DecodeReferenceIdeal.nD Cert.DecodeReferenceIdeal.τ).loc Cert.DecodeReferenceIdeal.main_arg1) = m ((c.tc : Thread Cert.DecodeReferenceIdeal.nD Cert.DecodeReferenceIdeal.τ).loc Cert.DecodeReferenceIdeal.main_arg1)
      ∧ r.2.mem ((c.tc : Thread Cert.DecodeReferenceIdeal.nD Cert.DecodeReferenceIdeal.τ).loc Cert.DecodeReferenceIdeal.main_arg2) = m ((c.tc : Thread Cert.DecodeReferenceIdeal.nD Cert.DecodeReferenceIdeal.τ).loc Cert.DecodeReferenceIdeal.main_arg2)
      ∧ r.2.mem ((c.tc : Thread Cert.DecodeReferenceIdeal.nD Cert.DecodeReferenceIdeal.τ).loc Cert.DecodeReferenceIdeal.main_arg3) = m ((c.tc : Thread Cert.DecodeReferenceIdeal.nD Cert.DecodeReferenceIdeal.τ).loc Cert.DecodeReferenceIdeal.main_arg3)
      ∧ r.2.mem ((c.tc : Thread Cert.DecodeReferenceIdeal.nD Cert.DecodeReferenceIdeal.τ).loc Cert.DecodeReferenceIdeal.main_arg4) = m ((c.tc : Thread Cert.DecodeReferenceIdeal.nD Cert.DecodeReferenceIdeal.τ).loc Cert.DecodeReferenceIdeal.main_arg4)
      ∧ r.2.mem ((c.tc : Thread Cert.DecodeReferenceIdeal.nD Cert.DecodeReferenceIdeal.τ).loc Cert.DecodeReferenceIdeal.main_arg5) = m ((c.tc : Thread Cert.DecodeReferenceIdeal.nD Cert.DecodeReferenceIdeal.τ).loc Cert.DecodeReferenceIdeal.main_arg5)
      ∧ r.2.mem ((c.tc : Thread Cert.DecodeReferenceIdeal.nD Cert.DecodeReferenceIdeal.τ).loc Cert.DecodeReferenceIdeal.main_arg6) = m ((c.tc : Thread Cert.DecodeReferenceIdeal.nD Cert.DecodeReferenceIdeal.τ).loc Cert.DecodeReferenceIdeal.main_arg6)
      ∧ r.2.mem ((c.tc : Thread Cert.DecodeReferenceIdeal.nD Cert.DecodeReferenceIdeal.τ).loc Cert.DecodeReferenceIdeal.main_arg7) = m ((c.tc : Thread Cert.DecodeReferenceIdeal.nD Cert.DecodeReferenceIdeal.τ).loc Cert.DecodeReferenceIdeal.main_arg7))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3)
      ∧ r.2.mem ((c.tc : Thread Cert.Encode.nD Cert.Encode.τ).loc Cert.Encode.main_arg4) = m ((c.tc : Thread Cert.Encode.nD Cert.Encode.τ).loc Cert.Encode.main_arg4)
      ∧ r.2.mem ((c.tc : Thread Cert.Encode.nD Cert.Encode.τ).loc Cert.Encode.main_arg5) = m ((c.tc : Thread Cert.Encode.nD Cert.Encode.τ).loc Cert.Encode.main_arg5)
      ∧ r.2.mem ((c.tc : Thread Cert.Encode.nD Cert.Encode.τ).loc Cert.Encode.main_arg6) = m ((c.tc : Thread Cert.Encode.nD Cert.Encode.τ).loc Cert.Encode.main_arg6)
      ∧ r.2.mem ((c.tc : Thread Cert.Encode.nD Cert.Encode.τ).loc Cert.Encode.main_arg7) = m ((c.tc : Thread Cert.Encode.nD Cert.Encode.τ).loc Cert.Encode.main_arg7))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
      ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7))
      ∧ r.2.sem = fun _ => 0)

def quiescent_EncodeIdeal_pre_finite [hEncodeIdeal : Cert.EncodeIdeal.Facts] [hPre_finite : Cert.Pre_finite.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal_finite m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
      ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
      ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
      ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
      ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7))
      ∧ r.2.sem = fun _ => 0)

def quiescent_EncodeReferenceIdeal [hEncodeReferenceIdeal : Cert.EncodeReferenceIdeal.Facts] : Prop :=
  ∀ (m : (ℓ : Loc Cert.EncodeReferenceIdeal.nD Cert.EncodeReferenceIdeal.τ Cert.EncodeReferenceIdeal.sig) → Buf (Elt Ideal) ℓ) (g : Dev Cert.EncodeReferenceIdeal.nD → PrngReg), Pre_EncodeReferenceIdeal m →
    θ_run (Cert.EncodeReferenceIdeal.defs (F := Ideal)) (onTc (τ := Cert.EncodeReferenceIdeal.τ) (Cert.EncodeReferenceIdeal.main (F := Ideal))) ⟨m, fun _ => 0, g⟩ (fun r => (∀ c : Dev Cert.EncodeReferenceIdeal.nD,
      r.2.mem ((c.tc : Thread Cert.EncodeReferenceIdeal.nD Cert.EncodeReferenceIdeal.τ).loc Cert.EncodeReferenceIdeal.main_arg0) = m ((c.tc : Thread Cert.EncodeReferenceIdeal.nD Cert.EncodeReferenceIdeal.τ).loc Cert.EncodeReferenceIdeal.main_arg0)
      ∧ r.2.mem ((c.tc : Thread Cert.EncodeReferenceIdeal.nD Cert.EncodeReferenceIdeal.τ).loc Cert.EncodeReferenceIdeal.main_arg1) = m ((c.tc : Thread Cert.EncodeReferenceIdeal.nD Cert.EncodeReferenceIdeal.τ).loc Cert.EncodeReferenceIdeal.main_arg1)
      ∧ r.2.mem ((c.tc : Thread Cert.EncodeReferenceIdeal.nD Cert.EncodeReferenceIdeal.τ).loc Cert.EncodeReferenceIdeal.main_arg2) = m ((c.tc : Thread Cert.EncodeReferenceIdeal.nD Cert.EncodeReferenceIdeal.τ).loc Cert.EncodeReferenceIdeal.main_arg2)
      ∧ r.2.mem ((c.tc : Thread Cert.EncodeReferenceIdeal.nD Cert.EncodeReferenceIdeal.τ).loc Cert.EncodeReferenceIdeal.main_arg3) = m ((c.tc : Thread Cert.EncodeReferenceIdeal.nD Cert.EncodeReferenceIdeal.τ).loc Cert.EncodeReferenceIdeal.main_arg3)
      ∧ r.2.mem ((c.tc : Thread Cert.EncodeReferenceIdeal.nD Cert.EncodeReferenceIdeal.τ).loc Cert.EncodeReferenceIdeal.main_arg4) = m ((c.tc : Thread Cert.EncodeReferenceIdeal.nD Cert.EncodeReferenceIdeal.τ).loc Cert.EncodeReferenceIdeal.main_arg4)
      ∧ r.2.mem ((c.tc : Thread Cert.EncodeReferenceIdeal.nD Cert.EncodeReferenceIdeal.τ).loc Cert.EncodeReferenceIdeal.main_arg5) = m ((c.tc : Thread Cert.EncodeReferenceIdeal.nD Cert.EncodeReferenceIdeal.τ).loc Cert.EncodeReferenceIdeal.main_arg5)
      ∧ r.2.mem ((c.tc : Thread Cert.EncodeReferenceIdeal.nD Cert.EncodeReferenceIdeal.τ).loc Cert.EncodeReferenceIdeal.main_arg6) = m ((c.tc : Thread Cert.EncodeReferenceIdeal.nD Cert.EncodeReferenceIdeal.τ).loc Cert.EncodeReferenceIdeal.main_arg6)
      ∧ r.2.mem ((c.tc : Thread Cert.EncodeReferenceIdeal.nD Cert.EncodeReferenceIdeal.τ).loc Cert.EncodeReferenceIdeal.main_arg7) = m ((c.tc : Thread Cert.EncodeReferenceIdeal.nD Cert.EncodeReferenceIdeal.τ).loc Cert.EncodeReferenceIdeal.main_arg7))
      ∧ r.2.sem = fun _ => 0)

def quiescent_EncodeReferenceIdeal_pre_finite [hEncodeReferenceIdeal : Cert.EncodeReferenceIdeal.Facts] [hPre_finite : Cert.Pre_finite.Facts] : Prop :=
  ∀ (m : (ℓ : Loc Cert.EncodeReferenceIdeal.nD Cert.EncodeReferenceIdeal.τ Cert.EncodeReferenceIdeal.sig) → Buf (Elt Ideal) ℓ) (g : Dev Cert.EncodeReferenceIdeal.nD → PrngReg), Pre_EncodeReferenceIdeal_finite m →
    θ_run (Cert.EncodeReferenceIdeal.defs (F := Ideal)) (onTc (τ := Cert.EncodeReferenceIdeal.τ) (Cert.EncodeReferenceIdeal.main (F := Ideal))) ⟨m, fun _ => 0, g⟩ (fun r => (∀ c : Dev Cert.EncodeReferenceIdeal.nD,
      r.2.mem ((c.tc : Thread Cert.EncodeReferenceIdeal.nD Cert.EncodeReferenceIdeal.τ).loc Cert.EncodeReferenceIdeal.main_arg0) = m ((c.tc : Thread Cert.EncodeReferenceIdeal.nD Cert.EncodeReferenceIdeal.τ).loc Cert.EncodeReferenceIdeal.main_arg0)
      ∧ r.2.mem ((c.tc : Thread Cert.EncodeReferenceIdeal.nD Cert.EncodeReferenceIdeal.τ).loc Cert.EncodeReferenceIdeal.main_arg1) = m ((c.tc : Thread Cert.EncodeReferenceIdeal.nD Cert.EncodeReferenceIdeal.τ).loc Cert.EncodeReferenceIdeal.main_arg1)
      ∧ r.2.mem ((c.tc : Thread Cert.EncodeReferenceIdeal.nD Cert.EncodeReferenceIdeal.τ).loc Cert.EncodeReferenceIdeal.main_arg2) = m ((c.tc : Thread Cert.EncodeReferenceIdeal.nD Cert.EncodeReferenceIdeal.τ).loc Cert.EncodeReferenceIdeal.main_arg2)
      ∧ r.2.mem ((c.tc : Thread Cert.EncodeReferenceIdeal.nD Cert.EncodeReferenceIdeal.τ).loc Cert.EncodeReferenceIdeal.main_arg3) = m ((c.tc : Thread Cert.EncodeReferenceIdeal.nD Cert.EncodeReferenceIdeal.τ).loc Cert.EncodeReferenceIdeal.main_arg3)
      ∧ r.2.mem ((c.tc : Thread Cert.EncodeReferenceIdeal.nD Cert.EncodeReferenceIdeal.τ).loc Cert.EncodeReferenceIdeal.main_arg4) = m ((c.tc : Thread Cert.EncodeReferenceIdeal.nD Cert.EncodeReferenceIdeal.τ).loc Cert.EncodeReferenceIdeal.main_arg4)
      ∧ r.2.mem ((c.tc : Thread Cert.EncodeReferenceIdeal.nD Cert.EncodeReferenceIdeal.τ).loc Cert.EncodeReferenceIdeal.main_arg5) = m ((c.tc : Thread Cert.EncodeReferenceIdeal.nD Cert.EncodeReferenceIdeal.τ).loc Cert.EncodeReferenceIdeal.main_arg5)
      ∧ r.2.mem ((c.tc : Thread Cert.EncodeReferenceIdeal.nD Cert.EncodeReferenceIdeal.τ).loc Cert.EncodeReferenceIdeal.main_arg6) = m ((c.tc : Thread Cert.EncodeReferenceIdeal.nD Cert.EncodeReferenceIdeal.τ).loc Cert.EncodeReferenceIdeal.main_arg6)
      ∧ r.2.mem ((c.tc : Thread Cert.EncodeReferenceIdeal.nD Cert.EncodeReferenceIdeal.τ).loc Cert.EncodeReferenceIdeal.main_arg7) = m ((c.tc : Thread Cert.EncodeReferenceIdeal.nD Cert.EncodeReferenceIdeal.τ).loc Cert.EncodeReferenceIdeal.main_arg7))
      ∧ r.2.sem = fun _ => 0)

def quiescent_Tally [hTally : Cert.Tally.Facts] : Prop :=
  ∀ (m : (ℓ : Loc Cert.Tally.nD Cert.Tally.τ Cert.Tally.sig) → Buf (Elt Bits) ℓ) (g : Dev Cert.Tally.nD → PrngReg), Pre_Tally m →
    θ_run (Cert.Tally.defs (F := Bits)) (onTc (τ := Cert.Tally.τ) (Cert.Tally.main (F := Bits))) ⟨m, fun _ => 0, g⟩ (fun r => (∀ c : Dev Cert.Tally.nD,
      r.2.mem ((c.tc : Thread Cert.Tally.nD Cert.Tally.τ).loc Cert.Tally.main_arg0) = m ((c.tc : Thread Cert.Tally.nD Cert.Tally.τ).loc Cert.Tally.main_arg0)
      ∧ r.2.mem ((c.tc : Thread Cert.Tally.nD Cert.Tally.τ).loc Cert.Tally.main_arg1) = m ((c.tc : Thread Cert.Tally.nD Cert.Tally.τ).loc Cert.Tally.main_arg1)
      ∧ r.2.mem ((c.tc : Thread Cert.Tally.nD Cert.Tally.τ).loc Cert.Tally.main_arg2) = m ((c.tc : Thread Cert.Tally.nD Cert.Tally.τ).loc Cert.Tally.main_arg2)
      ∧ r.2.mem ((c.tc : Thread Cert.Tally.nD Cert.Tally.τ).loc Cert.Tally.main_arg3) = m ((c.tc : Thread Cert.Tally.nD Cert.Tally.τ).loc Cert.Tally.main_arg3)
      ∧ r.2.mem ((c.tc : Thread Cert.Tally.nD Cert.Tally.τ).loc Cert.Tally.main_arg4) = m ((c.tc : Thread Cert.Tally.nD Cert.Tally.τ).loc Cert.Tally.main_arg4)
      ∧ r.2.mem ((c.tc : Thread Cert.Tally.nD Cert.Tally.τ).loc Cert.Tally.main_arg5) = m ((c.tc : Thread Cert.Tally.nD Cert.Tally.τ).loc Cert.Tally.main_arg5)
      ∧ r.2.mem ((c.tc : Thread Cert.Tally.nD Cert.Tally.τ).loc Cert.Tally.main_arg6) = m ((c.tc : Thread Cert.Tally.nD Cert.Tally.τ).loc Cert.Tally.main_arg6)
      ∧ r.2.mem ((c.tc : Thread Cert.Tally.nD Cert.Tally.τ).loc Cert.Tally.main_arg7) = m ((c.tc : Thread Cert.Tally.nD Cert.Tally.τ).loc Cert.Tally.main_arg7))
      ∧ r.2.sem = fun _ => 0)

def quiescent_TallyIdeal [hTallyIdeal : Cert.TallyIdeal.Facts] : Prop :=
  ∀ (m : (ℓ : Loc Cert.TallyIdeal.nD Cert.TallyIdeal.τ Cert.TallyIdeal.sig) → Buf (Elt Ideal) ℓ) (g : Dev Cert.TallyIdeal.nD → PrngReg), Pre_TallyIdeal m →
    θ_run (Cert.TallyIdeal.defs (F := Ideal)) (onTc (τ := Cert.TallyIdeal.τ) (Cert.TallyIdeal.main (F := Ideal))) ⟨m, fun _ => 0, g⟩ (fun r => (∀ c : Dev Cert.TallyIdeal.nD,
      r.2.mem ((c.tc : Thread Cert.TallyIdeal.nD Cert.TallyIdeal.τ).loc Cert.TallyIdeal.main_arg0) = m ((c.tc : Thread Cert.TallyIdeal.nD Cert.TallyIdeal.τ).loc Cert.TallyIdeal.main_arg0)
      ∧ r.2.mem ((c.tc : Thread Cert.TallyIdeal.nD Cert.TallyIdeal.τ).loc Cert.TallyIdeal.main_arg1) = m ((c.tc : Thread Cert.TallyIdeal.nD Cert.TallyIdeal.τ).loc Cert.TallyIdeal.main_arg1)
      ∧ r.2.mem ((c.tc : Thread Cert.TallyIdeal.nD Cert.TallyIdeal.τ).loc Cert.TallyIdeal.main_arg2) = m ((c.tc : Thread Cert.TallyIdeal.nD Cert.TallyIdeal.τ).loc Cert.TallyIdeal.main_arg2)
      ∧ r.2.mem ((c.tc : Thread Cert.TallyIdeal.nD Cert.TallyIdeal.τ).loc Cert.TallyIdeal.main_arg3) = m ((c.tc : Thread Cert.TallyIdeal.nD Cert.TallyIdeal.τ).loc Cert.TallyIdeal.main_arg3)
      ∧ r.2.mem ((c.tc : Thread Cert.TallyIdeal.nD Cert.TallyIdeal.τ).loc Cert.TallyIdeal.main_arg4) = m ((c.tc : Thread Cert.TallyIdeal.nD Cert.TallyIdeal.τ).loc Cert.TallyIdeal.main_arg4)
      ∧ r.2.mem ((c.tc : Thread Cert.TallyIdeal.nD Cert.TallyIdeal.τ).loc Cert.TallyIdeal.main_arg5) = m ((c.tc : Thread Cert.TallyIdeal.nD Cert.TallyIdeal.τ).loc Cert.TallyIdeal.main_arg5)
      ∧ r.2.mem ((c.tc : Thread Cert.TallyIdeal.nD Cert.TallyIdeal.τ).loc Cert.TallyIdeal.main_arg6) = m ((c.tc : Thread Cert.TallyIdeal.nD Cert.TallyIdeal.τ).loc Cert.TallyIdeal.main_arg6)
      ∧ r.2.mem ((c.tc : Thread Cert.TallyIdeal.nD Cert.TallyIdeal.τ).loc Cert.TallyIdeal.main_arg7) = m ((c.tc : Thread Cert.TallyIdeal.nD Cert.TallyIdeal.τ).loc Cert.TallyIdeal.main_arg7))
      ∧ r.2.sem = fun _ => 0)

def quiescent_TallyIdeal_pre_untied [hTallyIdeal : Cert.TallyIdeal.Facts] [hPre_untied : Cert.Pre_untied.Facts] : Prop :=
  ∀ (m : (ℓ : Loc Cert.TallyIdeal.nD Cert.TallyIdeal.τ Cert.TallyIdeal.sig) → Buf (Elt Ideal) ℓ) (g : Dev Cert.TallyIdeal.nD → PrngReg), Pre_TallyIdeal_untied m →
    θ_run (Cert.TallyIdeal.defs (F := Ideal)) (onTc (τ := Cert.TallyIdeal.τ) (Cert.TallyIdeal.main (F := Ideal))) ⟨m, fun _ => 0, g⟩ (fun r => (∀ c : Dev Cert.TallyIdeal.nD,
      r.2.mem ((c.tc : Thread Cert.TallyIdeal.nD Cert.TallyIdeal.τ).loc Cert.TallyIdeal.main_arg0) = m ((c.tc : Thread Cert.TallyIdeal.nD Cert.TallyIdeal.τ).loc Cert.TallyIdeal.main_arg0)
      ∧ r.2.mem ((c.tc : Thread Cert.TallyIdeal.nD Cert.TallyIdeal.τ).loc Cert.TallyIdeal.main_arg1) = m ((c.tc : Thread Cert.TallyIdeal.nD Cert.TallyIdeal.τ).loc Cert.TallyIdeal.main_arg1)
      ∧ r.2.mem ((c.tc : Thread Cert.TallyIdeal.nD Cert.TallyIdeal.τ).loc Cert.TallyIdeal.main_arg2) = m ((c.tc : Thread Cert.TallyIdeal.nD Cert.TallyIdeal.τ).loc Cert.TallyIdeal.main_arg2)
      ∧ r.2.mem ((c.tc : Thread Cert.TallyIdeal.nD Cert.TallyIdeal.τ).loc Cert.TallyIdeal.main_arg3) = m ((c.tc : Thread Cert.TallyIdeal.nD Cert.TallyIdeal.τ).loc Cert.TallyIdeal.main_arg3)
      ∧ r.2.mem ((c.tc : Thread Cert.TallyIdeal.nD Cert.TallyIdeal.τ).loc Cert.TallyIdeal.main_arg4) = m ((c.tc : Thread Cert.TallyIdeal.nD Cert.TallyIdeal.τ).loc Cert.TallyIdeal.main_arg4)
      ∧ r.2.mem ((c.tc : Thread Cert.TallyIdeal.nD Cert.TallyIdeal.τ).loc Cert.TallyIdeal.main_arg5) = m ((c.tc : Thread Cert.TallyIdeal.nD Cert.TallyIdeal.τ).loc Cert.TallyIdeal.main_arg5)
      ∧ r.2.mem ((c.tc : Thread Cert.TallyIdeal.nD Cert.TallyIdeal.τ).loc Cert.TallyIdeal.main_arg6) = m ((c.tc : Thread Cert.TallyIdeal.nD Cert.TallyIdeal.τ).loc Cert.TallyIdeal.main_arg6)
      ∧ r.2.mem ((c.tc : Thread Cert.TallyIdeal.nD Cert.TallyIdeal.τ).loc Cert.TallyIdeal.main_arg7) = m ((c.tc : Thread Cert.TallyIdeal.nD Cert.TallyIdeal.τ).loc Cert.TallyIdeal.main_arg7))
      ∧ r.2.sem = fun _ => 0)

def quiescent_TallyReferenceIdeal [hTallyReferenceIdeal : Cert.TallyReferenceIdeal.Facts] : Prop :=
  ∀ (m : (ℓ : Loc Cert.TallyReferenceIdeal.nD Cert.TallyReferenceIdeal.τ Cert.TallyReferenceIdeal.sig) → Buf (Elt Ideal) ℓ) (g : Dev Cert.TallyReferenceIdeal.nD → PrngReg), Pre_TallyReferenceIdeal m →
    θ_run (Cert.TallyReferenceIdeal.defs (F := Ideal)) (onTc (τ := Cert.TallyReferenceIdeal.τ) (Cert.TallyReferenceIdeal.main (F := Ideal))) ⟨m, fun _ => 0, g⟩ (fun r => (∀ c : Dev Cert.TallyReferenceIdeal.nD,
      r.2.mem ((c.tc : Thread Cert.TallyReferenceIdeal.nD Cert.TallyReferenceIdeal.τ).loc Cert.TallyReferenceIdeal.main_arg0) = m ((c.tc : Thread Cert.TallyReferenceIdeal.nD Cert.TallyReferenceIdeal.τ).loc Cert.TallyReferenceIdeal.main_arg0)
      ∧ r.2.mem ((c.tc : Thread Cert.TallyReferenceIdeal.nD Cert.TallyReferenceIdeal.τ).loc Cert.TallyReferenceIdeal.main_arg1) = m ((c.tc : Thread Cert.TallyReferenceIdeal.nD Cert.TallyReferenceIdeal.τ).loc Cert.TallyReferenceIdeal.main_arg1)
      ∧ r.2.mem ((c.tc : Thread Cert.TallyReferenceIdeal.nD Cert.TallyReferenceIdeal.τ).loc Cert.TallyReferenceIdeal.main_arg2) = m ((c.tc : Thread Cert.TallyReferenceIdeal.nD Cert.TallyReferenceIdeal.τ).loc Cert.TallyReferenceIdeal.main_arg2)
      ∧ r.2.mem ((c.tc : Thread Cert.TallyReferenceIdeal.nD Cert.TallyReferenceIdeal.τ).loc Cert.TallyReferenceIdeal.main_arg3) = m ((c.tc : Thread Cert.TallyReferenceIdeal.nD Cert.TallyReferenceIdeal.τ).loc Cert.TallyReferenceIdeal.main_arg3)
      ∧ r.2.mem ((c.tc : Thread Cert.TallyReferenceIdeal.nD Cert.TallyReferenceIdeal.τ).loc Cert.TallyReferenceIdeal.main_arg4) = m ((c.tc : Thread Cert.TallyReferenceIdeal.nD Cert.TallyReferenceIdeal.τ).loc Cert.TallyReferenceIdeal.main_arg4)
      ∧ r.2.mem ((c.tc : Thread Cert.TallyReferenceIdeal.nD Cert.TallyReferenceIdeal.τ).loc Cert.TallyReferenceIdeal.main_arg5) = m ((c.tc : Thread Cert.TallyReferenceIdeal.nD Cert.TallyReferenceIdeal.τ).loc Cert.TallyReferenceIdeal.main_arg5)
      ∧ r.2.mem ((c.tc : Thread Cert.TallyReferenceIdeal.nD Cert.TallyReferenceIdeal.τ).loc Cert.TallyReferenceIdeal.main_arg6) = m ((c.tc : Thread Cert.TallyReferenceIdeal.nD Cert.TallyReferenceIdeal.τ).loc Cert.TallyReferenceIdeal.main_arg6)
      ∧ r.2.mem ((c.tc : Thread Cert.TallyReferenceIdeal.nD Cert.TallyReferenceIdeal.τ).loc Cert.TallyReferenceIdeal.main_arg7) = m ((c.tc : Thread Cert.TallyReferenceIdeal.nD Cert.TallyReferenceIdeal.τ).loc Cert.TallyReferenceIdeal.main_arg7))
      ∧ r.2.sem = fun _ => 0)

def quiescent_TallyReferenceIdeal_pre_untied [hTallyReferenceIdeal : Cert.TallyReferenceIdeal.Facts] [hPre_untied : Cert.Pre_untied.Facts] : Prop :=
  ∀ (m : (ℓ : Loc Cert.TallyReferenceIdeal.nD Cert.TallyReferenceIdeal.τ Cert.TallyReferenceIdeal.sig) → Buf (Elt Ideal) ℓ) (g : Dev Cert.TallyReferenceIdeal.nD → PrngReg), Pre_TallyReferenceIdeal_untied m →
    θ_run (Cert.TallyReferenceIdeal.defs (F := Ideal)) (onTc (τ := Cert.TallyReferenceIdeal.τ) (Cert.TallyReferenceIdeal.main (F := Ideal))) ⟨m, fun _ => 0, g⟩ (fun r => (∀ c : Dev Cert.TallyReferenceIdeal.nD,
      r.2.mem ((c.tc : Thread Cert.TallyReferenceIdeal.nD Cert.TallyReferenceIdeal.τ).loc Cert.TallyReferenceIdeal.main_arg0) = m ((c.tc : Thread Cert.TallyReferenceIdeal.nD Cert.TallyReferenceIdeal.τ).loc Cert.TallyReferenceIdeal.main_arg0)
      ∧ r.2.mem ((c.tc : Thread Cert.TallyReferenceIdeal.nD Cert.TallyReferenceIdeal.τ).loc Cert.TallyReferenceIdeal.main_arg1) = m ((c.tc : Thread Cert.TallyReferenceIdeal.nD Cert.TallyReferenceIdeal.τ).loc Cert.TallyReferenceIdeal.main_arg1)
      ∧ r.2.mem ((c.tc : Thread Cert.TallyReferenceIdeal.nD Cert.TallyReferenceIdeal.τ).loc Cert.TallyReferenceIdeal.main_arg2) = m ((c.tc : Thread Cert.TallyReferenceIdeal.nD Cert.TallyReferenceIdeal.τ).loc Cert.TallyReferenceIdeal.main_arg2)
      ∧ r.2.mem ((c.tc : Thread Cert.TallyReferenceIdeal.nD Cert.TallyReferenceIdeal.τ).loc Cert.TallyReferenceIdeal.main_arg3) = m ((c.tc : Thread Cert.TallyReferenceIdeal.nD Cert.TallyReferenceIdeal.τ).loc Cert.TallyReferenceIdeal.main_arg3)
      ∧ r.2.mem ((c.tc : Thread Cert.TallyReferenceIdeal.nD Cert.TallyReferenceIdeal.τ).loc Cert.TallyReferenceIdeal.main_arg4) = m ((c.tc : Thread Cert.TallyReferenceIdeal.nD Cert.TallyReferenceIdeal.τ).loc Cert.TallyReferenceIdeal.main_arg4)
      ∧ r.2.mem ((c.tc : Thread Cert.TallyReferenceIdeal.nD Cert.TallyReferenceIdeal.τ).loc Cert.TallyReferenceIdeal.main_arg5) = m ((c.tc : Thread Cert.TallyReferenceIdeal.nD Cert.TallyReferenceIdeal.τ).loc Cert.TallyReferenceIdeal.main_arg5)
      ∧ r.2.mem ((c.tc : Thread Cert.TallyReferenceIdeal.nD Cert.TallyReferenceIdeal.τ).loc Cert.TallyReferenceIdeal.main_arg6) = m ((c.tc : Thread Cert.TallyReferenceIdeal.nD Cert.TallyReferenceIdeal.τ).loc Cert.TallyReferenceIdeal.main_arg6)
      ∧ r.2.mem ((c.tc : Thread Cert.TallyReferenceIdeal.nD Cert.TallyReferenceIdeal.τ).loc Cert.TallyReferenceIdeal.main_arg7) = m ((c.tc : Thread Cert.TallyReferenceIdeal.nD Cert.TallyReferenceIdeal.τ).loc Cert.TallyReferenceIdeal.main_arg7))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v5)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v5) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v1) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def preserves_Decode_DecodeIdeal : Prop :=
  True

def algebraic_DecodeIdeal_DecodeReferenceIdeal [hDecodeIdeal : Cert.DecodeIdeal.Facts] [hDecodeReferenceIdeal : Cert.DecodeReferenceIdeal.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.DecodeReferenceIdeal.nD Cert.DecodeReferenceIdeal.τ Cert.DecodeReferenceIdeal.sig) → Buf (Elt Ideal) ℓ) (g' : Dev Cert.DecodeReferenceIdeal.nD → PrngReg), Pre_DecodeIdeal m →
    (∀ c : Dev Cert.DecodeIdeal.nD,
      m' ((c.tc : Thread Cert.DecodeReferenceIdeal.nD Cert.DecodeReferenceIdeal.τ).loc Cert.DecodeReferenceIdeal.main_arg0) = m ((c.tc : Thread Cert.DecodeIdeal.nD Cert.DecodeIdeal.τ).loc Cert.DecodeIdeal.main_arg0)
      ∧ m' ((c.tc : Thread Cert.DecodeReferenceIdeal.nD Cert.DecodeReferenceIdeal.τ).loc Cert.DecodeReferenceIdeal.main_arg1) = m ((c.tc : Thread Cert.DecodeIdeal.nD Cert.DecodeIdeal.τ).loc Cert.DecodeIdeal.main_arg1)
      ∧ m' ((c.tc : Thread Cert.DecodeReferenceIdeal.nD Cert.DecodeReferenceIdeal.τ).loc Cert.DecodeReferenceIdeal.main_arg2) = m ((c.tc : Thread Cert.DecodeIdeal.nD Cert.DecodeIdeal.τ).loc Cert.DecodeIdeal.main_arg2)
      ∧ m' ((c.tc : Thread Cert.DecodeReferenceIdeal.nD Cert.DecodeReferenceIdeal.τ).loc Cert.DecodeReferenceIdeal.main_arg3) = m ((c.tc : Thread Cert.DecodeIdeal.nD Cert.DecodeIdeal.τ).loc Cert.DecodeIdeal.main_arg3)
      ∧ m' ((c.tc : Thread Cert.DecodeReferenceIdeal.nD Cert.DecodeReferenceIdeal.τ).loc Cert.DecodeReferenceIdeal.main_arg4) = m ((c.tc : Thread Cert.DecodeIdeal.nD Cert.DecodeIdeal.τ).loc Cert.DecodeIdeal.main_arg4)
      ∧ m' ((c.tc : Thread Cert.DecodeReferenceIdeal.nD Cert.DecodeReferenceIdeal.τ).loc Cert.DecodeReferenceIdeal.main_arg5) = m ((c.tc : Thread Cert.DecodeIdeal.nD Cert.DecodeIdeal.τ).loc Cert.DecodeIdeal.main_arg5)
      ∧ m' ((c.tc : Thread Cert.DecodeReferenceIdeal.nD Cert.DecodeReferenceIdeal.τ).loc Cert.DecodeReferenceIdeal.main_arg6) = m ((c.tc : Thread Cert.DecodeIdeal.nD Cert.DecodeIdeal.τ).loc Cert.DecodeIdeal.main_arg6)
      ∧ m' ((c.tc : Thread Cert.DecodeReferenceIdeal.nD Cert.DecodeReferenceIdeal.τ).loc Cert.DecodeReferenceIdeal.main_arg7) = m ((c.tc : Thread Cert.DecodeIdeal.nD Cert.DecodeIdeal.τ).loc Cert.DecodeIdeal.main_arg7)) →
    ∃ (v0 : (c : Dev Cert.DecodeIdeal.nD) → Buf (Elt Ideal) ((c.tc : Thread Cert.DecodeIdeal.nD Cert.DecodeIdeal.τ).loc Cert.DecodeIdeal.main_v6_0)) (v1 : (c : Dev Cert.DecodeIdeal.nD) → Buf (Elt Ideal) ((c.tc : Thread Cert.DecodeIdeal.nD Cert.DecodeIdeal.τ).loc Cert.DecodeIdeal.main_v6_1)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v6_0) = v0 c
          ∧ r.2.mem ((c.tc : Thread Cert.DecodeIdeal.nD Cert.DecodeIdeal.τ).loc Cert.DecodeIdeal.main_v6_1) = v1 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2)
          ∧ r.2.mem ((c.tc : Thread Cert.DecodeIdeal.nD Cert.DecodeIdeal.τ).loc Cert.DecodeIdeal.main_arg3) = m ((c.tc : Thread Cert.DecodeIdeal.nD Cert.DecodeIdeal.τ).loc Cert.DecodeIdeal.main_arg3)
          ∧ r.2.mem ((c.tc : Thread Cert.DecodeIdeal.nD Cert.DecodeIdeal.τ).loc Cert.DecodeIdeal.main_arg4) = m ((c.tc : Thread Cert.DecodeIdeal.nD Cert.DecodeIdeal.τ).loc Cert.DecodeIdeal.main_arg4)
          ∧ r.2.mem ((c.tc : Thread Cert.DecodeIdeal.nD Cert.DecodeIdeal.τ).loc Cert.DecodeIdeal.main_arg5) = m ((c.tc : Thread Cert.DecodeIdeal.nD Cert.DecodeIdeal.τ).loc Cert.DecodeIdeal.main_arg5)
          ∧ r.2.mem ((c.tc : Thread Cert.DecodeIdeal.nD Cert.DecodeIdeal.τ).loc Cert.DecodeIdeal.main_arg6) = m ((c.tc : Thread Cert.DecodeIdeal.nD Cert.DecodeIdeal.τ).loc Cert.DecodeIdeal.main_arg6)
          ∧ r.2.mem ((c.tc : Thread Cert.DecodeIdeal.nD Cert.DecodeIdeal.τ).loc Cert.DecodeIdeal.main_arg7) = m ((c.tc : Thread Cert.DecodeIdeal.nD Cert.DecodeIdeal.τ).loc Cert.DecodeIdeal.main_arg7))
      ∧ θ_run (Cert.DecodeReferenceIdeal.defs (F := Ideal)) (onTc (τ := Cert.DecodeReferenceIdeal.τ) (Cert.DecodeReferenceIdeal.main (F := Ideal))) ⟨m', fun _ => 0, g'⟩ (fun r => ∀ c : Dev Cert.DecodeReferenceIdeal.nD,
          r.2.mem ((c.tc : Thread Cert.DecodeReferenceIdeal.nD Cert.DecodeReferenceIdeal.τ).loc Cert.DecodeReferenceIdeal.main_v48) = v0 c
          ∧ r.2.mem ((c.tc : Thread Cert.DecodeReferenceIdeal.nD Cert.DecodeReferenceIdeal.τ).loc Cert.DecodeReferenceIdeal.main_v49) = v1 c
          ∧ r.2.mem ((c.tc : Thread Cert.DecodeReferenceIdeal.nD Cert.DecodeReferenceIdeal.τ).loc Cert.DecodeReferenceIdeal.main_arg0) = m' ((c.tc : Thread Cert.DecodeReferenceIdeal.nD Cert.DecodeReferenceIdeal.τ).loc Cert.DecodeReferenceIdeal.main_arg0)
          ∧ r.2.mem ((c.tc : Thread Cert.DecodeReferenceIdeal.nD Cert.DecodeReferenceIdeal.τ).loc Cert.DecodeReferenceIdeal.main_arg1) = m' ((c.tc : Thread Cert.DecodeReferenceIdeal.nD Cert.DecodeReferenceIdeal.τ).loc Cert.DecodeReferenceIdeal.main_arg1)
          ∧ r.2.mem ((c.tc : Thread Cert.DecodeReferenceIdeal.nD Cert.DecodeReferenceIdeal.τ).loc Cert.DecodeReferenceIdeal.main_arg2) = m' ((c.tc : Thread Cert.DecodeReferenceIdeal.nD Cert.DecodeReferenceIdeal.τ).loc Cert.DecodeReferenceIdeal.main_arg2)
          ∧ r.2.mem ((c.tc : Thread Cert.DecodeReferenceIdeal.nD Cert.DecodeReferenceIdeal.τ).loc Cert.DecodeReferenceIdeal.main_arg3) = m' ((c.tc : Thread Cert.DecodeReferenceIdeal.nD Cert.DecodeReferenceIdeal.τ).loc Cert.DecodeReferenceIdeal.main_arg3)
          ∧ r.2.mem ((c.tc : Thread Cert.DecodeReferenceIdeal.nD Cert.DecodeReferenceIdeal.τ).loc Cert.DecodeReferenceIdeal.main_arg4) = m' ((c.tc : Thread Cert.DecodeReferenceIdeal.nD Cert.DecodeReferenceIdeal.τ).loc Cert.DecodeReferenceIdeal.main_arg4)
          ∧ r.2.mem ((c.tc : Thread Cert.DecodeReferenceIdeal.nD Cert.DecodeReferenceIdeal.τ).loc Cert.DecodeReferenceIdeal.main_arg5) = m' ((c.tc : Thread Cert.DecodeReferenceIdeal.nD Cert.DecodeReferenceIdeal.τ).loc Cert.DecodeReferenceIdeal.main_arg5)
          ∧ r.2.mem ((c.tc : Thread Cert.DecodeReferenceIdeal.nD Cert.DecodeReferenceIdeal.τ).loc Cert.DecodeReferenceIdeal.main_arg6) = m' ((c.tc : Thread Cert.DecodeReferenceIdeal.nD Cert.DecodeReferenceIdeal.τ).loc Cert.DecodeReferenceIdeal.main_arg6)
          ∧ r.2.mem ((c.tc : Thread Cert.DecodeReferenceIdeal.nD Cert.DecodeReferenceIdeal.τ).loc Cert.DecodeReferenceIdeal.main_arg7) = m' ((c.tc : Thread Cert.DecodeReferenceIdeal.nD Cert.DecodeReferenceIdeal.τ).loc Cert.DecodeReferenceIdeal.main_arg7))

def preserves_Encode_EncodeIdeal : Prop :=
  True

def algebraic_EncodeIdeal_EncodeReferenceIdeal_pre_finite [hEncodeIdeal : Cert.EncodeIdeal.Facts] [hEncodeReferenceIdeal : Cert.EncodeReferenceIdeal.Facts] [hPre_finite : Cert.Pre_finite.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.EncodeReferenceIdeal.nD Cert.EncodeReferenceIdeal.τ Cert.EncodeReferenceIdeal.sig) → Buf (Elt Ideal) ℓ) (g' : Dev Cert.EncodeReferenceIdeal.nD → PrngReg), Pre_EncodeIdeal_finite m →
    (∀ c : Dev Cert.EncodeIdeal.nD,
      m' ((c.tc : Thread Cert.EncodeReferenceIdeal.nD Cert.EncodeReferenceIdeal.τ).loc Cert.EncodeReferenceIdeal.main_arg0) = m ((c.tc : Thread Cert.EncodeIdeal.nD Cert.EncodeIdeal.τ).loc Cert.EncodeIdeal.main_arg0)
      ∧ m' ((c.tc : Thread Cert.EncodeReferenceIdeal.nD Cert.EncodeReferenceIdeal.τ).loc Cert.EncodeReferenceIdeal.main_arg1) = m ((c.tc : Thread Cert.EncodeIdeal.nD Cert.EncodeIdeal.τ).loc Cert.EncodeIdeal.main_arg1)
      ∧ m' ((c.tc : Thread Cert.EncodeReferenceIdeal.nD Cert.EncodeReferenceIdeal.τ).loc Cert.EncodeReferenceIdeal.main_arg2) = m ((c.tc : Thread Cert.EncodeIdeal.nD Cert.EncodeIdeal.τ).loc Cert.EncodeIdeal.main_arg2)
      ∧ m' ((c.tc : Thread Cert.EncodeReferenceIdeal.nD Cert.EncodeReferenceIdeal.τ).loc Cert.EncodeReferenceIdeal.main_arg3) = m ((c.tc : Thread Cert.EncodeIdeal.nD Cert.EncodeIdeal.τ).loc Cert.EncodeIdeal.main_arg3)
      ∧ m' ((c.tc : Thread Cert.EncodeReferenceIdeal.nD Cert.EncodeReferenceIdeal.τ).loc Cert.EncodeReferenceIdeal.main_arg4) = m ((c.tc : Thread Cert.EncodeIdeal.nD Cert.EncodeIdeal.τ).loc Cert.EncodeIdeal.main_arg4)
      ∧ m' ((c.tc : Thread Cert.EncodeReferenceIdeal.nD Cert.EncodeReferenceIdeal.τ).loc Cert.EncodeReferenceIdeal.main_arg5) = m ((c.tc : Thread Cert.EncodeIdeal.nD Cert.EncodeIdeal.τ).loc Cert.EncodeIdeal.main_arg5)
      ∧ m' ((c.tc : Thread Cert.EncodeReferenceIdeal.nD Cert.EncodeReferenceIdeal.τ).loc Cert.EncodeReferenceIdeal.main_arg6) = m ((c.tc : Thread Cert.EncodeIdeal.nD Cert.EncodeIdeal.τ).loc Cert.EncodeIdeal.main_arg6)
      ∧ m' ((c.tc : Thread Cert.EncodeReferenceIdeal.nD Cert.EncodeReferenceIdeal.τ).loc Cert.EncodeReferenceIdeal.main_arg7) = m ((c.tc : Thread Cert.EncodeIdeal.nD Cert.EncodeIdeal.τ).loc Cert.EncodeIdeal.main_arg7)) →
    ∃ (v0 : (c : Dev Cert.EncodeIdeal.nD) → Buf (Elt Ideal) ((c.tc : Thread Cert.EncodeIdeal.nD Cert.EncodeIdeal.τ).loc Cert.EncodeIdeal.main_v6_0)) (v1 : (c : Dev Cert.EncodeIdeal.nD) → Buf (Elt Ideal) ((c.tc : Thread Cert.EncodeIdeal.nD Cert.EncodeIdeal.τ).loc Cert.EncodeIdeal.main_v6_1)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v6_0) = v0 c
          ∧ r.2.mem ((c.tc : Thread Cert.EncodeIdeal.nD Cert.EncodeIdeal.τ).loc Cert.EncodeIdeal.main_v6_1) = v1 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
          ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3)
          ∧ r.2.mem ((c.tc : Thread Cert.EncodeIdeal.nD Cert.EncodeIdeal.τ).loc Cert.EncodeIdeal.main_arg4) = m ((c.tc : Thread Cert.EncodeIdeal.nD Cert.EncodeIdeal.τ).loc Cert.EncodeIdeal.main_arg4)
          ∧ r.2.mem ((c.tc : Thread Cert.EncodeIdeal.nD Cert.EncodeIdeal.τ).loc Cert.EncodeIdeal.main_arg5) = m ((c.tc : Thread Cert.EncodeIdeal.nD Cert.EncodeIdeal.τ).loc Cert.EncodeIdeal.main_arg5)
          ∧ r.2.mem ((c.tc : Thread Cert.EncodeIdeal.nD Cert.EncodeIdeal.τ).loc Cert.EncodeIdeal.main_arg6) = m ((c.tc : Thread Cert.EncodeIdeal.nD Cert.EncodeIdeal.τ).loc Cert.EncodeIdeal.main_arg6)
          ∧ r.2.mem ((c.tc : Thread Cert.EncodeIdeal.nD Cert.EncodeIdeal.τ).loc Cert.EncodeIdeal.main_arg7) = m ((c.tc : Thread Cert.EncodeIdeal.nD Cert.EncodeIdeal.τ).loc Cert.EncodeIdeal.main_arg7))
      ∧ θ_run (Cert.EncodeReferenceIdeal.defs (F := Ideal)) (onTc (τ := Cert.EncodeReferenceIdeal.τ) (Cert.EncodeReferenceIdeal.main (F := Ideal))) ⟨m', fun _ => 0, g'⟩ (fun r => ∀ c : Dev Cert.EncodeReferenceIdeal.nD,
          r.2.mem ((c.tc : Thread Cert.EncodeReferenceIdeal.nD Cert.EncodeReferenceIdeal.τ).loc Cert.EncodeReferenceIdeal.main_v57) = v0 c
          ∧ r.2.mem ((c.tc : Thread Cert.EncodeReferenceIdeal.nD Cert.EncodeReferenceIdeal.τ).loc Cert.EncodeReferenceIdeal.main_v61) = v1 c
          ∧ r.2.mem ((c.tc : Thread Cert.EncodeReferenceIdeal.nD Cert.EncodeReferenceIdeal.τ).loc Cert.EncodeReferenceIdeal.main_arg0) = m' ((c.tc : Thread Cert.EncodeReferenceIdeal.nD Cert.EncodeReferenceIdeal.τ).loc Cert.EncodeReferenceIdeal.main_arg0)
          ∧ r.2.mem ((c.tc : Thread Cert.EncodeReferenceIdeal.nD Cert.EncodeReferenceIdeal.τ).loc Cert.EncodeReferenceIdeal.main_arg1) = m' ((c.tc : Thread Cert.EncodeReferenceIdeal.nD Cert.EncodeReferenceIdeal.τ).loc Cert.EncodeReferenceIdeal.main_arg1)
          ∧ r.2.mem ((c.tc : Thread Cert.EncodeReferenceIdeal.nD Cert.EncodeReferenceIdeal.τ).loc Cert.EncodeReferenceIdeal.main_arg2) = m' ((c.tc : Thread Cert.EncodeReferenceIdeal.nD Cert.EncodeReferenceIdeal.τ).loc Cert.EncodeReferenceIdeal.main_arg2)
          ∧ r.2.mem ((c.tc : Thread Cert.EncodeReferenceIdeal.nD Cert.EncodeReferenceIdeal.τ).loc Cert.EncodeReferenceIdeal.main_arg3) = m' ((c.tc : Thread Cert.EncodeReferenceIdeal.nD Cert.EncodeReferenceIdeal.τ).loc Cert.EncodeReferenceIdeal.main_arg3)
          ∧ r.2.mem ((c.tc : Thread Cert.EncodeReferenceIdeal.nD Cert.EncodeReferenceIdeal.τ).loc Cert.EncodeReferenceIdeal.main_arg4) = m' ((c.tc : Thread Cert.EncodeReferenceIdeal.nD Cert.EncodeReferenceIdeal.τ).loc Cert.EncodeReferenceIdeal.main_arg4)
          ∧ r.2.mem ((c.tc : Thread Cert.EncodeReferenceIdeal.nD Cert.EncodeReferenceIdeal.τ).loc Cert.EncodeReferenceIdeal.main_arg5) = m' ((c.tc : Thread Cert.EncodeReferenceIdeal.nD Cert.EncodeReferenceIdeal.τ).loc Cert.EncodeReferenceIdeal.main_arg5)
          ∧ r.2.mem ((c.tc : Thread Cert.EncodeReferenceIdeal.nD Cert.EncodeReferenceIdeal.τ).loc Cert.EncodeReferenceIdeal.main_arg6) = m' ((c.tc : Thread Cert.EncodeReferenceIdeal.nD Cert.EncodeReferenceIdeal.τ).loc Cert.EncodeReferenceIdeal.main_arg6)
          ∧ r.2.mem ((c.tc : Thread Cert.EncodeReferenceIdeal.nD Cert.EncodeReferenceIdeal.τ).loc Cert.EncodeReferenceIdeal.main_arg7) = m' ((c.tc : Thread Cert.EncodeReferenceIdeal.nD Cert.EncodeReferenceIdeal.τ).loc Cert.EncodeReferenceIdeal.main_arg7))

def preserves_Tally_TallyIdeal : Prop :=
  True

def algebraic_TallyIdeal_TallyReferenceIdeal_pre_untied [hTallyIdeal : Cert.TallyIdeal.Facts] [hTallyReferenceIdeal : Cert.TallyReferenceIdeal.Facts] [hPre_untied : Cert.Pre_untied.Facts] : Prop :=
  ∀ (m : (ℓ : Loc Cert.TallyIdeal.nD Cert.TallyIdeal.τ Cert.TallyIdeal.sig) → Buf (Elt Ideal) ℓ) (g : Dev Cert.TallyIdeal.nD → PrngReg)
    (m' : (ℓ : Loc Cert.TallyReferenceIdeal.nD Cert.TallyReferenceIdeal.τ Cert.TallyReferenceIdeal.sig) → Buf (Elt Ideal) ℓ) (g' : Dev Cert.TallyReferenceIdeal.nD → PrngReg), Pre_TallyIdeal_untied m →
    (∀ c : Dev Cert.TallyIdeal.nD,
      m' ((c.tc : Thread Cert.TallyReferenceIdeal.nD Cert.TallyReferenceIdeal.τ).loc Cert.TallyReferenceIdeal.main_arg0) = m ((c.tc : Thread Cert.TallyIdeal.nD Cert.TallyIdeal.τ).loc Cert.TallyIdeal.main_arg0)
      ∧ m' ((c.tc : Thread Cert.TallyReferenceIdeal.nD Cert.TallyReferenceIdeal.τ).loc Cert.TallyReferenceIdeal.main_arg1) = m ((c.tc : Thread Cert.TallyIdeal.nD Cert.TallyIdeal.τ).loc Cert.TallyIdeal.main_arg1)
      ∧ m' ((c.tc : Thread Cert.TallyReferenceIdeal.nD Cert.TallyReferenceIdeal.τ).loc Cert.TallyReferenceIdeal.main_arg2) = m ((c.tc : Thread Cert.TallyIdeal.nD Cert.TallyIdeal.τ).loc Cert.TallyIdeal.main_arg2)
      ∧ m' ((c.tc : Thread Cert.TallyReferenceIdeal.nD Cert.TallyReferenceIdeal.τ).loc Cert.TallyReferenceIdeal.main_arg3) = m ((c.tc : Thread Cert.TallyIdeal.nD Cert.TallyIdeal.τ).loc Cert.TallyIdeal.main_arg3)
      ∧ m' ((c.tc : Thread Cert.TallyReferenceIdeal.nD Cert.TallyReferenceIdeal.τ).loc Cert.TallyReferenceIdeal.main_arg4) = m ((c.tc : Thread Cert.TallyIdeal.nD Cert.TallyIdeal.τ).loc Cert.TallyIdeal.main_arg4)
      ∧ m' ((c.tc : Thread Cert.TallyReferenceIdeal.nD Cert.TallyReferenceIdeal.τ).loc Cert.TallyReferenceIdeal.main_arg5) = m ((c.tc : Thread Cert.TallyIdeal.nD Cert.TallyIdeal.τ).loc Cert.TallyIdeal.main_arg5)
      ∧ m' ((c.tc : Thread Cert.TallyReferenceIdeal.nD Cert.TallyReferenceIdeal.τ).loc Cert.TallyReferenceIdeal.main_arg6) = m ((c.tc : Thread Cert.TallyIdeal.nD Cert.TallyIdeal.τ).loc Cert.TallyIdeal.main_arg6)
      ∧ m' ((c.tc : Thread Cert.TallyReferenceIdeal.nD Cert.TallyReferenceIdeal.τ).loc Cert.TallyReferenceIdeal.main_arg7) = m ((c.tc : Thread Cert.TallyIdeal.nD Cert.TallyIdeal.τ).loc Cert.TallyIdeal.main_arg7)) →
    ∃ (v0 : (c : Dev Cert.TallyIdeal.nD) → Buf (Elt Ideal) ((c.tc : Thread Cert.TallyIdeal.nD Cert.TallyIdeal.τ).loc Cert.TallyIdeal.main_v6_2)),
      θ_run (Cert.TallyIdeal.defs (F := Ideal)) (onTc (τ := Cert.TallyIdeal.τ) (Cert.TallyIdeal.main (F := Ideal))) ⟨m, fun _ => 0, g⟩ (fun r => ∀ c : Dev Cert.TallyIdeal.nD,
          r.2.mem ((c.tc : Thread Cert.TallyIdeal.nD Cert.TallyIdeal.τ).loc Cert.TallyIdeal.main_v6_2) = v0 c
          ∧ r.2.mem ((c.tc : Thread Cert.TallyIdeal.nD Cert.TallyIdeal.τ).loc Cert.TallyIdeal.main_arg0) = m ((c.tc : Thread Cert.TallyIdeal.nD Cert.TallyIdeal.τ).loc Cert.TallyIdeal.main_arg0)
          ∧ r.2.mem ((c.tc : Thread Cert.TallyIdeal.nD Cert.TallyIdeal.τ).loc Cert.TallyIdeal.main_arg1) = m ((c.tc : Thread Cert.TallyIdeal.nD Cert.TallyIdeal.τ).loc Cert.TallyIdeal.main_arg1)
          ∧ r.2.mem ((c.tc : Thread Cert.TallyIdeal.nD Cert.TallyIdeal.τ).loc Cert.TallyIdeal.main_arg2) = m ((c.tc : Thread Cert.TallyIdeal.nD Cert.TallyIdeal.τ).loc Cert.TallyIdeal.main_arg2)
          ∧ r.2.mem ((c.tc : Thread Cert.TallyIdeal.nD Cert.TallyIdeal.τ).loc Cert.TallyIdeal.main_arg3) = m ((c.tc : Thread Cert.TallyIdeal.nD Cert.TallyIdeal.τ).loc Cert.TallyIdeal.main_arg3)
          ∧ r.2.mem ((c.tc : Thread Cert.TallyIdeal.nD Cert.TallyIdeal.τ).loc Cert.TallyIdeal.main_arg4) = m ((c.tc : Thread Cert.TallyIdeal.nD Cert.TallyIdeal.τ).loc Cert.TallyIdeal.main_arg4)
          ∧ r.2.mem ((c.tc : Thread Cert.TallyIdeal.nD Cert.TallyIdeal.τ).loc Cert.TallyIdeal.main_arg5) = m ((c.tc : Thread Cert.TallyIdeal.nD Cert.TallyIdeal.τ).loc Cert.TallyIdeal.main_arg5)
          ∧ r.2.mem ((c.tc : Thread Cert.TallyIdeal.nD Cert.TallyIdeal.τ).loc Cert.TallyIdeal.main_arg6) = m ((c.tc : Thread Cert.TallyIdeal.nD Cert.TallyIdeal.τ).loc Cert.TallyIdeal.main_arg6)
          ∧ r.2.mem ((c.tc : Thread Cert.TallyIdeal.nD Cert.TallyIdeal.τ).loc Cert.TallyIdeal.main_arg7) = m ((c.tc : Thread Cert.TallyIdeal.nD Cert.TallyIdeal.τ).loc Cert.TallyIdeal.main_arg7))
      ∧ θ_run (Cert.TallyReferenceIdeal.defs (F := Ideal)) (onTc (τ := Cert.TallyReferenceIdeal.τ) (Cert.TallyReferenceIdeal.main (F := Ideal))) ⟨m', fun _ => 0, g'⟩ (fun r => ∀ c : Dev Cert.TallyReferenceIdeal.nD,
          r.2.mem ((c.tc : Thread Cert.TallyReferenceIdeal.nD Cert.TallyReferenceIdeal.τ).loc Cert.TallyReferenceIdeal.main_v63) = v0 c
          ∧ r.2.mem ((c.tc : Thread Cert.TallyReferenceIdeal.nD Cert.TallyReferenceIdeal.τ).loc Cert.TallyReferenceIdeal.main_arg0) = m' ((c.tc : Thread Cert.TallyReferenceIdeal.nD Cert.TallyReferenceIdeal.τ).loc Cert.TallyReferenceIdeal.main_arg0)
          ∧ r.2.mem ((c.tc : Thread Cert.TallyReferenceIdeal.nD Cert.TallyReferenceIdeal.τ).loc Cert.TallyReferenceIdeal.main_arg1) = m' ((c.tc : Thread Cert.TallyReferenceIdeal.nD Cert.TallyReferenceIdeal.τ).loc Cert.TallyReferenceIdeal.main_arg1)
          ∧ r.2.mem ((c.tc : Thread Cert.TallyReferenceIdeal.nD Cert.TallyReferenceIdeal.τ).loc Cert.TallyReferenceIdeal.main_arg2) = m' ((c.tc : Thread Cert.TallyReferenceIdeal.nD Cert.TallyReferenceIdeal.τ).loc Cert.TallyReferenceIdeal.main_arg2)
          ∧ r.2.mem ((c.tc : Thread Cert.TallyReferenceIdeal.nD Cert.TallyReferenceIdeal.τ).loc Cert.TallyReferenceIdeal.main_arg3) = m' ((c.tc : Thread Cert.TallyReferenceIdeal.nD Cert.TallyReferenceIdeal.τ).loc Cert.TallyReferenceIdeal.main_arg3)
          ∧ r.2.mem ((c.tc : Thread Cert.TallyReferenceIdeal.nD Cert.TallyReferenceIdeal.τ).loc Cert.TallyReferenceIdeal.main_arg4) = m' ((c.tc : Thread Cert.TallyReferenceIdeal.nD Cert.TallyReferenceIdeal.τ).loc Cert.TallyReferenceIdeal.main_arg4)
          ∧ r.2.mem ((c.tc : Thread Cert.TallyReferenceIdeal.nD Cert.TallyReferenceIdeal.τ).loc Cert.TallyReferenceIdeal.main_arg5) = m' ((c.tc : Thread Cert.TallyReferenceIdeal.nD Cert.TallyReferenceIdeal.τ).loc Cert.TallyReferenceIdeal.main_arg5)
          ∧ r.2.mem ((c.tc : Thread Cert.TallyReferenceIdeal.nD Cert.TallyReferenceIdeal.τ).loc Cert.TallyReferenceIdeal.main_arg6) = m' ((c.tc : Thread Cert.TallyReferenceIdeal.nD Cert.TallyReferenceIdeal.τ).loc Cert.TallyReferenceIdeal.main_arg6)
          ∧ r.2.mem ((c.tc : Thread Cert.TallyReferenceIdeal.nD Cert.TallyReferenceIdeal.τ).loc Cert.TallyReferenceIdeal.main_arg7) = m' ((c.tc : Thread Cert.TallyReferenceIdeal.nD Cert.TallyReferenceIdeal.τ).loc Cert.TallyReferenceIdeal.main_arg7))

def Claim : Prop :=
  ∃ (hGather : Cert.Gather.Facts) (hGatherIdeal : Cert.GatherIdeal.Facts) (hGatherReferenceIdeal : Cert.GatherReferenceIdeal.Facts) (hDecode : Cert.Decode.Facts) (hDecodeIdeal : Cert.DecodeIdeal.Facts) (hDecodeReferenceIdeal : Cert.DecodeReferenceIdeal.Facts) (hEncode : Cert.Encode.Facts) (hEncodeIdeal : Cert.EncodeIdeal.Facts) (hEncodeReferenceIdeal : Cert.EncodeReferenceIdeal.Facts) (hTally : Cert.Tally.Facts) (hTallyIdeal : Cert.TallyIdeal.Facts) (hTallyReferenceIdeal : Cert.TallyReferenceIdeal.Facts) (hPre_in_range : Cert.Pre_in_range.Facts) (hPre_finite : Cert.Pre_finite.Facts) (hPre_untied : Cert.Pre_untied.Facts),
    quiescent_Gather (hGather := hGather) (hPre_in_range := hPre_in_range)
    ∧ quiescent_GatherIdeal (hGatherIdeal := hGatherIdeal) (hPre_in_range := hPre_in_range)
    ∧ quiescent_GatherReferenceIdeal (hGatherReferenceIdeal := hGatherReferenceIdeal)
    ∧ quiescent_GatherReferenceIdeal_pre_in_range (hGatherReferenceIdeal := hGatherReferenceIdeal) (hPre_in_range := hPre_in_range)
    ∧ quiescent_Decode (hDecode := hDecode)
    ∧ quiescent_DecodeIdeal (hDecodeIdeal := hDecodeIdeal)
    ∧ quiescent_DecodeReferenceIdeal (hDecodeReferenceIdeal := hDecodeReferenceIdeal)
    ∧ quiescent_Encode (hEncode := hEncode)
    ∧ quiescent_EncodeIdeal (hEncodeIdeal := hEncodeIdeal)
    ∧ quiescent_EncodeIdeal_pre_finite (hEncodeIdeal := hEncodeIdeal) (hPre_finite := hPre_finite)
    ∧ quiescent_EncodeReferenceIdeal (hEncodeReferenceIdeal := hEncodeReferenceIdeal)
    ∧ quiescent_EncodeReferenceIdeal_pre_finite (hEncodeReferenceIdeal := hEncodeReferenceIdeal) (hPre_finite := hPre_finite)
    ∧ quiescent_Tally (hTally := hTally)
    ∧ quiescent_TallyIdeal (hTallyIdeal := hTallyIdeal)
    ∧ quiescent_TallyIdeal_pre_untied (hTallyIdeal := hTallyIdeal) (hPre_untied := hPre_untied)
    ∧ quiescent_TallyReferenceIdeal (hTallyReferenceIdeal := hTallyReferenceIdeal)
    ∧ quiescent_TallyReferenceIdeal_pre_untied (hTallyReferenceIdeal := hTallyReferenceIdeal) (hPre_untied := hPre_untied)
    ∧ preserves_Gather_GatherIdeal
    ∧ algebraic_GatherIdeal_GatherReferenceIdeal (hGatherIdeal := hGatherIdeal) (hGatherReferenceIdeal := hGatherReferenceIdeal) (hPre_in_range := hPre_in_range)
    ∧ preserves_Decode_DecodeIdeal
    ∧ algebraic_DecodeIdeal_DecodeReferenceIdeal (hDecodeIdeal := hDecodeIdeal) (hDecodeReferenceIdeal := hDecodeReferenceIdeal)
    ∧ preserves_Encode_EncodeIdeal
    ∧ algebraic_EncodeIdeal_EncodeReferenceIdeal_pre_finite (hEncodeIdeal := hEncodeIdeal) (hEncodeReferenceIdeal := hEncodeReferenceIdeal) (hPre_finite := hPre_finite)
    ∧ preserves_Tally_TallyIdeal
    ∧ algebraic_TallyIdeal_TallyReferenceIdeal_pre_untied (hTallyIdeal := hTallyIdeal) (hTallyReferenceIdeal := hTallyReferenceIdeal) (hPre_untied := hPre_untied)
-- ==== Pre_finite.lean ====
abbrev S32x2048x14 : Shape := ⟨3, ![32, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S512x64 : Shape := ⟨2, ![512, 64]⟩
abbrev S_ : Shape := ⟨0, ![]⟩

class Facts : Prop where
  bcast_S_S32x2048x14 : S_.BroadcastsInDim S32x2048x14 (![] : Fin 0 → Fin S32x2048x14.rank)
  reducesTo_S32x2048x14_S_d0_1_2 : S32x2048x14.ReducesTo [0, 1, 2] S_
  h_S_ : 0 < S_.numel
  bcast_S_S14x128 : S_.BroadcastsInDim S14x128 (![] : Fin 0 → Fin S14x128.rank)
  reducesTo_S14x128_S_d0_1 : S14x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_

variable [Facts]

def fn_part2 {F : FTy → Type} [FloatOps F] (main_arg7 : FVec F S512x64 .f32) (main_v33 : IVec S_ 1) : IVec S_ 1 :=
  let main_v34 : FVec F S512x64 .f32 := Host.absf main_arg7
  let main_cst_12 : FVec F S_ .f32 := constant S_ .f32 0x7F800000#32
  let main_v35 : FVec F S512x64 .f32 := broadcastInDim S512x64 ![] bcast_S_S512x64 main_cst_12
  let main_v36 : IVec S512x64 1 := cmpf .olt main_v34 main_v35
  let main_c_13 : IVec S_ 1 := constantI S_ 1 1#1
  let main_v37 : IVec S_ 1 := (fun x v => Host.reduce IntOp.andi x v reducesTo_S512x64_S_d0_1 h_S_) main_v36 main_c_13
  let main_v38 : IVec S_ 1 := andi main_v33 main_v37
  main_v38

def fn_part1 {F : FTy → Type} [FloatOps F] (main_arg4 : FVec F S128 .f32) (main_arg5 : FVec F S128x64 .f32) (main_arg6 : FVec F S64 .f32) (main_arg7 : FVec F S512x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S32x2048x14 .f32) (main_arg1 : FVec F S14x128 .f32) (main_arg2 : FVec F S128 .f32) (main_arg3 : FVec F S128 .f32) (main_arg4 : FVec F S128 .f32) (main_arg5 : FVec F S128x64 .f32) (main_arg6 : FVec F S64 .f32) (main_arg7 : FVec F S512x64 .f32) : IVec S_ 1 :=
  let main_v0 : FVec F S32x2048x14 .f32 := Host.absf main_arg0
  let main_cst : FVec F S_ .f32 := constant S_ .f32 0x7F800000#32
  let main_v1 : FVec F S32x2048x14 .f32 := broadcastInDim S32x2048x14 ![] bcast_S_S32x2048x14 main_cst
  let main_v2 : IVec S32x2048x14 1 := cmpf .olt main_v0 main_v1
  let main_c : IVec S_ 1 := constantI S_ 1 1#1
  let main_v3 : IVec S_ 1 := (fun x v => Host.reduce IntOp.andi x v reducesTo_S32x2048x14_S_d0_1_2 h_S_) main_v2 main_c
  let main_v4 : FVec F S14x128 .f32 := Host.absf main_arg1
  let main_cst_0 : FVec F S_ .f32 := constant S_ .f32 0x7F800000#32
  let main_v5 : FVec F S14x128 .f32 := broadcastInDim S14x128 ![] bcast_S_S14x128 main_cst_0
  let main_v6 : IVec S14x128 1 := cmpf .olt main_v4 main_v5
  let main_c_1 : IVec S_ 1 := constantI S_ 1 1#1
  let main_v7 : IVec S_ 1 := (fun x v => Host.reduce IntOp.andi x v reducesTo_S14x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Pre_in_range.lean ====
abbrev S512x16 : Shape := ⟨2, ![512, 16]⟩
abbrev S32x2048 : Shape := ⟨2, ![32, 2048]⟩
abbrev S_ : Shape := ⟨0, ![]⟩

class Facts : Prop where
  bcast_S_S32x2048 : S_.BroadcastsInDim S32x2048 (![] : Fin 0 → Fin S32x2048.rank)

variable [Facts]

def fn {F : FTy → Type} [FloatOps F] (main_arg0 : FVec F S512x16 .f32) (main_arg1 : IVec S32x2048 32) : IVec S32x2048 1 :=
  let main_c : IVec S_ 32 := constantI S_ 32 0#32
  let main_v0 : IVec S32x2048 32 := broadcastInDim S32x2048 ![] bcast_S_S32x2048 main_c
  let main_v1 : IVec S32x2048 1 := cmpi .sge main_arg1 main_v0
  let main_c_0 : IVec S_ 32 := constantI S_ 32 512#32
  let main_v2 : IVec S32x2048 32 := broadcastInDim S32x2048 ![] bcast_S_S32x2048 main_c_0
  let main_v3 : IVec S32x2048 1 := cmpi .slt main_arg1 main_v2
  let main_v4 : IVec S32x2048 1 := andi main_v1 main_v3
  main_v4
-- ==== Pre_untied.lean ====
abbrev S32x2048x14 : Shape := ⟨3, ![32, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S512x64 : Shape := ⟨2, ![512, 64]⟩
abbrev S32x2048x128 : Shape := ⟨3, ![32, 2048, 128]⟩
abbrev S1x1x128 : Shape := ⟨3, ![1, 1, 128]⟩
abbrev S_ : Shape := ⟨0, ![]⟩
abbrev S32x2048 : Shape := ⟨2, ![32, 2048]⟩
abbrev S32x2048x1 : Shape := ⟨3, ![32, 2048, 1]⟩
abbrev S32x2048x64 : Shape := ⟨3, ![32, 2048, 64]⟩
abbrev S1x1x64 : Shape := ⟨3, ![1, 1, 64]⟩
abbrev S65536x64 : Shape := ⟨2, ![65536, 64]⟩
abbrev S65536 : Shape := ⟨1, ![65536]⟩
abbrev S65536x1 : Shape := ⟨2, ![65536, 1]⟩
abbrev S64x512 : Shape := ⟨2, ![64, 512]⟩
abbrev S65536x512 : Shape := ⟨2, ![65536, 512]⟩
abbrev S512 : Shape := ⟨1, ![512]⟩
abbrev S1x512 : Shape := ⟨2, ![1, 512]⟩

class Facts : Prop where
  bcast_S128_S1x1x128_2 : S128.BroadcastsInDim S1x1x128 (![2] : Fin 1 → Fin S1x1x128.rank)
  bcast_S1x1x128_S32x2048x128_0_1_2 : S1x1x128.BroadcastsInDim S32x2048x128 (![0, 1, 2] : Fin 3 → Fin S32x2048x128.rank)
  reducesTo_S32x2048x128_S32x2048_d2 : S32x2048x128.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x128_0_1_2 : S32x2048x1.BroadcastsInDim S32x2048x128 (![0, 1, 2] : Fin 3 → Fin S32x2048x128.rank)
  bcast_S_S32x2048x128 : S_.BroadcastsInDim S32x2048x128 (![] : Fin 0 → Fin S32x2048x128.rank)
  bcast_S64_S1x1x64_2 : S64.BroadcastsInDim S1x1x64 (![2] : Fin 1 → Fin S1x1x64.rank)
  bcast_S1x1x64_S32x2048x64_0_1_2 : S1x1x64.BroadcastsInDim S32x2048x64 (![0, 1, 2] : Fin 3 → Fin S32x2048x64.rank)
  shapeCasts_S32x2048x64_S65536x64 : S32x2048x64.ShapeCasts S65536x64
  reducesTo_S65536x64_S65536_d1 : S65536x64.ReducesTo [1] S65536
  bcast_S65536_S65536x1_0 : S65536.BroadcastsInDim S65536x1 (![0] : Fin 1 → Fin S65536x1.rank)
  bcast_S_S65536x64 : S_.BroadcastsInDim S65536x64 (![] : Fin 0 → Fin S65536x64.rank)
  transposes_S512x64_S64x512_1_0 : S512x64.Transposes [1, 0] S64x512
  bcast_S65536x1_S65536x512_0_1 : S65536x1.BroadcastsInDim S65536x512 (![0, 1] : Fin 2 → Fin S65536x512.rank)
  reducesTo_S512x64_S512_d1 : S512x64.ReducesTo [1] S512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  reducesTo_S65536x512_S_d0_1 : S65536x512.ReducesTo [0, 1] S_
  dot_S32x2048x14_S14x128_S32x2048x128_2_0_01_1_n_n_wf : DotDims.WF S32x2048x14 S14x128 S32x2048x128 [2] [0] [0, 1] [1] [] []
  dot_S32x2048x128_S128x64_S32x2048x64_2_0_01_1_n_n_wf : DotDims.WF S32x2048x128 S128x64 S32x2048x64 [2] [0] [0, 1] [1] [] []
  dot_S65536x64_S64x512_S65536x512_1_0_0_1_n_n_wf : DotDims.WF S65536x64 S64x512 S65536x512 [1] [0] [0] [1] [] []

variable [Facts]

variable {F : FTy → Type} [FloatOps F]
def dot_S32x2048x14_S14x128_S32x2048x128_2_0_01_1_n_n : DotDims S32x2048x14 S14x128 S32x2048x128 where
  lhsContracting := [2]
  rhsContracting := [0]
  lhsNonContracting := [0, 1]
  rhsNonContracting := [1]
  lhsBatch := []
  rhsBatch := []
  wf := dot_S32x2048x14_S14x128_S32x2048x128_2_0_01_1_n_n_wf
def dot_S32x2048x128_S128x64_S32x2048x64_2_0_01_1_n_n : DotDims S32x2048x128 S128x64 S32x2048x64 where
  lhsContracting := [2]
  rhsContracting := [0]
  lhsNonContracting := [0, 1]
  rhsNonContracting := [1]
  lhsBatch := []
  rhsBatch := []
  wf := dot_S32x2048x128_S128x64_S32x2048x64_2_0_01_1_n_n_wf
def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S65536x512 .f32) : IVec S65536 32 :=
  let v0 : IVec S65536x512 32 := iotaInDim S65536x512 32 1
  let cst : FVec F S_ .f32 := constant S_ .f32 0x7F800000#32
  let c : IVec S_ 32 := constantI S_ 32 0#32
  let v1_0 : FVec F S65536 .f32 := (fun x y u v j => (Host.argReduce reducer_argmin_f32_i32 x y u v reducesTo_S65536x512_S65536_d1 h_S_ j).1) arg0 v0 cst c
  let v1_1 : IVec S65536 32 := (fun x y u v j => (Host.argReduce reducer_argmin_f32_i32 x y u v reducesTo_S65536x512_S65536_d1 h_S_ j).2) arg0 v0 cst c
  v1_1

def fn_part3 {F : FTy → Type} [FloatOps F] (main_v53 : FVec F S65536x512 .f32) (main_v60 : IVec S65536x512 1) (main_cst_9 : FVec F S_ .f32) : IVec S_ 1 :=
  let main_v61 : FVec F S65536 .f32 := (fun x v => Host.reduce FloatOps.minimumf x v reducesTo_S65536x512_S65536_d1 h_S_) main_v53 main_cst_9
  let main_v62 : FVec F S65536x1 .f32 := broadcastInDim S65536x1 ![0] bcast_S65536_S65536x1_0 main_v61
  let main_v63 : FVec F S65536x512 .f32 := broadcastInDim S65536x512 ![0, 1] bcast_S65536x1_S65536x512_0_1 main_v62
  let main_v64 : IVec S65536x512 1 := cmpf .ogt main_v53 main_v63
  let main_v65 : IVec S65536x512 1 := ori main_v60 main_v64
  let main_c : IVec S_ 1 := constantI S_ 1 1#1
  let main_v66 : IVec S_ 1 := (fun x v => Host.reduce IntOp.andi x v reducesTo_S65536x512_S_d0_1 h_S_) main_v65 main_c
  main_v66

def fn_part2 {F : FTy → Type} [FloatOps F] (main_arg7 : FVec F S512x64 .f32) (main_v39 : FVec F S65536x64 .f32) (main_v40 : FVec F S65536x64 .f32) : IVec S_ 1 :=
  let main_cst_6 : FVec F S_ .f32 := constant S_ .f32 0x00000000#32
  let main_v41 : FVec F S65536 .f32 := (fun x v => Host.reduceAdd x v reducesTo_S65536x64_S65536_d1 h_S_) main_v40 main_cst_6
  let main_v42 : FVec F S65536x1 .f32 := broadcastInDim S65536x1 ![0] bcast_S65536_S65536x1_0 main_v41
  let main_cst_7 : FVec F S_ .f32 := constant S_ .f32 0x40000000#32
  let main_v43 : FVec F S65536x64 .f32 := broadcastInDim S65536x64 ![] bcast_S_S65536x64 main_cst_7
  let main_v44 : FVec F S65536x64 .f32 := mulf main_v43 main_v39
  let main_v45 : FVec F S64x512 .f32 := (transpose S64x512 [1, 0] · transposes_S512x64_S64x512_1_0) main_arg7
  let main_v46 : FVec F S65536x512 .f32 := (fun l r => Host.dotGeneral dot_S65536x64_S64x512_S65536x512_1_0_0_1_n_n none l r) main_v44 main_v45
  let main_v47 : FVec F S65536x512 .f32 := broadcastInDim S65536x512 ![0, 1] bcast_S65536x1_S65536x512_0_1 main_v42
  let main_v48 : FVec F S65536x512 .f32 := subf main_v47 main_v46
  let main_v49 : FVec F S512x64 .f32 := mulf main_arg7 main_arg7
  let main_cst_8 : FVec F S_ .f32 := constant S_ .f32 0x00000000#32
  let main_v50 : FVec F S512 .f32 := (fun x v => Host.reduceAdd x v reducesTo_S512x64_S512_d1 h_S_) main_v49 main_cst_8
  let main_v51 : FVec F S1x512 .f32 := broadcastInDim S1x512 ![1] bcast_S512_S1x512_1 main_v50
  let main_v52 : FVec F S65536x512 .f32 := broadcastInDim S65536x512 ![0, 1] bcast_S1x512_S65536x512_0_1 main_v51
  let main_v53 : FVec F S65536x512 .f32 := addf main_v48 main_v52
  let main_v54 : IVec S65536 32 := fn_argmin (F := F) main_v53
  let main_v55 : IVec S65536x1 32 := broadcastInDim S65536x1 ![0] bcast_S65536_S65536x1_0 main_v54
  let main_v56 : IVec S512 32 := iotaInDim S512 32 0
  let main_v57 : IVec S1x512 32 := broadcastInDim S1x512 ![1] bcast_S512_S1x512_1 main_v56
  let main_v58 : IVec S65536x512 32 := broadcastInDim S65536x512 ![0, 1] bcast_S65536x1_S65536x512_0_1 main_v55
  let main_v59 : IVec S65536x512 32 := broadcastInDim S65536x512 ![0, 1] bcast_S1x512_S65536x512_0_1 main_v57
  let main_v60 : IVec S65536x512 1 := cmpi .eq main_v58 main_v59
  let main_cst_9 : FVec F S_ .f32 := constant S_ .f32 0x7F800000#32
  fn_part3 (F := F) main_v53 main_v60 main_cst_9

def fn_part1 {F : FTy → Type} [FloatOps F] (main_arg3 : FVec F S128 .f32) (main_arg4 : FVec F S128 .f32) (main_arg5 : FVec F S128x64 .f32) (main_arg6 : FVec F S64 .f32) (main_arg7 : FVec F S512x64 .f32) (main_v16 : FVec F S32x2048x128 .f32) (main_v18 : FVec F S32x2048x1 .f32) : IVec S_ 1 :=
  let main_v19 : FVec F S32x2048x1 .f32 := Host.sqrt main_v18
  let main_v20 : FVec F S32x2048x128 .f32 := broadcastInDim S32x2048x128 ![0, 1, 2] bcast_S32x2048x1_S32x2048x128_0_1_2 main_v19
  let main_v21 : FVec F S32x2048x128 .f32 := Host.divf main_v16 main_v20
  let main_v22 : FVec F S1x1x128 .f32 := broadcastInDim S1x1x128 ![2] bcast_S128_S1x1x128_2 main_arg3
  let main_v23 : FVec F S32x2048x128 .f32 := broadcastInDim S32x2048x128 ![0, 1, 2] bcast_S1x1x128_S32x2048x128_0_1_2 main_v22
  let main_v24 : FVec F S32x2048x128 .f32 := mulf main_v21 main_v23
  let main_v25 : FVec F S1x1x128 .f32 := broadcastInDim S1x1x128 ![2] bcast_S128_S1x1x128_2 main_arg4
  let main_v26 : FVec F S32x2048x128 .f32 := broadcastInDim S32x2048x128 ![0, 1, 2] bcast_S1x1x128_S32x2048x128_0_1_2 main_v25
  let main_v27 : FVec F S32x2048x128 .f32 := addf main_v24 main_v26
  let main_cst_4 : FVec F S_ .f32 := constant S_ .f32 0x3F000000#32
  let main_v28 : FVec F S32x2048x128 .f32 := broadcastInDim S32x2048x128 ![] bcast_S_S32x2048x128 main_cst_4
  let main_v29 : FVec F S32x2048x128 .f32 := mulf main_v28 main_v27
  let main_v30 : FVec F S32x2048x128 .f32 := Host.negf main_v27
  let main_cst_5 : FVec F S_ .f32 := constant S_ .f32 0x3F3504F3#32
  let main_v31 : FVec F S32x2048x128 .f32 := broadcastInDim S32x2048x128 ![] bcast_S_S32x2048x128 main_cst_5
  let main_v32 : FVec F S32x2048x128 .f32 := mulf main_v30 main_v31
  let main_v33 : FVec F S32x2048x128 .f32 := Host.erfc main_v32
  let main_v34 : FVec F S32x2048x128 .f32 := mulf main_v29 main_v33
  let main_v35 : FVec F S32x2048x64 .f32 := (fun l r => Host.dotGeneral dot_S32x2048x128_S128x64_S32x2048x64_2_0_01_1_n_n none l r) main_v34 main_arg5
  let main_v36 : FVec F S1x1x64 .f32 := broadcastInDim S1x1x64 ![2] bcast_S64_S1x1x64_2 main_arg6
  let main_v37 : FVec F S32x2048x64 .f32 := broadcastInDim S32x2048x64 ![0, 1, 2] bcast_S1x1x64_S32x2048x64_0_1_2 main_v36
  let main_v38 : FVec F S32x2048x64 .f32 := addf main_v35 main_v37
  let main_v39 : FVec F S65536x64 .f32 := shapeCast S65536x64 main_v38 shapeCasts_S32x2048x64_S65536x64
  let main_v40 : FVec F S65536x64 .f32 := mulf main_v39 main_v39
  fn_part2 (F := F) main_arg7 main_v39 main_v40

def fn {F : FTy → Type} [FloatOps F] (main_arg0 : FVec F S32x2048x14 .f32) (main_arg1 : FVec F S14x128 .f32) (main_arg2 : FVec F S128 .f32) (main_arg3 : FVec F S128 .f32) (main_arg4 : FVec F S128 .f32) (main_arg5 : FVec F S128x64 .f32) (main_arg6 : FVec F S64 .f32) (main_arg7 : FVec F S512x64 .f32) : IVec S_ 1 :=
  let main_v0 : FVec F S32x2048x128 .f32 := (fun l r => Host.dotGeneral dot_S32x2048x14_S14x128_S32x2048x128_2_0_01_1_n_n none l r) main_arg0 main_arg1
  let main_v1 : FVec F S1x1x128 .f32 := broadcastInDim S1x1x128 ![2] bcast_S128_S1x1x128_2 main_arg2
  let main_v2 : FVec F S32x2048x128 .f32 := broadcastInDim S32x2048x128 ![0, 1, 2] bcast_S1x1x128_S32x2048x128_0_1_2 main_v1
  let main_v3 : FVec F S32x2048x128 .f32 := addf main_v0 main_v2
  let main_cst : FVec F S_ .f32 := constant S_ .f32 0x00000000#32
  let main_v4 : FVec F S32x2048 .f32 := (fun x v => Host.reduceAdd x v reducesTo_S32x2048x128_S32x2048_d2 h_S_) main_v3 main_cst
  let main_v5 : FVec F S32x2048x1 .f32 := broadcastInDim S32x2048x1 ![0, 1] bcast_S32x2048_S32x2048x1_0_1 main_v4
  let main_cst_0 : FVec F S_ .f32 := constant S_ .f32 0x43000000#32
  let main_v6 : FVec F S32x2048x1 .f32 := broadcastInDim S32x2048x1 ![] bcast_S_S32x2048x1 main_cst_0
  let main_v7 : FVec F S32x2048x1 .f32 := Host.divf main_v5 main_v6
  let main_v8 : FVec F S32x2048x128 .f32 := broadcastInDim S32x2048x128 ![0, 1, 2] bcast_S32x2048x1_S32x2048x128_0_1_2 main_v7
  let main_v9 : FVec F S32x2048x128 .f32 := subf main_v3 main_v8
  let main_v10 : FVec F S32x2048x128 .f32 := mulf main_v9 main_v9
  let main_cst_1 : FVec F S_ .f32 := constant S_ .f32 0x00000000#32
  let main_v11 : FVec F S32x2048 .f32 := (fun x v => Host.reduceAdd x v reducesTo_S32x2048x128_S32x2048_d2 h_S_) main_v10 main_cst_1
  let main_v12 : FVec F S32x2048x1 .f32 := broadcastInDim S32x2048x1 ![0, 1] bcast_S32x2048_S32x2048x1_0_1 main_v11
  let main_cst_2 : FVec F S_ .f32 := constant S_ .f32 0x43000000#32
  let main_v13 : FVec F S32x2048x1 .f32 := broadcastInDim S32x2048x1 ![] bcast_S_S32x2048x1 main_cst_2
  let main_v14 : FVec F S32x2048x1 .f32 := Host.divf main_v12 main_v13
  let main_v15 : FVec F S32x2048x128 .f32 := broadcastInDim S32x2048x128 ![0, 1, 2] bcast_S32x2048x1_S32x2048x128_0_1_2 main_v7
  let main_v16 : FVec F S32x2048x128 .f32 := subf main_v3 main_v15
  let main_cst_3 : FVec F S_ .f32 := constant S_ .f32 0x3727C5AC#32
  let main_v17 : FVec F S32x2048x1 .f32 := broadcastInDim S32x2048x1 ![] bcast_S_S32x2048x1 main_cst_3
  let main_v18 : FVec F S32x2048x1 .f32 := addf main_v14 main_v17
  fn_part1 (F := F) main_arg3 main_arg4 main_arg5 main_arg6 main_arg7 main_v16 main_v18
-- ==== Gather.lean ====
abbrev S512x16 : Shape := ⟨2, ![512, 16]⟩
abbrev S32x2048 : Shape := ⟨2, ![32, 2048]⟩
abbrev S65536 : Shape := ⟨1, ![65536]⟩
abbrev S8192 : Shape := ⟨1, ![8192]⟩
abbrev S1048576 : Shape := ⟨1, ![1048576]⟩
abbrev S2048 : Shape := ⟨1, ![2048]⟩
abbrev S32768 : Shape := ⟨1, ![32768]⟩
abbrev S_ : Shape := ⟨0, ![]⟩
abbrev S16 : Shape := ⟨1, ![16]⟩
abbrev S65536x16 : Shape := ⟨2, ![65536, 16]⟩
abbrev S65536x14 : Shape := ⟨2, ![65536, 14]⟩
abbrev S32x2048x14 : Shape := ⟨3, ![32, 2048, 14]⟩

abbrev nBuf : Table → Nat
  | .hbm => 8
  | .local .scVector .vmem => 3
  | _ => 0

abbrev bufTy : (tb : Table) → Fin (nBuf tb) → BufTy
  | .hbm, ⟨0, _⟩ => ⟨S512x16, .f32⟩
  | .hbm, ⟨1, _⟩ => ⟨S32x2048, .i32⟩
  | .hbm, ⟨2, _⟩ => ⟨S65536, .i32⟩
  | .hbm, ⟨3, _⟩ => ⟨S8192, .f32⟩
  | .hbm, ⟨4, _⟩ => ⟨S1048576, .f32⟩
  | .hbm, ⟨5, _⟩ => ⟨S65536x16, .f32⟩
  | .hbm, ⟨6, _⟩ => ⟨S65536x14, .f32⟩
  | .hbm, ⟨7, _⟩ => ⟨S32x2048x14, .f32⟩
  | .local .scVector .vmem, ⟨0, _⟩ => ⟨S2048, .i32⟩
  | .local .scVector .vmem, ⟨1, _⟩ => ⟨S8192, .f32⟩
  | .local .scVector .vmem, ⟨2, _⟩ => ⟨S32768, .f32⟩
  | _, _ => ⟨S512x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k0_t1_loop : Scf.Loop 32 :=
  let c0_i32_0 : BitVec 32 := 0#32
  let c128_i32 : BitVec 32 := 128#32
  let v6 : BitVec 32 := Scalar.addi c0_i32_0 c128_i32
  let c1_i32 : BitVec 32 := 1#32
  ⟨c0_i32_0, v6, c1_i32⟩
def k0_off2 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32_3 : BitVec 32 := 16#32
  let v8 : BitVec 32 := Scalar.muli arg8 c16_i32_3
  let v9 : Index := Scalar.indexCast v8
  ![v9.toNat]

def k0_chk1 (v17 : IVec S16 32) : Prop :=
  (∀ a x, ((![v17] : Fin 1 → IVec S16 32) a x).toNat < S8192.size a)
theorem k0_idx1_inb : ∀ (v17 : IVec S16 32) (k0_hw1 : k0_chk1 v17), ∀ a x, ((![v17] : Fin 1 → IVec S16 32) a x).toNat < S8192.size a := fun v17 k0_hw1 => k0_hw1

def k0_chk2 (v20 : IVec S16 32) : Prop :=
  (∀ a x, ((![v20] : Fin 1 → IVec S16 32) a x).toNat < S32768.size a)
theorem k0_idx2_inb : ∀ (v20 : IVec S16 32) (k0_hw2 : k0_chk2 v20), ∀ a x, ((![v20] : Fin 1 → IVec S16 32) a x).toNat < S32768.size a := fun v20 k0_hw2 => k0_hw2

def k0_chk3 (v22 : IVec S16 32) : Prop :=
  (∀ a x, ((![v22] : Fin 1 → IVec S16 32) a x).toNat < S8192.size a)
theorem k0_idx3_inb : ∀ (v22 : IVec S16 32) (k0_hw3 : k0_chk3 v22), ∀ a x, ((![v22] : Fin 1 → IVec S16 32) a x).toNat < S8192.size a := fun v22 k0_hw3 => k0_hw3

def k0_chk4 (v25 : IVec S16 32) : Prop :=
  (∀ a x, ((![v25] : Fin 1 → IVec S16 32) a x).toNat < S32768.size a)
theorem k0_idx4_inb : ∀ (v25 : IVec S16 32) (k0_hw4 : k0_chk4 v25), ∀ a x, ((![v25] : Fin 1 → IVec S16 32) a x).toNat < S32768.size a := fun v25 k0_hw4 => k0_hw4

def k0_chk5 (v27 : IVec S16 32) : Prop :=
  (∀ a x, ((![v27] : Fin 1 → IVec S16 32) a x).toNat < S8192.size a)
theorem k0_idx5_inb : ∀ (v27 : IVec S16 32) (k0_hw5 : k0_chk5 v27), ∀ a x, ((![v27] : Fin 1 → IVec S16 32) a x).toNat < S8192.size a := fun v27 k0_hw5 => k0_hw5

def k0_chk6 (v30 : IVec S16 32) : Prop :=
  (∀ a x, ((![v30] : Fin 1 → IVec S16 32) a x).toNat < S32768.size a)
theorem k0_idx6_inb : ∀ (v30 : IVec S16 32) (k0_hw6 : k0_chk6 v30), ∀ a x, ((![v30] : Fin 1 → IVec S16 32) a x).toNat < S32768.size a := fun v30 k0_hw6 => k0_hw6

def k0_chk7 (v32 : IVec S16 32) : Prop :=
  (∀ a x, ((![v32] : Fin 1 → IVec S16 32) a x).toNat < S8192.size a)
theorem k0_idx7_inb : ∀ (v32 : IVec S16 32) (k0_hw7 : k0_chk7 v32), ∀ a x, ((![v32] : Fin 1 → IVec S16 32) a x).toNat < S8192.size a := fun v32 k0_hw7 => k0_hw7

def k0_chk8 (v35 : IVec S16 32) : Prop :=
  (∀ a x, ((![v35] : Fin 1 → IVec S16 32) a x).toNat < S32768.size a)
theorem k0_idx8_inb : ∀ (v35 : IVec S16 32) (k0_hw8 : k0_chk8 v35), ∀ a x, ((![v35] : Fin 1 → IVec S16 32) a x).toNat < S32768.size a := fun v35 k0_hw8 => k0_hw8

def k0_chk9 (v37 : IVec S16 32) : Prop :=
  (∀ a x, ((![v37] : Fin 1 → IVec S16 32) a x).toNat < S8192.size a)
theorem k0_idx9_inb : ∀ (v37 : IVec S16 32) (k0_hw9 : k0_chk9 v37), ∀ a x, ((![v37] : Fin 1 → IVec S16 32) a x).toNat < S8192.size a := fun v37 k0_hw9 => k0_hw9

def k0_chk10 (v40 : IVec S16 32) : Prop :=
  (∀ a x, ((![v40] : Fin 1 → IVec S16 32) a x).toNat < S32768.size a)
theorem k0_idx10_inb : ∀ (v40 : IVec S16 32) (k0_hw10 : k0_chk10 v40), ∀ a x, ((![v40] : Fin 1 → IVec S16 32) a x).toNat < S32768.size a := fun v40 k0_hw10 => k0_hw10

def k0_chk11 (v42 : IVec S16 32) : Prop :=
  (∀ a x, ((![v42] : Fin 1 → IVec S16 32) a x).toNat < S8192.size a)
theorem k0_idx11_inb : ∀ (v42 : IVec S16 32) (k0_hw11 : k0_chk11 v42), ∀ a x, ((![v42] : Fin 1 → IVec S16 32) a x).toNat < S8192.size a := fun v42 k0_hw11 => k0_hw11

def k0_chk12 (v45 : IVec S16 32) : Prop :=
  (∀ a x, ((![v45] : Fin 1 → IVec S16 32) a x).toNat < S32768.size a)
theorem k0_idx12_inb : ∀ (v45 : IVec S16 32) (k0_hw12 : k0_chk12 v45), ∀ a x, ((![v45] : Fin 1 → IVec S16 32) a x).toNat < S32768.size a := fun v45 k0_hw12 => k0_hw12

def k0_chk13 (v47 : IVec S16 32) : Prop :=
  (∀ a x, ((![v47] : Fin 1 → IVec S16 32) a x).toNat < S8192.size a)
theorem k0_idx13_inb : ∀ (v47 : IVec S16 32) (k0_hw13 : k0_chk13 v47), ∀ a x, ((![v47] : Fin 1 → IVec S16 32) a x).toNat < S8192.size a := fun v47 k0_hw13 => k0_hw13

def k0_chk14 (v50 : IVec S16 32) : Prop :=
  (∀ a x, ((![v50] : Fin 1 → IVec S16 32) a x).toNat < S32768.size a)
theorem k0_idx14_inb : ∀ (v50 : IVec S16 32) (k0_hw14 : k0_chk14 v50), ∀ a x, ((![v50] : Fin 1 → IVec S16 32) a x).toNat < S32768.size a := fun v50 k0_hw14 => k0_hw14

def k0_chk15 (v52 : IVec S16 32) : Prop :=
  (∀ a x, ((![v52] : Fin 1 → IVec S16 32) a x).toNat < S8192.size a)
theorem k0_idx15_inb : ∀ (v52 : IVec S16 32) (k0_hw15 : k0_chk15 v52), ∀ a x, ((![v52] : Fin 1 → IVec S16 32) a x).toNat < S8192.size a := fun v52 k0_hw15 => k0_hw15

def k0_chk16 (v55 : IVec S16 32) : Prop :=
  (∀ a x, ((![v55] : Fin 1 → IVec S16 32) a x).toNat < S32768.size a)
theorem k0_idx16_inb : ∀ (v55 : IVec S16 32) (k0_hw16 : k0_chk16 v55), ∀ a x, ((![v55] : Fin 1 → IVec S16 32) a x).toNat < S32768.size a := fun v55 k0_hw16 => k0_hw16

def k0_chk17 (v57 : IVec S16 32) : Prop :=
  (∀ a x, ((![v57] : Fin 1 → IVec S16 32) a x).toNat < S8192.size a)
theorem k0_idx17_inb : ∀ (v57 : IVec S16 32) (k0_hw17 : k0_chk17 v57), ∀ a x, ((![v57] : Fin 1 → IVec S16 32) a x).toNat < S8192.size a := fun v57 k0_hw17 => k0_hw17

def k0_chk18 (v60 : IVec S16 32) : Prop :=
  (∀ a x, ((![v60] : Fin 1 → IVec S16 32) a x).toNat < S32768.size a)
theorem k0_idx18_inb : ∀ (v60 : IVec S16 32) (k0_hw18 : k0_chk18 v60), ∀ a x, ((![v60] : Fin 1 → IVec S16 32) a x).toNat < S32768.size a := fun v60 k0_hw18 => k0_hw18

def k0_chk19 (v62 : IVec S16 32) : Prop :=
  (∀ a x, ((![v62] : Fin 1 → IVec S16 32) a x).toNat < S8192.size a)
theorem k0_idx19_inb : ∀ (v62 : IVec S16 32) (k0_hw19 : k0_chk19 v62), ∀ a x, ((![v62] : Fin 1 → IVec S16 32) a x).toNat < S8192.size a := fun v62 k0_hw19 => k0_hw19

def k0_chk20 (v65 : IVec S16 32) : Prop :=
  (∀ a x, ((![v65] : Fin 1 → IVec S16 32) a x).toNat < S32768.size a)
theorem k0_idx20_inb : ∀ (v65 : IVec S16 32) (k0_hw20 : k0_chk20 v65), ∀ a x, ((![v65] : Fin 1 → IVec S16 32) a x).toNat < S32768.size a := fun v65 k0_hw20 => k0_hw20

def k0_chk21 (v67 : IVec S16 32) : Prop :=
  (∀ a x, ((![v67] : Fin 1 → IVec S16 32) a x).toNat < S8192.size a)
theorem k0_idx21_inb : ∀ (v67 : IVec S16 32) (k0_hw21 : k0_chk21 v67), ∀ a x, ((![v67] : Fin 1 → IVec S16 32) a x).toNat < S8192.size a := fun v67 k0_hw21 => k0_hw21

def k0_chk22 (v70 : IVec S16 32) : Prop :=
  (∀ a x, ((![v70] : Fin 1 → IVec S16 32) a x).toNat < S32768.size a)
theorem k0_idx22_inb : ∀ (v70 : IVec S16 32) (k0_hw22 : k0_chk22 v70), ∀ a x, ((![v70] : Fin 1 → IVec S16 32) a x).toNat < S32768.size a := fun v70 k0_hw22 => k0_hw22

def k0_chk23 (v72 : IVec S16 32) : Prop :=
  (∀ a x, ((![v72] : Fin 1 → IVec S16 32) a x).toNat < S8192.size a)
theorem k0_idx23_inb : ∀ (v72 : IVec S16 32) (k0_hw23 : k0_chk23 v72), ∀ a x, ((![v72] : Fin 1 → IVec S16 32) a x).toNat < S8192.size a := fun v72 k0_hw23 => k0_hw23

def k0_chk24 (v75 : IVec S16 32) : Prop :=
  (∀ a x, ((![v75] : Fin 1 → IVec S16 32) a x).toNat < S32768.size a)
theorem k0_idx24_inb : ∀ (v75 : IVec S16 32) (k0_hw24 : k0_chk24 v75), ∀ a x, ((![v75] : Fin 1 → IVec S16 32) a x).toNat < S32768.size a := fun v75 k0_hw24 => k0_hw24

def k0_chk25 (v77 : IVec S16 32) : Prop :=
  (∀ a x, ((![v77] : Fin 1 → IVec S16 32) a x).toNat < S8192.size a)
theorem k0_idx25_inb : ∀ (v77 : IVec S16 32) (k0_hw25 : k0_chk25 v77), ∀ a x, ((![v77] : Fin 1 → IVec S16 32) a x).toNat < S8192.size a := fun v77 k0_hw25 => k0_hw25

def k0_chk26 (v80 : IVec S16 32) : Prop :=
  (∀ a x, ((![v80] : Fin 1 → IVec S16 32) a x).toNat < S32768.size a)
theorem k0_idx26_inb : ∀ (v80 : IVec S16 32) (k0_hw26 : k0_chk26 v80), ∀ a x, ((![v80] : Fin 1 → IVec S16 32) a x).toNat < S32768.size a := fun v80 k0_hw26 => k0_hw26

def k0_chk27 (v82 : IVec S16 32) : Prop :=
  (∀ a x, ((![v82] : Fin 1 → IVec S16 32) a x).toNat < S8192.size a)
theorem k0_idx27_inb : ∀ (v82 : IVec S16 32) (k0_hw27 : k0_chk27 v82), ∀ a x, ((![v82] : Fin 1 → IVec S16 32) a x).toNat < S8192.size a := fun v82 k0_hw27 => k0_hw27

def k0_chk28 (v85 : IVec S16 32) : Prop :=
  (∀ a x, ((![v85] : Fin 1 → IVec S16 32) a x).toNat < S32768.size a)
theorem k0_idx28_inb : ∀ (v85 : IVec S16 32) (k0_hw28 : k0_chk28 v85), ∀ a x, ((![v85] : Fin 1 → IVec S16 32) a x).toNat < S32768.size a := fun v85 k0_hw28 => k0_hw28

def k0_chk29 (v87 : IVec S16 32) : Prop :=
  (∀ a x, ((![v87] : Fin 1 → IVec S16 32) a x).toNat < S8192.size a)
theorem k0_idx29_inb : ∀ (v87 : IVec S16 32) (k0_hw29 : k0_chk29 v87), ∀ a x, ((![v87] : Fin 1 → IVec S16 32) a x).toNat < S8192.size a := fun v87 k0_hw29 => k0_hw29

def k0_chk30 (v90 : IVec S16 32) : Prop :=
  (∀ a x, ((![v90] : Fin 1 → IVec S16 32) a x).toNat < S32768.size a)
theorem k0_idx30_inb : ∀ (v90 : IVec S16 32) (k0_hw30 : k0_chk30 v90), ∀ a x, ((![v90] : Fin 1 → IVec S16 32) a x).toNat < S32768.size a := fun v90 k0_hw30 => k0_hw30

def k0_chk31 (v92 : IVec S16 32) : Prop :=
  (∀ a x, ((![v92] : Fin 1 → IVec S16 32) a x).toNat < S8192.size a)
theorem k0_idx31_inb : ∀ (v92 : IVec S16 32) (k0_hw31 : k0_chk31 v92), ∀ a x, ((![v92] : Fin 1 → IVec S16 32) a x).toNat < S8192.size a := fun v92 k0_hw31 => k0_hw31

def k0_chk32 (v95 : IVec S16 32) : Prop :=
  (∀ a x, ((![v95] : Fin 1 → IVec S16 32) a x).toNat < S32768.size a)
theorem k0_idx32_inb : ∀ (v95 : IVec S16 32) (k0_hw32 : k0_chk32 v95), ∀ a x, ((![v95] : Fin 1 → IVec S16 32) a x).toNat < S32768.size a := fun v95 k0_hw32 => k0_hw32
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c16_i32_2 : BitVec 32 := 16#32
  let v7 : BitVec 32 := Scalar.muli v2 c16_i32_2
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S512x16 : Shape := ⟨2, ![512, 16]⟩
abbrev S32x2048 : Shape := ⟨2, ![32, 2048]⟩
abbrev S_ : Shape := ⟨0, ![]⟩
abbrev S32x2048x1 : Shape := ⟨3, ![32, 2048, 1]⟩
abbrev S1 : Shape := ⟨1, ![1]⟩
abbrev S1x1x1 : Shape := ⟨3, ![1, 1, 1]⟩
abbrev S32x2048x16 : Shape := ⟨3, ![32, 2048, 16]⟩
abbrev S32x2048x14 : Shape := ⟨3, ![32, 2048, 14]⟩

abbrev nBuf : Space → Nat
  | .hbm => 26
  | .vmem => 0
  | .smem => 0
  | _ => 0

abbrev bufTy : (tb : Table) → Fin (tcTables nBuf tb) → BufTy
  | .hbm, ⟨0, _⟩ => ⟨S512x16, .f32⟩
  | .hbm, ⟨1, _⟩ => ⟨S32x2048, .i32⟩
  | .hbm, ⟨2, _⟩ => ⟨S_, .i32⟩
  | .hbm, ⟨3, _⟩ => ⟨S32x2048, .i32⟩
  | .hbm, ⟨4, _⟩ => ⟨S32x2048, .i1⟩
  | .hbm, ⟨5, _⟩ => ⟨S_, .i32⟩
  | .hbm, ⟨6, _⟩ => ⟨S32x2048, .i32⟩
  | .hbm, ⟨7, _⟩ => ⟨S32x2048, .i32⟩
  | .hbm, ⟨8, _⟩ => ⟨S32x2048, .i32⟩
  | .hbm, ⟨9, _⟩ => ⟨S32x2048x1, .i32⟩
  | .hbm, ⟨10, _⟩ => ⟨S1, .i32⟩
  | .hbm, ⟨11, _⟩ => ⟨S_, .i32⟩
  | .hbm, ⟨12, _⟩ => ⟨S32x2048x1, .i32⟩
  | .hbm, ⟨13, _⟩ => ⟨S32x2048x1, .i1⟩
  | .hbm, ⟨14, _⟩ => ⟨S1x1x1, .i32⟩
  | .hbm, ⟨15, _⟩ => ⟨S32x2048x1, .i32⟩
  | .hbm, ⟨16, _⟩ => ⟨S32x2048x1, .i1⟩
  | .hbm, ⟨17, _⟩ => ⟨S32x2048x1, .i1⟩
  | .hbm, ⟨18, _⟩ => ⟨S_, .i1⟩
  | .hbm, ⟨19, _⟩ => ⟨S32x2048, .i1⟩
  | .hbm, ⟨20, _⟩ => ⟨S32x2048x16, .f32⟩
  | .hbm, ⟨21, _⟩ => ⟨S32x2048x16, .i1⟩
  | .hbm, ⟨22, _⟩ => ⟨S_, .f32⟩
  | .hbm, ⟨23, _⟩ => ⟨S32x2048x16, .f32⟩
  | .hbm, ⟨24, _⟩ => ⟨S32x2048x16, .f32⟩
  | .hbm, ⟨25, _⟩ => ⟨S32x2048x14, .f32⟩
  | _, _ => ⟨S512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Decode.lean ====
abbrev S512x64 : Shape := ⟨2, ![512, 64]⟩
abbrev S64x128 : Shape := ⟨2, ![64, 128]⟩
abbrev S128 : Shape := ⟨1, ![128]⟩
abbrev S128x14 : Shape := ⟨2, ![128, 14]⟩
abbrev S14 : Shape := ⟨1, ![14]⟩
abbrev S1x512 : Shape := ⟨2, ![1, 512]⟩
abbrev S_ : Shape := ⟨0, ![]⟩
abbrev S128x16 : Shape := ⟨2, ![128, 16]⟩
abbrev S16 : Shape := ⟨1, ![16]⟩
abbrev S1x16 : Shape := ⟨2, ![1, 16]⟩
abbrev S1x128 : Shape := ⟨2, ![1, 128]⟩
abbrev S512x16 : Shape := ⟨2, ![512, 16]⟩
abbrev S1x1 : Shape := ⟨2, ![1, 1]⟩
abbrev S512x128 : Shape := ⟨2, ![512, 128]⟩
abbrev S512 : Shape := ⟨1, ![512]⟩
abbrev S512x1 : Shape := ⟨2, ![512, 1]⟩
abbrev S1x1x512 : Shape := ⟨3, ![1, 1, 512]⟩
abbrev S1 : Shape := ⟨1, ![1]⟩
abbrev S1x1x1 : Shape := ⟨3, ![1, 1, 1]⟩

abbrev nBuf : Space → Nat
  | .hbm => 20
  | .vmem => 9
  | .smem => 1
  | _ => 0

abbrev bufTy : (tb : Table) → Fin (tcTables nBuf tb) → BufTy
  | .hbm, ⟨0, _⟩ => ⟨S512x64, .f32⟩
  | .hbm, ⟨1, _⟩ => ⟨S64x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x14, .f32⟩
  | .hbm, ⟨6, _⟩ => ⟨S14, .f32⟩
  | .hbm, ⟨7, _⟩ => ⟨S1x512, .f32⟩
  | .hbm, ⟨8, _⟩ => ⟨S_, .i32⟩
  | .hbm, ⟨9, _⟩ => ⟨S_, .f32⟩
  | .hbm, ⟨10, _⟩ => ⟨S128x16, .f32⟩
  | .hbm, ⟨11, _⟩ => ⟨S_, .i32⟩
  | .hbm, ⟨12, _⟩ => ⟨S_, .f32⟩
  | .hbm, ⟨13, _⟩ => ⟨S16, .f32⟩
  | .hbm, ⟨14, _⟩ => ⟨S1x16, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S512x16, .f32⟩
  | .hbm, ⟨19, _⟩ => ⟨S1x1, .f32⟩
  | .local _ .vmem, ⟨0, _⟩ => ⟨S512x64, .f32⟩
  | .local _ .vmem, ⟨1, _⟩ => ⟨S64x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S128x16, .f32⟩
  | .local _ .vmem, ⟨6, _⟩ => ⟨S1x16, .f32⟩
  | .local _ .vmem, ⟨7, _⟩ => ⟨S1x512, .f32⟩
  | .local _ .vmem, ⟨8, _⟩ => ⟨S512x16, .f32⟩
  | .local _ .smem, ⟨0, _⟩ => ⟨S1x1, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DecodeReferenceIdeal.lean ====
abbrev S512x64 : Shape := ⟨2, ![512, 64]⟩
abbrev S64x128 : Shape := ⟨2, ![64, 128]⟩
abbrev S128 : Shape := ⟨1, ![128]⟩
abbrev S128x14 : Shape := ⟨2, ![128, 14]⟩
abbrev S14 : Shape := ⟨1, ![14]⟩
abbrev S1x512 : Shape := ⟨2, ![1, 512]⟩
abbrev S512x128 : Shape := ⟨2, ![512, 128]⟩
abbrev S1x128 : Shape := ⟨2, ![1, 128]⟩
abbrev S_ : Shape := ⟨0, ![]⟩
abbrev S512 : Shape := ⟨1, ![512]⟩
abbrev S512x1 : Shape := ⟨2, ![512, 1]⟩
abbrev S512x14 : Shape := ⟨2, ![512, 14]⟩
abbrev S1x14 : Shape := ⟨2, ![1, 14]⟩
abbrev S512x16 : Shape := ⟨2, ![512, 16]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S64x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x14, .f32⟩
  | .hbm, ⟨6, _⟩ => ⟨S14, .f32⟩
  | .hbm, ⟨7, _⟩ => ⟨S1x512, .f32⟩
  | .hbm, ⟨8, _⟩ => ⟨S512x128, .f32⟩
  | .hbm, ⟨9, _⟩ => ⟨S1x128, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x128, .f32⟩
  | .hbm, ⟨34, _⟩ => ⟨S512x128, .f32⟩
  | .hbm, ⟨35, _⟩ => ⟨S1x128, .f32⟩
  | .hbm, ⟨36, _⟩ => ⟨S512x128, .f32⟩
  | .hbm, ⟨37, _⟩ => ⟨S512x128, .f32⟩
  | .hbm, ⟨38, _⟩ => ⟨S1x128, .f32⟩
  | .hbm, ⟨39, _⟩ => ⟨S512x128, .f32⟩
  | .hbm, ⟨40, _⟩ => ⟨S512x128, .f32⟩
  | .hbm, ⟨41, _⟩ => ⟨S_, .f32⟩
  | .hbm, ⟨42, _⟩ => ⟨S512x128, .f32⟩
  | .hbm, ⟨43, _⟩ => ⟨S512x128, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S512x128, .f32⟩
  | .hbm, ⟨49, _⟩ => ⟨S512x128, .f32⟩
  | .hbm, ⟨50, _⟩ => ⟨S512x14, .f32⟩
  | .hbm, ⟨51, _⟩ => ⟨S1x14, .f32⟩
  | .hbm, ⟨52, _⟩ => ⟨S512x14, .f32⟩
  | .hbm, ⟨53, _⟩ => ⟨S512x14, .f32⟩
  | .hbm, ⟨54, _⟩ => ⟨S_, .f32⟩
  | .hbm, ⟨55, _⟩ => ⟨S1x512, .f32⟩
  | .hbm, ⟨56, _⟩ => ⟨S1x512, .f32⟩
  | .hbm, ⟨57, _⟩ => ⟨S_, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .i32⟩
  | .hbm, ⟨67, _⟩ => ⟨S_, .f32⟩
  | .hbm, ⟨68, _⟩ => ⟨S512x16, .f32⟩
  | .hbm, ⟨69, _⟩ => ⟨S1x1, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Encode.lean ====
abbrev S32x2048x14 : Shape := ⟨3, ![32, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S512x64 : Shape := ⟨2, ![512, 64]⟩
abbrev S65536x14 : Shape := ⟨2, ![65536, 14]⟩
abbrev S64x512 : Shape := ⟨2, ![64, 512]⟩
abbrev S1x128 : Shape := ⟨2, ![1, 128]⟩
abbrev S1x64 : Shape := ⟨2, ![1, 64]⟩
abbrev S65536x1 : Shape := ⟨2, ![65536, 1]⟩
abbrev S1x1 : Shape := ⟨2, ![1, 1]⟩
abbrev S1x512 : Shape := ⟨2, ![1, 512]⟩
abbrev S4096x14 : Shape := ⟨2, ![4096, 14]⟩
abbrev S4096x1 : Shape := ⟨2, ![4096, 1]⟩
abbrev S4096x128 : Shape := ⟨2, ![4096, 128]⟩
abbrev S4096 : Shape := ⟨1, ![4096]⟩
abbrev S4096x64 : Shape := ⟨2, ![4096, 64]⟩
abbrev S512 : Shape := ⟨1, ![512]⟩
abbrev S4096x512 : Shape := ⟨2, ![4096, 512]⟩
abbrev S1x4096 : Shape := ⟨2, ![1, 4096]⟩
abbrev S64x1 : Shape := ⟨2, ![64, 1]⟩

abbrev nBuf : Space → Nat
  | .hbm => 17
  | .vmem => 12
  | .smem => 1
  | _ => 0

abbrev bufTy : (tb : Table) → Fin (tcTables nBuf tb) → BufTy
  | .hbm, ⟨0, _⟩ => ⟨S32x2048x14, .f32⟩
  | .hbm, ⟨1, _⟩ => ⟨S14x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S512x64, .f32⟩
  | .hbm, ⟨8, _⟩ => ⟨S65536x14, .f32⟩
  | .hbm, ⟨9, _⟩ => ⟨S64x512, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x64, .f32⟩
  | .hbm, ⟨14, _⟩ => ⟨S65536x1, .i32⟩
  | .hbm, ⟨15, _⟩ => ⟨S1x1, .f32⟩
  | .hbm, ⟨16, _⟩ => ⟨S1x512, .f32⟩
  | .local _ .vmem, ⟨0, _⟩ => ⟨S4096x14, .f32⟩
  | .local _ .vmem, ⟨1, _⟩ => ⟨S4096x14, .f32⟩
  | .local _ .vmem, ⟨2, _⟩ => ⟨S14x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S64x512, .f32⟩
  | .local _ .vmem, ⟨9, _⟩ => ⟨S4096x1, .i32⟩
  | .local _ .vmem, ⟨10, _⟩ => ⟨S4096x1, .i32⟩
  | .local _ .vmem, ⟨11, _⟩ => ⟨S1x512, .f32⟩
  | .local _ .smem, ⟨0, _⟩ => ⟨S1x1, .f32⟩
  | _, _ => ⟨S32x2048x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg10_0 : Ref sig .tc := ⟨.vmem, 11, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== EncodeReferenceIdeal.lean ====
abbrev S32x2048x14 : Shape := ⟨3, ![32, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S512x64 : Shape := ⟨2, ![512, 64]⟩
abbrev S32x2048x128 : Shape := ⟨3, ![32, 2048, 128]⟩
abbrev S1x1x128 : Shape := ⟨3, ![1, 1, 128]⟩
abbrev S_ : Shape := ⟨0, ![]⟩
abbrev S32x2048 : Shape := ⟨2, ![32, 2048]⟩
abbrev S32x2048x1 : Shape := ⟨3, ![32, 2048, 1]⟩
abbrev S32x2048x64 : Shape := ⟨3, ![32, 2048, 64]⟩
abbrev S1x1x64 : Shape := ⟨3, ![1, 1, 64]⟩
abbrev S65536x64 : Shape := ⟨2, ![65536, 64]⟩
abbrev S65536 : Shape := ⟨1, ![65536]⟩
abbrev S65536x1 : Shape := ⟨2, ![65536, 1]⟩
abbrev S64x512 : Shape := ⟨2, ![64, 512]⟩
abbrev S65536x512 : Shape := ⟨2, ![65536, 512]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S32x2048x14, .f32⟩
  | .hbm, ⟨1, _⟩ => ⟨S14x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S512x64, .f32⟩
  | .hbm, ⟨8, _⟩ => ⟨S32x2048x128, .f32⟩
  | .hbm, ⟨9, _⟩ => ⟨S1x1x128, .f32⟩
  | .hbm, ⟨10, _⟩ => ⟨S32x2048x128, .f32⟩
  | .hbm, ⟨11, _⟩ => ⟨S32x2048x128, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x128, .f32⟩
  | .hbm, ⟨19, _⟩ => ⟨S32x2048x128, .f32⟩
  | .hbm, ⟨20, _⟩ => ⟨S32x2048x128, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x128, .f32⟩
  | .hbm, ⟨28, _⟩ => ⟨S32x2048x128, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S32x2048x128, .f32⟩
  | .hbm, ⟨34, _⟩ => ⟨S32x2048x128, .f32⟩
  | .hbm, ⟨35, _⟩ => ⟨S1x1x128, .f32⟩
  | .hbm, ⟨36, _⟩ => ⟨S32x2048x128, .f32⟩
  | .hbm, ⟨37, _⟩ => ⟨S32x2048x128, .f32⟩
  | .hbm, ⟨38, _⟩ => ⟨S1x1x128, .f32⟩
  | .hbm, ⟨39, _⟩ => ⟨S32x2048x128, .f32⟩
  | .hbm, ⟨40, _⟩ => ⟨S32x2048x128, .f32⟩
  | .hbm, ⟨41, _⟩ => ⟨S_, .f32⟩
  | .hbm, ⟨42, _⟩ => ⟨S32x2048x128, .f32⟩
  | .hbm, ⟨43, _⟩ => ⟨S32x2048x128, .f32⟩
  | .hbm, ⟨44, _⟩ => ⟨S32x2048x128, .f32⟩
  | .hbm, ⟨45, _⟩ => ⟨S_, .f32⟩
  | .hbm, ⟨46, _⟩ => ⟨S32x2048x128, .f32⟩
  | .hbm, ⟨47, _⟩ => ⟨S32x2048x128, .f32⟩
  | .hbm, ⟨48, _⟩ => ⟨S32x2048x128, .f32⟩
  | .hbm, ⟨49, _⟩ => ⟨S32x2048x128, .f32⟩
  | .hbm, ⟨50, _⟩ => ⟨S32x2048x64, .f32⟩
  | .hbm, ⟨51, _⟩ => ⟨S1x1x64, .f32⟩
  | .hbm, ⟨52, _⟩ => ⟨S32x2048x64, .f32⟩
  | .hbm, ⟨53, _⟩ => ⟨S32x2048x64, .f32⟩
  | .hbm, ⟨54, _⟩ => ⟨S65536x64, .f32⟩
  | .hbm, ⟨55, _⟩ => ⟨S65536x64, .f32⟩
  | .hbm, ⟨56, _⟩ => ⟨S_, .f32⟩
  | .hbm, ⟨57, _⟩ => ⟨S65536, .f32⟩
  | .hbm, ⟨58, _⟩ => ⟨S65536x1, .f32⟩
  | .hbm, ⟨59, _⟩ => ⟨S_, .f32⟩
  | .hbm, ⟨60, _⟩ => ⟨S65536x64, .f32⟩
  | .hbm, ⟨61, _⟩ => ⟨S65536x64, .f32⟩
  | .hbm, ⟨62, _⟩ => ⟨S64x512, .f32⟩
  | .hbm, ⟨63, _⟩ => ⟨S65536x512, .f32⟩
  | .hbm, ⟨64, _⟩ => ⟨S65536x512, .f32⟩
  | .hbm, ⟨65, _⟩ => ⟨S65536x512, .f32⟩
  | .hbm, ⟨66, _⟩ => ⟨S512x64, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S65536x512, .f32⟩
  | .hbm, ⟨71, _⟩ => ⟨S65536x512, .f32⟩
  | .hbm, ⟨72, _⟩ => ⟨S65536x512, .i32⟩
  | .hbm, ⟨73, _⟩ => ⟨S_, .f32⟩
  | .hbm, ⟨74, _⟩ => ⟨S_, .i32⟩
  | .hbm, ⟨75, _⟩ => ⟨S65536, .f32⟩
  | .hbm, ⟨76, _⟩ => ⟨S65536, .i32⟩
  | .hbm, ⟨77, _⟩ => ⟨S_, .i32⟩
  | .hbm, ⟨78, _⟩ => ⟨S65536, .i32⟩
  | .hbm, ⟨79, _⟩ => ⟨S65536, .i1⟩
  | .hbm, ⟨80, _⟩ => ⟨S_, .i32⟩
  | .hbm, ⟨81, _⟩ => ⟨S65536, .i32⟩
  | .hbm, ⟨82, _⟩ => ⟨S65536, .i32⟩
  | .hbm, ⟨83, _⟩ => ⟨S65536, .i32⟩
  | .hbm, ⟨84, _⟩ => ⟨S65536x1, .i32⟩
  | .hbm, ⟨85, _⟩ => ⟨S1, .i32⟩
  | .hbm, ⟨86, _⟩ => ⟨S_, .i32⟩
  | .hbm, ⟨87, _⟩ => ⟨S65536x1, .i32⟩
  | .hbm, ⟨88, _⟩ => ⟨S65536x1, .i1⟩
  | .hbm, ⟨89, _⟩ => ⟨S1x1, .i32⟩
  | .hbm, ⟨90, _⟩ => ⟨S65536x1, .i32⟩
  | .hbm, ⟨91, _⟩ => ⟨S65536x1, .i1⟩
  | .hbm, ⟨92, _⟩ => ⟨S65536x1, .i1⟩
  | .hbm, ⟨93, _⟩ => ⟨S_, .i1⟩
  | .hbm, ⟨94, _⟩ => ⟨S65536, .i1⟩
  | .hbm, ⟨95, _⟩ => ⟨S65536x64, .f32⟩
  | .hbm, ⟨96, _⟩ => ⟨S65536x64, .i1⟩
  | .hbm, ⟨97, _⟩ => ⟨S_, .f32⟩
  | .hbm, ⟨98, _⟩ => ⟨S65536x64, .f32⟩
  | .hbm, ⟨99, _⟩ => ⟨S65536x64, .f32⟩
  | .hbm, ⟨100, _⟩ => ⟨S32x2048x64, .f32⟩
  | .hbm, ⟨101, _⟩ => ⟨S65536x1, .i32⟩
  | .hbm, ⟨102, _⟩ => ⟨S32x2048x64, .f32⟩
  | .hbm, ⟨103, _⟩ => ⟨S32x2048x64, .f32⟩
  | .hbm, ⟨104, _⟩ => ⟨S_, .f32⟩
  | .hbm, ⟨105, _⟩ => ⟨S_, .f32⟩
  | .hbm, ⟨106, _⟩ => ⟨S1x1, .f32⟩
  | _, _ => ⟨S32x2048x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_cst : Ref sig .tc := ⟨.hbm, 73, rfl⟩
abbrev main_call0_c : Ref sig .tc := ⟨.hbm, 74, rfl⟩
abbrev main_call0_v1_0 : Ref sig .tc := ⟨.hbm, 75, rfl⟩
abbrev main_v54 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_9 : Ref sig .tc := ⟨.hbm, 104, rfl⟩
abbrev main_v60 : Ref sig .tc := ⟨.hbm, 105, rfl⟩
abbrev main_v61 : Ref sig .tc := ⟨.hbm, 106, rfl⟩

abbrev nD : Nat := 1
abbrev τ : Topo := Topo.v7x

variable {F : FTy → Type} [FloatOps F]
-- ==== Tally.lean ====
abbrev S32x2048x14 : Shape := ⟨3, ![32, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S512x64 : Shape := ⟨2, ![512, 64]⟩
abbrev S65536x14 : Shape := ⟨2, ![65536, 14]⟩
abbrev S64x512 : Shape := ⟨2, ![64, 512]⟩
abbrev S1x128 : Shape := ⟨2, ![1, 128]⟩
abbrev S1x64 : Shape := ⟨2, ![1, 64]⟩
abbrev S65536x1 : Shape := ⟨2, ![65536, 1]⟩
abbrev S1x1 : Shape := ⟨2, ![1, 1]⟩
abbrev S1x512 : Shape := ⟨2, ![1, 512]⟩
abbrev S4096x14 : Shape := ⟨2, ![4096, 14]⟩
abbrev S4096x1 : Shape := ⟨2, ![4096, 1]⟩
abbrev S4096x128 : Shape := ⟨2, ![4096, 128]⟩
abbrev S4096 : Shape := ⟨1, ![4096]⟩
abbrev S4096x64 : Shape := ⟨2, ![4096, 64]⟩
abbrev S512 : Shape := ⟨1, ![512]⟩
abbrev S4096x512 : Shape := ⟨2, ![4096, 512]⟩
abbrev S1x4096 : Shape := ⟨2, ![1, 4096]⟩
abbrev S64x1 : Shape := ⟨2, ![64, 1]⟩

abbrev nBuf : Space → Nat
  | .hbm => 17
  | .vmem => 12
  | .smem => 1
  | _ => 0

abbrev bufTy : (tb : Table) → Fin (tcTables nBuf tb) → BufTy
  | .hbm, ⟨0, _⟩ => ⟨S32x2048x14, .f32⟩
  | .hbm, ⟨1, _⟩ => ⟨S14x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S512x64, .f32⟩
  | .hbm, ⟨8, _⟩ => ⟨S65536x14, .f32⟩
  | .hbm, ⟨9, _⟩ => ⟨S64x512, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x64, .f32⟩
  | .hbm, ⟨14, _⟩ => ⟨S65536x1, .i32⟩
  | .hbm, ⟨15, _⟩ => ⟨S1x1, .f32⟩
  | .hbm, ⟨16, _⟩ => ⟨S1x512, .f32⟩
  | .local _ .vmem, ⟨0, _⟩ => ⟨S4096x14, .f32⟩
  | .local _ .vmem, ⟨1, _⟩ => ⟨S4096x14, .f32⟩
  | .local _ .vmem, ⟨2, _⟩ => ⟨S14x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S64x512, .f32⟩
  | .local _ .vmem, ⟨9, _⟩ => ⟨S4096x1, .i32⟩
  | .local _ .vmem, ⟨10, _⟩ => ⟨S4096x1, .i32⟩
  | .local _ .vmem, ⟨11, _⟩ => ⟨S1x512, .f32⟩
  | .local _ .smem, ⟨0, _⟩ => ⟨S1x1, .f32⟩
  | _, _ => ⟨S32x2048x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg10_0 : Ref sig .tc := ⟨.vmem, 11, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S14x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== TallyReferenceIdeal.lean ====
abbrev S32x2048x14 : Shape := ⟨3, ![32, 2048, 14]⟩
abbrev S14x128 : Shape := ⟨2, ![14, 128]⟩
abbrev S128 : Shape := ⟨1, ![128]⟩
abbrev S128x64 : Shape := ⟨2, ![128, 64]⟩
abbrev S64 : Shape := ⟨1, ![64]⟩
abbrev S512x64 : Shape := ⟨2, ![512, 64]⟩
abbrev S32x2048x128 : Shape := ⟨3, ![32, 2048, 128]⟩
abbrev S1x1x128 : Shape := ⟨3, ![1, 1, 128]⟩
abbrev S_ : Shape := ⟨0, ![]⟩
abbrev S32x2048 : Shape := ⟨2, ![32, 2048]⟩
abbrev S32x2048x1 : Shape := ⟨3, ![32, 2048, 1]⟩
abbrev S32x2048x64 : Shape := ⟨3, ![32, 2048, 64]⟩
abbrev S1x1x64 : Shape := ⟨3, ![1, 1, 64]⟩
abbrev S65536x64 : Shape := ⟨2, ![65536, 64]⟩
abbrev S65536 : Shape := ⟨1, ![65536]⟩
abbrev S65536x1 : Shape := ⟨2, ![65536, 1]⟩
abbrev S64x512 : Shape := ⟨2, ![64, 512]⟩
abbrev S65536x512 : Shape := ⟨2, ![65536, 512]⟩
abbrev S512 : Shape := ⟨1, ![512]⟩
abbrev S1x512 : Shape := ⟨2, ![1, 512]⟩

abbrev nBuf : Space → Nat
  | .hbm => 87
  | .vmem => 0
  | .smem => 0
  | _ => 0

abbrev bufTy : (tb : Table) → Fin (tcTables nBuf tb) → BufTy
  | .hbm, ⟨0, _⟩ => ⟨S32x2048x14, .f32⟩
  | .hbm, ⟨1, _⟩ => ⟨S14x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S512x64, .f32⟩
  | .hbm, ⟨8, _⟩ => ⟨S32x2048x128, .f32⟩
  | .hbm, ⟨9, _⟩ => ⟨S1x1x128, .f32⟩
  | .hbm, ⟨10, _⟩ => ⟨S32x2048x128, .f32⟩
  | .hbm, ⟨11, _⟩ => ⟨S32x2048x128, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x128, .f32⟩
  | .hbm, ⟨19, _⟩ => ⟨S32x2048x128, .f32⟩
  | .hbm, ⟨20, _⟩ => ⟨S32x2048x128, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x128, .f32⟩
  | .hbm, ⟨28, _⟩ => ⟨S32x2048x128, .f32⟩
  | .hbm, ⟨29, _⟩ => ⟨S_, .f32⟩
  | .hbm, ⟨30, _⟩ => ⟨S32x2048x1, .f32⟩
  | .hbm, ⟨31, _⟩ => ⟨S32x2048x1, .f32⟩
  | .hbm, ⟨32, _⟩ => ⟨S32x2048x1, .f32⟩
  | .hbm, ⟨33, _⟩ => ⟨S32x2048x128, .f32⟩
  | .hbm, ⟨34, _⟩ => ⟨S32x2048x128, .f32⟩
  | .hbm, ⟨35, _⟩ => ⟨S1x1x128, .f32⟩
  | .hbm, ⟨36, _⟩ => ⟨S32x2048x128, .f32⟩
  | .hbm, ⟨37, _⟩ => ⟨S32x2048x128, .f32⟩
  | .hbm, ⟨38, _⟩ => ⟨S1x1x128, .f32⟩
  | .hbm, ⟨39, _⟩ => ⟨S32x2048x128, .f32⟩
  | .hbm, ⟨40, _⟩ => ⟨S32x2048x128, .f32⟩
  | .hbm, ⟨41, _⟩ => ⟨S_, .f32⟩
  | .hbm, ⟨42, _⟩ => ⟨S32x2048x128, .f32⟩
  | .hbm, ⟨43, _⟩ => ⟨S32x2048x128, .f32⟩
  | .hbm, ⟨44, _⟩ => ⟨S32x2048x128, .f32⟩
  | .hbm, ⟨45, _⟩ => ⟨S_, .f32⟩
  | .hbm, ⟨46, _⟩ => ⟨S32x2048x128, .f32⟩
  | .hbm, ⟨47, _⟩ => ⟨S32x2048x128, .f32⟩
  | .hbm, ⟨48, _⟩ => ⟨S32x2048x128, .f32⟩
  | .hbm, ⟨49, _⟩ => ⟨S32x2048x128, .f32⟩
  | .hbm, ⟨50, _⟩ => ⟨S32x2048x64, .f32⟩
  | .hbm, ⟨51, _⟩ => ⟨S1x1x64, .f32⟩
  | .hbm, ⟨52, _⟩ => ⟨S32x2048x64, .f32⟩
  | .hbm, ⟨53, _⟩ => ⟨S32x2048x64, .f32⟩
  | .hbm, ⟨54, _⟩ => ⟨S65536x64, .f32⟩
  | .hbm, ⟨55, _⟩ => ⟨S65536x64, .f32⟩
  | .hbm, ⟨56, _⟩ => ⟨S_, .f32⟩
  | .hbm, ⟨57, _⟩ => ⟨S65536, .f32⟩
  | .hbm, ⟨58, _⟩ => ⟨S65536x1, .f32⟩
  | .hbm, ⟨59, _⟩ => ⟨S_, .f32⟩
  | .hbm, ⟨60, _⟩ => ⟨S65536x64, .f32⟩
  | .hbm, ⟨61, _⟩ => ⟨S65536x64, .f32⟩
  | .hbm, ⟨62, _⟩ => ⟨S64x512, .f32⟩
  | .hbm, ⟨63, _⟩ => ⟨S65536x512, .f32⟩
  | .hbm, ⟨64, _⟩ => ⟨S65536x512, .f32⟩
  | .hbm, ⟨65, _⟩ => ⟨S65536x512, .f32⟩
  | .hbm, ⟨66, _⟩ => ⟨S512x64, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S65536x512, .f32⟩
  | .hbm, ⟨71, _⟩ => ⟨S65536x512, .f32⟩
  | .hbm, ⟨72, _⟩ => ⟨S65536x512, .i32⟩
  | .hbm, ⟨73, _⟩ => ⟨S_, .f32⟩
  | .hbm, ⟨74, _⟩ => ⟨S_, .i32⟩
  | .hbm, ⟨75, _⟩ => ⟨S65536, .f32⟩
  | .hbm, ⟨76, _⟩ => ⟨S65536, .i32⟩
  | .hbm, ⟨77, _⟩ => ⟨S65536x1, .i32⟩
  | .hbm, ⟨78, _⟩ => ⟨S512, .i32⟩
  | .hbm, ⟨79, _⟩ => ⟨S1x512, .i32⟩
  | .hbm, ⟨80, _⟩ => ⟨S65536x512, .i32⟩
  | .hbm, ⟨81, _⟩ => ⟨S65536x512, .i32⟩
  | .hbm, ⟨82, _⟩ => ⟨S65536x512, .i1⟩
  | .hbm, ⟨83, _⟩ => ⟨S65536x512, .f32⟩
  | .hbm, ⟨84, _⟩ => ⟨S_, .f32⟩
  | .hbm, ⟨85, _⟩ => ⟨S512, .f32⟩
  | .hbm, ⟨86, _⟩ => ⟨S1x512, .f32⟩
  | _, _ => ⟨S32x2048x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_cst : Ref sig .tc := ⟨.hbm, 73, rfl⟩
abbrev main_call0_c : Ref sig .tc := ⟨.hbm, 74, rfl⟩
abbrev main_call0_v1_0 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Proof.Columns.lean ====
/-
  The gather's arithmetic, apart from any program: what sixteen indexed loads and stores of one trip do to the
  row buffer of a vector subcore. `target` is the row buffer a subcore must end with: row `r` of it is row
  `idx r` of the table. A trip `t` writes the rows `16 t … 16 t + 15`, one column after the other; `Upto` says how
  far that has come.
-/
module

public import Idealize.ShloMosaic.PureOps

@[expose] public section

noncomputable section

namespace Cert.Columns

open Idealize.ShloMosaic

variable {F : FTy → Type} [FloatOps F]

abbrev Lanes : Shape := ⟨1, ![16]⟩
abbrev Table : Shape := ⟨1, ![8192]⟩
abbrev Words : Shape := ⟨1, ![2048]⟩
abbrev Rows : Shape := ⟨1, ![32768]⟩
abbrev AllWords : Shape := ⟨1, ![65536]⟩
abbrev AllRows : Shape := ⟨1, ![1048576]⟩

/-- Position `n` of a rank-one array of `k` elements (taken modulo `k`). -/
def at1 (k : Nat) [NeZero k] (n : Nat) : (⟨1, ![k]⟩ : Shape).Idx := fun a =>
  ⟨n % k, by
    obtain rfl : a = 0 := Subsingleton.elim _ _
    exact Nat.mod_lt _ (Nat.pos_of_ne_zero (NeZero.ne k))⟩

/-- A position within the array is what its coordinate says. -/
theorem at1_eq {k : Nat} [NeZero k] {n : Nat} (j : (⟨1, ![k]⟩ : Shape).Idx) (h : (j 0).val = n) : at1 k n = j := by
  funext a
  obtain rfl : a = 0 := Subsingleton.elim _ _
  apply Fin.ext
  show n % k = (j 0).val
  rw [h]; exact Nat.mod_eq_of_lt (h ▸ (j 0).isLt)

theorem at1_val {k : Nat} [NeZero k] {n : Nat} (h : n < k) : ((at1 k n) 0).val = n := Nat.mod_eq_of_lt h

/-- The row buffer a subcore must end with: row `r` is row `idx r` of the table. -/
def target (tab : Vec F Table .f32) (idx : IVec Words 32) : Vec F Rows .f32 := fun j =>
  tab (at1 8192 (16 * (idx (at1 2048 ((j 0).val / 16))).toNat + (j 0).val % 16))

/-- The whole result: row `r` is row `idx r` of the table, over all the subcores' words. -/
def result (tab : Vec F Table .f32) (idx : IVec AllWords 32) : Vec F AllRows .f32 := fun j =>
  tab (at1 8192 (16 * (idx (at1 65536 ((j 0).val / 16))).toNat + (j 0).val % 16))

/-- The row buffer is right on the rows below `16 t` and, on the rows of trip `t`, in the columns below `c`. -/
def Upto (tab : Vec F Table .f32) (idx : IVec Words 32) (t c : Nat) (f : Vec F Rows .f32) : Prop :=
  ∀ j : Rows.Idx, ((j 0).val < 256 * t ∨ ((j 0).val < 256 * (t + 1) ∧ (j 0).val % 16 < c)) → f j = target tab idx j

omit [FloatOps F] in
theorem upto_zero (tab : Vec F Table .f32) (idx : IVec Words 32) (f : Vec F Rows .f32) : Upto tab idx 0 0 f :=
  fun j h => by omega

omit [FloatOps F] in
/-- All sixteen columns of a trip make the next trip's start. -/
theorem upto_next {tab : Vec F Table .f32} {idx : IVec Words 32} {t : Nat} {f : Vec F Rows .f32} (h : Upto tab idx t 16 f) :
    Upto tab idx (t + 1) 0 f :=
  fun j hj => h j (by
    rcases hj with hj | ⟨-, hj⟩
    · by_cases h' : (j 0).val < 256 * t
      · exact .inl h'
      · exact .inr ⟨hj, Nat.mod_lt _ (by omega)⟩
    · omega)

omit [FloatOps F] in
/-- After all the trips the buffer is the target. -/
theorem upto_all {tab : Vec F Table .f32} {idx : IVec Words 32} {f : Vec F Rows .f32} (h : Upto tab idx 128 0 f) : f = target tab idx :=
  funext fun j => h j (.inl (j 0).isLt)

/-- A fold of lane writes whose values are `g`'s at the elements they go to leaves `g` wherever `g` was before and
    wherever a lane goes. -/
theorem fold_lanes {s t : Shape} {e : EltTy} {ι : Type} (lane : ι → t.Idx) (idxs : Fin s.rank → IVec t 32)
    (h : ∀ a x, (idxs a x).toNat < s.size a) (v : Vec F t e) (g : Vec F s e)
    (hv : ∀ k, v (lane k) = g (idxAt idxs h (lane k))) (l : List ι) :
    ∀ (f : Vec F s e) (j : s.Idx), (f j = g j ∨ ∃ k ∈ l, idxAt idxs h (lane k) = j) →
      l.foldl (fun (g : Vec F s e) k =>
        let x := lane k
        if (1#1 : BitVec 1) = 1 then
          let i := idxAt idxs h x
          let y := if false then Elt.idxAdd e (g i) (v x) else v x
          fun j => if (∀ a, (j a).val = (i a).val) then y else g j
        else g) f j = g j := by
  induction l with
  | nil =>
    intro f j hj
    rcases hj with hj | ⟨k, hk, -⟩
    · exact hj
    · exact absurd hk (List.not_mem_nil)
  | cons k l ih =>
    intro f j hj
    rw [List.foldl_cons]
    apply ih
    by_cases hkj : idxAt idxs h (lane k) = j
    · left
      have : ∀ a, (j a).val = (idxAt idxs h (lane k) a).val := fun a => by rw [hkj]
      dsimp only
      rw [if_pos (show (1#1 : BitVec 1) = 1 from rfl)]
      rw [if_pos this, if_neg Bool.false_ne_true, hv k, hkj]
    · rcases hj with hj | ⟨k', hk', hj'⟩
      · left
        have : ¬ ∀ a, (j a).val = (idxAt idxs h (lane k) a).val := fun hh => hkj (funext fun a => Fin.ext (hh a).symm)
        dsimp only
        rw [if_pos (show (1#1 : BitVec 1) = 1 from rfl)]
        rw [if_neg this]
        exact hj
      · rcases List.mem_cons.1 hk' with rfl | hk''
        · exact absurd hj' hkj
        · exact .inr ⟨k', hk'', hj'⟩

/-- One column of a trip: the sixteen lanes read the table at `16 · idx + c` and write the row buffer at
    `16 · row + c`. -/
theorem upto_column {tab : Vec F Table .f32} {idx : IVec Words 32} {t c : Nat} (ht : t < 128) (hc : c < 16)
    (v w : IVec Lanes 32)
    (hvr : ∀ a x, ((![v] : Fin 1 → IVec Lanes 32) a x).toNat < Table.size a)
    (hwr : ∀ a x, ((![w] : Fin 1 → IVec Lanes 32) a x).toNat < Rows.size a)
    (hv : ∀ x : Lanes.Idx, (v x).toNat = 16 * (idx (at1 2048 (16 * t + (x 0).val))).toNat + c)
    (hw : ∀ x : Lanes.Idx, (w x).toNat = 256 * t + 16 * (x 0).val + c)
    {f : Vec F Rows .f32} (hf : Upto tab idx t c f) :
    Upto tab idx t (c + 1)
      (storeIdx f (![w] : Fin 1 → IVec Lanes 32) (loadIdx (e := .f32) tab (![v] : Fin 1 → IVec Lanes 32) hvr) (fun _ => 1#1) false hwr) := by
  intro j hj
  have hx16 : ∀ x : Lanes.Idx, (x 0).val < 16 := fun x => (x 0).isLt
  unfold storeIdx
  refine fold_lanes (F := F) (s := Rows) (t := Lanes) (e := .f32) Shape.ofLane (![w]) hwr _ (target tab idx) ?_ _ f j ?_
  · intro k
    set x : Lanes.Idx := Shape.ofLane k
    show tab (idxAt _ hvr x) = target tab idx (idxAt _ hwr x)
    have hx := hx16 x
    have hwx : ((idxAt (s := Rows) (![w]) hwr x) 0).val = 256 * t + 16 * (x 0).val + c := hw x
    unfold target
    rw [hwx]
    have e1 : (256 * t + 16 * (x 0).val + c) / 16 = 16 * t + (x 0).val := by omega
    have e2 : (256 * t + 16 * (x 0).val + c) % 16 = c := by omega
    rw [e1, e2]
    congr 1
    exact (at1_eq _ (show ((idxAt (s := Table) (![v]) hvr x) 0).val = _ from hv x)).symm
  · by_cases hjc : (j 0).val < 256 * t ∨ ((j 0).val < 256 * (t + 1) ∧ (j 0).val % 16 < c)
    · exact .inl (hf j hjc)
    · right
      have hj' : 256 * t ≤ (j 0).val ∧ (j 0).val < 256 * (t + 1) ∧ (j 0).val % 16 = c := by omega
      refine ⟨(⟨((j 0).val - 256 * t) / 16, by show _ < 16; omega⟩ : Fin 16), List.mem_finRange _, ?_⟩
      funext a
      obtain rfl : a = 0 := Subsingleton.elim _ _
      apply Fin.ext
      show (w _).toNat = _
      rw [hw]
      show 256 * t + 16 * (((j 0).val - 256 * t) / 16) + c = (j 0).val
      omega

end Cert.Columns

end
-- ==== Proof.GatherIdealTile.lean ====
/-
  One vector subcore's task of the gather: it fetches the whole table and its 2048 words, runs 128 trips of sixteen
  columns, and writes its 32768 results out. `tile_body` says, from the arrays' contents `fT` (table), `fI` (words)
  and `fO` (result before): the task ends with its piece of the result at `Columns.result`, everything else as it was.
-/
module

public import proofs.«01_k».proof.Defs
public import proofs.«01_k».proof.Proof.Columns
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.GatherSCI

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tabLoc (d : Dev nD) : Loc nD τ sig := (SparseCore.T d).loc main_v1
abbrev idxLoc (d : Dev nD) : Loc nD τ sig := (SparseCore.T d).loc main_v0
abbrev outLoc (d : Dev nD) : Loc nD τ sig := (SparseCore.T d).loc main_v2

local notation "tabW" => (Memref.whole Cert.GatherIdeal.main_v1_scv : Memref Cert.GatherIdeal.sig Kind.scVector Space.hbm Cert.GatherIdeal.S8192 EltTy.f32)
local notation "idxW" => (Memref.whole Cert.GatherIdeal.main_v0_scv : Memref Cert.GatherIdeal.sig Kind.scVector Space.hbm Cert.GatherIdeal.S65536 EltTy.i32)
local notation "outW" => (Memref.whole Cert.GatherIdeal.main_v2_scv : Memref Cert.GatherIdeal.sig Kind.scVector Space.hbm Cert.GatherIdeal.S1048576 EltTy.f32)
local notation "sIdx" => (Memref.whole Cert.GatherIdeal.cc0_scratch0 : Memref Cert.GatherIdeal.sig Kind.scVector Space.vmem Cert.GatherIdeal.S2048 EltTy.i32)
local notation "sTab" => (Memref.whole Cert.GatherIdeal.cc0_scratch1 : Memref Cert.GatherIdeal.sig Kind.scVector Space.vmem Cert.GatherIdeal.S8192 EltTy.f32)
local notation "sRow" => (Memref.whole Cert.GatherIdeal.cc0_scratch2 : Memref Cert.GatherIdeal.sig Kind.scVector Space.vmem Cert.GatherIdeal.S32768 EltTy.f32)

variable [FloatOps F]
variable (fT : (d : Dev nD) → Buf (Elt F) (tabLoc d)) (fI : (d : Dev nD) → Buf (Elt F) (idxLoc d)) (fO : (d : Dev nD) → Buf (Elt F) (outLoc d))

/-- Every word is a row number of the table. -/
def InRange : Prop := ∀ (d : Dev nD) (j : S65536.Idx), (fI d j).toNat < 512

/-- What the result must hold on device `d`. -/
def fR (d : Dev nD) : Buf (Elt F) (outLoc d) := Columns.result (F := F) (fT d) (fI d)

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl

/-- The task's number, as the kernel counts them. -/
def wk (L : grid0.Coords) : Fin 32 := ⟨2 * (L 1).val + (L 0).val, by
  have h0 : (L 0).val < 2 := (L 0).isLt
  have h1 : (L 1).val < 16 := (L 1).isLt
  omega⟩

abbrev idxK (L : grid0.Coords) : Memref sig .scVector .hbm S2048 .i32 :=
  (idxW).slice (Rect.unit (s := S65536) (k0_off1 L) S2048.size (k0_off1_inb L)) (fun _ => rfl)
abbrev outK (L : grid0.Coords) : Memref sig .scVector .hbm S32768 .f32 :=
  (outW).slice (Rect.unit (s := S1048576) (k0_off3 L) S32768.size (k0_off3_inb L)) (fun _ => rfl)

abbrev idxSet (L : grid0.Coords) : Finset S65536.Idx := (idxK L).view.set
abbrev outSet (L : grid0.Coords) : Finset S1048576.Idx := (outK L).view.set

/-- What a task takes: a read share of the table, its words, its piece of the result. -/
def taskPre : sProp 𝕄 :=
  iprop((tabLoc d ↦{shareTok fullShare 32 (wk L)} fT d) ∗ (idxLoc d ↦[idxSet L]{fullShare} fI d) ∗ (outLoc d ↦[outSet L]{fullShare} fO d))
/-- What a task brings back: the same, its piece of the result gathered. -/
def taskPost : sProp 𝕄 := taskPre (F := F) fT fI (fR fT fI) d L

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)

omit [FloatOps F] in
/-- The task's three semaphores, out of all its own. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩)]

omit [FloatOps F] in
/-- The task's three scratch buffers, out of all its own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The words a task fetches. -/
def wI : Columns.Words.Idx → BitVec 32 := fun x => fI d ((idxK L).view.emb x)

/-- Between trips: the table and the words in the scratch buffers, the row buffer right below row `16 t`. -/
def inv (t : Nat) (_ : PUnit) : sProp 𝕄 :=
  iprop(((sTab).view.loc (V d (cV L) (jV L)) ↦{fullShare} fT d)
    ∗ ((sIdx).view.loc (V d (cV L) (jV L)) ↦{fullShare} wI (F := F) fI d L)
    ∗ ∃ f, ⌜Columns.Upto (F := F) (fT d) (wI (F := F) fI d L) t 0 f⌝ ∗ (sRow).view.loc (V d (cV L) (jV L)) ↦{fullShare} f)

/-- A column's places in the table are inside it. -/
theorem chk_table {t c : Nat} (hc : c < 16) (idx : IVec Columns.Words 32) (hi : ∀ j, (idx j).toNat < 512) (v : IVec S16 32)
    (hv : ∀ x : S16.Idx, (v x).toNat = 16 * (idx (Columns.at1 2048 (16 * t + (x 0).val))).toNat + c) :
    ∀ a x, ((![v] : Fin 1 → IVec S16 32) a x).toNat < S8192.size a := by
  intro a x
  obtain rfl : a = 0 := Fin.eq_zero a
  show (v x).toNat < 8192
  have := hi (Columns.at1 2048 (16 * t + (x 0).val)); rw [hv x]; omega

/-- A column's places in the row buffer are inside it. -/
theorem chk_rows {t c : Nat} (ht : t < 128) (hc : c < 16) (w : IVec S16 32)
    (hw : ∀ x : S16.Idx, (w x).toNat = 256 * t + 16 * (x 0).val + c) :
    ∀ a x, ((![w] : Fin 1 → IVec S16 32) a x).toNat < S32768.size a := by
  intro a x
  obtain rfl : a = 0 := Fin.eq_zero a
  have hx : (x 0).val < 16 := (x 0).isLt
  show (w x).toNat < 32768
  rw [hw x]; omega

/-- One column of sixteen rows: the side conditions hold, the words of the table are read and written into the row buffer. -/
theorem column {t c : Nat} (ht : t < 128) (hc : c < 16) (idx : IVec Columns.Words 32)
    (hi : ∀ j, (idx j).toNat < 512) {f : Vec F Columns.Rows .f32} (v w : IVec S16 32)
    (hv : ∀ x : S16.Idx, (v x).toNat = 16 * (idx (Columns.at1 2048 (16 * t + (x 0).val))).toNat + c)
    (hw : ∀ x : S16.Idx, (w x).toNat = 256 * t + 16 * (x 0).val + c)
    (hf : Columns.Upto (F := F) (fT d) idx t c f)
    {P₁ P₂ : Prop} (e₁ : P₁ = ∀ a x, ((![v] : Fin 1 → IVec S16 32) a x).toNat < S8192.size a)
    (e₂ : P₂ = ∀ a x, ((![w] : Fin 1 → IVec S16 32) a x).toNat < S32768.size a) {D₁ : Decidable P₁} {D₂ : Decidable P₂}
    {g₁ : PLift P₁ → ∀ a x, ((![v] : Fin 1 → IVec S16 32) a x).toNat < S8192.size a}
    {g₂ : PLift P₁ → Vec F S16 .f32 → PLift P₂ → ∀ a x, ((![w] : Fin 1 → IVec S16 32) a x).toNat < S32768.size a}
    {hl : (sTab).view.Loads} {hs : ((sRow).access (.whole _)).Stores Finset.univ}
    (h₁ : ∀ a x, ((![v] : Fin 1 → IVec S16 32) a x).toNat < S8192.size a)
    (h₂ : ∀ a x, ((![w] : Fin 1 → IVec S16 32) a x).toNat < S32768.size a)
    {k : PLift P₁ → Vec F S16 .f32 → PLift P₂ → PUnit.{1} → Prog (TpuEff nD τ sig (Elt F) Λ₀ (Proc.scVector (cV L) (jV L))) PUnit} {Q : PUnit → sProp 𝕄} :
    iprop(((sTab).view.loc (V d (cV L) (jV L)) ↦{fullShare} fT d) ∗ ((sRow).view.loc (V d (cV L) (jV L)) ↦{fullShare} f))
      ⊢ iprop((∀ f' : Vec F Columns.Rows .f32, ⌜Columns.Upto (F := F) (fT d) idx t (c + 1) f'⌝
            -∗ ((sTab).view.loc (V d (cV L) (jV L)) ↦{fullShare} fT d) -∗ ((sRow).view.loc (V d (cV L) (jV L)) ↦{fullShare} f')
            -∗ wp frame (wpE (defs₀ (F := F)) 𝒱₀ (V d (cV L) (jV L)) none) Set.univ (k ⟨e₁ ▸ h₁⟩ (loadIdx (e := .f32) (fT d) (![v] : Fin 1 → IVec S16 32) h₁) ⟨e₂ ▸ h₂⟩ ⟨⟩) Q)
        -∗ wp frame (wpE (defs₀ (F := F)) 𝒱₀ (V d (cV L) (jV L)) none) Set.univ
            (Prog.op (TpuEff.assume P₁ D₁) fun h₁ => SparseCore.vectorLoadIdx (sTab) (![v] : Fin 1 → IVec S16 32) (g₁ h₁) hl >>= fun r =>
              Prog.op (TpuEff.assume P₂ D₂) fun h₂ =>
                SparseCore.vectorStoreIdx (sRow) (![w] : Fin 1 → IVec S16 32) r (fun _ => 1#1) false (g₂ h₁ r h₂) hs >>= k h₁ r h₂) Q) := by
  have h₁' : P₁ := e₁ ▸ h₁
  have h₂' : P₂ := e₂ ▸ h₂
  have hcol := Columns.upto_column (F := F) ht hc v w h₁ h₂ hv hw hf
  rw [wp_assume_of _ _ _ _ h₁']
  iintro ⟨Hx, Hr⟩ Hk
  iapply (SparseCore.wp_vectorLoadIdx 𝒱₀ (V d (cV L) (jV L)) none Set.univ (base := sTab) (S := Finset.univ) (q := fullShare) (Finset.subset_univ _)) $$ [Hx]
  · iexact Hx
  iintro Hx
  rw [wp_assume_of _ _ _ _ h₂']
  iapply (SparseCore.wp_vectorStoreIdx 𝒱₀ (V d (cV L) (jV L)) none Set.univ (base := sRow) (f := f)) $$ [Hr]
  · rw [Memref.set_access_whole]; iexact Hr
  iintro Hr
  rw [Memref.read_access_whole, Memref.read_access_whole, Memref.set_access_whole, Memref.write_access_whole_univ]
  iapply Hk $$ [] [Hx] [Hr]
  · ipureintro
    exact hcol
  · iexact Hx
  · iexact Hr

omit [FloatOps F] in
/-- The first element of a row in the table: sixteen times the row's number. -/
theorem row_start (v : IVec S16 32) (x : S16.Idx) (h : (v x).toNat < 512) : (k0_pay12 (F := F) v x).toNat = 16 * (v x).toNat := by
  show (v x * 16#32).toNat = _
  rw [BitVec.toNat_mul, show (16#32 : BitVec 32).toNat = 16 from rfl]; omega

/-- The first element of a row in the row buffer. -/
theorem row_place (t : Fin k0_t1_loop.trips) (ht : t.val < 128) (x : S16.Idx) :
    (k0_pay13 k0_pay1 0#32 1#32 t x).toNat = 256 * t.val + 16 * (x 0).val := by
  have hx : (x 0).val < 16 := (x 0).isLt
  show (BitVec.ofNat 32 (0 * 16 + (x 0).val) * 16#32 + (0#32 + BitVec.ofNat 32 t.val * 1#32) * 256#32).toNat = _
  simp only [BitVec.toNat_add, BitVec.toNat_mul, BitVec.toNat_ofNat]; omega

/-- A column further. -/
theorem col_add (v : IVec S16 32) (c : Nat) (hc : c < 16) (x : S16.Idx) (h : (v x).toNat < 100000) :
    (addi v (broadcast S16 (BitVec.ofNat 32 c)) x).toNat = (v x).toNat + c := by
  show (v x + BitVec.ofNat 32 c).toNat = _
  rw [BitVec.toNat_add, BitVec.toNat_ofNat]; omega

set_option maxHeartbeats 0 in
/-- One trip: sixteen words loaded, their rows copied column by column. -/
theorem trip (hR : InRange (F := F) fI) (t : Fin k0_t1_loop.trips) (u : PUnit) :
    inv (F := F) fT fI d L t.val u
      ⊢ wp frame (wpE (defs₀ (F := F)) 𝒱₀ (V d (cV L) (jV L)) none) Set.univ
          (k0_t1_body (F := F) L tabW (Memref.isWhole_whole _) idxW (Memref.isWhole_whole _) outW (Memref.isWhole_whole _)
            sIdx (Memref.isWhole_whole _) sTab (Memref.isWhole_whole _) sRow (Memref.isWhole_whole _) cc0_scoped0 cc0_scoped1 cc0_scoped2 t u)
          fun u' => inv (F := F) fT fI d L (t.val + 1) u' := by
  have ht : t.val < 128 := lt_of_lt_of_le t.isLt k0_t1_abs.2.1
  have hi : ∀ j, (wI (F := F) fI d L j).toNat < 512 := fun j => hR d _
  unfold k0_t1_body
  simp only [k0_part1_eq_skeleton, k0_part2_eq_skeleton]
  unfold k0_part1_skel k0_part2_skel
  simp only [Prog.lift, Prog.bind_op, Prog.bind_ret, Prog.pure_eq_ret, bind_assoc]
  unfold inv
  iintro ⟨Hx, Hs, %f0, %hf0, Hr⟩
  sl_step
  have hl : ∀ x : S16.Idx, (View.readAt (Elt F) (sIdx).view (Rect.unit (s := S2048) (k0_off2 t) S16.size (k0_off2_inb t)).toLoadRect (wI (F := F) fI d L) x : BitVec 32)
      = wI (F := F) fI d L (Columns.at1 2048 (16 * t.val + (x 0).val)) := fun x => by
    rw [View.readAt_apply]
    exact congrArg (wI (F := F) fI d L) (Columns.at1_eq (k := 2048) ((Rect.unit (s := S2048) (k0_off2 t) S16.size (k0_off2_inb t)).idx x)
      (by show k0_off2 t 0 + 1 * (x 0).val = _; rw [k0_off2_eq]; simp)).symm
  generalize hv10 : View.readAt (Elt F) (sIdx).view (Rect.unit (s := S2048) (k0_off2 t) S16.size (k0_off2_inb t)).toLoadRect (wI (F := F) fI d L) = v10 at hl
  have hx16 : ∀ x : S16.Idx, (x 0).val < 16 := fun x => (x 0).isLt
  have hv : ∀ c, c < 16 → ∀ x : S16.Idx, (addi (k0_pay12 (F := F) v10) (broadcast S16 (BitVec.ofNat 32 c)) x).toNat
      = 16 * (wI (F := F) fI d L (Columns.at1 2048 (16 * t.val + (x 0).val))).toNat + c := fun c hc x => by
    have h1 := hi (Columns.at1 2048 (16 * t.val + (x 0).val))
    have h2 := row_start (F := F) v10 x (by rw [hl x]; exact h1)
    rw [col_add _ c hc x (by rw [h2, hl x]; omega), h2, hl x]
  have hw : ∀ c, c < 16 → ∀ x : S16.Idx, (addi (k0_pay13 k0_pay1 0#32 1#32 t) (broadcast S16 (BitVec.ofNat 32 c)) x).toNat
      = 256 * t.val + 16 * (x 0).val + c := fun c hc x => by
    have h1 := hx16 x
    rw [col_add _ c hc x (by rw [row_place t ht x]; omega), row_place t ht x]
  have hv0 : ∀ x : S16.Idx, (k0_pay14 (F := F) v10 x).toNat = 16 * (wI (F := F) fI d L (Columns.at1 2048 (16 * t.val + (x 0).val))).toNat + 0 := hv 0 (by decide)
  have hw0 : ∀ x : S16.Idx, (k0_pay15 k0_pay1 0#32 1#32 t x).toNat = 256 * t.val + 16 * (x 0).val + 0 := hw 0 (by decide)
  iapply (column (F := F) fT d L ht (by decide) (wI (F := F) fI d L) hi (k0_pay14 (F := F) v10) (k0_pay15 k0_pay1 0#32 1#32 t) hv0 hw0 hf0 (k0_chk1.eq_1 _) (k0_chk2.eq_1 _) (chk_table (by decide) _ hi _ hv0) (chk_rows ht (by decide) _ hw0)) $$ [Hx Hr]
  · isplitl [Hx] <;> iassumption
  iintro %f1 %hf1 Hx Hr
  have hv1 : ∀ x : S16.Idx, (k0_pay16 (F := F) v10 x).toNat = 16 * (wI (F := F) fI d L (Columns.at1 2048 (16 * t.val + (x 0).val))).toNat + 1 := hv 1 (by decide)
  have hw1 : ∀ x : S16.Idx, (k0_pay17 k0_pay1 0#32 1#32 t x).toNat = 256 * t.val + 16 * (x 0).val + 1 := hw 1 (by decide)
  iapply (column (F := F) fT d L ht (by decide) (wI (F := F) fI d L) hi (k0_pay16 (F := F) v10) (k0_pay17 k0_pay1 0#32 1#32 t) hv1 hw1 hf1 (k0_chk3.eq_1 _) (k0_chk4.eq_1 _) (chk_table (by decide) _ hi _ hv1) (chk_rows ht (by decide) _ hw1)) $$ [Hx Hr]
  · isplitl [Hx] <;> iassumption
  iintro %f2 %hf2 Hx Hr
  have hv2 : ∀ x : S16.Idx, (k0_pay18 (F := F) v10 x).toNat = 16 * (wI (F := F) fI d L (Columns.at1 2048 (16 * t.val + (x 0).val))).toNat + 2 := hv 2 (by decide)
  have hw2 : ∀ x : S16.Idx, (k0_pay19 k0_pay1 0#32 1#32 t x).toNat = 256 * t.val + 16 * (x 0).val + 2 := hw 2 (by decide)
  iapply (column (F := F) fT d L ht (by decide) (wI (F := F) fI d L) hi (k0_pay18 (F := F) v10) (k0_pay19 k0_pay1 0#32 1#32 t) hv2 hw2 hf2 (k0_chk5.eq_1 _) (k0_chk6.eq_1 _) (chk_table (by decide) _ hi _ hv2) (chk_rows ht (by decide) _ hw2)) $$ [Hx Hr]
  · isplitl [Hx] <;> iassumption
  iintro %f3 %hf3 Hx Hr
  have hv3 : ∀ x : S16.Idx, (k0_pay20 (F := F) v10 x).toNat = 16 * (wI (F := F) fI d L (Columns.at1 2048 (16 * t.val + (x 0).val))).toNat + 3 := hv 3 (by decide)
  have hw3 : ∀ x : S16.Idx, (k0_pay21 k0_pay1 0#32 1#32 t x).toNat = 256 * t.val + 16 * (x 0).val + 3 := hw 3 (by decide)
  iapply (column (F := F) fT d L ht (by decide) (wI (F := F) fI d L) hi (k0_pay20 (F := F) v10) (k0_pay21 k0_pay1 0#32 1#32 t) hv3 hw3 hf3 (k0_chk7.eq_1 _) (k0_chk8.eq_1 _) (chk_table (by decide) _ hi _ hv3) (chk_rows ht (by decide) _ hw3)) $$ [Hx Hr]
  · isplitl [Hx] <;> iassumption
  iintro %f4 %hf4 Hx Hr
  have hv4 : ∀ x : S16.Idx, (k0_pay22 (F := F) v10 x).toNat = 16 * (wI (F := F) fI d L (Columns.at1 2048 (16 * t.val + (x 0).val))).toNat + 4 := hv 4 (by decide)
  have hw4 : ∀ x : S16.Idx, (k0_pay23 k0_pay1 0#32 1#32 t x).toNat = 256 * t.val + 16 * (x 0).val + 4 := hw 4 (by decide)
  iapply (column (F := F) fT d L ht (by decide) (wI (F := F) fI d L) hi (k0_pay22 (F := F) v10) (k0_pay23 k0_pay1 0#32 1#32 t) hv4 hw4 hf4 (k0_chk9.eq_1 _) (k0_chk10.eq_1 _) (chk_table (by decide) _ hi _ hv4) (chk_rows ht (by decide) _ hw4)) $$ [Hx Hr]
  · isplitl [Hx] <;> iassumption
  iintro %f5 %hf5 Hx Hr
  have hv5 : ∀ x : S16.Idx, (k0_pay24 (k0_pay12 (F := F) v10) x).toNat = 16 * (wI (F := F) fI d L (Columns.at1 2048 (16 * t.val + (x 0).val))).toNat + 5 := hv 5 (by decide)
  have hw5 : ∀ x : S16.Idx, (k0_pay25 (k0_pay13 k0_pay1 0#32 1#32 t) x).toNat = 256 * t.val + 16 * (x 0).val + 5 := hw 5 (by decide)
  iapply (column (F := F) fT d L ht (by decide) (wI (F := F) fI d L) hi (k0_pay24 (k0_pay12 (F := F) v10)) (k0_pay25 (k0_pay13 k0_pay1 0#32 1#32 t)) hv5 hw5 hf5 (k0_chk11.eq_1 _) (k0_chk12.eq_1 _) (chk_table (by decide) _ hi _ hv5) (chk_rows ht (by decide) _ hw5)) $$ [Hx Hr]
  · isplitl [Hx] <;> iassumption
  iintro %f6 %hf6 Hx Hr
  have hv6 : ∀ x : S16.Idx, (k0_pay26 (k0_pay12 (F := F) v10) x).toNat = 16 * (wI (F := F) fI d L (Columns.at1 2048 (16 * t.val + (x 0).val))).toNat + 6 := hv 6 (by decide)
  have hw6 : ∀ x : S16.Idx, (k0_pay27 (k0_pay13 k0_pay1 0#32 1#32 t) x).toNat = 256 * t.val + 16 * (x 0).val + 6 := hw 6 (by decide)
  iapply (column (F := F) fT d L ht (by decide) (wI (F := F) fI d L) hi (k0_pay26 (k0_pay12 (F := F) v10)) (k0_pay27 (k0_pay13 k0_pay1 0#32 1#32 t)) hv6 hw6 hf6 (k0_chk13.eq_1 _) (k0_chk14.eq_1 _) (chk_table (by decide) _ hi _ hv6) (chk_rows ht (by decide) _ hw6)) $$ [Hx Hr]
  · isplitl [Hx] <;> iassumption
  iintro %f7 %hf7 Hx Hr
  have hv7 : ∀ x : S16.Idx, (k0_pay28 (k0_pay12 (F := F) v10) x).toNat = 16 * (wI (F := F) fI d L (Columns.at1 2048 (16 * t.val + (x 0).val))).toNat + 7 := hv 7 (by decide)
  have hw7 : ∀ x : S16.Idx, (k0_pay29 (k0_pay13 k0_pay1 0#32 1#32 t) x).toNat = 256 * t.val + 16 * (x 0).val + 7 := hw 7 (by decide)
  iapply (column (F := F) fT d L ht (by decide) (wI (F := F) fI d L) hi (k0_pay28 (k0_pay12 (F := F) v10)) (k0_pay29 (k0_pay13 k0_pay1 0#32 1#32 t)) hv7 hw7 hf7 (k0_chk15.eq_1 _) (k0_chk16.eq_1 _) (chk_table (by decide) _ hi _ hv7) (chk_rows ht (by decide) _ hw7)) $$ [Hx Hr]
  · isplitl [Hx] <;> iassumption
  iintro %f8 %hf8 Hx Hr
  have hv8 : ∀ x : S16.Idx, (k0_pay30 (k0_pay12 (F := F) v10) x).toNat = 16 * (wI (F := F) fI d L (Columns.at1 2048 (16 * t.val + (x 0).val))).toNat + 8 := hv 8 (by decide)
  have hw8 : ∀ x : S16.Idx, (k0_pay31 (k0_pay13 k0_pay1 0#32 1#32 t) x).toNat = 256 * t.val + 16 * (x 0).val + 8 := hw 8 (by decide)
  iapply (column (F := F) fT d L ht (by decide) (wI (F := F) fI d L) hi (k0_pay30 (k0_pay12 (F := F) v10)) (k0_pay31 (k0_pay13 k0_pay1 0#32 1#32 t)) hv8 hw8 hf8 (k0_chk17.eq_1 _) (k0_chk18.eq_1 _) (chk_table (by decide) _ hi _ hv8) (chk_rows ht (by decide) _ hw8)) $$ [Hx Hr]
  · isplitl [Hx] <;> iassumption
  iintro %f9 %hf9 Hx Hr
  have hv9 : ∀ x : S16.Idx, (k0_pay32 (k0_pay12 (F := F) v10) x).toNat = 16 * (wI (F := F) fI d L (Columns.at1 2048 (16 * t.val + (x 0).val))).toNat + 9 := hv 9 (by decide)
  have hw9 : ∀ x : S16.Idx, (k0_pay33 (k0_pay13 k0_pay1 0#32 1#32 t) x).toNat = 256 * t.val + 16 * (x 0).val + 9 := hw 9 (by decide)
  iapply (column (F := F) fT d L ht (by decide) (wI (F := F) fI d L) hi (k0_pay32 (k0_pay12 (F := F) v10)) (k0_pay33 (k0_pay13 k0_pay1 0#32 1#32 t)) hv9 hw9 hf9 (k0_chk19.eq_1 _) (k0_chk20.eq_1 _) (chk_table (by decide) _ hi _ hv9) (chk_rows ht (by decide) _ hw9)) $$ [Hx Hr]
  · isplitl [Hx] <;> iassumption
  iintro %f10 %hf10 Hx Hr
  have hv10 : ∀ x : S16.Idx, (k0_pay34 (k0_pay12 (F := F) v10) x).toNat = 16 * (wI (F := F) fI d L (Columns.at1 2048 (16 * t.val + (x 0).val))).toNat + 10 := hv 10 (by decide)
  have hw10 : ∀ x : S16.Idx, (k0_pay35 (k0_pay13 k0_pay1 0#32 1#32 t) x).toNat = 256 * t.val + 16 * (x 0).val + 10 := hw 10 (by decide)
  iapply (column (F := F) fT d L ht (by decide) (wI (F := F) fI d L) hi (k0_pay34 (k0_pay12 (F := F) v10)) (k0_pay35 (k0_pay13 k0_pay1 0#32 1#32 t)) hv10 hw10 hf10 (k0_chk21.eq_1 _) (k0_chk22.eq_1 _) (chk_table (by decide) _ hi _ hv10) (chk_rows ht (by decide) _ hw10)) $$ [Hx Hr]
  · isplitl [Hx] <;> iassumption
  iintro %f11 %hf11 Hx Hr
  have hv11 : ∀ x : S16.Idx, (k0_pay2 (k0_pay12 (F := F) v10) x).toNat = 16 * (wI (F := F) fI d L (Columns.at1 2048 (16 * t.val + (x 0).val))).toNat + 11 := hv 11 (by decide)
  have hw11 : ∀ x : S16.Idx, (k0_pay3 (k0_pay13 k0_pay1 0#32 1#32 t) x).toNat = 256 * t.val + 16 * (x 0).val + 11 := hw 11 (by decide)
  iapply (column (F := F) fT d L ht (by decide) (wI (F := F) fI d L) hi (k0_pay2 (k0_pay12 (F := F) v10)) (k0_pay3 (k0_pay13 k0_pay1 0#32 1#32 t)) hv11 hw11 hf11 (k0_chk23.eq_1 _) (k0_chk24.eq_1 _) (chk_table (by decide) _ hi _ hv11) (chk_rows ht (by decide) _ hw11)) $$ [Hx Hr]
  · isplitl [Hx] <;> iassumption
  iintro %f12 %hf12 Hx Hr
  have hv12 : ∀ x : S16.Idx, (k0_pay4 (k0_pay12 (F := F) v10) x).toNat = 16 * (wI (F := F) fI d L (Columns.at1 2048 (16 * t.val + (x 0).val))).toNat + 12 := hv 12 (by decide)
  have hw12 : ∀ x : S16.Idx, (k0_pay5 (k0_pay13 k0_pay1 0#32 1#32 t) x).toNat = 256 * t.val + 16 * (x 0).val + 12 := hw 12 (by decide)
  iapply (column (F := F) fT d L ht (by decide) (wI (F := F) fI d L) hi (k0_pay4 (k0_pay12 (F := F) v10)) (k0_pay5 (k0_pay13 k0_pay1 0#32 1#32 t)) hv12 hw12 hf12 (k0_chk25.eq_1 _) (k0_chk26.eq_1 _) (chk_table (by decide) _ hi _ hv12) (chk_rows ht (by decide) _ hw12)) $$ [Hx Hr]
  · isplitl [Hx] <;> iassumption
  iintro %f13 %hf13 Hx Hr
  have hv13 : ∀ x : S16.Idx, (k0_pay6 (k0_pay12 (F := F) v10) x).toNat = 16 * (wI (F := F) fI d L (Columns.at1 2048 (16 * t.val + (x 0).val))).toNat + 13 := hv 13 (by decide)
  have hw13 : ∀ x : S16.Idx, (k0_pay7 (k0_pay13 k0_pay1 0#32 1#32 t) x).toNat = 256 * t.val + 16 * (x 0).val + 13 := hw 13 (by decide)
  iapply (column (F := F) fT d L ht (by decide) (wI (F := F) fI d L) hi (k0_pay6 (k0_pay12 (F := F) v10)) (k0_pay7 (k0_pay13 k0_pay1 0#32 1#32 t)) hv13 hw13 hf13 (k0_chk27.eq_1 _) (k0_chk28.eq_1 _) (chk_table (by decide) _ hi _ hv13) (chk_rows ht (by decide) _ hw13)) $$ [Hx Hr]
  · isplitl [Hx] <;> iassumption
  iintro %f14 %hf14 Hx Hr
  have hv14 : ∀ x : S16.Idx, (k0_pay8 (k0_pay12 (F := F) v10) x).toNat = 16 * (wI (F := F) fI d L (Columns.at1 2048 (16 * t.val + (x 0).val))).toNat + 14 := hv 14 (by decide)
  have hw14 : ∀ x : S16.Idx, (k0_pay9 (k0_pay13 k0_pay1 0#32 1#32 t) x).toNat = 256 * t.val + 16 * (x 0).val + 14 := hw 14 (by decide)
  iapply (column (F := F) fT d L ht (by decide) (wI (F := F) fI d L) hi (k0_pay8 (k0_pay12 (F := F) v10)) (k0_pay9 (k0_pay13 k0_pay1 0#32 1#32 t)) hv14 hw14 hf14 (k0_chk29.eq_1 _) (k0_chk30.eq_1 _) (chk_table (by decide) _ hi _ hv14) (chk_rows ht (by decide) _ hw14)) $$ [Hx Hr]
  · isplitl [Hx] <;> iassumption
  iintro %f15 %hf15 Hx Hr
  have hv15 : ∀ x : S16.Idx, (k0_pay10 (k0_pay12 (F := F) v10) x).toNat = 16 * (wI (F := F) fI d L (Columns.at1 2048 (16 * t.val + (x 0).val))).toNat + 15 := hv 15 (by decide)
  have hw15 : ∀ x : S16.Idx, (k0_pay11 (k0_pay13 k0_pay1 0#32 1#32 t) x).toNat = 256 * t.val + 16 * (x 0).val + 15 := hw 15 (by decide)
  iapply (column (F := F) fT d L ht (by decide) (wI (F := F) fI d L) hi (k0_pay10 (k0_pay12 (F := F) v10)) (k0_pay11 (k0_pay13 k0_pay1 0#32 1#32 t)) hv15 hw15 hf15 (k0_chk31.eq_1 _) (k0_chk32.eq_1 _) (chk_table (by decide) _ hi _ hv15) (chk_rows ht (by decide) _ hw15)) $$ [Hx Hr]
  · isplitl [Hx] <;> iassumption
  iintro %f16 %hf16 Hx Hr
  rw [wp_ret]
  imodintro
  isplitl [Hx]; iexact Hx
  isplitl [Hs]; iexact Hs
  iexists f16
  isplitr
  · ipureintro; exact Columns.upto_next hf16
  iexact Hr

/-- A task's row buffer, once full, is its piece of the result. -/
theorem out_value (x : S32768.Idx) :
    Columns.target (F := F) (fT d) (wI (F := F) fI d L) x = fR (F := F) fT fI d ((outK L).view.emb x) := by
  have hx : (x 0).val < 32768 := (x 0).isLt
  have h0 : (L 0).val < 2 := (L 0).isLt
  have h1 : (L 1).val < 16 := (L 1).isLt
  have e3 : (((outK L).view.emb x) 0).val = k0_off3 L 0 + 1 * (x 0).val := rfl
  have o3 : k0_off3 L 0 = 65536 * (L 1).val + 32768 * (L 0).val := by rw [k0_off3_eq]; rfl
  have o1 : k0_off1 L 0 = 4096 * (L 1).val + 2048 * (L 0).val := by rw [k0_off1_eq]; rfl
  have e1 : (((idxK L).view.emb (Columns.at1 2048 ((x 0).val / 16))) 0).val = k0_off1 L 0 + 1 * ((Columns.at1 2048 ((x 0).val / 16)) 0).val := rfl
  rw [Columns.at1_val (by omega)] at e1
  have hw : wI (F := F) fI d L (Columns.at1 2048 ((x 0).val / 16)) = fI d (Columns.at1 65536 ((((outK L).view.emb x) 0).val / 16)) :=
    congrArg (fI d) (Columns.at1_eq (k := 65536) _ (by rw [e1, e3, o3, o1]; omega)).symm
  have hm : (((outK L).view.emb x) 0).val % 16 = (x 0).val % 16 := by rw [e3, o3]; omega
  show fT d (Columns.at1 8192 (16 * (wI (F := F) fI d L (Columns.at1 2048 ((x 0).val / 16))).toNat + (x 0).val % 16))
    = fT d (Columns.at1 8192 (16 * (fI d (Columns.at1 65536 ((((outK L).view.emb x) 0).val / 16))).toNat + (((outK L).view.emb x) 0).val % 16))
  rw [hw, hm]

/-- What the last copy leaves in a task's piece of the result. -/
theorem out_piece (f : Vec F Columns.Rows .f32) (hf : f = Columns.target (F := F) (fT d) (wI (F := F) fI d L)) :
    (((outK L).view.loc (V d (cV L) (jV L)) ↦[(outK L).view.set]{fullShare}
        (outK L).view.writes (Elt F) (fO d) [⟨Rect.whole S32768, ((sRow).view.read (Elt F) f : Vec F S32768 .f32)⟩]) : sProp 𝕄)
      = (outLoc d ↦[outSet L]{fullShare} fR fT fI d) := by
  refine pointsTo_congr fun i hi => ?_
  obtain ⟨x, -, rfl⟩ := Finset.mem_map.mp hi
  rw [← View.write_univ_eq_writes_whole, View.writes_nil, View.write_emb_of_mem _ _ (Finset.mem_univ _), ← out_value, hf]
  rfl

/-- One task: fetch the table and its words, gather, write its piece out. -/
theorem tile_body (hF : (K (F := F)).Facts) (hR : InRange (F := F) fI) (O : CellTallies nD τ sig (HIx 1)) (W : Waits sig (HIx 1)) (hO : ∀ g, O g none = 0) :
    iprop(levAts (K (F := F)).L (K (F := F)).lev ∗ emp ∗ taskPre (F := F) fT fI fO d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L tabW (Memref.isWhole_whole _) idxW (Memref.isWhole_whole _) outW (Memref.isWhole_whole _)
            sIdx (Memref.isWhole_whole _) sTab (Memref.isWhole_whole _) sRow (Memref.isWhole_whole _) cc0_scoped0 cc0_scoped1 cc0_scoped2)
          fun _ => iprop(taskPost (F := F) fT fI d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_gather_eq_skeleton]; unfold cc0_sc_gather_skel
  rw [(K (F := F)).scopedBufs_V hF d (cV L) (jV L), SparseCore.Cfg.scopedSems0_V (Val := Elt F) d (cV L) (jV L), ownSems0_V, ownBufs_V]
  unfold taskPre
  iintro ⟨#Hlv, -, ⟨Ht, Hi, Ho⟩, ⟨⟨%fs, Hs⟩, ⟨%fx, Hx⟩, ⟨%fr, Hr⟩, Hbufs⟩, ⟨Hsem0, Hsem1, Hsem2, Hsems⟩, HO⟩
  ihave Hmw := ((K (F := F)).mayWaits_none (thr := V d (cV L) (jV L)) hO) $$ Hlv
  ihave Ht' := (Entails.of_eq (show (tabLoc d ↦{shareTok fullShare 32 (wk L)} fT d : sProp 𝕄)
    = ((tabW).view.loc (V d (cV L) (jV L)) ↦{shareTok fullShare 32 (wk L)} fT d) from rfl)) $$ Ht
  ihave Hi' := (Entails.of_eq (show (idxLoc d ↦[idxSet L]{fullShare} fI d : sProp 𝕄)
    = ((idxK L).view.loc (V d (cV L) (jV L)) ↦[(idxK L).view.set]{fullShare} fI d) from rfl)) $$ Hi
  ihave Ho' := (Entails.of_eq (show (outLoc d ↦[outSet L]{fullShare} fO d : sProp 𝕄)
    = ((outK L).view.loc (V d (cV L) (jV L)) ↦[(outK L).view.set]{fullShare} fO d) from rfl)) $$ Ho
  ihave Hs' := (Entails.of_eq (show ((V d (cV L) (jV L)).loc cc0_scratch0 ↦{fullShare} fs : sProp 𝕄)
    = ((sIdx).view.loc (V d (cV L) (jV L)) ↦{fullShare} fs) from rfl)) $$ Hs
  ihave Hx' := (Entails.of_eq (show ((V d (cV L) (jV L)).loc cc0_scratch1 ↦{fullShare} fx : sProp 𝕄)
    = ((sTab).view.loc (V d (cV L) (jV L)) ↦{fullShare} fx) from rfl)) $$ Hx
  ihave Hr' := (Entails.of_eq (show ((V d (cV L) (jV L)).loc cc0_scratch2 ↦{fullShare} fr : sProp 𝕄)
    = ((sRow).view.loc (V d (cV L) (jV L)) ↦{fullShare} fr) from rfl)) $$ Hr
  sl_exec (disch := exact View.amount_pos _ _ (show 0 < S2048.numel by decide))
  have hx1 : View.write (Elt F) (sTab).view fx (tile_body.sl.dma0 fT d) Finset.univ = fT d := View.write_whole_univ _ _ _
  have hs1 : View.write (Elt F) (sIdx).view fs (tile_body.sl.dma0_1 fI d L) Finset.univ = wI (F := F) fI d L := View.write_whole_univ _ _ _
  rw [hx1, hs1]
  sl_for (inv (F := F) fT fI d L) $$ [Hx' Hs' Hr']
  case region =>
    intro k u
    exact trip (F := F) fT fI d L hR k u
  · unfold inv
    isplitl [Hx']; iexact Hx'
    isplitl [Hs']; iexact Hs'
    iexists fr
    isplitr
    · ipureintro; exact Columns.upto_zero _ _ _
    iexact Hr'
  rw [show Scf.trips k0_t1_loop.lb k0_t1_loop.ub k0_t1_loop.st = 128 from by decide]
  unfold inv
  iintro %u ⟨Hx', Hs', %f, %hf, Hr'⟩
  have hff := Columns.upto_all hf
  sl_exec (disch := exact View.amount_pos _ _ (show 0 < S2048.numel by decide))
  rw [wp_ret]
  imodintro
  unfold tile_body.sl.dma0_2
  ihave Ho := (Entails.of_eq (out_piece (F := F) fT fI fO d L f hff)) $$ Ho'
  unfold taskPost taskPre
  isplitl [Ht' Hi' Ho]
  · isplitl [Ht']; iexact Ht'
    isplitl [Hi']; iexact Hi'
    iexact Ho
  isplitl [Hs' Hx' Hr' Hbufs]
  · isplitl [Hs']
    · iexists _; iexact Hs'
    isplitl [Hx']
    · iexists _; iexact Hx'
    isplitl [Hr']
    · iexists _; iexact Hr'
    · iexact Hbufs
  isplitl [Hsem0 Hsem1 Hsem2 Hsems]
  · isplitl [Hsem0]; iexact Hsem0
    isplitl [Hsem1]; iexact Hsem1
    isplitl [Hsem2]; iexact Hsem2
    iexact Hsems
  iexists (insert (SemLoc.dma cc0_scoped2.sem, (default : HIx 1)) (insert (SemLoc.dma cc0_scoped1.sem, (default : HIx 1)) (insert (SemLoc.dma cc0_scoped0.sem, (default : HIx 1)) W)))
  isplitr [HO]
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.GatherSCI

end
-- ==== Proof.GatherIdealTasks.lean ====
/-
  The thirty-two tasks together: the whole arrays split into the tasks' pieces and joined again, the call's payloads, and
  the launch theorem's obligations about a task (from `tile_body`) and about a call's split among its tiles.
-/
module

public import proofs.«01_k».proof.Proof.GatherIdealTile

@[expose] public section

noncomputable section

namespace Cert.Proof.GatherSCI

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => MT nD τ sig (HIx 1) (Elt F) ℕ UU ℕ

local notation "tabW" => (Memref.whole Cert.GatherIdeal.main_v1_scv : Memref Cert.GatherIdeal.sig Kind.scVector Space.hbm Cert.GatherIdeal.S8192 EltTy.f32)
local notation "idxW" => (Memref.whole Cert.GatherIdeal.main_v0_scv : Memref Cert.GatherIdeal.sig Kind.scVector Space.hbm Cert.GatherIdeal.S65536 EltTy.i32)
local notation "outW" => (Memref.whole Cert.GatherIdeal.main_v2_scv : Memref Cert.GatherIdeal.sig Kind.scVector Space.hbm Cert.GatherIdeal.S1048576 EltTy.f32)
local notation "sIdx" => (Memref.whole Cert.GatherIdeal.cc0_scratch0 : Memref Cert.GatherIdeal.sig Kind.scVector Space.vmem Cert.GatherIdeal.S2048 EltTy.i32)
local notation "sTab" => (Memref.whole Cert.GatherIdeal.cc0_scratch1 : Memref Cert.GatherIdeal.sig Kind.scVector Space.vmem Cert.GatherIdeal.S8192 EltTy.f32)
local notation "sRow" => (Memref.whole Cert.GatherIdeal.cc0_scratch2 : Memref Cert.GatherIdeal.sig Kind.scVector Space.vmem Cert.GatherIdeal.S32768 EltTy.f32)

variable [FloatOps F]
variable (fT : (d : Dev nD) → Buf (Elt F) (tabLoc d)) (fI : (d : Dev nD) → Buf (Elt F) (idxLoc d)) (fO : (d : Dev nD) → Buf (Elt F) (outLoc d))

/-- A task's coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev crd (c : Fin 2) (s : Fin 16) : grid0.Coords := coordsV (Fin.cast bound_zero.symm c) (Fin.cast bound_one.symm s)

/-! ## Pieces of the arrays -/

theorem idxSet_eq (L : grid0.Coords) : idxSet L = (Rect.unit (s := S65536) (k0_off1 L) S2048.size (k0_off1_inb L)).set := by
  show ((View.whole (main_v0_scv : Ref sig .scVector)).slice (Rect.unit (s := S65536) (k0_off1 L) S2048.size (k0_off1_inb L))).set = _
  rw [View.set_slice]; exact Finset.map_refl
theorem outSet_eq (L : grid0.Coords) : outSet L = (Rect.unit (s := S1048576) (k0_off3 L) S32768.size (k0_off3_inb L)).set := by
  show ((View.whole (main_v2_scv : Ref sig .scVector)).slice (Rect.unit (s := S1048576) (k0_off3 L) S32768.size (k0_off3_inb L))).set = _
  rw [View.set_slice]; exact Finset.map_refl

/-- Which words belong to a task. -/
theorem mem_idxSet (c : Fin 2) (s : Fin 16) (j : S65536.Idx) : j ∈ idxSet (crd c s) ↔ (j 0).val / 2048 = 2 * s.val + c.val := by
  have hc := c.isLt
  have hs := s.isLt
  have o1 : k0_off1 (crd c s) 0 = 4096 * s.val + 2048 * c.val := by rw [k0_off1_eq]; rfl
  rw [idxSet_eq, Rect.mem_set_unit]
  constructor
  · intro h
    have h0 := h 0
    rw [o1] at h0
    have h1 : (j 0).val < 4096 * s.val + 2048 * c.val + 2048 := h0.2
    omega
  · intro h a
    obtain rfl : a = 0 := Fin.eq_zero a
    rw [o1]
    show _ ∧ (j 0).val < 4096 * s.val + 2048 * c.val + 2048
    omega

/-- Which results belong to a task. -/
theorem mem_outSet (c : Fin 2) (s : Fin 16) (j : S1048576.Idx) : j ∈ outSet (crd c s) ↔ (j 0).val / 32768 = 2 * s.val + c.val := by
  have hc := c.isLt
  have hs := s.isLt
  have o1 : k0_off3 (crd c s) 0 = 65536 * s.val + 32768 * c.val := by rw [k0_off3_eq]; rfl
  rw [outSet_eq, Rect.mem_set_unit]
  constructor
  · intro h
    have h0 := h 0
    rw [o1] at h0
    have h1 : (j 0).val < 65536 * s.val + 32768 * c.val + 32768 := h0.2
    omega
  · intro h a
    obtain rfl : a = 0 := Fin.eq_zero a
    rw [o1]
    show _ ∧ (j 0).val < 65536 * s.val + 32768 * c.val + 32768
    omega

abbrev Tasks : Finset (Fin 2 × Fin 16) := Finset.univ

theorem idx_disjoint : ∀ p ∈ Tasks, ∀ q ∈ Tasks, p ≠ q → Disjoint (idxSet (crd p.1 p.2)) (idxSet (crd q.1 q.2)) := by
  intro p _ q _ h
  refine Finset.disjoint_left.mpr fun j hp hq => h ?_
  rw [mem_idxSet] at hp hq
  have := p.1.isLt
  have := q.1.isLt
  exact Prod.ext (Fin.ext (by omega)) (Fin.ext (by omega))
theorem out_disjoint : ∀ p ∈ Tasks, ∀ q ∈ Tasks, p ≠ q → Disjoint (outSet (crd p.1 p.2)) (outSet (crd q.1 q.2)) := by
  intro p _ q _ h
  refine Finset.disjoint_left.mpr fun j hp hq => h ?_
  rw [mem_outSet] at hp hq
  have := p.1.isLt
  have := q.1.isLt
  exact Prod.ext (Fin.ext (by omega)) (Fin.ext (by omega))

theorem idx_cover : Tasks.biUnion (fun p => idxSet (crd p.1 p.2)) = Finset.univ := by
  refine Finset.eq_univ_of_forall fun j => ?_
  have hj : (j 0).val < 65536 := (j 0).isLt
  refine Finset.mem_biUnion.mpr ⟨(⟨(j 0).val / 2048 % 2, by omega⟩, ⟨(j 0).val / 4096, by omega⟩), Finset.mem_univ _, ?_⟩
  rw [mem_idxSet]
  show (j 0).val / 2048 = 2 * ((j 0).val / 4096) + (j 0).val / 2048 % 2
  omega
theorem out_cover : Tasks.biUnion (fun p => outSet (crd p.1 p.2)) = Finset.univ := by
  refine Finset.eq_univ_of_forall fun j => ?_
  have hj : (j 0).val < 1048576 := (j 0).isLt
  refine Finset.mem_biUnion.mpr ⟨(⟨(j 0).val / 32768 % 2, by omega⟩, ⟨(j 0).val / 65536, by omega⟩), Finset.mem_univ _, ?_⟩
  rw [mem_outSet]
  show (j 0).val / 32768 = 2 * ((j 0).val / 65536) + (j 0).val / 32768 % 2
  omega

theorem wk_inj : Set.InjOn (fun p : Fin 2 × Fin 16 => wk (crd p.1 p.2)) (Tasks : Set _) := by
  intro p _ q _ e
  have e' : 2 * p.2.val + p.1.val = 2 * q.2.val + q.1.val := congrArg Fin.val e
  have := p.1.isLt
  have := q.1.isLt
  exact Prod.ext (Fin.ext (by omega)) (Fin.ext (by omega))
theorem wk_image : Tasks.image (fun p => wk (crd p.1 p.2)) = Finset.univ := by
  refine Finset.eq_univ_of_forall fun j => ?_
  have hj := j.isLt
  refine Finset.mem_image.mpr ⟨(⟨j.val % 2, by omega⟩, ⟨j.val / 2, by omega⟩), Finset.mem_univ _, Fin.ext ?_⟩
  show 2 * (j.val / 2) + j.val % 2 = j.val
  omega

/-- What stays with the TensorCore while the tasks run: the rest of the table's share. -/
abbrev tabKept (d : Dev nD) : sProp 𝕄 := tabLoc d ↦{shareDrop fullShare 32} fT d

/-- What one SparseCore's tasks take together. -/
def corePre (d : Dev nD) (c : Fin 2) : sProp 𝕄 := bigSep Finset.univ fun s : Fin 16 => taskPre (F := F) fT fI fO d (crd c s)
/-- What one SparseCore's tasks bring back together. -/
def corePost (d : Dev nD) (c : Fin 2) : sProp 𝕄 := bigSep Finset.univ fun s : Fin 16 => taskPost (F := F) fT fI d (crd c s)

omit [FloatOps F] in
theorem pieces_eq (d : Dev nD) :
    (bigSep Finset.univ fun c : Fin 2 => corePre (F := F) fT fI fO d c)
      = iprop((bigSep Finset.univ fun j : Fin 32 => tabLoc d ↦{shareTok fullShare 32 j} fT d) ∗ (idxLoc d ↦{fullShare} fI d) ∗ (outLoc d ↦{fullShare} fO d)) := by
  have h0 : (bigSep Finset.univ fun c : Fin 2 => corePre (F := F) fT fI fO d c)
      = bigSep Tasks fun p => taskPre (F := F) fT fI fO d (crd p.1 p.2) :=
    (SparseCore.bigSep_product Finset.univ Finset.univ (fun p : Fin 2 × Fin 16 => taskPre (F := F) fT fI fO d (crd p.1 p.2))).symm
  rw [h0]
  unfold taskPre
  rw [bigSep_sep', bigSep_sep', ← pointsTo_biUnion Tasks (ℓ := idxLoc d) (fun p => idxSet (crd p.1 p.2)) idx_disjoint, idx_cover,
    ← pointsTo_biUnion Tasks (ℓ := outLoc d) (fun p => outSet (crd p.1 p.2)) out_disjoint, out_cover,
    ← SparseCore.bigSep_image_of_injOn wk_inj (fun j => (tabLoc d ↦{shareTok fullShare 32 j} fT d : sProp 𝕄)), wk_image]

omit [FloatOps F] in
/-- The whole arrays are the tasks' pieces and the table's kept share. -/
theorem split_all (d : Dev nD) :
    iprop((tabLoc d ↦{fullShare} fT d) ∗ (idxLoc d ↦{fullShare} fI d) ∗ (outLoc d ↦{fullShare} fO d))
      ⊢ iprop(tabKept (F := F) fT d ∗ bigSep Finset.univ fun c : Fin 2 => corePre (F := F) fT fI fO d c) := by
  rw [pieces_eq]
  iintro ⟨Ht, Hi, Ho⟩
  ihave H := (Transfers.pointsTo_toks_split fullShare 32) $$ Ht
  icases H with ⟨Hk, Ht⟩
  isplitl [Hk]; · iexact Hk
  isplitl [Ht]; · iexact Ht
  isplitl [Hi]; · iexact Hi
  iexact Ho

/-- The pieces brought back, and the kept share, are the whole arrays, the result gathered. -/
theorem join_all (d : Dev nD) :
    iprop(tabKept (F := F) fT d ∗ bigSep Finset.univ fun c : Fin 2 => corePost (F := F) fT fI d c)
      ⊢ iprop((tabLoc d ↦{fullShare} fT d) ∗ (idxLoc d ↦{fullShare} fI d) ∗ (outLoc d ↦{fullShare} fR (F := F) fT fI d)) := by
  rw [show (bigSep Finset.univ fun c : Fin 2 => corePost (F := F) fT fI d c)
      = bigSep Finset.univ fun c : Fin 2 => corePre (F := F) fT fI (fR fT fI) d c from rfl, pieces_eq]
  iintro ⟨Hk, Ht, Hi, Ho⟩
  isplitl [Hk Ht]
  · iapply (Transfers.pointsTo_toks_join fullShare 32)
    isplitl [Hk]; · iexact Hk
    iexact Ht
  isplitl [Hi]; · iexact Hi
  iexact Ho

/-! ## The call's payloads and the launch theorem's obligations -/

def P : (K (F := F)).Pay (nD := nD) (Val := Elt F) (Name := ℕ) (U := UU) where
  st := fun q d c => match q with | 0 => corePre (F := F) fT fI fO d (Fin.cast nCore_zero c)
  dn := fun q d c => match q with | 0 => corePost (F := F) fT fI d (Fin.cast nCore_zero c)
  go := fun q d c i => match q with | 0 => taskPre (F := F) fT fI fO d (crd (Fin.cast nCore_zero c) (Fin.cast nSub_zero i))
  td := fun q d c i => match q with | 0 => taskPost (F := F) fT fI d (crd (Fin.cast nCore_zero c) (Fin.cast nSub_zero i))
  x := fun _ _ => iprop(emp)

omit [FloatOps F] in
theorem taskPre_storable (d : Dev nD) (L : grid0.Coords) : BI.Storable (upEmb : UEmb _ 𝕄) (taskPre (F := F) fT fI fO d L) := by
  unfold taskPre; infer_instance
theorem corePre_storable (d : Dev nD) (c : Fin 2) : BI.Storable (upEmb : UEmb _ 𝕄) (corePre (F := F) fT fI fO d c) := by
  unfold corePre
  haveI : ∀ s : Fin 16, BI.Storable (upEmb : UEmb _ 𝕄) (taskPre (F := F) fT fI fO d (crd c s)) := fun s => taskPre_storable _ _ _ _ _
  infer_instance

instance P_storable : (P (F := F) fT fI fO).IsStorable where
  st q d c := match q with | 0 => corePre_storable fT fI fO d _
  dn q d c := match q with | 0 => corePre_storable fT fI (fR fT fI) d _
  go q d c i := match q with | 0 => taskPre_storable fT fI fO d _
  td q d c i := match q with | 0 => taskPre_storable fT fI (fR fT fI) d _

theorem defs₀_vector (c : Fin τ.nSC) (s : Fin τ.nSub) :
    defs₀ (F := F) (.scVector c s) 0 ()
      = SparseCore.onTile hcore0 hsub0 (fun c s => cc0_sc_gather (coordsV c s)
          tabW (Memref.isWhole_whole _) idxW (Memref.isWhole_whole _) outW (Memref.isWhole_whole _)
          sIdx (Memref.isWhole_whole _) sTab (Memref.isWhole_whole _) sRow (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- The launch theorem's obligation about a task. -/
theorem tileObl (hF : (K (F := F)).Facts) (hR : InRange (F := F) fI) : (K (F := F)).TileObl (D (F := F)) 𝒱 (P (F := F) fT fI fO) v₀ 0 := by
  intro d c i O W hO _ _
  simp only [show (P (F := F) fT fI fO).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (F := F) fT fI fO d (coordsV ⟨_, hc.1⟩ ⟨_, hc.2⟩) hF hR O W hO).trans (wp_mono frame _ _ fun _ => obl_post)

/-- A call's payload is its tasks'. -/
theorem vecSplit : (K (F := F)).VecSplit' (P (F := F) fT fI fO) 0 := by
  intro d c
  show corePre (F := F) fT fI fO d (Fin.cast nCore_zero c) ⊢ |={Set.univ}=> iprop(
      corePre (F := F) fT fI fO d (Fin.cast nCore_zero c) ∗ (corePost (F := F) fT fI d (Fin.cast nCore_zero c) -∗ corePost (F := F) fT fI d (Fin.cast nCore_zero c)))
  iintro H; imodintro
  isplitl [H]; · iexact H
  iintro H; iexact H

/-! ## The launch element: the handshakes' rounds -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P (F := F) fT fI fO).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.GatherSCI

end
-- ==== Proof.GatherIdealRun.lean ====
/-
  The program around the call: two reshapes before it, a reshape, a slice and a reshape after it, on the TensorCore;
  with the launch theorem, the whole run: it terminates, the arguments stay, the result is `V6`, every semaphore zero.
-/
module

public import proofs.«01_k».proof.Proof.GatherIdealTasks
public import proofs.«01_k».proof.Defs

@[expose] public section

noncomputable section

namespace Cert.Proof.GatherSCI

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop)

variable {F : FTy → Type}

local notation "𝕄" => MT nD τ sig (HIx 1) (Elt F) ℕ UU ℕ

local notation "tabW" => (Memref.whole Cert.GatherIdeal.main_v1_scv : Memref Cert.GatherIdeal.sig Kind.scVector Space.hbm Cert.GatherIdeal.S8192 EltTy.f32)
local notation "idxW" => (Memref.whole Cert.GatherIdeal.main_v0_scv : Memref Cert.GatherIdeal.sig Kind.scVector Space.hbm Cert.GatherIdeal.S65536 EltTy.i32)
local notation "outW" => (Memref.whole Cert.GatherIdeal.main_v2_scv : Memref Cert.GatherIdeal.sig Kind.scVector Space.hbm Cert.GatherIdeal.S1048576 EltTy.f32)
local notation "sIdx" => (Memref.whole Cert.GatherIdeal.cc0_scratch0 : Memref Cert.GatherIdeal.sig Kind.scVector Space.vmem Cert.GatherIdeal.S2048 EltTy.i32)
local notation "sTab" => (Memref.whole Cert.GatherIdeal.cc0_scratch1 : Memref Cert.GatherIdeal.sig Kind.scVector Space.vmem Cert.GatherIdeal.S8192 EltTy.f32)
local notation "sRow" => (Memref.whole Cert.GatherIdeal.cc0_scratch2 : Memref Cert.GatherIdeal.sig Kind.scVector Space.vmem Cert.GatherIdeal.S32768 EltTy.f32)

variable [FloatOps F]
variable (m : (ℓ : Loc nD τ sig) → Buf (Elt F) ℓ) (ρ : Dev nD → PrngReg)

abbrev rA0 : DevRef τ sig := Proc.devRef .tc (main_arg0 : Ref sig .tc)
abbrev rA1 : DevRef τ sig := Proc.devRef .tc (main_arg1 : Ref sig .tc)
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
abbrev r3 : DevRef τ sig := Proc.devRef .tc (main_v3 : Ref sig .tc)
abbrev r4 : DevRef τ sig := Proc.devRef .tc (main_v4 : Ref sig .tc)
abbrev r5 : DevRef τ sig := Proc.devRef .tc (main_v5 : Ref sig .tc)

abbrev op0 : HloOp τ sig (Elt F) := StableHlo.reshape main_arg1 main_v0 (rfl : (.i32 : EltTy) = .i32) shapeCasts_S32x2048_S65536
abbrev op1 : HloOp τ sig (Elt F) := StableHlo.reshape main_arg0 main_v1 (rfl : (.f32 : EltTy) = .f32) shapeCasts_S512x16_S8192
abbrev op3 : HloOp τ sig (Elt F) := StableHlo.reshape main_v2 main_v3 (rfl : (.f32 : EltTy) = .f32) shapeCasts_S1048576_S65536x16
abbrev op4 : HloOp τ sig (Elt F) := StableHlo.unary main_v3 main_v4 ((extractStridedSlice S65536x14 ![0, 0] · slices_S65536x16_S65536x14_0_0) : (⟨S65536x16, .f32⟩ : BufTy).Contents (Elt F) → (⟨S65536x14, .f32⟩ : BufTy).Contents (Elt F))
abbrev op5 : HloOp τ sig (Elt F) := StableHlo.reshape main_v4 main_v5 (rfl : (.f32 : EltTy) = .f32) shapeCasts_S65536x14_S32x2048x14

/-- The TensorCore's arrays, all unscoped. -/
abbrev S8 : Finset (DevRef τ sig) := {rA0, rA1, r0, r1, r2, r3, r4, r5}

omit [FloatOps F] in
theorem held_S8 (d : Dev nD) (W : Valuation τ sig (Elt F)) :
    (held (T d) S8 W : sProp 𝕄) = iprop(((SparseCore.T d).loc main_arg0 ↦{fullShare} W rA0) ∗ ((SparseCore.T d).loc main_arg1 ↦{fullShare} W rA1)
      ∗ (idxLoc d ↦{fullShare} W r0) ∗ (tabLoc d ↦{fullShare} W r1) ∗ (outLoc d ↦{fullShare} W r2)
      ∗ ((SparseCore.T d).loc main_v3 ↦{fullShare} W r3) ∗ ((SparseCore.T d).loc main_v4 ↦{fullShare} W r4) ∗ ((SparseCore.T d).loc main_v5 ↦{fullShare} W r5)) := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ (idxLoc d ↦{fullShare} W main_v0) ∗ (tabLoc d ↦{fullShare} W main_v1) ∗ (outLoc d ↦{fullShare} W main_v2)
      ∗ ((SparseCore.T d).loc main_v3 ↦{fullShare} W main_v3) ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The contents at launch, and after each step. -/
def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)
abbrev gT (d : Dev nD) : Buf (Elt F) (tabLoc d) := V2 m d r1
abbrev gI (d : Dev nD) : Buf (Elt F) (idxLoc d) := V2 m d r0
abbrev gO (d : Dev nD) : Buf (Elt F) (outLoc d) := V2 m d r2
def V3 (d : Dev nD) : Valuation τ sig (Elt F) := Function.update (V2 m d) r2 (fR (F := F) (gT m) (gI m) d)
def V4 (d : Dev nD) : Valuation τ sig (Elt F) := (op3 (F := F)).result (V3 m d)
def V5 (d : Dev nD) : Valuation τ sig (Elt F) := (op4 (F := F)).result (V4 m d)
def V6 (d : Dev nD) : Valuation τ sig (Elt F) := (op5 (F := F)).result (V5 m d)

theorem unscoped_held (d : Dev nD) : (unscopedBufs d (fun b => m ((SparseCore.T d).loc b)) : sProp 𝕄) = held (T d) S8 (V0 m d) := by
  rw [unscopedBufs_eq, held_S8]; rfl

theorem hOp0 : (op0 (F := F)).bufs ⊆ S8 := show ({rA1, r0} : Finset (DevRef τ sig)) ⊆ S8 by decide
theorem hOp1 : (op1 (F := F)).bufs ⊆ S8 := show ({rA0, r1} : Finset (DevRef τ sig)) ⊆ S8 by decide
theorem hOp3 : (op3 (F := F)).bufs ⊆ S8 := show ({r2, r3} : Finset (DevRef τ sig)) ⊆ S8 by decide
theorem hOp4 : (op4 (F := F)).bufs ⊆ S8 := show ({r3, r4} : Finset (DevRef τ sig)) ⊆ S8 by decide
theorem hOp5 : (op5 (F := F)).bufs ⊆ S8 := show ({r4, r5} : Finset (DevRef τ sig)) ⊆ S8 by decide

/-- The arrays after the call: as before it, but for the call's result. -/
theorem held_V3 (d : Dev nD) :
    (held (T d) S8 (V3 m d) : sProp 𝕄) = iprop(((SparseCore.T d).loc main_arg0 ↦{fullShare} V2 m d rA0) ∗ ((SparseCore.T d).loc main_arg1 ↦{fullShare} V2 m d rA1)
      ∗ (idxLoc d ↦{fullShare} gI m d) ∗ (tabLoc d ↦{fullShare} gT m d) ∗ (outLoc d ↦{fullShare} fR (F := F) (gT m) (gI m) d)
      ∗ ((SparseCore.T d).loc main_v3 ↦{fullShare} V2 m d r3) ∗ ((SparseCore.T d).loc main_v4 ↦{fullShare} V2 m d r4) ∗ ((SparseCore.T d).loc main_v5 ↦{fullShare} V2 m d r5)) := by
  rw [held_S8]
  unfold V3
  rw [Function.update_self, Function.update_of_ne (show rA0 ≠ r2 by decide), Function.update_of_ne (show rA1 ≠ r2 by decide),
    Function.update_of_ne (show r0 ≠ r2 by decide), Function.update_of_ne (show r1 ≠ r2 by decide), Function.update_of_ne (show r3 ≠ r2 by decide),
    Function.update_of_ne (show r4 ≠ r2 by decide), Function.update_of_ne (show r5 ≠ r2 by decide)]

/-- What @main leaves the claim: the arguments and the result. -/
abbrev FIN (d : Dev nD) : sProp 𝕄 := iprop(((SparseCore.T d).loc main_arg0 ↦{fullShare} V6 m d rA0) ∗ ((SparseCore.T d).loc main_arg1 ↦{fullShare} V6 m d rA1)
  ∗ ((SparseCore.T d).loc main_v5 ↦{fullShare} V6 m d r5))

theorem st0_eq (d : Dev nD) : (bigSep Finset.univ fun c : Fin ((K (F := F)).nCore 0) => (P (gT m) (gI m) (gO m)).st 0 d c)
    = bigSep Finset.univ fun c : Fin 2 => corePre (F := F) (gT m) (gI m) (gO m) d c := rfl
theorem dn0_eq (d : Dev nD) : (bigSep Finset.univ fun c : Fin ((K (F := F)).nCore 0) => (P (gT m) (gI m) (gO m)).dn 0 d c)
    = bigSep Finset.univ fun c : Fin 2 => corePost (F := F) (gT m) (gI m) d c := rfl

/-- @main on device `d`'s TensorCore. -/
theorem hmain (κ : GSem nD τ sig → ℕ) (d : Dev nD) :
    iprop((K (F := F)).ctx EH (P (gT m) (gI m) (gO m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S8) hOp0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op1) (S := S8) hOp1 (V := V1 m d)) $$ [Hb Hheld]
  · isplitl [Hb]; · iexact Hb
    iexact Hheld
  iintro ⟨Hb, Hheld⟩
  rw [wp_ret]; imodintro
  ihave Hh := (Entails.of_eq ((show (held (T d) S8 ((op1 (F := F)).result (V1 m d)) : sProp 𝕄) = held (T d) S8 (V2 m d) from rfl).trans (held_S8 (F := F) d (V2 m d)))) $$ Hheld
  icases Hh with ⟨Ha0, Ha1, Hi, Ht, Ho, H3, H4, H5⟩
  ihave Hs := (split_all (F := F) (gT m) (gI m) (gO m) d) $$ [Ht Hi Ho]
  · isplitl [Ht]; · iexact Ht
    isplitl [Hi]; · iexact Hi
    iexact Ho
  icases Hs with ⟨Hk, Hc⟩
  iapply ((K (F := F)).wp_run (D (F := F)) 𝒱 (EH := EH) (P := P (gT m) (gI m) (gO m)) κ d 0) $$ [Hst Hc Hb Hts Ha0 Ha1 Hk H3 H4 H5]
  isplitr; · iexact Hctx
  isplitl [Hst]; · iexact Hst
  isplitl [Hc]; · rw [st0_eq]; iexact Hc
  iintro ⟨Hst, Hdn⟩
  ihave Hdn' := (Entails.of_eq (dn0_eq m d)) $$ Hdn
  ihave Hj := (join_all (F := F) (gT m) (gI m) d) $$ [Hk Hdn']
  · isplitl [Hk]; · iexact Hk
    iexact Hdn'
  icases Hj with ⟨Ht, Hi, Ho⟩
  iapply (wp_hlo_within 𝒱 (SparseCore.T d) none Set.univ (op := op3) (S := S8) hOp3 (V := V3 m d)) $$ [Hb Ha0 Ha1 Ht Hi Ho H3 H4 H5]
  · isplitl [Hb]; · iexact Hb
    rw [held_V3]
    isplitl [Ha0]; · iexact Ha0
    isplitl [Ha1]; · iexact Ha1
    isplitl [Hi]; · iexact Hi
    isplitl [Ht]; · iexact Ht
    isplitl [Ho]; · iexact Ho
    isplitl [H3]; · iexact H3
    isplitl [H4]; · iexact H4
    iexact H5
  iintro ⟨Hb, Hheld⟩
  rw [wp_ret]; imodintro
  iapply (wp_hlo_within 𝒱 (SparseCore.T d) none Set.univ (op := op4) (S := S8) hOp4 (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := op5) (S := S8) hOp5 (V := V5 m d)) $$ [Hb Hheld]
  · isplitl [Hb]; · iexact Hb
    iexact Hheld
  iintro ⟨Hb, Hheld⟩
  ihave Hh := (Entails.of_eq ((show (held (T d) S8 ((op5 (F := F)).result (V5 m d)) : sProp 𝕄) = held (T d) S8 (V6 m d) from rfl).trans (held_S8 (F := F) d (V6 m d)))) $$ Hheld
  icases Hh with ⟨Ha0, Ha1, -, -, -, -, -, H5⟩
  rw [wp_ret]; imodintro; imodintro
  isplitl [Hst]; · iexact Hst
  isplitr [Hb Hts]
  · isplitl [Ha0]; · iexact Ha0
    isplitl [Ha1]; · iexact Ha1
    iexact H5
  isplitl [Hb] <;> iassumption

def fq (d : Dev nD) (s' : Phys nD τ sig (Elt F)) : Prop :=
  s'.mem.mem ((SparseCore.T d).loc main_arg0) = V6 m d rA0 ∧ s'.mem.mem ((SparseCore.T d).loc main_arg1) = V6 m d rA1
    ∧ s'.mem.mem ((SparseCore.T d).loc main_v5) = V6 m d r5

theorem hfin (d : Dev nD) (s' : Phys nD τ sig (Elt F)) : iprop(FIN m d ∗ SI s') ⊢ (⌜fq m d s'⌝ : sProp 𝕄) := by
  iintro ⟨⟨H0, H1, H5⟩, HSI⟩
  ihave H := (persistent_entails_right (SI_pointsTo_agree (st := s') (ℓ := (SparseCore.T d).loc main_arg0) (I := Finset.univ) (q := fullShare) (f := V6 m d rA0))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := V6 m d rA1))) $$ [HSI H1]
  · isplitl [HSI] <;> iassumption
  icases H with ⟨%h1, HSI, -⟩
  ihave H := (SI_pointsTo_agree (st := s') (ℓ := (SparseCore.T d).loc main_v5) (I := Finset.univ) (q := fullShare) (f := V6 m d r5)) $$ [HSI H5]
  · isplitl [HSI] <;> iassumption
  icases H with %h5
  ipureintro; exact ⟨funext fun i => h0 i (Finset.mem_univ i), funext fun i => h1 i (Finset.mem_univ i), funext fun i => h5 i (Finset.mem_univ i)⟩

/-! ## The contents at the end -/

theorem V2_r0 (d : Dev nD) : V2 m d r0 = shapeCast S65536 (m ((SparseCore.T d).loc main_arg1)) shapeCasts_S32x2048_S65536 := by
  unfold V2
  rw [(op1 (F := F)).result_of_not_mem (V1 m d) (b := r0) (show r0 ∉ ({r1} : Finset (DevRef τ sig)) by decide)]
  exact StableHlo.reshape_result' _ _ _ _ _
theorem V2_r1 (d : Dev nD) : V2 m d r1 = shapeCast S8192 (m ((SparseCore.T d).loc main_arg0)) shapeCasts_S512x16_S8192 := by
  unfold V2
  refine (StableHlo.reshape_result' _ _ _ _ _).trans ?_
  rw [show V1 m d (Proc.devRef .tc main_arg0) = V0 m d rA0 from
    (op0 (F := F)).result_of_not_mem (V0 m d) (b := rA0) (show rA0 ∉ ({r0} : Finset (DevRef τ sig)) by decide)]
  rfl

/-- An argument's contents stay through the program. -/
theorem V6_arg (d : Dev nD) (b : DevRef τ sig) (h : b ∉ ({r0, r1, r2, r3, r4, r5} : Finset (DevRef τ sig))) : V6 m d b = m (d, b) := by
  simp only [Finset.mem_insert, Finset.mem_singleton, not_or] at h
  obtain ⟨h0, h1, h2, h3, h4, h5⟩ := h
  unfold V6
  rw [(op5 (F := F)).result_of_not_mem (V5 m d) (b := b) (show b ∉ ({r5} : Finset (DevRef τ sig)) from fun e => h5 (Finset.mem_singleton.mp e))]
  unfold V5
  rw [(op4 (F := F)).result_of_not_mem (V4 m d) (b := b) (show b ∉ ({r4} : Finset (DevRef τ sig)) from fun e => h4 (Finset.mem_singleton.mp e))]
  unfold V4
  rw [(op3 (F := F)).result_of_not_mem (V3 m d) (b := b) (show b ∉ ({r3} : Finset (DevRef τ sig)) from fun e => h3 (Finset.mem_singleton.mp e))]
  unfold V3
  rw [Function.update_of_ne h2]
  unfold V2
  rw [(op1 (F := F)).result_of_not_mem (V1 m d) (b := b) (show b ∉ ({r1} : Finset (DevRef τ sig)) from fun e => h1 (Finset.mem_singleton.mp e))]
  unfold V1
  rw [(op0 (F := F)).result_of_not_mem (V0 m d) (b := b) (show b ∉ ({r0} : Finset (DevRef τ sig)) from fun e => h0 (Finset.mem_singleton.mp e))]
  rfl

/-- The result, from the arguments. -/
def value (tab : Vec F S512x16 .f32) (idx : IVec S32x2048 32) : Vec F S32x2048x14 .f32 :=
  shapeCast S32x2048x14 (extractStridedSlice S65536x14 ![0, 0]
    (shapeCast S65536x16 (Columns.result (F := F) (shapeCast S8192 tab shapeCasts_S512x16_S8192) (shapeCast S65536 idx shapeCasts_S32x2048_S65536))
      shapeCasts_S1048576_S65536x16) slices_S65536x16_S65536x14_0_0) shapeCasts_S65536x14_S32x2048x14

theorem V6_r5 (d : Dev nD) : V6 m d r5 = value (F := F) (m ((SparseCore.T d).loc main_arg0)) (m ((SparseCore.T d).loc main_arg1)) := by
  unfold V6
  refine (StableHlo.reshape_result' _ _ _ _ _).trans ?_
  rw [show V5 m d (Proc.devRef .tc main_v4) = _ from StableHlo.unary_result' _ _ _ _]
  rw [show V4 m d (Proc.devRef .tc main_v3) = _ from StableHlo.reshape_result' _ _ _ _ _]
  rw [show V3 m d (Proc.devRef .tc main_v2) = fR (F := F) (gT m) (gI m) d from Function.update_self _ _ _]
  unfold fR gT gI
  rw [V2_r0, V2_r1]
  rfl

/-! ## The program's run and the claim -/

def QC : PUnit × MemSt nD τ sig (Elt F) → Prop := fun r => (∀ c : Dev nD,
    r.2.mem ((SparseCore.T c).loc main_arg0) = m ((SparseCore.T c).loc main_arg0) ∧ r.2.mem ((SparseCore.T c).loc main_arg1) = m ((SparseCore.T c).loc main_arg1)
      ∧ r.2.mem ((SparseCore.T c).loc main_v5) = value (F := F) (m ((SparseCore.T c).loc main_arg0)) (m ((SparseCore.T c).loc main_arg1)))
  ∧ r.2.sem = fun _ => 0

/-- The run from a memory whose words are row numbers. -/
theorem run_main [∀ e, Nonempty (Elt F e)] (hR : InRange (F := F) (gI m)) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (gT m) (gI m) (gO m)) (A := ∅) facts v₀
    (fun q hq => match q with | 0 => nomatch hq)
    (fun q _ => match q with | 0 => tileObl (gT m) (gI m) (gO m) facts hR)
    (fun q _ => match q with | 0 => SparseCore.Cfg.VecSplit.of_plain (vecSplit (gT m) (gI m) (gO m)))
    m ρ main (fun _ => iprop(emp)) (FIN m) (u₀ (F := F)) (sep_elim_left.trans (hu₀ (gT m) (gI m) (gO m))) (hmain m ρ) (fq m) (hfin m) (QC m)
    (fun _ h hz => ⟨fun c => ⟨(h c).1.trans (V6_arg m c rA0 (by decide)), (h c).2.1.trans (V6_arg m c rA1 (by decide)), (h c).2.2.trans (V6_r5 m c)⟩, hz⟩)

/-- The precondition, all ones, says that every word read as a natural number is below 512. -/
theorem word_of_pre [Cert.Pre_in_range.Facts] (a0 : Vec F S512x16 .f32) (a1 : IVec S32x2048 32) (h : Cert.Pre_in_range.fn (F := F) a0 a1 = fun _ => 1#1)
    (j : S32x2048.Idx) : (a1 j).toNat < 512 := by
  have h1 : ∀ p q : Bool, IntOp.andi (BitVec.ofBool p) (BitVec.ofBool q) = 1#1 → p = true ∧ q = true := by decide
  have e := congrFun h j
  simp only [Pre_in_range.fn, andi, cmpi, broadcastInDim, constantI, IntOp.cmpi] at e
  obtain ⟨e0, e1⟩ := h1 _ _ e
  simp only [BitVec.sle_eq_decide, BitVec.slt_eq_decide, decide_eq_true_eq, BitVec.toInt_eq_toNat_cond, BitVec.toNat_ofNat,
    Nat.reducePow, Nat.reduceMod] at e0 e1
  omega

theorem inRange_of_pre [Cert.Pre_in_range.Facts]
    (h : ∀ d : Dev nD, Cert.Pre_in_range.fn (F := F) (m ((SparseCore.T d).loc main_arg0)) (m ((SparseCore.T d).loc main_arg1)) = fun _ => 1#1) :
    InRange (F := F) (gI m) := by
  intro d j
  rw [show gI m d = _ from V2_r0 m d]
  exact word_of_pre (F := F) _ _ (h d) _

end Cert.Proof.GatherSCI

end
-- ==== Proof.GatherMath.lean ====
/-
  Two ways of reading rows of a table, index by index: the flat gather the SparseCore's tasks do (table, words and
  result all reshaped to one axis) and the host's gather of whole rows at clamped row numbers. Both read, at (t, j, k),
  entry k of the row that word (t, j) names.
-/
module

public import proofs.«01_k».proof.Proof.Columns
public import Idealize.ShloMosaic.Lib.ValueIdxCore
public import Idealize.ShloMosaic.Lib.ReduceAll
public import Idealize.ShloMosaic.Lib.Pipeline.Value

@[expose] public section

noncomputable section

namespace Cert.Rows

open Idealize.ShloMosaic Idealize.ShloMosaic.ValueIdx

/-- Entry `k` of row `n` of a table of 512 rows and 16 columns. -/
abbrev at2 (n k : Nat) : (⟨2, ![512, 16]⟩ : Shape).Idx := ix2 ⟨n % 512, Nat.mod_lt _ (by decide)⟩ ⟨k % 16, Nat.mod_lt _ (by decide)⟩

/-- The flat gather at (t, j, k). -/
theorem flat_apply {F : FTy → Type} [FloatOps F] (tab : Vec F ⟨2, ![512, 16]⟩ .f32) (idx : IVec ⟨2, ![32, 2048]⟩ 32)
    (h1 : (⟨2, ![512, 16]⟩ : Shape).ShapeCasts ⟨1, ![8192]⟩) (h2 : (⟨2, ![32, 2048]⟩ : Shape).ShapeCasts ⟨1, ![65536]⟩)
    (h3 : (⟨1, ![1048576]⟩ : Shape).ShapeCasts ⟨2, ![65536, 16]⟩) (h4 : (⟨2, ![65536, 16]⟩ : Shape).Slices ![0, 0] ⟨2, ![65536, 14]⟩)
    (h5 : (⟨2, ![65536, 14]⟩ : Shape).ShapeCasts ⟨3, ![32, 2048, 14]⟩)
    (hR : ∀ j, (idx j).toNat < 512) (t : Fin 32) (j : Fin 2048) (k : Fin 14) :
    shapeCast ⟨3, ![32, 2048, 14]⟩ (extractStridedSlice ⟨2, ![65536, 14]⟩ ![0, 0]
        (shapeCast ⟨2, ![65536, 16]⟩ (Columns.result (F := F) (shapeCast ⟨1, ![8192]⟩ tab h1) (shapeCast ⟨1, ![65536]⟩ idx h2)) h3) h4) h5 (ix3 t j k)
      = tab (at2 (idx (ix2 t j)).toNat k.val) := by
  have ht := t.isLt
  have hj := j.isLt
  have hk := k.isLt
  have hn := hR (ix2 t j)
  have e5 : Shape.reshapeEquiv h5 (ix3 t j k) = ix2 (⟨t.val * 2048 + j.val, by omega⟩ : Fin 65536) k := by
    refine Shape.reshapeEquiv_eq_of_rowMajor _ ?_
    rw [Shape.rowMajor_val_two, Shape.rowMajor_val_three]
    rfl
  have e3 : Shape.reshapeEquiv h3 (ix2 (⟨t.val * 2048 + j.val, by omega⟩ : Fin 65536) (⟨k.val, by omega⟩ : Fin 16))
      = ix1 (⟨(t.val * 2048 + j.val) * 16 + k.val, by omega⟩ : Fin 1048576) := by
    refine Shape.reshapeEquiv_eq_of_rowMajor _ ?_
    rw [Shape.rowMajor_val_two, Shape.rowMajor_val_one]
    rfl
  have e2 : Shape.reshapeEquiv h2 (Columns.at1 65536 (((t.val * 2048 + j.val) * 16 + k.val) / 16)) = ix2 t j := by
    refine Shape.reshapeEquiv_eq_of_rowMajor _ ?_
    rw [Shape.rowMajor_val_two, Shape.rowMajor_val_one, Columns.at1_val (by omega)]
    show t.val * 2048 + j.val = _
    omega
  have e1 : Shape.reshapeEquiv h1 (Columns.at1 8192 (16 * (idx (ix2 t j)).toNat + ((t.val * 2048 + j.val) * 16 + k.val) % 16)) = at2 (idx (ix2 t j)).toNat k.val := by
    refine Shape.reshapeEquiv_eq_of_rowMajor _ ?_
    rw [Shape.rowMajor_val_two, Shape.rowMajor_val_one, Columns.at1_val (by omega)]
    show (idx (ix2 t j)).toNat % 512 * 16 + k.val % 16 = _
    omega
  have e4 : extractStridedSlice ⟨2, ![65536, 14]⟩ ![0, 0]
        (shapeCast ⟨2, ![65536, 16]⟩ (Columns.result (F := F) (shapeCast ⟨1, ![8192]⟩ tab h1) (shapeCast ⟨1, ![65536]⟩ idx h2)) h3) h4
        (ix2 (⟨t.val * 2048 + j.val, by omega⟩ : Fin 65536) k)
      = shapeCast ⟨2, ![65536, 16]⟩ (Columns.result (F := F) (shapeCast ⟨1, ![8192]⟩ tab h1) (shapeCast ⟨1, ![65536]⟩ idx h2)) h3
        (ix2 (⟨t.val * 2048 + j.val, by omega⟩ : Fin 65536) (⟨k.val, by omega⟩ : Fin 16)) := by
    unfold extractStridedSlice
    congr 1
    funext a
    refine Fin.ext ?_
    match a with
    | ⟨0, _⟩ => exact Nat.zero_add _
    | ⟨1, _⟩ => exact Nat.zero_add _
  unfold shapeCast at e4 ⊢
  rw [e5, e4]
  show Columns.result (F := F) _ _ (Shape.reshapeEquiv h3 _) = _
  rw [e3]
  show tab (Shape.reshapeEquiv h1 (Columns.at1 8192 (16 * (idx (Shape.reshapeEquiv h2 (Columns.at1 65536 (((t.val * 2048 + j.val) * 16 + k.val) / 16)))).toNat + ((t.val * 2048 + j.val) * 16 + k.val) % 16))) = _
  rw [e2, e1]

/-- The dimension numbers of a gather of whole rows. -/
abbrev rowDims (wf : GatherDims.WF ⟨2, ![512, 16]⟩ ⟨3, ![32, 2048, 1]⟩ ⟨3, ![32, 2048, 16]⟩ [2] [0] [] [0] [] 2 ![1, 16]) :
    GatherDims ⟨2, ![512, 16]⟩ ⟨3, ![32, 2048, 1]⟩ ⟨3, ![32, 2048, 16]⟩ where
  offsetDims := [2]
  collapsedSliceDims := [0]
  operandBatchingDims := []
  startIndicesBatchingDims := []
  startIndexMap := [0]
  indexVectorDim := 2
  sliceSizes := ![1, 16]
  wf := wf

/-- The host's gather of rows at (t, j, k), its row number in range. -/
theorem host_apply {α : Type} (wf) (x : (⟨2, ![512, 16]⟩ : Shape).Idx → α) (idx : IVec ⟨3, ![32, 2048, 1]⟩ 32) (t : Fin 32) (j : Fin 2048) (k : Fin 16)
    (h : (idx (ix3 t j 0)).toNat < 512) :
    Host.gather (rowDims wf) x idx (ix3 t j k) = x (at2 (idx (ix3 t j 0)).toNat k.val) := by
  unfold Host.gather
  congr 1
  funext a
  refine Fin.ext ?_
  show (rowDims wf).start (ix3 t j k) idx a + (rowDims wf).batchCoord (ix3 t j k) a + (rowDims wf).offCoord (ix3 t j k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims wf).startIndexMap from List.mem_singleton.mpr rfl)]
    have hsi : (rowDims wf).siIdx (ix3 t j k) ⟨List.idxOf (0 : Fin 2) (rowDims wf).startIndexMap,
        List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    rw [hsi]
    show min (idx (ix3 t j 0)).toInt.toNat (512 - 1) + 0 + 0 = (idx (ix3 t j 0)).toNat % 512
    rw [BitVec.toInt_eq_toNat_cond, if_pos (by omega)]
    omega
  · have hk := k.isLt
    unfold GatherDims.start
    rw [dif_neg (show ¬ (1 : Fin 2) ∈ (rowDims wf).startIndexMap from (show ¬ (1 : Fin 2) ∈ ([0] : List (Fin 2)) by decide))]
    unfold GatherDims.offCoord
    rw [dif_pos ((GatherDims.mem_sKept _ _).mpr ⟨show ¬ (1 : Fin 2) ∈ ([0] : List (Fin 2)) by decide, List.not_mem_nil⟩)]
    show 0 + 0 + k.val = k.val % 16
    omega

end Cert.Rows

end
-- ==== Proof.GatherRef.lean ====
/-
  The reference's result at (t, j, k), for words that are row numbers: entry k of the row of the table that word (t, j) names.
  Its wrap-around of negative words and its fill of out-of-range ones do nothing then.
-/
module

public import proofs.«01_k».proof.Proof.GatherMath
public import proofs.«01_k».proof.Proof.Gen.GatherReferenceIdeal.Run

@[expose] public section

noncomputable section

namespace Cert.Proof.GatherRef

open Cert.GatherReferenceIdeal Cert.GatherReferenceIdeal.Gen Idealize.ShloMosaic Idealize.ShloMosaic.ValueIdx

variable {F : FTy → Type} [FloatOps F]

/-- The reference's words after its wrap-around of negative ones. -/
abbrev wrapped (idx : IVec S32x2048 32) : IVec S32x2048 32 :=
  select (cmpi .slt idx (broadcastInDim S32x2048 ![] bcast_S_S32x2048 (constantI S_ 32 0#32))) (addi idx (broadcastInDim S32x2048 ![] bcast_S_S32x2048 (constantI S_ 32 512#32))) idx

/-- The same with a last axis of one. -/
abbrev starts (idx : IVec S32x2048 32) : IVec S32x2048x1 32 := broadcastInDim S32x2048x1 ![0, 1] bcast_S32x2048_S32x2048x1_0_1 (wrapped idx)

/-- What the reference returns. -/
def value (tab : Vec F S512x16 .f32) (idx : IVec S32x2048 32) : Vec F S32x2048x14 .f32 :=
  extractStridedSlice S32x2048x14 ![0, 0, 0] (select (broadcastInDim S32x2048x16 ![0, 1] bcast_S32x2048_S32x2048x16_0_1 (Host.reduce IntOp.andi (andi (cmpi .sge (broadcastInDim S32x2048x1 ![0, 1] bcast_S32x2048_S32x2048x1_0_1 (select (cmpi .slt idx (broadcastInDim S32x2048 ![] bcast_S_S32x2048 (constantI S_ 32 0#32))) (addi idx (broadcastInDim S32x2048 ![] bcast_S_S32x2048 (constantI S_ 32 512#32))) idx)) (broadcastInDim S32x2048x1 ![] bcast_S_S32x2048x1 (constantI S_ 32 0#32))) (cmpi .sle (broadcastInDim S32x2048x1 ![0, 1] bcast_S32x2048_S32x2048x1_0_1 (select (cmpi .slt idx (broadcastInDim S32x2048 ![] bcast_S_S32x2048 (constantI S_ 32 0#32))) (addi idx (broadcastInDim S32x2048 ![] bcast_S_S32x2048 (constantI S_ 32 512#32))) idx)) (broadcastInDim S32x2048x1 ![0, 1, 2] bcast_S1x1x1_S32x2048x1_0_1_2 (broadcastInDim S1x1x1 ![2] bcast_S1_S1x1x1_2 (constantI S1 32 511#32))))) (constantI S_ 1 1#1) reducesTo_S32x2048x1_S32x2048_d2 h_S_)) (Host.gather gather_S512x16_S32x2048x1_S32x2048x16_2_0_n_n_0_2_116 tab (broadcastInDim S32x2048x1 ![0, 1] bcast_S32x2048_S32x2048x1_0_1 (select (cmpi .slt idx (broadcastInDim S32x2048 ![] bcast_S_S32x2048 (constantI S_ 32 0#32))) (addi idx (broadcastInDim S32x2048 ![] bcast_S_S32x2048 (constantI S_ 32 512#32))) idx))) (broadcastInDim S32x2048x16 ![] bcast_S_S32x2048x16 (constant S_ .f32 0x7FC00000#32))) slices_S32x2048x16_S32x2048x14_0_0_0

theorem wrapped_eq (idx : IVec S32x2048 32) (hR : ∀ j, (idx j).toNat < 512) : wrapped idx = idx := by
  funext j
  have h := hR j
  have h0 : ¬ (idx j).slt 0#32 = true := by
    rw [BitVec.slt_eq_decide, decide_eq_true_eq, BitVec.toInt_eq_toNat_cond, if_pos (by omega)]
    simp
  show Scalar.select (BitVec.ofBool ((idx j).slt 0#32)) _ (idx j) = idx j
  rw [Bool.not_eq_true] at h0
  rw [h0]
  rfl

theorem starts_apply (idx : IVec S32x2048 32) (hR : ∀ j, (idx j).toNat < 512) (t : Fin 32) (j : Fin 2048) (u : Fin 1) :
    starts idx (ix3 t j u) = idx (ix2 t j) := by
  unfold starts
  rw [wrapped_eq idx hR]
  exact broadcastInDim_apply _ _ _ _ _ (fun a => match a with | ⟨0, _⟩ => rfl | ⟨1, _⟩ => rfl)

/-- The reference at an index. -/
theorem value_apply (tab : Vec F S512x16 .f32) (idx : IVec S32x2048 32) (hR : ∀ j, (idx j).toNat < 512) (t : Fin 32) (j : Fin 2048) (k : Fin 14) :
    value tab idx (ix3 t j k) = tab (Rows.at2 (idx (ix2 t j)).toNat k.val) := by
  have hk := k.isLt
  have hn := hR (ix2 t j)
  unfold value
  rw [extractStridedSlice_apply _ _ _ (ix3 t j k) (ix3 t j (⟨k.val, by omega⟩ : Fin 16))
    (fun a => match a with | ⟨0, _⟩ => (Nat.zero_add _).symm | ⟨1, _⟩ => (Nat.zero_add _).symm | ⟨2, _⟩ => (Nat.zero_add _).symm)]
  rw [ValueIdx.select_apply]
  have hmask : broadcastInDim S32x2048x16 ![0, 1] bcast_S32x2048_S32x2048x16_0_1 (Host.reduce IntOp.andi (andi (cmpi .sge (starts idx) (broadcastInDim S32x2048x1 ![] bcast_S_S32x2048x1 (constantI S_ 32 0#32))) (cmpi .sle (starts idx) (broadcastInDim S32x2048x1 ![0, 1, 2] bcast_S1x1x1_S32x2048x1_0_1_2 (broadcastInDim S1x1x1 ![2] bcast_S1_S1x1x1_2 (constantI S1 32 511#32))))) (constantI S_ 1 1#1) reducesTo_S32x2048x1_S32x2048_d2 h_S_) (ix3 t j (⟨k.val, by omega⟩ : Fin 16)) = 1#1 := by
    refine (broadcastInDim_apply _ _ _ _ (ix2 t j) (fun a => match a with | ⟨0, _⟩ => rfl | ⟨1, _⟩ => rfl)).trans ?_
    refine Host.reduce_andi_one _ _ _ _ _ rfl fun i => ?_
    obtain ⟨a, b, c, rfl⟩ : ∃ (a : Fin 32) (b : Fin 2048) (c : Fin 1), i = ix3 a b c := ⟨_, _, _, eq_ix3 i⟩
    show IntOp.andi (BitVec.ofBool (BitVec.sle 0#32 (starts idx (ix3 a b c)))) (BitVec.ofBool (BitVec.sle (starts idx (ix3 a b c)) 511#32)) = 1#1
    rw [starts_apply idx hR]
    have h := hR (ix2 a b)
    generalize idx (ix2 a b) = w at h
    have a0 : BitVec.sle 0#32 w = true := by
      rw [BitVec.sle_eq_decide, decide_eq_true_eq, BitVec.toInt_eq_toNat_cond (x := w), if_pos (by omega)]
      have : (0#32).toInt = 0 := by decide
      omega
    have a1 : BitVec.sle w 511#32 = true := by
      rw [BitVec.sle_eq_decide, decide_eq_true_eq, BitVec.toInt_eq_toNat_cond (x := w), if_pos (by omega)]
      have : (511#32).toInt = 511 := by decide
      omega
    rw [a0, a1]
    rfl
  rw [hmask]
  show Host.gather (Rows.rowDims _) tab (starts idx) (ix3 t j (⟨k.val, by omega⟩ : Fin 16)) = _
  rw [Rows.host_apply _ _ _ _ _ _ (by rw [starts_apply idx hR]; exact hn), starts_apply idx hR]

end Cert.Proof.GatherRef

end
-- ==== Proof.GatherClaims.lean ====
/-
  The certificate's claims, each from its module: the gather's run at the bit-exact and at the ideal instance
  (`GatherSC.run_main`, `GatherSCI.run_main`), the reference's run (`GatherReferenceIdeal.Value.run`), and the two results equal
  index by index (`Rows.flat_apply`, `GatherRef.value_apply`).
-/
module

public import proofs.«01_k».proof.Defs
public import proofs.«01_k».proof.Proof.GatherRun
public import proofs.«01_k».proof.Proof.GatherIdealRun
public import proofs.«01_k».proof.Proof.GatherRef
public import proofs.«01_k».proof.Proof.Gen.GatherReferenceIdeal.Run
public import proofs.«01_k».proof.Proof.Gen.Pre_in_range
public import Idealize.ShloMosaic.Lib.Quiescent

@[expose] public section

namespace Cert.Proof

open Idealize.ShloMosaic Idealize.ShloMosaic.ValueIdx Idealize.SL.Sem

/-- The gather's frame at the bit-exact instance. -/
theorem frame_gather : Cert.quiescent_Gather := fun m ρ hpre =>
  (θ_run Cert.Gather.defs _ _).mono (fun _ h => ⟨fun c => ⟨(h.1 c).1, (h.1 c).2.1⟩, h.2⟩)
    (GatherSC.run_main (F := Bits) m ρ (GatherSC.inRange_of_pre m hpre))

/-- The gather's frame at the ideal instance. -/
theorem frame_gather_ideal : Cert.quiescent_GatherIdeal := fun m ρ hpre =>
  (θ_run Cert.GatherIdeal.defs _ _).mono (fun _ h => ⟨fun c => ⟨(h.1 c).1, (h.1 c).2.1⟩, h.2⟩)
    (GatherSCI.run_main (F := Ideal) m ρ (GatherSCI.inRange_of_pre m hpre))

/-- The reference's frame; it has no semaphore. -/
theorem frame_gather_reference : Cert.quiescent_GatherReferenceIdeal := fun m ρ _ =>
  (θ_run Cert.GatherReferenceIdeal.defs _ _).mono (fun r h => ⟨fun c => (h c).2, sem_eq_zero_of_no_sems (by decide) r.2⟩)
    (Cert.GatherReferenceIdeal.Value.run (F := Ideal) m ρ)

/-- The same frame under the precondition of the values. -/
theorem frame_gather_reference_pre : Cert.quiescent_GatherReferenceIdeal_pre_in_range := fun m ρ _ => frame_gather_reference m ρ trivial

/-- The two results are the same function of the arguments, when every word is a row number. -/
theorem value_eq (tab : Vec Ideal Cert.GatherIdeal.S512x16 .f32) (idx : IVec Cert.GatherIdeal.S32x2048 32) (hR : ∀ j, (idx j).toNat < 512) :
    GatherRef.value (F := Ideal) tab idx = GatherSCI.value (F := Ideal) tab idx := by
  funext i
  obtain ⟨t, j, k, rfl⟩ : ∃ (t : Fin 32) (j : Fin 2048) (k : Fin 14), i = ix3 t j k := ⟨_, _, _, eq_ix3 i⟩
  rw [GatherRef.value_apply tab idx hR]
  exact (Rows.flat_apply (F := Ideal) tab idx _ _ _ _ _ hR t j k).symm

/-- The gather returns what the reference returns. -/
theorem algebraic_gather : Cert.algebraic_GatherIdeal_GatherReferenceIdeal := by
  intro m ρ m' ρ' hpre hagree
  refine ⟨fun c => GatherSCI.value (F := Ideal) (m ((c.tc : Thread Cert.GatherIdeal.nD Cert.GatherIdeal.τ).loc Cert.GatherIdeal.main_arg0))
      (m ((c.tc : Thread Cert.GatherIdeal.nD Cert.GatherIdeal.τ).loc Cert.GatherIdeal.main_arg1)), ?_, ?_⟩
  · exact (θ_run Cert.GatherIdeal.defs _ _).mono (fun _ h c => ⟨(h.1 c).2.2, (h.1 c).1, (h.1 c).2.1⟩)
      (GatherSCI.run_main (F := Ideal) m ρ (GatherSCI.inRange_of_pre m hpre))
  · refine (θ_run Cert.GatherReferenceIdeal.defs _ _).mono (fun _ h c => ⟨(h c).1.trans ?_, (h c).2⟩)
      (Cert.GatherReferenceIdeal.Value.run (F := Ideal) m' ρ')
    rw [(hagree c).1, (hagree c).2]
    exact value_eq _ _ (GatherSCI.word_of_pre (F := Ideal) _ _ (hpre c))

end Cert.Proof

end
-- ==== Proof.Row.lean ====
module

public import Idealize.ShloMosaic.Lib.Pointwise

/-! The functions of one row that both programs compute, over the extended reals: the linear layer, the
normalisation of a row, the smooth gate, and the perplexity of the counts. -/

@[expose] public section

noncomputable section

namespace Cert.Row

open Idealize.ShloMosaic

/-- A row through a linear layer. -/
def lin {K N : ℕ} (x : Fin K → EReal) (w : Fin K → Fin N → EReal) (b : Fin N → EReal) : Fin N → EReal :=
  fun n => (∑ k, x k * w k n) + b n

/-- The mean of a row of 128 entries. -/
def mean (h : Fin 128 → EReal) : EReal := Ideal.div (∑ j, h j) (Ideal.ofBits .f32 0x43000000#32)

/-- A row normalised, scaled and shifted. -/
def normRow (h g b : Fin 128 → EReal) : Fin 128 → EReal :=
  fun j => Ideal.div (h j - mean h)
    (Ideal.sqrt (mean (fun k => (h k - mean h) * (h k - mean h)) + Ideal.ofBits .f32 0x3727C5AC#32)) * g j + b j

/-- The gate, entry by entry. -/
def gelu (h : Fin 128 → EReal) : Fin 128 → EReal :=
  fun j => Ideal.ofBits .f32 0x3F000000#32 * h j * (1 + Ideal.erf (h j * Ideal.ofBits .f32 0x3F3504F3#32))

/-- The two layers of a row. -/
def mlp {K N : ℕ} (x : Fin K → EReal) (w : Fin K → Fin 128 → EReal) (b g be : Fin 128 → EReal)
    (w' : Fin 128 → Fin N → EReal) (b' : Fin N → EReal) : Fin N → EReal :=
  lin (gelu (normRow (lin x w b) g be)) w' b'

/-- The share of one count. -/
def share (c : EReal) : EReal := Ideal.div c (Ideal.ofBits .f32 0x47800000#32)

/-- The perplexity of the counts. -/
def perp (c : Fin 512 → EReal) : EReal :=
  Ideal.exp (-∑ k, share (c k) * Ideal.log (share (c k) + Ideal.ofBits .f32 0x2EDBE6FF#32))

end Cert.Row

end
-- ==== Proof.DecodeRef.lean ====
module

public import proofs.«01_k».proof.Proof.Gen.DecodeReferenceIdeal
public import Idealize.ShloMosaic.Lib.StableHlo.Run

/-! The host program `DecodeReferenceIdeal` as the list of its 62 operations, one definition for the value of
each, and what its result buffers hold when it has run. -/

@[expose] public section

noncomputable section

namespace Cert.DecodeRef

open Cert.DecodeReferenceIdeal Cert.DecodeReferenceIdeal.Gen Idealize.ShloMosaic Idealize.ShloMosaic.TcCoe Idealize.SL.Sem Idealize.ShloMosaic.StableHlo

variable {F : FTy → Type} [FloatOps F]

/-- The arguments of the program. -/
structure Args (F : FTy → Type) where
  arg0 : (⟨S512x64, .f32⟩ : BufTy).Contents (Elt F)
  arg1 : (⟨S64x128, .f32⟩ : BufTy).Contents (Elt F)
  arg2 : (⟨S128, .f32⟩ : BufTy).Contents (Elt F)
  arg3 : (⟨S128, .f32⟩ : BufTy).Contents (Elt F)
  arg4 : (⟨S128, .f32⟩ : BufTy).Contents (Elt F)
  arg5 : (⟨S128x14, .f32⟩ : BufTy).Contents (Elt F)
  arg6 : (⟨S14, .f32⟩ : BufTy).Contents (Elt F)
  arg7 : (⟨S1x512, .f32⟩ : BufTy).Contents (Elt F)

def v0 (a : Args F) : (⟨S512x128, .f32⟩ : BufTy).Contents (Elt F) := ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)) a.arg0 a.arg1
def v1 (a : Args F) : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) a.arg2
def v2 (a : Args F) : (⟨S512x128, .f32⟩ : BufTy).Contents (Elt F) := (broadcastInDim S512x128 ![0, 1] bcast_S1x128_S512x128_0_1 : (⟨S1x128, .f32⟩ : BufTy).Contents (Elt F) → (⟨S512x128, .f32⟩ : BufTy).Contents (Elt F)) (v1 a)
def v3 (a : Args F) : (⟨S512x128, .f32⟩ : BufTy).Contents (Elt F) := (addf : (⟨S512x128, .f32⟩ : BufTy).Contents (Elt F) → (⟨S512x128, .f32⟩ : BufTy).Contents (Elt F) → (⟨S512x128, .f32⟩ : BufTy).Contents (Elt F)) (v0 a) (v2 a)
def cst (a : Args F) : (⟨S_, .f32⟩ : BufTy).Contents (Elt F) := (constant S_ .f32 0x00000000#32)
def v4 (a : Args F) : (⟨S512, .f32⟩ : BufTy).Contents (Elt F) := ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)) (v3 a) (cst a)
def v5 (a : Args F) : (⟨S512x1, .f32⟩ : BufTy).Contents (Elt F) := (broadcastInDim S512x1 ![0] bcast_S512_S512x1_0 : (⟨S512, .f32⟩ : BufTy).Contents (Elt F) → (⟨S512x1, .f32⟩ : BufTy).Contents (Elt F)) (v4 a)
def cst_0 (a : Args F) : (⟨S_, .f32⟩ : BufTy).Contents (Elt F) := (constant S_ .f32 0x43000000#32)
def v6 (a : Args F) : (⟨S512x1, .f32⟩ : BufTy).Contents (Elt F) := (broadcastInDim S512x1 ![] bcast_S_S512x1 : (⟨S_, .f32⟩ : BufTy).Contents (Elt F) → (⟨S512x1, .f32⟩ : BufTy).Contents (Elt F)) (cst_0 a)
def v7 (a : Args F) : (⟨S512x1, .f32⟩ : BufTy).Contents (Elt F) := (Host.divf : (⟨S512x1, .f32⟩ : BufTy).Contents (Elt F) → (⟨S512x1, .f32⟩ : BufTy).Contents (Elt F) → (⟨S512x1, .f32⟩ : BufTy).Contents (Elt F)) (v5 a) (v6 a)
def v8 (a : Args F) : (⟨S512x128, .f32⟩ : BufTy).Contents (Elt F) := (broadcastInDim S512x128 ![0, 1] bcast_S512x1_S512x128_0_1 : (⟨S512x1, .f32⟩ : BufTy).Contents (Elt F) → (⟨S512x128, .f32⟩ : BufTy).Contents (Elt F)) (v7 a)
def v9 (a : Args F) : (⟨S512x128, .f32⟩ : BufTy).Contents (Elt F) := (subf : (⟨S512x128, .f32⟩ : BufTy).Contents (Elt F) → (⟨S512x128, .f32⟩ : BufTy).Contents (Elt F) → (⟨S512x128, .f32⟩ : BufTy).Contents (Elt F)) (v3 a) (v8 a)
def v10 (a : Args F) : (⟨S512x128, .f32⟩ : BufTy).Contents (Elt F) := (mulf : (⟨S512x128, .f32⟩ : BufTy).Contents (Elt F) → (⟨S512x128, .f32⟩ : BufTy).Contents (Elt F) → (⟨S512x128, .f32⟩ : BufTy).Contents (Elt F)) (v9 a) (v9 a)
def cst_1 (a : Args F) : (⟨S_, .f32⟩ : BufTy).Contents (Elt F) := (constant S_ .f32 0x00000000#32)
def v11 (a : Args F) : (⟨S512, .f32⟩ : BufTy).Contents (Elt F) := ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)) (v10 a) (cst_1 a)
def v12 (a : Args F) : (⟨S512x1, .f32⟩ : BufTy).Contents (Elt F) := (broadcastInDim S512x1 ![0] bcast_S512_S512x1_0 : (⟨S512, .f32⟩ : BufTy).Contents (Elt F) → (⟨S512x1, .f32⟩ : BufTy).Contents (Elt F)) (v11 a)
def cst_2 (a : Args F) : (⟨S_, .f32⟩ : BufTy).Contents (Elt F) := (constant S_ .f32 0x43000000#32)
def v13 (a : Args F) : (⟨S512x1, .f32⟩ : BufTy).Contents (Elt F) := (broadcastInDim S512x1 ![] bcast_S_S512x1 : (⟨S_, .f32⟩ : BufTy).Contents (Elt F) → (⟨S512x1, .f32⟩ : BufTy).Contents (Elt F)) (cst_2 a)
def v14 (a : Args F) : (⟨S512x1, .f32⟩ : BufTy).Contents (Elt F) := (Host.divf : (⟨S512x1, .f32⟩ : BufTy).Contents (Elt F) → (⟨S512x1, .f32⟩ : BufTy).Contents (Elt F) → (⟨S512x1, .f32⟩ : BufTy).Contents (Elt F)) (v12 a) (v13 a)
def v15 (a : Args F) : (⟨S512x128, .f32⟩ : BufTy).Contents (Elt F) := (broadcastInDim S512x128 ![0, 1] bcast_S512x1_S512x128_0_1 : (⟨S512x1, .f32⟩ : BufTy).Contents (Elt F) → (⟨S512x128, .f32⟩ : BufTy).Contents (Elt F)) (v7 a)
def v16 (a : Args F) : (⟨S512x128, .f32⟩ : BufTy).Contents (Elt F) := (subf : (⟨S512x128, .f32⟩ : BufTy).Contents (Elt F) → (⟨S512x128, .f32⟩ : BufTy).Contents (Elt F) → (⟨S512x128, .f32⟩ : BufTy).Contents (Elt F)) (v3 a) (v15 a)
def cst_3 (a : Args F) : (⟨S_, .f32⟩ : BufTy).Contents (Elt F) := (constant S_ .f32 0x3727C5AC#32)
def v17 (a : Args F) : (⟨S512x1, .f32⟩ : BufTy).Contents (Elt F) := (broadcastInDim S512x1 ![] bcast_S_S512x1 : (⟨S_, .f32⟩ : BufTy).Contents (Elt F) → (⟨S512x1, .f32⟩ : BufTy).Contents (Elt F)) (cst_3 a)
def v18 (a : Args F) : (⟨S512x1, .f32⟩ : BufTy).Contents (Elt F) := (addf : (⟨S512x1, .f32⟩ : BufTy).Contents (Elt F) → (⟨S512x1, .f32⟩ : BufTy).Contents (Elt F) → (⟨S512x1, .f32⟩ : BufTy).Contents (Elt F)) (v14 a) (v17 a)
def v19 (a : Args F) : (⟨S512x1, .f32⟩ : BufTy).Contents (Elt F) := (Host.sqrt : (⟨S512x1, .f32⟩ : BufTy).Contents (Elt F) → (⟨S512x1, .f32⟩ : BufTy).Contents (Elt F)) (v18 a)
def v20 (a : Args F) : (⟨S512x128, .f32⟩ : BufTy).Contents (Elt F) := (broadcastInDim S512x128 ![0, 1] bcast_S512x1_S512x128_0_1 : (⟨S512x1, .f32⟩ : BufTy).Contents (Elt F) → (⟨S512x128, .f32⟩ : BufTy).Contents (Elt F)) (v19 a)
def v21 (a : Args F) : (⟨S512x128, .f32⟩ : BufTy).Contents (Elt F) := (Host.divf : (⟨S512x128, .f32⟩ : BufTy).Contents (Elt F) → (⟨S512x128, .f32⟩ : BufTy).Contents (Elt F) → (⟨S512x128, .f32⟩ : BufTy).Contents (Elt F)) (v16 a) (v20 a)
def v22 (a : Args F) : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) a.arg3
def v23 (a : Args F) : (⟨S512x128, .f32⟩ : BufTy).Contents (Elt F) := (broadcastInDim S512x128 ![0, 1] bcast_S1x128_S512x128_0_1 : (⟨S1x128, .f32⟩ : BufTy).Contents (Elt F) → (⟨S512x128, .f32⟩ : BufTy).Contents (Elt F)) (v22 a)
def v24 (a : Args F) : (⟨S512x128, .f32⟩ : BufTy).Contents (Elt F) := (mulf : (⟨S512x128, .f32⟩ : BufTy).Contents (Elt F) → (⟨S512x128, .f32⟩ : BufTy).Contents (Elt F) → (⟨S512x128, .f32⟩ : BufTy).Contents (Elt F)) (v21 a) (v23 a)
def v25 (a : Args F) : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) a.arg4
def v26 (a : Args F) : (⟨S512x128, .f32⟩ : BufTy).Contents (Elt F) := (broadcastInDim S512x128 ![0, 1] bcast_S1x128_S512x128_0_1 : (⟨S1x128, .f32⟩ : BufTy).Contents (Elt F) → (⟨S512x128, .f32⟩ : BufTy).Contents (Elt F)) (v25 a)
def v27 (a : Args F) : (⟨S512x128, .f32⟩ : BufTy).Contents (Elt F) := (addf : (⟨S512x128, .f32⟩ : BufTy).Contents (Elt F) → (⟨S512x128, .f32⟩ : BufTy).Contents (Elt F) → (⟨S512x128, .f32⟩ : BufTy).Contents (Elt F)) (v24 a) (v26 a)
def cst_4 (a : Args F) : (⟨S_, .f32⟩ : BufTy).Contents (Elt F) := (constant S_ .f32 0x3F000000#32)
def v28 (a : Args F) : (⟨S512x128, .f32⟩ : BufTy).Contents (Elt F) := (broadcastInDim S512x128 ![] bcast_S_S512x128 : (⟨S_, .f32⟩ : BufTy).Contents (Elt F) → (⟨S512x128, .f32⟩ : BufTy).Contents (Elt F)) (cst_4 a)
def v29 (a : Args F) : (⟨S512x128, .f32⟩ : BufTy).Contents (Elt F) := (mulf : (⟨S512x128, .f32⟩ : BufTy).Contents (Elt F) → (⟨S512x128, .f32⟩ : BufTy).Contents (Elt F) → (⟨S512x128, .f32⟩ : BufTy).Contents (Elt F)) (v28 a) (v27 a)
def v30 (a : Args F) : (⟨S512x128, .f32⟩ : BufTy).Contents (Elt F) := (Host.negf : (⟨S512x128, .f32⟩ : BufTy).Contents (Elt F) → (⟨S512x128, .f32⟩ : BufTy).Contents (Elt F)) (v27 a)
def cst_5 (a : Args F) : (⟨S_, .f32⟩ : BufTy).Contents (Elt F) := (constant S_ .f32 0x3F3504F3#32)
def v31 (a : Args F) : (⟨S512x128, .f32⟩ : BufTy).Contents (Elt F) := (broadcastInDim S512x128 ![] bcast_S_S512x128 : (⟨S_, .f32⟩ : BufTy).Contents (Elt F) → (⟨S512x128, .f32⟩ : BufTy).Contents (Elt F)) (cst_5 a)
def v32 (a : Args F) : (⟨S512x128, .f32⟩ : BufTy).Contents (Elt F) := (mulf : (⟨S512x128, .f32⟩ : BufTy).Contents (Elt F) → (⟨S512x128, .f32⟩ : BufTy).Contents (Elt F) → (⟨S512x128, .f32⟩ : BufTy).Contents (Elt F)) (v30 a) (v31 a)
def v33 (a : Args F) : (⟨S512x128, .f32⟩ : BufTy).Contents (Elt F) := (Host.erfc : (⟨S512x128, .f32⟩ : BufTy).Contents (Elt F) → (⟨S512x128, .f32⟩ : BufTy).Contents (Elt F)) (v32 a)
def v34 (a : Args F) : (⟨S512x128, .f32⟩ : BufTy).Contents (Elt F) := (mulf : (⟨S512x128, .f32⟩ : BufTy).Contents (Elt F) → (⟨S512x128, .f32⟩ : BufTy).Contents (Elt F) → (⟨S512x128, .f32⟩ : BufTy).Contents (Elt F)) (v29 a) (v33 a)
def v35 (a : Args F) : (⟨S512x14, .f32⟩ : BufTy).Contents (Elt F) := ((fun l r => Host.dotGeneral dot_S512x128_S128x14_S512x14_1_0_0_1_n_n none l r) : (⟨S512x128, .f32⟩ : BufTy).Contents (Elt F) → (⟨S128x14, .f32⟩ : BufTy).Contents (Elt F) → (⟨S512x14, .f32⟩ : BufTy).Contents (Elt F)) (v34 a) a.arg5
def v36 (a : Args F) : (⟨S1x14, .f32⟩ : BufTy).Contents (Elt F) := (broadcastInDim S1x14 ![1] bcast_S14_S1x14_1 : (⟨S14, .f32⟩ : BufTy).Contents (Elt F) → (⟨S1x14, .f32⟩ : BufTy).Contents (Elt F)) a.arg6
def v37 (a : Args F) : (⟨S512x14, .f32⟩ : BufTy).Contents (Elt F) := (broadcastInDim S512x14 ![0, 1] bcast_S1x14_S512x14_0_1 : (⟨S1x14, .f32⟩ : BufTy).Contents (Elt F) → (⟨S512x14, .f32⟩ : BufTy).Contents (Elt F)) (v36 a)
def v38 (a : Args F) : (⟨S512x14, .f32⟩ : BufTy).Contents (Elt F) := (addf : (⟨S512x14, .f32⟩ : BufTy).Contents (Elt F) → (⟨S512x14, .f32⟩ : BufTy).Contents (Elt F) → (⟨S512x14, .f32⟩ : BufTy).Contents (Elt F)) (v35 a) (v37 a)
def cst_6 (a : Args F) : (⟨S_, .f32⟩ : BufTy).Contents (Elt F) := (constant S_ .f32 0x47800000#32)
def v39 (a : Args F) : (⟨S1x512, .f32⟩ : BufTy).Contents (Elt F) := (broadcastInDim S1x512 ![] bcast_S_S1x512 : (⟨S_, .f32⟩ : BufTy).Contents (Elt F) → (⟨S1x512, .f32⟩ : BufTy).Contents (Elt F)) (cst_6 a)
def v40 (a : Args F) : (⟨S1x512, .f32⟩ : BufTy).Contents (Elt F) := (Host.divf : (⟨S1x512, .f32⟩ : BufTy).Contents (Elt F) → (⟨S1x512, .f32⟩ : BufTy).Contents (Elt F) → (⟨S1x512, .f32⟩ : BufTy).Contents (Elt F)) a.arg7 (v39 a)
def cst_7 (a : Args F) : (⟨S_, .f32⟩ : BufTy).Contents (Elt F) := (constant S_ .f32 0x2EDBE6FF#32)
def v41 (a : Args F) : (⟨S1x512, .f32⟩ : BufTy).Contents (Elt F) := (broadcastInDim S1x512 ![] bcast_S_S1x512 : (⟨S_, .f32⟩ : BufTy).Contents (Elt F) → (⟨S1x512, .f32⟩ : BufTy).Contents (Elt F)) (cst_7 a)
def v42 (a : Args F) : (⟨S1x512, .f32⟩ : BufTy).Contents (Elt F) := (addf : (⟨S1x512, .f32⟩ : BufTy).Contents (Elt F) → (⟨S1x512, .f32⟩ : BufTy).Contents (Elt F) → (⟨S1x512, .f32⟩ : BufTy).Contents (Elt F)) (v40 a) (v41 a)
def v43 (a : Args F) : (⟨S1x512, .f32⟩ : BufTy).Contents (Elt F) := (Host.log : (⟨S1x512, .f32⟩ : BufTy).Contents (Elt F) → (⟨S1x512, .f32⟩ : BufTy).Contents (Elt F)) (v42 a)
def v44 (a : Args F) : (⟨S1x512, .f32⟩ : BufTy).Contents (Elt F) := (mulf : (⟨S1x512, .f32⟩ : BufTy).Contents (Elt F) → (⟨S1x512, .f32⟩ : BufTy).Contents (Elt F) → (⟨S1x512, .f32⟩ : BufTy).Contents (Elt F)) (v40 a) (v43 a)
def cst_8 (a : Args F) : (⟨S_, .f32⟩ : BufTy).Contents (Elt F) := (constant S_ .f32 0x00000000#32)
def v45 (a : Args F) : (⟨S_, .f32⟩ : BufTy).Contents (Elt F) := ((fun x v => Host.reduceAdd x v reducesTo_S1x512_S_d0_1 h_S_) : (⟨S1x512, .f32⟩ : BufTy).Contents (Elt F) → (⟨S_, .f32⟩ : BufTy).Contents (Elt F) → (⟨S_, .f32⟩ : BufTy).Contents (Elt F)) (v44 a) (cst_8 a)
def v46 (a : Args F) : (⟨S_, .f32⟩ : BufTy).Contents (Elt F) := (Host.negf : (⟨S_, .f32⟩ : BufTy).Contents (Elt F) → (⟨S_, .f32⟩ : BufTy).Contents (Elt F)) (v45 a)
def v47 (a : Args F) : (⟨S_, .f32⟩ : BufTy).Contents (Elt F) := (Host.exp : (⟨S_, .f32⟩ : BufTy).Contents (Elt F) → (⟨S_, .f32⟩ : BufTy).Contents (Elt F)) (v46 a)
def c (a : Args F) : (⟨S_, .i32⟩ : BufTy).Contents (Elt F) := (constantI S_ 32 0#32)
def c0_v0 (a : Args F) : (⟨S_, .f32⟩ : BufTy).Contents (Elt F) := (sitofp .f32) (c a)
def v48 (a : Args F) : (⟨S512x16, .f32⟩ : BufTy).Contents (Elt F) := (fun x v => pad S512x16 ![0, 0] ![0, 2] ![0, 0] x v pads_S512x14_S512x16_000_020 h_S_) (v38 a) (c0_v0 a)
def v49 (a : Args F) : (⟨S1x1, .f32⟩ : BufTy).Contents (Elt F) := fun j => shapeCast S1x1 (v47 a) shapeCasts_S_S1x1 j

/-- The 62 operations in order. -/
abbrev ops : List (HloOp τ sig (Elt F)) :=
  [ binary main_arg0 main_arg1 main_v0 ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S512x128 ![0, 1] bcast_S1x128_S512x128_0_1 : (⟨S1x128, .f32⟩ : BufTy).Contents (Elt F) → (⟨S512x128, .f32⟩ : BufTy).Contents (Elt F)),
    binary main_v0 main_v2 main_v3 (addf : (⟨S512x128, .f32⟩ : BufTy).Contents (Elt F) → (⟨S512x128, .f32⟩ : BufTy).Contents (Elt F) → (⟨S512x128, .f32⟩ : BufTy).Contents (Elt F)),
    nullary main_cst (constant S_ .f32 0x00000000#32),
    binary main_v3 main_cst main_v4 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v4 main_v5 (broadcastInDim S512x1 ![0] bcast_S512_S512x1_0 : (⟨S512, .f32⟩ : BufTy).Contents (Elt F) → (⟨S512x1, .f32⟩ : BufTy).Contents (Elt F)),
    nullary main_cst_0 (constant S_ .f32 0x43000000#32),
    unary main_cst_0 main_v6 (broadcastInDim S512x1 ![] bcast_S_S512x1 : (⟨S_, .f32⟩ : BufTy).Contents (Elt F) → (⟨S512x1, .f32⟩ : BufTy).Contents (Elt F)),
    binary main_v5 main_v6 main_v7 (Host.divf : (⟨S512x1, .f32⟩ : BufTy).Contents (Elt F) → (⟨S512x1, .f32⟩ : BufTy).Contents (Elt F) → (⟨S512x1, .f32⟩ : BufTy).Contents (Elt F)),
    unary main_v7 main_v8 (broadcastInDim S512x128 ![0, 1] bcast_S512x1_S512x128_0_1 : (⟨S512x1, .f32⟩ : BufTy).Contents (Elt F) → (⟨S512x128, .f32⟩ : BufTy).Contents (Elt F)),
    binary main_v3 main_v8 main_v9 (subf : (⟨S512x128, .f32⟩ : BufTy).Contents (Elt F) → (⟨S512x128, .f32⟩ : BufTy).Contents (Elt F) → (⟨S512x128, .f32⟩ : BufTy).Contents (Elt F)),
    binary main_v9 main_v9 main_v10 (mulf : (⟨S512x128, .f32⟩ : BufTy).Contents (Elt F) → (⟨S512x128, .f32⟩ : BufTy).Contents (Elt F) → (⟨S512x128, .f32⟩ : BufTy).Contents (Elt F)),
    nullary main_cst_1 (constant S_ .f32 0x00000000#32),
    binary main_v10 main_cst_1 main_v11 ((fun x v => Host.reduceAdd x v reducesTo_S512x128_S512_d1 h_S_) : (⟨S512x128, .f32⟩ : BufTy).Contents (Elt F) → (⟨S_, .f32⟩ : BufTy).Contents (Elt F) → (⟨S512, .f32⟩ : BufTy).Contents (Elt F)),
    unary main_v11 main_v12 (broadcastInDim S512x1 ![0] bcast_S512_S512x1_0 : (⟨S512, .f32⟩ : BufTy).Contents (Elt F) → (⟨S512x1, .f32⟩ : BufTy).Contents (Elt F)),
    nullary main_cst_2 (constant S_ .f32 0x43000000#32),
    unary main_cst_2 main_v13 (broadcastInDim S512x1 ![] bcast_S_S512x1 : (⟨S_, .f32⟩ : BufTy).Contents (Elt F) → (⟨S512x1, .f32⟩ : BufTy).Contents (Elt F)),
    binary main_v12 main_v13 main_v14 (Host.divf : (⟨S512x1, .f32⟩ : BufTy).Contents (Elt F) → (⟨S512x1, .f32⟩ : BufTy).Contents (Elt F) → (⟨S512x1, .f32⟩ : BufTy).Contents (Elt F)),
    unary main_v7 main_v15 (broadcastInDim S512x128 ![0, 1] bcast_S512x1_S512x128_0_1 : (⟨S512x1, .f32⟩ : BufTy).Contents (Elt F) → (⟨S512x128, .f32⟩ : BufTy).Contents (Elt F)),
    binary main_v3 main_v15 main_v16 (subf : (⟨S512x128, .f32⟩ : BufTy).Contents (Elt F) → (⟨S512x128, .f32⟩ : BufTy).Contents (Elt F) → (⟨S512x128, .f32⟩ : BufTy).Contents (Elt F)),
    nullary main_cst_3 (constant S_ .f32 0x3727C5AC#32),
    unary main_cst_3 main_v17 (broadcastInDim S512x1 ![] bcast_S_S512x1 : (⟨S_, .f32⟩ : BufTy).Contents (Elt F) → (⟨S512x1, .f32⟩ : BufTy).Contents (Elt F)),
    binary main_v14 main_v17 main_v18 (addf : (⟨S512x1, .f32⟩ : BufTy).Contents (Elt F) → (⟨S512x1, .f32⟩ : BufTy).Contents (Elt F) → (⟨S512x1, .f32⟩ : BufTy).Contents (Elt F)),
    unary main_v18 main_v19 (Host.sqrt : (⟨S512x1, .f32⟩ : BufTy).Contents (Elt F) → (⟨S512x1, .f32⟩ : BufTy).Contents (Elt F)),
    unary main_v19 main_v20 (broadcastInDim S512x128 ![0, 1] bcast_S512x1_S512x128_0_1 : (⟨S512x1, .f32⟩ : BufTy).Contents (Elt F) → (⟨S512x128, .f32⟩ : BufTy).Contents (Elt F)),
    binary main_v16 main_v20 main_v21 (Host.divf : (⟨S512x128, .f32⟩ : BufTy).Contents (Elt F) → (⟨S512x128, .f32⟩ : BufTy).Contents (Elt F) → (⟨S512x128, .f32⟩ : BufTy).Contents (Elt F)),
    unary main_arg3 main_v22 (broadcastInDim S1x128 ![1] bcast_S128_S1x128_1 : (⟨S128, .f32⟩ : BufTy).Contents (Elt F) → (⟨S1x128, .f32⟩ : BufTy).Contents (Elt F)),
    unary main_v22 main_v23 (broadcastInDim S512x128 ![0, 1] bcast_S1x128_S512x128_0_1 : (⟨S1x128, .f32⟩ : BufTy).Contents (Elt F) → (⟨S512x128, .f32⟩ : BufTy).Contents (Elt F)),
    binary main_v21 main_v23 main_v24 (mulf : (⟨S512x128, .f32⟩ : BufTy).Contents (Elt F) → (⟨S512x128, .f32⟩ : BufTy).Contents (Elt F) → (⟨S512x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S512x128 ![0, 1] bcast_S1x128_S512x128_0_1 : (⟨S1x128, .f32⟩ : BufTy).Contents (Elt F) → (⟨S512x128, .f32⟩ : BufTy).Contents (Elt F)),
    binary main_v24 main_v26 main_v27 (addf : (⟨S512x128, .f32⟩ : BufTy).Contents (Elt F) → (⟨S512x128, .f32⟩ : BufTy).Contents (Elt F) → (⟨S512x128, .f32⟩ : BufTy).Contents (Elt F)),
    nullary main_cst_4 (constant S_ .f32 0x3F000000#32),
    unary main_cst_4 main_v28 (broadcastInDim S512x128 ![] bcast_S_S512x128 : (⟨S_, .f32⟩ : BufTy).Contents (Elt F) → (⟨S512x128, .f32⟩ : BufTy).Contents (Elt F)),
    binary main_v28 main_v27 main_v29 (mulf : (⟨S512x128, .f32⟩ : BufTy).Contents (Elt F) → (⟨S512x128, .f32⟩ : BufTy).Contents (Elt F) → (⟨S512x128, .f32⟩ : BufTy).Contents (Elt F)),
    unary main_v27 main_v30 (Host.negf : (⟨S512x128, .f32⟩ : BufTy).Contents (Elt F) → (⟨S512x128, .f32⟩ : BufTy).Contents (Elt F)),
    nullary main_cst_5 (constant S_ .f32 0x3F3504F3#32),
    unary main_cst_5 main_v31 (broadcastInDim S512x128 ![] bcast_S_S512x128 : (⟨S_, .f32⟩ : BufTy).Contents (Elt F) → (⟨S512x128, .f32⟩ : BufTy).Contents (Elt F)),
    binary main_v30 main_v31 main_v32 (mulf : (⟨S512x128, .f32⟩ : BufTy).Contents (Elt F) → (⟨S512x128, .f32⟩ : BufTy).Contents (Elt F) → (⟨S512x128, .f32⟩ : BufTy).Contents (Elt F)),
    unary main_v32 main_v33 (Host.erfc : (⟨S512x128, .f32⟩ : BufTy).Contents (Elt F) → (⟨S512x128, .f32⟩ : BufTy).Contents (Elt F)),
    binary main_v29 main_v33 main_v34 (mulf : (⟨S512x128, .f32⟩ : BufTy).Contents (Elt F) → (⟨S512x128, .f32⟩ : BufTy).Contents (Elt F) → (⟨S512x128, .f32⟩ : BufTy).Contents (Elt F)),
    binary main_v34 main_arg5 main_v35 ((fun l r => Host.dotGeneral dot_S512x128_S128x14_S512x14_1_0_0_1_n_n none l r) : (⟨S512x128, .f32⟩ : BufTy).Contents (Elt F) → (⟨S128x14, .f32⟩ : BufTy).Contents (Elt F) → (⟨S512x14, .f32⟩ : BufTy).Contents (Elt F)),
    unary main_arg6 main_v36 (broadcastInDim S1x14 ![1] bcast_S14_S1x14_1 : (⟨S14, .f32⟩ : BufTy).Contents (Elt F) → (⟨S1x14, .f32⟩ : BufTy).Contents (Elt F)),
    unary main_v36 main_v37 (broadcastInDim S512x14 ![0, 1] bcast_S1x14_S512x14_0_1 : (⟨S1x14, .f32⟩ : BufTy).Contents (Elt F) → (⟨S512x14, .f32⟩ : BufTy).Contents (Elt F)),
    binary main_v35 main_v37 main_v38 (addf : (⟨S512x14, .f32⟩ : BufTy).Contents (Elt F) → (⟨S512x14, .f32⟩ : BufTy).Contents (Elt F) → (⟨S512x14, .f32⟩ : BufTy).Contents (Elt F)),
    nullary main_cst_6 (constant S_ .f32 0x47800000#32),
    unary main_cst_6 main_v39 (broadcastInDim S1x512 ![] bcast_S_S1x512 : (⟨S_, .f32⟩ : BufTy).Contents (Elt F) → (⟨S1x512, .f32⟩ : BufTy).Contents (Elt F)),
    binary main_arg7 main_v39 main_v40 (Host.divf : (⟨S1x512, .f32⟩ : BufTy).Contents (Elt F) → (⟨S1x512, .f32⟩ : BufTy).Contents (Elt F) → (⟨S1x512, .f32⟩ : BufTy).Contents (Elt F)),
    nullary main_cst_7 (constant S_ .f32 0x2EDBE6FF#32),
    unary main_cst_7 main_v41 (broadcastInDim S1x512 ![] bcast_S_S1x512 : (⟨S_, .f32⟩ : BufTy).Contents (Elt F) → (⟨S1x512, .f32⟩ : BufTy).Contents (Elt F)),
    binary main_v40 main_v41 main_v42 (addf : (⟨S1x512, .f32⟩ : BufTy).Contents (Elt F) → (⟨S1x512, .f32⟩ : BufTy).Contents (Elt F) → (⟨S1x512, .f32⟩ : BufTy).Contents (Elt F)),
    unary main_v42 main_v43 (Host.log : (⟨S1x512, .f32⟩ : BufTy).Contents (Elt F) → (⟨S1x512, .f32⟩ : BufTy).Contents (Elt F)),
    binary main_v40 main_v43 main_v44 (mulf : (⟨S1x512, .f32⟩ : BufTy).Contents (Elt F) → (⟨S1x512, .f32⟩ : BufTy).Contents (Elt F) → (⟨S1x512, .f32⟩ : BufTy).Contents (Elt F)),
    nullary main_cst_8 (constant S_ .f32 0x00000000#32),
    binary main_v44 main_cst_8 main_v45 ((fun x v => Host.reduceAdd x v reducesTo_S1x512_S_d0_1 h_S_) : (⟨S1x512, .f32⟩ : BufTy).Contents (Elt F) → (⟨S_, .f32⟩ : BufTy).Contents (Elt F) → (⟨S_, .f32⟩ : BufTy).Contents (Elt F)),
    unary main_v45 main_v46 (Host.negf : (⟨S_, .f32⟩ : BufTy).Contents (Elt F) → (⟨S_, .f32⟩ : BufTy).Contents (Elt F)),
    unary main_v46 main_v47 (Host.exp : (⟨S_, .f32⟩ : BufTy).Contents (Elt F) → (⟨S_, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S512x14, .f32⟩) main_v38) (TRef.of (T := ⟨S_, .f32⟩) main_call0_v0) (TRef.of (T := ⟨S512x16, .f32⟩) main_v48) (fun x v => pad S512x16 ![0, 0] ![0, 2] ![0, 0] x v pads_S512x14_S512x16_000_020 h_S_),
    reshape main_v47 main_v49 (rfl : (.f32 : EltTy) = .f32) shapeCasts_S_S1x1 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., reshape_bufs_sub ..⟩

/-- The arguments read off a memory. -/
def argsOf (m : (ℓ : Loc nD τ sig) → Buf (Elt F) ℓ) (c : Dev nD) : Args F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7)⟩

set_option maxHeartbeats 8000000 in
/-- Every weakly fair run ends with each result at its value and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = v48 (argsOf m c)
      ∧ r.2.mem ((c.tc : Thread nD τ).loc main_v49) = v49 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v48).trans (by simp only [ops, TRef.binary, TRef.nullary, TRef.ternary, TRef.unary, TRef.quaternary, TRef.toBuf, TRef.ofBuf, cast_eq]; after_results_simp <;> rfl),
      (h c main_v49).trans (by simp only [ops, TRef.binary, TRef.nullary, TRef.ternary, TRef.unary, TRef.quaternary, TRef.toBuf, TRef.ofBuf, cast_eq]; after_results_simp <;> rfl),
      (h c main_arg0).trans (by simp only [ops, TRef.binary, TRef.nullary, TRef.ternary, TRef.unary, TRef.quaternary, TRef.toBuf, TRef.ofBuf, cast_eq]; after_results_simp <;> rfl),
      (h c main_arg1).trans (by simp only [ops, TRef.binary, TRef.nullary, TRef.ternary, TRef.unary, TRef.quaternary, TRef.toBuf, TRef.ofBuf, cast_eq]; after_results_simp <;> rfl),
      (h c main_arg2).trans (by simp only [ops, TRef.binary, TRef.nullary, TRef.ternary, TRef.unary, TRef.quaternary, TRef.toBuf, TRef.ofBuf, cast_eq]; after_results_simp <;> rfl),
      (h c main_arg3).trans (by simp only [ops, TRef.binary, TRef.nullary, TRef.ternary, TRef.unary, TRef.quaternary, TRef.toBuf, TRef.ofBuf, cast_eq]; after_results_simp <;> rfl),
      (h c main_arg4).trans (by simp only [ops, TRef.binary, TRef.nullary, TRef.ternary, TRef.unary, TRef.quaternary, TRef.toBuf, TRef.ofBuf, cast_eq]; after_results_simp <;> rfl),
      (h c main_arg5).trans (by simp only [ops, TRef.binary, TRef.nullary, TRef.ternary, TRef.unary, TRef.quaternary, TRef.toBuf, TRef.ofBuf, cast_eq]; after_results_simp <;> rfl),
      (h c main_arg6).trans (by simp only [ops, TRef.binary, TRef.nullary, TRef.ternary, TRef.unary, TRef.quaternary, TRef.toBuf, TRef.ofBuf, cast_eq]; after_results_simp <;> rfl),
      (h c main_arg7).trans (by simp only [ops, TRef.binary, TRef.nullary, TRef.ternary, TRef.unary, TRef.quaternary, TRef.toBuf, TRef.ofBuf, cast_eq]; after_results_simp <;> rfl)⟩)
    (run_seq scopedRefs_eq scopedSems_eq defs main (fun _ => ops) main_eq (fun _ => ops_sub) m ρ)

end Cert.DecodeRef

end
-- ==== Proof.DecodePay.lean ====
module

public import proofs.«01_k».proof.Proof.Row
public import proofs.«01_k».proof.Proof.DecodeRef
public import proofs.«01_k».proof.Proof.Gen.DecodeIdeal.Skeleton
public import Idealize.ShloMosaic.Lib.KernelVsHost

/-! The decoder's pure values at an index, on both sides. -/

@[expose] public section

noncomputable section

namespace Cert.DecodePay

open Cert.DecodeIdeal Cert.DecodeIdeal.Gen Idealize.ShloMosaic Cert.Row

theorem pay3_apply (v0 : Vec Ideal S512x64 .f32) (v1 : Vec Ideal S64x128 .f32) (v3 v7 v9 : Vec Ideal S1x128 .f32)
    (i : Fin 512) (j : Fin 128) :
    k0_pay3 v0 v1 v3 v7 v9 (ix2 i j) = gelu (normRow (lin (fun k => v0 (ix2 i k)) (fun k n => v1 (ix2 k n)) (fun n => v3 (ix2 0 n)))
      (fun n => v7 (ix2 0 n)) (fun n => v9 (ix2 0 n))) j := by
  unfold gelu normRow mean lin
  pointwise [k0_pay3]
  rfl

theorem pay1_apply (v40 : FVec Ideal S512x128 .f32) (v41 : Vec Ideal S128x16 .f32) (v44 : Vec Ideal S1x16 .f32)
    (i : Fin 512) (j : Fin 16) :
    k0_pay1 v40 v41 v44 (ix2 i j) = lin (fun k => v40 (ix2 i k)) (fun k n => v41 (ix2 k n)) (fun n => v44 (ix2 0 n)) j := by
  unfold lin
  pointwise [k0_pay1]

theorem pay2_eq (v49 : Vec Ideal S1x512 .f32) : k0_pay2 v49 = perp (fun k => v49 (ix2 0 k)) := by
  unfold perp share
  pointwise [k0_pay2]
  rw [Fin.sum_univ_one, zero_sub]
  rfl

theorem ref38_apply (a : DecodeRef.Args Ideal) (i : Fin 512) (j : Fin 14) :
    DecodeRef.v38 a (ix2 i j) = mlp (fun k => a.arg0 (ix2 i k)) (fun k n => a.arg1 (ix2 k n)) (fun n => a.arg2 (ix1 n))
      (fun n => a.arg3 (ix1 n)) (fun n => a.arg4 (ix1 n)) (fun k n => a.arg5 (ix2 k n)) (fun n => a.arg6 (ix1 n)) j := by
  unfold mlp gelu normRow mean lin
  pointwise [DecodeRef.v0, DecodeRef.v1, DecodeRef.v2, DecodeRef.v3, DecodeRef.cst, DecodeRef.v4, DecodeRef.v5, DecodeRef.cst_0, DecodeRef.v6, DecodeRef.v7, DecodeRef.v8, DecodeRef.v9, DecodeRef.v10, DecodeRef.cst_1, DecodeRef.v11, DecodeRef.v12, DecodeRef.cst_2, DecodeRef.v13, DecodeRef.v14, DecodeRef.v15, DecodeRef.v16, DecodeRef.cst_3, DecodeRef.v17, DecodeRef.v18, DecodeRef.v19, DecodeRef.v20, DecodeRef.v21, DecodeRef.v22, DecodeRef.v23, DecodeRef.v24, DecodeRef.v25, DecodeRef.v26, DecodeRef.v27, DecodeRef.cst_4, DecodeRef.v28, DecodeRef.v29, DecodeRef.v30, DecodeRef.cst_5, DecodeRef.v31, DecodeRef.v32, DecodeRef.v33, DecodeRef.v34, DecodeRef.v35, DecodeRef.v36, DecodeRef.v37, DecodeRef.v38, DecodeRef.cst_6, DecodeRef.v39, DecodeRef.v40, DecodeRef.cst_7, DecodeRef.v41, DecodeRef.v42, DecodeRef.v43, DecodeRef.v44, DecodeRef.cst_8, DecodeRef.v45, DecodeRef.v46, DecodeRef.v47, DecodeRef.c, DecodeRef.c0_v0, DecodeRef.v48, DecodeRef.v49, DecodeRef.argsOf]
  simp only [neg_mul, Ideal.erfc_neg]

theorem ref49_apply (a : DecodeRef.Args Ideal) (i j : Fin 1) :
    DecodeRef.v49 a (ix2 i j) = perp (fun k => a.arg7 (ix2 0 k)) := by
  unfold perp share
  pointwise [DecodeRef.v0, DecodeRef.v1, DecodeRef.v2, DecodeRef.v3, DecodeRef.cst, DecodeRef.v4, DecodeRef.v5, DecodeRef.cst_0, DecodeRef.v6, DecodeRef.v7, DecodeRef.v8, DecodeRef.v9, DecodeRef.v10, DecodeRef.cst_1, DecodeRef.v11, DecodeRef.v12, DecodeRef.cst_2, DecodeRef.v13, DecodeRef.v14, DecodeRef.v15, DecodeRef.v16, DecodeRef.cst_3, DecodeRef.v17, DecodeRef.v18, DecodeRef.v19, DecodeRef.v20, DecodeRef.v21, DecodeRef.v22, DecodeRef.v23, DecodeRef.v24, DecodeRef.v25, DecodeRef.v26, DecodeRef.v27, DecodeRef.cst_4, DecodeRef.v28, DecodeRef.v29, DecodeRef.v30, DecodeRef.cst_5, DecodeRef.v31, DecodeRef.v32, DecodeRef.v33, DecodeRef.v34, DecodeRef.v35, DecodeRef.v36, DecodeRef.v37, DecodeRef.v38, DecodeRef.cst_6, DecodeRef.v39, DecodeRef.v40, DecodeRef.cst_7, DecodeRef.v41, DecodeRef.v42, DecodeRef.v43, DecodeRef.v44, DecodeRef.cst_8, DecodeRef.v45, DecodeRef.v46, DecodeRef.v47, DecodeRef.c, DecodeRef.c0_v0, DecodeRef.v48, DecodeRef.v49, DecodeRef.argsOf]
  rw [Fin.sum_univ_one]

end Cert.DecodePay

end
-- ==== Proof.DecodeRun.lean ====
module

public import proofs.«01_k».proof.Proof.DecodePay
public import proofs.«01_k».proof.Proof.Gen.DecodeIdeal.Frame

/-! The decoder's run: its two result arrays as functions of the argument arrays. -/

@[expose] public section

noncomputable section

namespace Cert.DecodeRun

open Cert.DecodeIdeal Cert.DecodeIdeal.Gen Idealize.ShloMosaic Idealize.ShloMosaic.TcCoe Idealize.SL.Sem Cert.Row

theorem hz : (![0, 0] : Fin 2 → Nat) = fun _ => 0 := funext fun a => by fin_cases a <;> rfl

section
variable {F : FTy → Type} [FloatOps F]

theorem out8 (c : Dev nD) (arg0 : Memref sig .tc .vmem S512x64 .f32) (h0 : arg0.IsWhole) (arg1 : Memref sig .tc .vmem S64x128 .f32) (h1 : arg1.IsWhole) (arg2 : Memref sig .tc .vmem S1x128 .f32) (h2 : arg2.IsWhole) (arg3 : Memref sig .tc .vmem S1x128 .f32) (h3 : arg3.IsWhole) (arg4 : Memref sig .tc .vmem S1x128 .f32) (h4 : arg4.IsWhole) (arg5 : Memref sig .tc .vmem S128x16 .f32) (h5 : arg5.IsWhole) (arg6 : Memref sig .tc .vmem S1x16 .f32) (h6 : arg6.IsWhole) (arg7 : Memref sig .tc .vmem S1x512 .f32) (h7 : arg7.IsWhole) (arg8 : Memref sig .tc .vmem S512x16 .f32) (h8 : arg8.IsWhole) (arg9 : Memref sig .tc .smem S1x1 .f32) (h9 : arg9.IsWhole)
    (x0 : Vec F S512x64 .f32) (x1 : Vec F S64x128 .f32) (x2 : Vec F S1x128 .f32) (x3 : Vec F S1x128 .f32) (x4 : Vec F S1x128 .f32) (x5 : Vec F S128x16 .f32) (x6 : Vec F S1x16 .f32) (x7 : Vec F S1x512 .f32) :
    out0_A_8 c arg0 h0 arg1 h1 arg2 h2 arg3 h3 arg4 h4 arg5 h5 arg6 h6 arg7 h7 arg8 h8 arg9 h9 x0 x1 x2 x3 x4 x5 x6 x7 = k0_pay1 (k0_pay3 x0 x1 x2 x3 x4) x5 x6 := by
  unfold out0_A_8
  rw [View.read_writes_eq_canon _ _ _ (cover0_A_8 c arg0 h0 arg1 h1 arg2 h2 arg3 h3 arg4 h4 arg5 h5 arg6 h6 arg7 h7 arg8 h8 arg9 h9 x0 x1 x2 x3 x4 x5 x6 x7)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, View.ld_unit_zero (S := S512x64) hz, View.ld_unit_zero (S := S64x128) hz, View.ld_unit_zero (S := S1x128) hz, View.ld_unit_zero (S := S128x16) hz, View.ld_unit_zero (S := S1x16) hz]

theorem out9 (c : Dev nD) (arg0 : Memref sig .tc .vmem S512x64 .f32) (h0 : arg0.IsWhole) (arg1 : Memref sig .tc .vmem S64x128 .f32) (h1 : arg1.IsWhole) (arg2 : Memref sig .tc .vmem S1x128 .f32) (h2 : arg2.IsWhole) (arg3 : Memref sig .tc .vmem S1x128 .f32) (h3 : arg3.IsWhole) (arg4 : Memref sig .tc .vmem S1x128 .f32) (h4 : arg4.IsWhole) (arg5 : Memref sig .tc .vmem S128x16 .f32) (h5 : arg5.IsWhole) (arg6 : Memref sig .tc .vmem S1x16 .f32) (h6 : arg6.IsWhole) (arg7 : Memref sig .tc .vmem S1x512 .f32) (h7 : arg7.IsWhole) (arg8 : Memref sig .tc .vmem S512x16 .f32) (h8 : arg8.IsWhole) (arg9 : Memref sig .tc .smem S1x1 .f32) (h9 : arg9.IsWhole)
    (x0 : Vec F S512x64 .f32) (x1 : Vec F S64x128 .f32) (x2 : Vec F S1x128 .f32) (x3 : Vec F S1x128 .f32) (x4 : Vec F S1x128 .f32) (x5 : Vec F S128x16 .f32) (x6 : Vec F S1x16 .f32) (x7 : Vec F S1x512 .f32) :
    out0_A_9 c arg0 h0 arg1 h1 arg2 h2 arg3 h3 arg4 h4 arg5 h5 arg6 h6 arg7 h7 arg8 h8 arg9 h9 x0 x1 x2 x3 x4 x5 x6 x7 = fun _ => k0_pay2 x7 := by
  unfold out0_A_9
  rw [View.read_writes_eq_canon _ _ _ (cover0_A_9 c arg0 h0 arg1 h1 arg2 h2 arg3 h3 arg4 h4 arg5 h5 arg6 h6 arg7 h7 arg8 h8 arg9 h9 x0 x1 x2 x3 x4 x5 x6 x7)]
  unfold kernelRun0_A
  dsimp only
  sl_unfold_words
  rw [View.canon_unit_zero hz]
  simp only [View.readAt_eq_ld, h7.read_unread, View.ld_unit_zero (S := S1x512) hz]
  rfl

variable (m : (ℓ : Loc nD τ sig) → Buf (Elt F) ℓ) (ρ : Dev nD → PrngReg)

theorem idx0 : ∀ t : Fin cfg0.N, win0_0.index t (0 : Fin 2) = 0 ∧ win0_0.index t (1 : Fin 2) = 0 :=
  (by decide +kernel : ∀ t : Fin grid0.N, _)

theorem emb0 (t : Fin cfg0.N) (j : S512x64.Idx) : ((cfg0.win 0).blk t).view.emb j = j := by
  obtain ⟨e0, e1⟩ := idx0 t
  funext a; apply Fin.ext
  match a with
  | ⟨0, _⟩ => show win0_0.index t (0 : Fin 2) * 512 + 1 * (j 0).val = (j 0).val; omega
  | ⟨1, _⟩ => show win0_0.index t (1 : Fin 2) * 64 + 1 * (j 1).val = (j 1).val; omega

theorem iblk0 (c : Dev nD) (t : Fin cfg0.N) : iblk m c 0 t = V m c main_arg0 := by
  funext j; show V m c main_arg0 (((cfg0.win 0).blk t).view.emb j) = V m c main_arg0 j; rw [emb0]

theorem idx1 : ∀ t : Fin cfg0.N, win0_1.index t (0 : Fin 2) = 0 ∧ win0_1.index t (1 : Fin 2) = 0 :=
  (by decide +kernel : ∀ t : Fin grid0.N, _)

theorem emb1 (t : Fin cfg0.N) (j : S64x128.Idx) : ((cfg0.win 1).blk t).view.emb j = j := by
  obtain ⟨e0, e1⟩ := idx1 t
  funext a; apply Fin.ext
  match a with
  | ⟨0, _⟩ => show win0_1.index t (0 : Fin 2) * 64 + 1 * (j 0).val = (j 0).val; omega
  | ⟨1, _⟩ => show win0_1.index t (1 : Fin 2) * 128 + 1 * (j 1).val = (j 1).val; omega

theorem iblk1 (c : Dev nD) (t : Fin cfg0.N) : iblk m c 1 t = V m c main_arg1 := by
  funext j; show V m c main_arg1 (((cfg0.win 1).blk t).view.emb j) = V m c main_arg1 j; rw [emb1]

theorem idx2 : ∀ t : Fin cfg0.N, win0_2.index t (0 : Fin 2) = 0 ∧ win0_2.index t (1 : Fin 2) = 0 :=
  (by decide +kernel : ∀ t : Fin grid0.N, _)

theorem emb2 (t : Fin cfg0.N) (j : S1x128.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem iblk2 (c : Dev nD) (t : Fin cfg0.N) : iblk m c 2 t = V m c main_v3 := by
  funext j; show V m c main_v3 (((cfg0.win 2).blk t).view.emb j) = V m c main_v3 j; rw [emb2]

theorem idx3 : ∀ t : Fin cfg0.N, win0_3.index t (0 : Fin 2) = 0 ∧ win0_3.index t (1 : Fin 2) = 0 :=
  (by decide +kernel : ∀ t : Fin grid0.N, _)

theorem emb3 (t : Fin cfg0.N) (j : S1x128.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem iblk3 (c : Dev nD) (t : Fin cfg0.N) : iblk m c 3 t = V m c main_v4 := by
  funext j; show V m c main_v4 (((cfg0.win 3).blk t).view.emb j) = V m c main_v4 j; rw [emb3]

theorem idx4 : ∀ t : Fin cfg0.N, win0_4.index t (0 : Fin 2) = 0 ∧ win0_4.index t (1 : Fin 2) = 0 :=
  (by decide +kernel : ∀ t : Fin grid0.N, _)

theorem emb4 (t : Fin cfg0.N) (j : S1x128.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem iblk4 (c : Dev nD) (t : Fin cfg0.N) : iblk m c 4 t = V m c main_v5 := by
  funext j; show V m c main_v5 (((cfg0.win 4).blk t).view.emb j) = V m c main_v5 j; rw [emb4]

theorem idx5 : ∀ t : Fin cfg0.N, win0_5.index t (0 : Fin 2) = 0 ∧ win0_5.index t (1 : Fin 2) = 0 :=
  (by decide +kernel : ∀ t : Fin grid0.N, _)

theorem emb5 (t : Fin cfg0.N) (j : S128x16.Idx) : ((cfg0.win 5).blk t).view.emb j = j := by
  obtain ⟨e0, e1⟩ := idx5 t
  funext a; apply Fin.ext
  match a with
  | ⟨0, _⟩ => show win0_5.index t (0 : Fin 2) * 128 + 1 * (j 0).val = (j 0).val; omega
  | ⟨1, _⟩ => show win0_5.index t (1 : Fin 2) * 16 + 1 * (j 1).val = (j 1).val; omega

theorem iblk5 (c : Dev nD) (t : Fin cfg0.N) : iblk m c 5 t = V m c main_v0 := by
  funext j; show V m c main_v0 (((cfg0.win 5).blk t).view.emb j) = V m c main_v0 j; rw [emb5]

theorem idx6 : ∀ t : Fin cfg0.N, win0_6.index t (0 : Fin 2) = 0 ∧ win0_6.index t (1 : Fin 2) = 0 :=
  (by decide +kernel : ∀ t : Fin grid0.N, _)

theorem emb6 (t : Fin cfg0.N) (j : S1x16.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 16 + 1 * (j 1).val = (j 1).val; omega

theorem iblk6 (c : Dev nD) (t : Fin cfg0.N) : iblk m c 6 t = V m c main_v2 := by
  funext j; show V m c main_v2 (((cfg0.win 6).blk t).view.emb j) = V m c main_v2 j; rw [emb6]

theorem idx7 : ∀ t : Fin cfg0.N, win0_7.index t (0 : Fin 2) = 0 ∧ win0_7.index t (1 : Fin 2) = 0 :=
  (by decide +kernel : ∀ t : Fin grid0.N, _)

theorem emb7 (t : Fin cfg0.N) (j : S1x512.Idx) : ((cfg0.win 7).blk t).view.emb j = j := by
  obtain ⟨e0, e1⟩ := idx7 t
  funext a; apply Fin.ext
  match a with
  | ⟨0, _⟩ => show win0_7.index t (0 : Fin 2) * 1 + 1 * (j 0).val = (j 0).val; omega
  | ⟨1, _⟩ => show win0_7.index t (1 : Fin 2) * 512 + 1 * (j 1).val = (j 1).val; omega

theorem iblk7 (c : Dev nD) (t : Fin cfg0.N) : iblk m c 7 t = V m c main_arg7 := by
  funext j; show V m c main_arg7 (((cfg0.win 7).blk t).view.emb j) = V m c main_arg7 j; rw [emb7]

theorem idx8 : ∀ t : Fin cfg0.N, win0_8.index t (0 : Fin 2) = 0 ∧ win0_8.index t (1 : Fin 2) = 0 :=
  (by decide +kernel : ∀ t : Fin grid0.N, _)

theorem emb8 (t : Fin cfg0.N) (j : S512x16.Idx) : ((cfg0.win 8).blk t).view.emb j = j := by
  obtain ⟨e0, e1⟩ := idx8 t
  funext a; apply Fin.ext
  match a with
  | ⟨0, _⟩ => show win0_8.index t (0 : Fin 2) * 512 + 1 * (j 0).val = (j 0).val; omega
  | ⟨1, _⟩ => show win0_8.index t (1 : Fin 2) * 16 + 1 * (j 1).val = (j 1).val; omega

theorem cut8 (t : Fin cfg0.N) (X : Vec F S512x16 .f32) :
    (cfg0.win 8).cut (grid0.coords t) X = ((cfg0.win 8).blk t).view.read (Elt F) X := by
  funext j
  show X j = X (((cfg0.win 8).blk t).view.emb j)
  rw [emb8]

theorem covered8 (i : S512x16.Idx) :
    ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

theorem idx9 : ∀ t : Fin cfg0.N, win0_9.index t (0 : Fin 2) = 0 ∧ win0_9.index t (1 : Fin 2) = 0 :=
  (by decide +kernel : ∀ t : Fin grid0.N, _)

theorem emb9 (t : Fin cfg0.N) (j : S1x1.Idx) : ((cfg0.win 9).blk t).view.emb j = j := by
  obtain ⟨e0, e1⟩ := idx9 t
  funext a; apply Fin.ext
  match a with
  | ⟨0, _⟩ => show win0_9.index t (0 : Fin 2) * 1 + 1 * (j 0).val = (j 0).val; omega
  | ⟨1, _⟩ => show win0_9.index t (1 : Fin 2) * 1 + 1 * (j 1).val = (j 1).val; omega

theorem cut9 (t : Fin cfg0.N) (X : Vec F S1x1 .f32) :
    (cfg0.win 9).cut (grid0.coords t) X = ((cfg0.win 9).blk t).view.read (Elt F) X := by
  funext j
  show X j = X (((cfg0.win 9).blk t).view.emb j)
  rw [emb9]

theorem covered9 (i : S1x1.Idx) :
    ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩

/-- The result array of window 8 as a function of what the call finds. -/
def G8 (c : Dev nD) : Vec F S512x16 .f32 :=
  k0_pay1 (k0_pay3 (V m c main_arg0) (V m c main_arg1) (V m c main_v3) (V m c main_v4) (V m c main_v5)) (V m c main_v0) (V m c main_v2)

theorem flushed8 (c : Dev nD) (t : Fin cfg0.N) :
    (dats m 0 c).flushed 8 t = ((cfg0.win 8).blk t).view.read (Elt F) (G8 m c) := by
  show (cfg0.win 8).cut (grid0.coords t) ((dats m 0 c).after 8 t) = _
  rw [after0_8]
  unfold outsAt0
  dsimp only
  rw [out8, iblk0, iblk1, iblk2, iblk3, iblk4, iblk5, iblk6]
  exact cut8 t _

theorem final8 (c : Dev nD) : (dats m 0 c).arrAt 8 cfg0.N = G8 m c :=
  (dats m 0 c).arrAt_eq_of_cover 8 (G8 m c) (fun t _ => flushed8 m c t) covered8

/-- The result array of window 9 as a function of what the call finds. -/
def G9 (c : Dev nD) : Vec F S1x1 .f32 :=
  (fun _ => k0_pay2 (V m c main_arg7))

theorem flushed9 (c : Dev nD) (t : Fin cfg0.N) :
    (dats m 0 c).flushed 9 t = ((cfg0.win 9).blk t).view.read (Elt F) (G9 m c) := by
  show (cfg0.win 9).cut (grid0.coords t) ((dats m 0 c).after 9 t) = _
  rw [after0_9]
  unfold outsAt0
  dsimp only
  rw [out9, iblk7]
  exact cut9 t _

theorem final9 (c : Dev nD) : (dats m 0 c).arrAt 9 cfg0.N = G9 m c :=
  (dats m 0 c).arrAt_eq_of_cover 9 (G9 m c) (fun t _ => flushed9 m c t) covered9

theorem run : θ_run defs (onTc (τ := τ) (main (F := F))) ⟨m, fun _ => 0, ρ⟩ fun r => ∀ c : Dev nD,
      r.2.mem ((c.tc : Thread nD τ).loc main_v6_0) = G8 m c ∧ r.2.mem ((c.tc : Thread nD τ).loc main_v6_1) = G9 m c :=
  (θ_run defs _ _).mono (fun _ h c => ⟨((h c).1 8).trans (final8 m c), ((h c).1 9).trans (final9 m c)⟩) (run_main m ρ)

theorem V_v0 (c : Dev nD) : V m c main_v0
    = pad S128x16 ![0, 0] ![0, 2] ![0, 0] (m ((c : Thread nD τ).loc main_arg5) : Vec F S128x14 .f32)
        (sitofp .f32 (constantI S_ 32 0#32) : Vec F S_ .f32) pads_S128x14_S128x16_000_020 h_S_ := by
  unfold V
  simp only [hostOps0, hostOps0_1, hostOps0_2, hostOps0_3, hostOps0_4, List.flatten_cons, List.flatten_nil, List.append_nil, List.cons_append, List.nil_append]
  after_results_simp
  rfl

theorem V_v2 (c : Dev nD) : V m c main_v2
    = shapeCast S1x16 (pad S16 ![0] ![2] ![0] (m ((c : Thread nD τ).loc main_arg6) : Vec F S14 .f32)
        (sitofp .f32 (constantI S_ 32 0#32) : Vec F S_ .f32) pads_S14_S16_020 h_S_) shapeCasts_S16_S1x16 := by
  unfold V
  simp only [hostOps0, hostOps0_1, hostOps0_2, hostOps0_3, hostOps0_4, List.flatten_cons, List.flatten_nil, List.append_nil, List.cons_append, List.nil_append]
  after_results_simp
  rfl

theorem V_v3 (c : Dev nD) : V m c main_v3
    = shapeCast S1x128 (m ((c : Thread nD τ).loc main_arg2) : Vec F S128 .f32) shapeCasts_S128_S1x128 := by
  unfold V
  simp only [hostOps0, hostOps0_1, hostOps0_2, hostOps0_3, hostOps0_4, List.flatten_cons, List.flatten_nil, List.append_nil, List.cons_append, List.nil_append]
  after_results_simp
  rfl

theorem V_v4 (c : Dev nD) : V m c main_v4
    = shapeCast S1x128 (m ((c : Thread nD τ).loc main_arg3) : Vec F S128 .f32) shapeCasts_S128_S1x128 := by
  unfold V
  simp only [hostOps0, hostOps0_1, hostOps0_2, hostOps0_3, hostOps0_4, List.flatten_cons, List.flatten_nil, List.append_nil, List.cons_append, List.nil_append]
  after_results_simp
  rfl

theorem V_v5 (c : Dev nD) : V m c main_v5
    = shapeCast S1x128 (m ((c : Thread nD τ).loc main_arg4) : Vec F S128 .f32) shapeCasts_S128_S1x128 := by
  unfold V
  simp only [hostOps0, hostOps0_1, hostOps0_2, hostOps0_3, hostOps0_4, List.flatten_cons, List.flatten_nil, List.append_nil, List.cons_append, List.nil_append]
  after_results_simp
  rfl

end

end Cert.DecodeRun

end
-- ==== Proof.DecodeMath.lean ====
module

public import proofs.«01_k».proof.Proof.DecodeRun

/-! The decoder's results and the reference's are the same functions of the arguments. -/

@[expose] public section

noncomputable section

namespace Cert.DecodeMath

open Cert.DecodeIdeal Cert.DecodeIdeal.Gen Idealize.ShloMosaic Idealize.ShloMosaic.TcCoe Cert.Row Cert.DecodePay Cert.DecodeRun

/-- A 512 by 14 or 128 by 14 array padded by two columns, at an index of the array. -/
theorem pad2_inside {R : ℕ} (x : (⟨2, ![R, 14]⟩ : Shape).Idx → EReal) (v : S_.Idx → EReal)
    (h : (⟨2, ![R, 14]⟩ : Shape).Pads ![0, 0] ![0, 2] ![0, 0] ⟨2, ![R, 16]⟩) (i : Fin R) (j : Fin 16) (hj : j.val < 14) :
    pad ⟨2, ![R, 16]⟩ ![0, 0] ![0, 2] ![0, 0] x v h h_S_ (ix2 i j) = x (ix2 i ⟨j.val, hj⟩) :=
  pad_apply_of_inside _ _ _ _ _ _ _ _ _ fun a => by
    match a with
    | ⟨0, _⟩ => show i.val = 0 + i.val * 1; omega
    | ⟨1, _⟩ => show j.val = 0 + j.val * 1; omega

/-- The same, at an index of the padding. -/
theorem pad2_outside {R : ℕ} (x : (⟨2, ![R, 14]⟩ : Shape).Idx → EReal) (v : S_.Idx → EReal)
    (h : (⟨2, ![R, 14]⟩ : Shape).Pads ![0, 0] ![0, 2] ![0, 0] ⟨2, ![R, 16]⟩) (i : Fin R) (j : Fin 16) (hj : ¬j.val < 14) :
    pad ⟨2, ![R, 16]⟩ ![0, 0] ![0, 2] ![0, 0] x v h h_S_ (ix2 i j) = v (Shape.Idx.first h_S_) :=
  pad_apply_of_not_inside _ _ _ _ _ _ _ _ (1 : Fin 2) fun hh => by
    have h2 : (j.val - 0) / (0 + 1) < 14 := hh.2.2
    omega

theorem pad1_inside (x : S14.Idx → EReal) (v : S_.Idx → EReal) (h : S14.Pads ![0] ![2] ![0] S16) (j : Fin 16)
    (hj : j.val < 14) : pad S16 ![0] ![2] ![0] x v h h_S_ (ix1 j) = x (ix1 ⟨j.val, hj⟩) :=
  pad_apply_of_inside _ _ _ _ _ _ _ _ _ fun a => by
    match a with
    | ⟨0, _⟩ => show j.val = 0 + j.val * 1; omega

theorem pad1_outside (x : S14.Idx → EReal) (v : S_.Idx → EReal) (h : S14.Pads ![0] ![2] ![0] S16) (j : Fin 16)
    (hj : ¬j.val < 14) : pad S16 ![0] ![2] ![0] x v h h_S_ (ix1 j) = v (Shape.Idx.first h_S_) :=
  pad_apply_of_not_inside _ _ _ _ _ _ _ _ (0 : Fin 1) fun hh => by
    have h2 : (j.val - 0) / (0 + 1) < 14 := hh.2.2
    omega

/-- The padding value. -/
theorem zero_val (i : S_.Idx) : (sitofp .f32 (constantI S_ 32 0#32) : FVec Ideal S_ .f32) i = 0 := by
  exact sitofp_zero

variable (m : (ℓ : Loc nD τ sig) → Buf (Elt Ideal) ℓ)

theorem row_apply {α : Type} (x : S128.Idx → α) (n : Fin 128) : shapeCast S1x128 x shapeCasts_S128_S1x128 (ix2 0 n) = x (ix1 n) := by
  pointwise []

theorem row16_apply {α : Type} (x : S16.Idx → α) (n : Fin 16) : shapeCast S1x16 x shapeCasts_S16_S1x16 (ix2 0 n) = x (ix1 n) := by
  pointwise []

/-- The table the decoder leaves is the reference's. -/
theorem table_eq (c : Dev nD) (a : DecodeRef.Args Ideal)
    (h0 : m ((c.tc : Thread nD τ).loc main_arg0) = a.arg0) (h1 : m ((c.tc : Thread nD τ).loc main_arg1) = a.arg1)
    (h2 : m ((c.tc : Thread nD τ).loc main_arg2) = a.arg2) (h3 : m ((c.tc : Thread nD τ).loc main_arg3) = a.arg3)
    (h4 : m ((c.tc : Thread nD τ).loc main_arg4) = a.arg4) (h5 : m ((c.tc : Thread nD τ).loc main_arg5) = a.arg5)
    (h6 : m ((c.tc : Thread nD τ).loc main_arg6) = a.arg6) : G8 m c = DecodeRef.v48 a := by
  unfold G8
  rw [V_main_arg0, V_main_arg1, V_v3, V_v4, V_v5, V_v0, V_v2, h0, h1, h2, h3, h4, h5, h6]
  funext y
  obtain ⟨i, j, rfl⟩ : ∃ (i : Fin 512) (j : Fin 16), y = ix2 i j := ⟨_, _, eq_ix2 y⟩
  rw [pay1_apply]
  unfold DecodeRef.v48
  simp only [pay3_apply, row_apply, row16_apply]
  unfold lin
  by_cases hj : j.val < 14
  · simp only [pad2_inside _ _ _ _ _ hj, pad1_inside _ _ _ _ hj]
    rw [ref38_apply]
    rfl
  · simp only [pad2_outside _ _ _ _ _ hj, pad1_outside _ _ _ _ hj]
    unfold DecodeRef.c0_v0 DecodeRef.c
    rw [zero_val]
    simp only [mul_zero, Finset.sum_const_zero, add_zero]

/-- So is the perplexity. -/
theorem perp_eq (c : Dev nD) (a : DecodeRef.Args Ideal) (h7 : m ((c.tc : Thread nD τ).loc main_arg7) = a.arg7) :
    G9 m c = DecodeRef.v49 a := by
  unfold G9
  rw [V_main_arg7, h7, pay2_eq]
  funext y
  obtain ⟨i, j, rfl⟩ : ∃ (i : Fin 1) (j : Fin 1), y = ix2 i j := ⟨_, _, eq_ix2 y⟩
  rw [ref49_apply]

end Cert.DecodeMath

end
-- ==== Proof.DecodeClaims.lean ====
/-
  The claims about the decoder's call: its frame at both instances, the reference's, and the equality of the two results.
-/
module

public import proofs.«01_k».proof.Defs
public import proofs.«01_k».proof.Proof.DecodeMath
public import proofs.«01_k».proof.Proof.Gen.Decode.Frame
public import Idealize.ShloMosaic.Lib.Quiescent

@[expose] public section

namespace Cert.Proof

open Idealize.ShloMosaic Idealize.SL.Sem

/-- The decoder's frame at the bit-exact instance. -/
theorem frame_decode : Cert.quiescent_Decode := fun m ρ _ => Cert.Decode.Gen.frame (F := Bits) m ρ

/-- The decoder's frame at the ideal instance. -/
theorem frame_decode_ideal : Cert.quiescent_DecodeIdeal := fun m ρ _ => Cert.DecodeIdeal.Gen.frame (F := Ideal) m ρ

/-- The reference's frame; it has no semaphore. -/
theorem frame_decode_reference : Cert.quiescent_DecodeReferenceIdeal := fun m ρ _ =>
  (θ_run Cert.DecodeReferenceIdeal.defs _ _).mono (fun r h => ⟨fun c => (h c).2.2, sem_eq_zero_of_no_sems (by decide) r.2⟩)
    (DecodeRef.run (F := Ideal) m ρ)

/-- The decoder leaves what the reference leaves. -/
theorem algebraic_decode : Cert.algebraic_DecodeIdeal_DecodeReferenceIdeal := by
  intro m ρ m' ρ' _ hagree
  refine ⟨fun c => DecodeRef.v48 (DecodeRef.argsOf m' c), fun c => DecodeRef.v49 (DecodeRef.argsOf m' c), ?_, DecodeRef.run (F := Ideal) m' ρ'⟩
  refine (θ_run Cert.DecodeIdeal.defs _ _).mono (fun _ h c => ⟨(h.1 c).1.trans ?_, (h.1 c).2.trans ?_, h.2 c⟩)
    (θ_run_and (DecodeRun.run (F := Ideal) m ρ) (Cert.DecodeIdeal.Gen.unchanged (F := Ideal) m ρ))
  · obtain ⟨h0, h1, h2, h3, h4, h5, h6, _⟩ := hagree c
    exact DecodeMath.table_eq m c _ h0.symm h1.symm h2.symm h3.symm h4.symm h5.symm h6.symm
  · exact DecodeMath.perp_eq m c _ (hagree c).2.2.2.2.2.2.2.symm

end Cert.Proof

end
-- ==== Proof.EncodeOut.lean ====
module

public import proofs.«01_k».proof.Proof.Row
public import Idealize.ShloMosaic.Lib.KernelVsHost
public import proofs.«01_k».proof.Proof.Gen.EncodeIdeal.Frame
public import Idealize.ShloMosaic.Lib.Pipeline.Value

/-! What one point of the encoder's grid leaves in the staging buffers of the codes and of the commitment. -/

@[expose] public section

noncomputable section

namespace Cert.EncodeOut

open Cert.EncodeIdeal Cert.EncodeIdeal.Gen Idealize.ShloMosaic Idealize.ShloMosaic.TcCoe Idealize.SL.Sem

theorem hz : (![0, 0] : Fin 2 → Nat) = fun _ => 0 := funext fun a => by fin_cases a <;> rfl

section
variable {F : FTy → Type} [FloatOps F]

theorem idx11 (i j : S1x1.Idx) : i = j := by
  funext a
  match a with
  | ⟨0, _⟩ => exact Subsingleton.elim (α := Fin 1) _ _
  | ⟨1, _⟩ => exact Subsingleton.elim (α := Fin 1) _ _

/-- The codes of one block. -/
abbrev codes (x0 : Vec F S4096x14 .f32) (x1 : Vec F S14x128 .f32) (x2 x3 x4 : Vec F S1x128 .f32) (x5 : Vec F S128x64 .f32)
    (x6 : Vec F S1x64 .f32) (x7 : Vec F S64x512 .f32) : IVec S4096x1 32 :=
  k0_pay12 (k0_pay5 x0 x1 x2 x3 x4) (k0_pay6 x0 x1 x2 x3 x4) k0_pay7 x5 x6 x7

/-- The commitment of one block. -/
abbrev part (x0 : Vec F S4096x14 .f32) (x1 : Vec F S14x128 .f32) (x2 x3 x4 : Vec F S1x128 .f32) (x5 : Vec F S128x64 .f32)
    (x6 : Vec F S1x64 .f32) (x7 : Vec F S64x512 .f32) : FVec F S1x1 .f32 :=
  k0_pay15 (k0_pay5 x0 x1 x2 x3 x4) (k0_pay6 x0 x1 x2 x3 x4) k0_pay7 x5 x6 x7

theorem out8_A (c : Dev nD) (i : grid0.Coords) (arg1 : Memref sig .tc .vmem S4096x14 .f32) (h0 : arg1.IsWhole) (arg2 : Memref sig .tc .vmem S14x128 .f32) (h1 : arg2.IsWhole) (arg3 : Memref sig .tc .vmem S1x128 .f32) (h2 : arg3.IsWhole) (arg4 : Memref sig .tc .vmem S1x128 .f32) (h3 : arg4.IsWhole) (arg5 : Memref sig .tc .vmem S1x128 .f32) (h4 : arg5.IsWhole) (arg6 : Memref sig .tc .vmem S128x64 .f32) (h5 : arg6.IsWhole) (arg7 : Memref sig .tc .vmem S1x64 .f32) (h6 : arg7.IsWhole) (arg8 : Memref sig .tc .vmem S64x512 .f32) (h7 : arg8.IsWhole) (arg9 : Memref sig .tc .vmem S4096x1 .i32) (h8 : arg9.IsWhole) (arg10 : Memref sig .tc .smem S1x1 .f32) (h9 : arg10.IsWhole) (arg11 : Memref sig .tc .vmem S1x512 .f32) (h10 : arg11.IsWhole) (hc : cond0_0 i)
    (x0 : Vec F S4096x14 .f32) (x1 : Vec F S14x128 .f32) (x2 : Vec F S1x128 .f32) (x3 : Vec F S1x128 .f32) (x4 : Vec F S1x128 .f32) (x5 : Vec F S128x64 .f32) (x6 : Vec F S1x64 .f32) (x7 : Vec F S64x512 .f32) :
    out0_A_8 c i arg1 h0 arg2 h1 arg3 h2 arg4 h3 arg5 h4 arg6 h5 arg7 h6 arg8 h7 arg9 h8 arg10 h9 arg11 h10 hc x0 x1 x2 x3 x4 x5 x6 x7 = codes x0 x1 x2 x3 x4 x5 x6 x7 := by
  unfold out0_A_8
  rw [View.read_writes_eq_canon _ _ _ (cover0_A_8 c i arg1 h0 arg2 h1 arg3 h2 arg4 h3 arg5 h4 arg6 h5 arg7 h6 arg8 h7 arg9 h8 arg10 h9 arg11 h10 hc x0 x1 x2 x3 x4 x5 x6 x7)]
  unfold kernelRun0_A
  dsimp only
  sl_unfold_words
  rw [View.canon_unit_zero hz]
  simp only [View.readAt_eq_ld, h0.read_unread, h1.read_unread, h2.read_unread, h3.read_unread, h4.read_unread, h5.read_unread, h6.read_unread, h7.read_unread, View.ld_unit_zero (S := S4096x14) hz, View.ld_unit_zero (S := S14x128) hz, View.ld_unit_zero (S := S1x128) hz, View.ld_unit_zero (S := S128x64) hz, View.ld_unit_zero (S := S1x64) hz, View.ld_unit_zero (S := S64x512) hz]

theorem out9_A (c : Dev nD) (i : grid0.Coords) (arg1 : Memref sig .tc .vmem S4096x14 .f32) (h0 : arg1.IsWhole) (arg2 : Memref sig .tc .vmem S14x128 .f32) (h1 : arg2.IsWhole) (arg3 : Memref sig .tc .vmem S1x128 .f32) (h2 : arg3.IsWhole) (arg4 : Memref sig .tc .vmem S1x128 .f32) (h3 : arg4.IsWhole) (arg5 : Memref sig .tc .vmem S1x128 .f32) (h4 : arg5.IsWhole) (arg6 : Memref sig .tc .vmem S128x64 .f32) (h5 : arg6.IsWhole) (arg7 : Memref sig .tc .vmem S1x64 .f32) (h6 : arg7.IsWhole) (arg8 : Memref sig .tc .vmem S64x512 .f32) (h7 : arg8.IsWhole) (arg9 : Memref sig .tc .vmem S4096x1 .i32) (h8 : arg9.IsWhole) (arg10 : Memref sig .tc .smem S1x1 .f32) (h9 : arg10.IsWhole) (arg11 : Memref sig .tc .vmem S1x512 .f32) (h10 : arg11.IsWhole) (hc : cond0_0 i)
    (x0 : Vec F S4096x14 .f32) (x1 : Vec F S14x128 .f32) (x2 : Vec F S1x128 .f32) (x3 : Vec F S1x128 .f32) (x4 : Vec F S1x128 .f32) (x5 : Vec F S128x64 .f32) (x6 : Vec F S1x64 .f32) (x7 : Vec F S64x512 .f32) :
    out0_A_9 c i arg1 h0 arg2 h1 arg3 h2 arg4 h3 arg5 h4 arg6 h5 arg7 h6 arg8 h7 arg9 h8 arg10 h9 arg11 h10 hc x0 x1 x2 x3 x4 x5 x6 x7 = fun _ => k0_pay2 (part x0 x1 x2 x3 x4 x5 x6 x7) (Scalar.ofBits .f32 0x00000000#32) := by
  unfold out0_A_9
  rw [View.read_writes_eq_canon _ _ _ (cover0_A_9 c i arg1 h0 arg2 h1 arg3 h2 arg4 h3 arg5 h4 arg6 h5 arg7 h6 arg8 h7 arg9 h8 arg10 h9 arg11 h10 hc x0 x1 x2 x3 x4 x5 x6 x7)]
  unfold kernelRun0_A
  dsimp only
  sl_unfold_words
  rw [View.canon_cons_unit_zero (S := S1x1) hz]
  try rw [View.readCov_unit_zero (S := S1x1) _ hz]
  simp only [View.readAt_eq_ld, h0.read_unread, h1.read_unread, h2.read_unread, h3.read_unread, h4.read_unread, h5.read_unread, h6.read_unread, h7.read_unread, View.ld_unit_zero (S := S4096x14) hz, View.ld_unit_zero (S := S14x128) hz, View.ld_unit_zero (S := S1x128) hz, View.ld_unit_zero (S := S128x64) hz, View.ld_unit_zero (S := S1x64) hz, View.ld_unit_zero (S := S64x512) hz]
  rfl

theorem out8_B (c : Dev nD) (i : grid0.Coords) (arg1 : Memref sig .tc .vmem S4096x14 .f32) (h0 : arg1.IsWhole) (arg2 : Memref sig .tc .vmem S14x128 .f32) (h1 : arg2.IsWhole) (arg3 : Memref sig .tc .vmem S1x128 .f32) (h2 : arg3.IsWhole) (arg4 : Memref sig .tc .vmem S1x128 .f32) (h3 : arg4.IsWhole) (arg5 : Memref sig .tc .vmem S1x128 .f32) (h4 : arg5.IsWhole) (arg6 : Memref sig .tc .vmem S128x64 .f32) (h5 : arg6.IsWhole) (arg7 : Memref sig .tc .vmem S1x64 .f32) (h6 : arg7.IsWhole) (arg8 : Memref sig .tc .vmem S64x512 .f32) (h7 : arg8.IsWhole) (arg9 : Memref sig .tc .vmem S4096x1 .i32) (h8 : arg9.IsWhole) (arg10 : Memref sig .tc .smem S1x1 .f32) (h9 : arg10.IsWhole) (arg11 : Memref sig .tc .vmem S1x512 .f32) (h10 : arg11.IsWhole) (hc : ¬cond0_0 i)
    (x0 : Vec F S4096x14 .f32) (x1 : Vec F S14x128 .f32) (x2 : Vec F S1x128 .f32) (x3 : Vec F S1x128 .f32) (x4 : Vec F S1x128 .f32) (x5 : Vec F S128x64 .f32) (x6 : Vec F S1x64 .f32) (x7 : Vec F S64x512 .f32) (xo9 : Vec F S1x1 .f32) (xo10 : Vec F S1x512 .f32) :
    out0_B_8 c i arg1 h0 arg2 h1 arg3 h2 arg4 h3 arg5 h4 arg6 h5 arg7 h6 arg8 h7 arg9 h8 arg10 h9 arg11 h10 hc x0 x1 x2 x3 x4 x5 x6 x7 xo9 xo10 = codes x0 x1 x2 x3 x4 x5 x6 x7 := by
  unfold out0_B_8
  rw [View.read_writes_eq_canon _ _ _ (cover0_B_8 c i arg1 h0 arg2 h1 arg3 h2 arg4 h3 arg5 h4 arg6 h5 arg7 h6 arg8 h7 arg9 h8 arg10 h9 arg11 h10 hc x0 x1 x2 x3 x4 x5 x6 x7 xo9 xo10)]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, View.ld_unit_zero (S := S4096x14) hz, View.ld_unit_zero (S := S14x128) hz, View.ld_unit_zero (S := S1x128) hz, View.ld_unit_zero (S := S128x64) hz, View.ld_unit_zero (S := S1x64) hz, View.ld_unit_zero (S := S64x512) hz]

theorem out9_B (c : Dev nD) (i : grid0.Coords) (arg1 : Memref sig .tc .vmem S4096x14 .f32) (h0 : arg1.IsWhole) (arg2 : Memref sig .tc .vmem S14x128 .f32) (h1 : arg2.IsWhole) (arg3 : Memref sig .tc .vmem S1x128 .f32) (h2 : arg3.IsWhole) (arg4 : Memref sig .tc .vmem S1x128 .f32) (h3 : arg4.IsWhole) (arg5 : Memref sig .tc .vmem S1x128 .f32) (h4 : arg5.IsWhole) (arg6 : Memref sig .tc .vmem S128x64 .f32) (h5 : arg6.IsWhole) (arg7 : Memref sig .tc .vmem S1x64 .f32) (h6 : arg7.IsWhole) (arg8 : Memref sig .tc .vmem S64x512 .f32) (h7 : arg8.IsWhole) (arg9 : Memref sig .tc .vmem S4096x1 .i32) (h8 : arg9.IsWhole) (arg10 : Memref sig .tc .smem S1x1 .f32) (h9 : arg10.IsWhole) (arg11 : Memref sig .tc .vmem S1x512 .f32) (h10 : arg11.IsWhole) (hc : ¬cond0_0 i)
    (x0 : Vec F S4096x14 .f32) (x1 : Vec F S14x128 .f32) (x2 : Vec F S1x128 .f32) (x3 : Vec F S1x128 .f32) (x4 : Vec F S1x128 .f32) (x5 : Vec F S128x64 .f32) (x6 : Vec F S1x64 .f32) (x7 : Vec F S64x512 .f32) (xo9 : Vec F S1x1 .f32) (xo10 : Vec F S1x512 .f32) :
    out0_B_9 c i arg1 h0 arg2 h1 arg3 h2 arg4 h3 arg5 h4 arg6 h5 arg7 h6 arg8 h7 arg9 h8 arg10 h9 arg11 h10 hc x0 x1 x2 x3 x4 x5 x6 x7 xo9 xo10 = fun _ => k0_pay2 (part x0 x1 x2 x3 x4 x5 x6 x7) (xo9 (ix2 0 0)) := by
  unfold out0_B_9
  rw [View.read_writes_eq_canon _ _ _ (cover0_B_9 c i arg1 h0 arg2 h1 arg3 h2 arg4 h3 arg5 h4 arg6 h5 arg7 h6 arg8 h7 arg9 h8 arg10 h9 arg11 h10 hc x0 x1 x2 x3 x4 x5 x6 x7 xo9 xo10)]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, View.ld_unit_zero (S := S4096x14) hz, View.ld_unit_zero (S := S14x128) hz, View.ld_unit_zero (S := S1x128) hz, View.ld_unit_zero (S := S128x64) hz, View.ld_unit_zero (S := S1x64) hz, View.ld_unit_zero (S := S64x512) hz, h9.read_unread]
  exact funext fun _ => congrArg (k0_pay2 _) (congrArg xo9 (idx11 _ _))

end

end Cert.EncodeOut

end
-- ==== Proof.EncodeRun.lean ====
module

public import proofs.«01_k».proof.Proof.EncodeOut

/-! The encoder's run: the codes and the commitment as functions of what the call finds. -/

@[expose] public section

noncomputable section

namespace Cert.EncodeRun

open Cert.EncodeIdeal Cert.EncodeIdeal.Gen Idealize.ShloMosaic Idealize.ShloMosaic.TcCoe Idealize.SL.Sem Cert.EncodeOut

section
variable {F : FTy → Type} [FloatOps F]
variable (m : (ℓ : Loc nD τ sig) → Buf (Elt F) ℓ) (ρ : Dev nD → PrngReg)

theorem idx0 : ∀ t : Fin cfg0.N, win0_0.index t (0 : Fin 2) = t.val ∧ win0_0.index t (1 : Fin 2) = 0 :=
  (by decide +kernel : ∀ t : Fin grid0.N, _)

theorem emb0 (t : Fin cfg0.N) (i : Fin 4096) (k : Fin 14) (n : Fin 65536) (hn : n.val = t.val * 4096 + i.val) :
    ((cfg0.win 0).blk t).view.emb (ix2 i k : S4096x14.Idx) = (ix2 n k : S65536x14.Idx) := by
  obtain ⟨e0, e1⟩ := idx0 t
  funext a; apply Fin.ext
  match a with
  | ⟨0, _⟩ => show win0_0.index t (0 : Fin 2) * 4096 + 1 * i.val = n.val; omega
  | ⟨1, _⟩ => show win0_0.index t (1 : Fin 2) * 14 + 1 * k.val = k.val; omega

theorem idx1 : ∀ t : Fin cfg0.N, win0_1.index t (0 : Fin 2) = 0 ∧ win0_1.index t (1 : Fin 2) = 0 :=
  (by decide +kernel : ∀ t : Fin grid0.N, _)

theorem emb1 (t : Fin cfg0.N) (j : S14x128.Idx) : ((cfg0.win 1).blk t).view.emb j = j := by
  obtain ⟨e0, e1⟩ := idx1 t
  funext a; apply Fin.ext
  match a with
  | ⟨0, _⟩ => show win0_1.index t (0 : Fin 2) * 14 + 1 * (j 0).val = (j 0).val; omega
  | ⟨1, _⟩ => show win0_1.index t (1 : Fin 2) * 128 + 1 * (j 1).val = (j 1).val; omega

theorem iblk1 (c : Dev nD) (t : Fin cfg0.N) : iblk m c 1 t = V m c main_arg1 := by
  funext j; show V m c main_arg1 (((cfg0.win 1).blk t).view.emb j) = V m c main_arg1 j; rw [emb1]

theorem idx2 : ∀ t : Fin cfg0.N, win0_2.index t (0 : Fin 2) = 0 ∧ win0_2.index t (1 : Fin 2) = 0 :=
  (by decide +kernel : ∀ t : Fin grid0.N, _)

theorem emb2 (t : Fin cfg0.N) (j : S1x128.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem iblk2 (c : Dev nD) (t : Fin cfg0.N) : iblk m c 2 t = V m c main_v2 := by
  funext j; show V m c main_v2 (((cfg0.win 2).blk t).view.emb j) = V m c main_v2 j; rw [emb2]

theorem idx3 : ∀ t : Fin cfg0.N, win0_3.index t (0 : Fin 2) = 0 ∧ win0_3.index t (1 : Fin 2) = 0 :=
  (by decide +kernel : ∀ t : Fin grid0.N, _)

theorem emb3 (t : Fin cfg0.N) (j : S1x128.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem iblk3 (c : Dev nD) (t : Fin cfg0.N) : iblk m c 3 t = V m c main_v3 := by
  funext j; show V m c main_v3 (((cfg0.win 3).blk t).view.emb j) = V m c main_v3 j; rw [emb3]

theorem idx4 : ∀ t : Fin cfg0.N, win0_4.index t (0 : Fin 2) = 0 ∧ win0_4.index t (1 : Fin 2) = 0 :=
  (by decide +kernel : ∀ t : Fin grid0.N, _)

theorem emb4 (t : Fin cfg0.N) (j : S1x128.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem iblk4 (c : Dev nD) (t : Fin cfg0.N) : iblk m c 4 t = V m c main_v4 := by
  funext j; show V m c main_v4 (((cfg0.win 4).blk t).view.emb j) = V m c main_v4 j; rw [emb4]

theorem idx5 : ∀ t : Fin cfg0.N, win0_5.index t (0 : Fin 2) = 0 ∧ win0_5.index t (1 : Fin 2) = 0 :=
  (by decide +kernel : ∀ t : Fin grid0.N, _)

theorem emb5 (t : Fin cfg0.N) (j : S128x64.Idx) : ((cfg0.win 5).blk t).view.emb j = j := by
  obtain ⟨e0, e1⟩ := idx5 t
  funext a; apply Fin.ext
  match a with
  | ⟨0, _⟩ => show win0_5.index t (0 : Fin 2) * 128 + 1 * (j 0).val = (j 0).val; omega
  | ⟨1, _⟩ => show win0_5.index t (1 : Fin 2) * 64 + 1 * (j 1).val = (j 1).val; omega

theorem iblk5 (c : Dev nD) (t : Fin cfg0.N) : iblk m c 5 t = V m c main_arg5 := by
  funext j; show V m c main_arg5 (((cfg0.win 5).blk t).view.emb j) = V m c main_arg5 j; rw [emb5]

theorem idx6 : ∀ t : Fin cfg0.N, win0_6.index t (0 : Fin 2) = 0 ∧ win0_6.index t (1 : Fin 2) = 0 :=
  (by decide +kernel : ∀ t : Fin grid0.N, _)

theorem emb6 (t : Fin cfg0.N) (j : S1x64.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 64 + 1 * (j 1).val = (j 1).val; omega

theorem iblk6 (c : Dev nD) (t : Fin cfg0.N) : iblk m c 6 t = V m c main_v5 := by
  funext j; show V m c main_v5 (((cfg0.win 6).blk t).view.emb j) = V m c main_v5 j; rw [emb6]

theorem idx7 : ∀ t : Fin cfg0.N, win0_7.index t (0 : Fin 2) = 0 ∧ win0_7.index t (1 : Fin 2) = 0 :=
  (by decide +kernel : ∀ t : Fin grid0.N, _)

theorem emb7 (t : Fin cfg0.N) (j : S64x512.Idx) : ((cfg0.win 7).blk t).view.emb j = j := by
  obtain ⟨e0, e1⟩ := idx7 t
  funext a; apply Fin.ext
  match a with
  | ⟨0, _⟩ => show win0_7.index t (0 : Fin 2) * 64 + 1 * (j 0).val = (j 0).val; omega
  | ⟨1, _⟩ => show win0_7.index t (1 : Fin 2) * 512 + 1 * (j 1).val = (j 1).val; omega

theorem iblk7 (c : Dev nD) (t : Fin cfg0.N) : iblk m c 7 t = V m c main_v1 := by
  funext j; show V m c main_v1 (((cfg0.win 7).blk t).view.emb j) = V m c main_v1 j; rw [emb7]

theorem idx8 : ∀ t : Fin cfg0.N, win0_8.index t (0 : Fin 2) = t.val ∧ win0_8.index t (1 : Fin 2) = 0 :=
  (by decide +kernel : ∀ t : Fin grid0.N, _)

theorem emb8 (t : Fin cfg0.N) (i : Fin 4096) (k : Fin 1) (n : Fin 65536) (hn : n.val = t.val * 4096 + i.val) :
    ((cfg0.win 8).blk t).view.emb (ix2 i k : S4096x1.Idx) = (ix2 n k : S65536x1.Idx) := by
  obtain ⟨e0, e1⟩ := idx8 t
  funext a; apply Fin.ext
  match a with
  | ⟨0, _⟩ => show win0_8.index t (0 : Fin 2) * 4096 + 1 * i.val = n.val; omega
  | ⟨1, _⟩ => show win0_8.index t (1 : Fin 2) * 1 + 1 * k.val = k.val; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (j : S1x1.Idx) : ((cfg0.win 9).blk t).view.emb j = j := by
  obtain ⟨e0, e1⟩ := idx9 t
  funext a; apply Fin.ext
  match a with
  | ⟨0, _⟩ => show win0_9.index t (0 : Fin 2) * 1 + 1 * (j 0).val = (j 0).val; omega
  | ⟨1, _⟩ => show win0_9.index t (1 : Fin 2) * 1 + 1 * (j 1).val = (j 1).val; omega

theorem iblk0 (c : Dev nD) (t : Fin cfg0.N) (i : Fin 4096) (k : Fin 14) (n : Fin 65536) (hn : n.val = t.val * 4096 + i.val) :
    (iblk m c 0 t : Vec F S4096x14 .f32) (ix2 i k) = (V m c main_v0 : Vec F S65536x14 .f32) (ix2 n k) := by
  show V m c main_v0 (((cfg0.win 0).blk t).view.emb (ix2 i k)) = V m c main_v0 (ix2 n k)
  rw [emb0 t i k n hn]

/-- The codes of block `t`. -/
def codesAt (c : Dev nD) (t : Fin cfg0.N) : IVec S4096x1 32 :=
  codes (F := F) (iblk m c 0 t) (V m c main_arg1) (V m c main_v2) (V m c main_v3) (V m c main_v4) (V m c main_arg5) (V m c main_v5) (V m c main_v1)

/-- The commitment of block `t`. -/
def partAt (c : Dev nD) (t : Fin cfg0.N) : FVec F S1x1 .f32 :=
  part (iblk m c 0 t) (V m c main_arg1) (V m c main_v2) (V m c main_v3) (V m c main_v4) (V m c main_arg5) (V m c main_v5) (V m c main_v1)

/-- The commitment after point `n`. -/
def chain (c : Dev nD) : (n : ℕ) → n < cfg0.N → F .f32
  | 0, h => k0_pay2 (partAt m c ⟨0, h⟩) (Scalar.ofBits .f32 0x00000000#32)
  | n + 1, h => k0_pay2 (partAt m c ⟨n + 1, h⟩) (chain c n (Nat.lt_of_succ_lt h))

theorem outs8 (c : Dev nD) (t : Fin cfg0.N) : (outsAt0 m c t.val t.isLt).1 = codesAt m c t := by
  by_cases h0 : t.val % 16 = 0
  · rw [outsAt0_A m c t h0]
    dsimp only
    rw [out8_A, iblk1, iblk2, iblk3, iblk4, iblk5, iblk6, iblk7]
    rfl
  · rw [outsAt0_B m c t h0]
    dsimp only
    rw [out8_B, iblk1, iblk2, iblk3, iblk4, iblk5, iblk6, iblk7]
    rfl

theorem outs9 (c : Dev nD) : ∀ (n : ℕ) (h : n < cfg0.N), (outsAt0 m c n h).2.1 = fun _ => chain m c n h
  | 0, h => by
    rw [outsAt0_A m c ⟨0, h⟩ rfl]
    dsimp only
    rw [out9_A, iblk1, iblk2, iblk3, iblk4, iblk5, iblk6, iblk7]
    rfl
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [out9_B, iblk1, iblk2, iblk3, iblk4, iblk5, iblk6, iblk7]
    show (fun _ => k0_pay2 _ ((outsAt0 m c n _).2.1 (ix2 0 0))) = _
    rw [outs9 c n]
    rfl

/-- The result array of the codes. -/
def G8 (c : Dev nD) : IVec S65536x1 32 := fun j =>
  codesAt m c ⟨(j 0).val / 4096, by
      have h : (j 0).val < 65536 := (j 0).isLt
      have hN : cfg0.N = 16 := N_0
      omega⟩ (ix2 ⟨(j 0).val % 4096, Nat.mod_lt _ (by decide)⟩ 0)

theorem G8_apply (c : Dev nD) (t : Fin cfg0.N) (i : Fin 4096) (n : Fin 65536) (u : Fin 1) (hn : n.val = t.val * 4096 + i.val) :
    G8 m c (ix2 n u) = codesAt m c t (ix2 i 0) := by
  have hi := i.isLt
  show codesAt m c ⟨n.val / 4096, _⟩ (ix2 ⟨n.val % 4096, _⟩ 0) = _
  have e : (⟨n.val / 4096, by have := n.isLt; have hN : cfg0.N = 16 := N_0; omega⟩ : Fin cfg0.N) = t := Fin.ext (by show n.val / 4096 = t.val; omega)
  have e' : (⟨n.val % 4096, Nat.mod_lt _ (by decide)⟩ : Fin 4096) = i := Fin.ext (by show n.val % 4096 = i.val; omega)
  rw [e, e']

theorem cut8 (t : Fin cfg0.N) (X : IVec S4096x1 32) (Y : IVec S65536x1 32)
    (h : ∀ (i : Fin 4096) (u : Fin 1) (n : Fin 65536), n.val = t.val * 4096 + i.val → X (ix2 i u) = Y (ix2 n u)) :
    (cfg0.win 8).cut (grid0.coords t) X = ((cfg0.win 8).blk t).view.read (Elt F) Y := by
  funext j
  obtain ⟨i, u, rfl⟩ : ∃ (i : Fin 4096) (u : Fin 1), (j : S4096x1.Idx) = ix2 i u := ⟨_, _, ValueIdx.eq_ix2 (j : S4096x1.Idx)⟩
  have hN : cfg0.N = 16 := N_0
  have ht := t.isLt
  have hi := i.isLt
  show X (ix2 i u) = Y (((cfg0.win 8).blk t).view.emb (ix2 i u : S4096x1.Idx))
  rw [emb8 t i u ⟨t.val * 4096 + i.val, by omega⟩ rfl]
  exact h i u _ rfl

theorem flushed8 (c : Dev nD) (t : Fin cfg0.N) :
    (dats m 0 c).flushed 8 t = ((cfg0.win 8).blk t).view.read (Elt F) (G8 m c) := by
  show (cfg0.win 8).cut (grid0.coords t) ((dats m 0 c).after 8 t) = _
  rw [after0_8, outs8]
  refine cut8 t _ _ fun i u n hn => ?_
  rw [G8_apply m c t i n u hn, Subsingleton.elim u 0]

theorem covered8 (j : S65536x1.Idx) :
    ∃ t : Fin cfg0.N, (cfg0.win 8).flush t = true ∧ j ∈ ((cfg0.win 8).blk t).view.set := by
  obtain ⟨n, u, rfl⟩ : ∃ (n : Fin 65536) (u : Fin 1), j = ix2 n u := ⟨_, _, ValueIdx.eq_ix2 j⟩
  have hN : cfg0.N = 16 := N_0
  have hn := n.isLt
  obtain ⟨t, ht⟩ : ∃ t : Fin cfg0.N, t.val = n.val / 4096 := ⟨⟨n.val / 4096, by rw [hN]; omega⟩, rfl⟩
  refine ⟨t, flush0_8 _, ?_⟩
  have h := ((cfg0.win 8).blk t).view.emb_mem_set (ix2 (⟨n.val % 4096, Nat.mod_lt _ (by decide)⟩ : Fin 4096) u : S4096x1.Idx)
  rwa [emb8 _ _ u n (by dsimp only; omega)] at h

theorem final8 (c : Dev nD) : (dats m 0 c).arrAt 8 cfg0.N = G8 m c :=
  (dats m 0 c).arrAt_eq_of_cover 8 (G8 m c) (fun t _ => flushed8 m c t) covered8

/-- The result array of the commitment. -/
def G9 (c : Dev nD) : Vec F S1x1 .f32 := fun _ => chain m c 15 (by rw [show cfg0.N = 16 from N_0]; decide)

theorem flushed9 (c : Dev nD) (t : Fin cfg0.N) (hf : (cfg0.win 9).flush t = true) :
    (dats m 0 c).flushed 9 t = ((cfg0.win 9).blk t).view.read (Elt F) (G9 m c) := by
  have hN : cfg0.N = 16 := N_0
  have h15 : t.val = 15 := by have := (flush0_9 t).mp hf; have := t.isLt; omega
  have hc : (fun _ => chain m c t.val t.isLt : Vec F S1x1 .f32) = G9 m c := by
    have e : t = ⟨15, by rw [hN]; decide⟩ := Fin.ext h15
    rw [e]
    rfl
  show (cfg0.win 9).cut (grid0.coords _) ((dats m 0 c).after 9 _) = _
  rw [after0_9, outs9, hc]
  rfl

theorem covered9 (i : S1x1.Idx) :
    ∃ t : Fin cfg0.N, (cfg0.win 9).flush t = true ∧ i ∈ ((cfg0.win 9).blk t).view.set := by
  have hN : cfg0.N = 16 := N_0
  obtain ⟨t, ht⟩ : ∃ t : Fin cfg0.N, t.val = 15 := ⟨⟨15, by rw [hN]; decide⟩, rfl⟩
  refine ⟨t, (flush0_9 _).mpr (by rw [ht]), ?_⟩
  have h := ((cfg0.win 9).blk t).view.emb_mem_set i
  rwa [emb9] at h

theorem final9 (c : Dev nD) : (dats m 0 c).arrAt 9 cfg0.N = G9 m c :=
  (dats m 0 c).arrAt_eq_of_cover 9 (G9 m c) (flushed9 m c) covered9

theorem run : θ_run defs (onTc (τ := τ) (main (F := F))) ⟨m, fun _ => 0, ρ⟩ fun r => ∀ c : Dev nD,
      r.2.mem ((c.tc : Thread nD τ).loc main_v6_0) = G8 m c ∧ r.2.mem ((c.tc : Thread nD τ).loc main_v6_1) = G9 m c :=
  (θ_run defs _ _).mono (fun _ h c => ⟨((h c).1 8).trans (final8 m c), ((h c).1 9).trans (final9 m c)⟩) (run_main m ρ)

theorem V_v0 (c : Dev nD) : V m c main_v0
    = shapeCast S65536x14 (m ((c : Thread nD τ).loc main_arg0) : Vec F S32x2048x14 .f32) shapeCasts_S32x2048x14_S65536x14 := by
  unfold V
  simp only [hostOps0, List.flatten_cons, List.flatten_nil, List.append_nil, List.cons_append, List.nil_append]
  after_results_simp
  rfl

theorem V_v1 (c : Dev nD) : V m c main_v1
    = transpose S64x512 [1, 0] (m ((c : Thread nD τ).loc main_arg7) : Vec F S512x64 .f32) transposes_S512x64_S64x512_1_0 := by
  unfold V
  simp only [hostOps0, List.flatten_cons, List.flatten_nil, List.append_nil, List.cons_append, List.nil_append]
  after_results_simp

theorem V_v2 (c : Dev nD) : V m c main_v2
    = shapeCast S1x128 (m ((c : Thread nD τ).loc main_arg2) : Vec F S128 .f32) shapeCasts_S128_S1x128 := by
  unfold V
  simp only [hostOps0, List.flatten_cons, List.flatten_nil, List.append_nil, List.cons_append, List.nil_append]
  after_results_simp
  rfl

theorem V_v3 (c : Dev nD) : V m c main_v3
    = shapeCast S1x128 (m ((c : Thread nD τ).loc main_arg3) : Vec F S128 .f32) shapeCasts_S128_S1x128 := by
  unfold V
  simp only [hostOps0, List.flatten_cons, List.flatten_nil, List.append_nil, List.cons_append, List.nil_append]
  after_results_simp
  rfl

theorem V_v4 (c : Dev nD) : V m c main_v4
    = shapeCast S1x128 (m ((c : Thread nD τ).loc main_arg4) : Vec F S128 .f32) shapeCasts_S128_S1x128 := by
  unfold V
  simp only [hostOps0, List.flatten_cons, List.flatten_nil, List.append_nil, List.cons_append, List.nil_append]
  after_results_simp
  rfl

theorem V_v5 (c : Dev nD) : V m c main_v5
    = shapeCast S1x64 (m ((c : Thread nD τ).loc main_arg6) : Vec F S64 .f32) shapeCasts_S64_S1x64 := by
  unfold V
  simp only [hostOps0, List.flatten_cons, List.flatten_nil, List.append_nil, List.cons_append, List.nil_append]
  after_results_simp
  rfl

end

end Cert.EncodeRun

end
-- ==== Proof.EncodeMath.lean ====
module

public import proofs.«01_k».proof.Proof.Row
public import Idealize.ShloMosaic.Lib.KernelVsHost
public import Idealize.ShloMosaic.Lib.SortNet.Extract

/-! The score of a code for a row, its first least entry, and why real arguments make the two orders of the scores agree. -/

@[expose] public section

noncomputable section

namespace Cert.EncodeMath

open Idealize.ShloMosaic Cert.Row

/-- The score of code `k` for the row `z`: what the encoder minimises. -/
def score (z : Fin 64 → EReal) (cb : Fin 512 → Fin 64 → EReal) (k : Fin 512) : EReal :=
  (∑ l, cb k l * cb k l) - Ideal.ofBits .f32 0x40000000#32 * ∑ l, z l * cb k l

/-- The squared distance as the problem writes it out. -/
def dist (z : Fin 64 → EReal) (cb : Fin 512 → Fin 64 → EReal) (k : Fin 512) : EReal :=
  (∑ l, z l * z l) - (∑ l, Ideal.ofBits .f32 0x40000000#32 * z l * cb k l) + ∑ l, cb k l * cb k l

/-- Twice a sum. -/
theorem two_sum {ι : Type} (s : Finset ι) (f : ι → EReal) : ∑ i ∈ s, ((2 : ℝ) : EReal) * f i = ((2 : ℝ) : EReal) * ∑ i ∈ s, f i := by
  classical
  induction s using Finset.induction_on with
  | empty => simp
  | insert a s ha ih => rw [Finset.sum_insert ha, Finset.sum_insert ha, ih, EReal.left_distrib_of_nonneg_of_ne_top (by norm_num) (EReal.coe_ne_top 2)]

/-! ### Real values -/

/-- The value is a real number. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem Real'.sum {ι : Type} [Fintype ι] {f : ι → EReal} (hf : ∀ i, Real' (f i)) : Real' (∑ i, f i) := by
  choose g hg using hf
  exact ⟨∑ i, g i, by rw [coe_sum]; exact Finset.sum_congr rfl fun i _ => hg i⟩
theorem Real'.one : Real' 1 := ⟨1, EReal.coe_one.symm⟩
theorem Real'.erf {x : EReal} (hx : Real' x) : Real' (Ideal.erf x) := by
  obtain ⟨a, rfl⟩ := hx; exact ⟨_, Ideal.erf_coe a⟩
theorem real'_two : Ideal.ofBits .f32 0x40000000#32 = ((2 : ℝ) : EReal) := by
  simp [Ideal.ofBits, Ideal.ieee, -EReal.coe_mul]; norm_num
theorem real'_half : Real' (Ideal.ofBits .f32 0x3F000000#32) :=
  ⟨1 / 2, by simp [Ideal.ofBits, Ideal.ieee, -EReal.coe_mul]; norm_num⟩
theorem real'_root : Real' (Ideal.ofBits .f32 0x3F3504F3#32) := by
  simp only [Ideal.ofBits, Ideal.ieee]
  rw [if_neg (by decide), if_neg (by decide)]
  exact ⟨_, rfl⟩
theorem real'_len : Ideal.ofBits .f32 0x43000000#32 = ((128 : ℝ) : EReal) := by
  simp [Ideal.ofBits, Ideal.ieee, -EReal.coe_mul]; norm_num
theorem real'_eps : ∃ e : ℝ, 0 < e ∧ Ideal.ofBits .f32 0x3727C5AC#32 = (e : EReal) := by
  simp only [Ideal.ofBits, Ideal.ieee]
  rw [if_neg (by decide), if_neg (by decide)]
  refine ⟨_, ?_, rfl⟩
  rw [if_neg (by decide), one_mul]
  positivity

theorem Real'.lin {K N : ℕ} {x : Fin K → EReal} {w : Fin K → Fin N → EReal} {b : Fin N → EReal}
    (hx : ∀ k, Real' (x k)) (hw : ∀ k n, Real' (w k n)) (hb : ∀ n, Real' (b n)) (n : Fin N) : Real' (Row.lin x w b n) :=
  (Real'.sum fun k => (hx k).mul (hw k n)).add (hb n)

theorem mean_coe (h : Fin 128 → ℝ) : mean (fun k => (h k : EReal)) = (((∑ k, h k) * (1 / 128) : ℝ) : EReal) := by
  unfold mean
  rw [real'_len, Ideal.div_coe (by norm_num), ← coe_sum, EReal.coe_mul]

theorem Real'.normRow {h g b : Fin 128 → EReal} (hh : ∀ k, Real' (h k)) (hg : ∀ k, Real' (g k)) (hb : ∀ k, Real' (b k))
    (j : Fin 128) : Real' (Row.normRow h g b j) := by
  choose r hr using hh
  obtain rfl : h = fun k => (r k : EReal) := funext hr
  obtain ⟨e, he, hE⟩ := real'_eps
  unfold Row.normRow
  have hv : (fun k => ((r k : EReal) - mean fun k => (r k : EReal)) * ((r k : EReal) - mean fun k => (r k : EReal)))
      = fun k => (((r k - (∑ k, r k) * (1 / 128)) * (r k - (∑ k, r k) * (1 / 128)) : ℝ) : EReal) := by
    funext k
    rw [mean_coe, ← EReal.coe_sub, ← EReal.coe_mul]
  rw [hv, mean_coe, mean_coe, hE, ← EReal.coe_add, Ideal.sqrt_coe]
  have hs : 0 < (∑ k, (r k - (∑ k, r k) * (1 / 128)) * (r k - (∑ k, r k) * (1 / 128))) * (1 / 128) + e := by
    have : 0 ≤ ∑ k, (r k - (∑ k, r k) * (1 / 128)) * (r k - (∑ k, r k) * (1 / 128)) :=
      Finset.sum_nonneg fun k _ => mul_self_nonneg _
    positivity
  rw [if_neg (not_lt.mpr hs.le), Ideal.div_coe (Real.sqrt_ne_zero'.mpr hs)]
  exact Real'.add (Real'.mul (Real'.mul (Real'.sub ⟨_, rfl⟩ ⟨_, rfl⟩) ⟨_, rfl⟩) (hg j)) (hb j)

theorem Real'.gelu {h : Fin 128 → EReal} (hh : ∀ k, Real' (h k)) (j : Fin 128) : Real' (Row.gelu h j) :=
  (real'_half.mul (hh j)).mul (Real'.one.add ((hh j).mul real'_root).erf)

theorem Real'.mlp {K N : ℕ} {x : Fin K → EReal} {w : Fin K → Fin 128 → EReal} {b g be : Fin 128 → EReal}
    {w' : Fin 128 → Fin N → EReal} {b' : Fin N → EReal} (hx : ∀ k, Real' (x k)) (hw : ∀ k n, Real' (w k n))
    (hb : ∀ n, Real' (b n)) (hg : ∀ n, Real' (g n)) (hbe : ∀ n, Real' (be n)) (hw' : ∀ k n, Real' (w' k n))
    (hb' : ∀ n, Real' (b' n)) (n : Fin N) : Real' (Row.mlp x w b g be w' b' n) :=
  Real'.lin (Real'.gelu (Real'.normRow (Real'.lin hx hw hb) hg hbe)) hw' hb' n

/-! ### The two scores -/

/-- The distance is the score and the row's own square, whatever the entries. -/
theorem dist_eq (z : Fin 64 → EReal) (cb : Fin 512 → Fin 64 → EReal) (k : Fin 512) : dist z cb k = score z cb k + ∑ l, z l * z l := by
  unfold dist score
  rw [real'_two, ← two_sum]
  simp only [mul_assoc]
  rw [sub_eq_add_neg, sub_eq_add_neg, add_right_comm, add_comm (∑ l, z l * z l), add_right_comm]

/-- A nearer code has a lower score. -/
theorem score_lt {z : Fin 64 → EReal} {cb : Fin 512 → Fin 64 → EReal} {j k : Fin 512} (h : dist z cb j < dist z cb k) : score z cb j < score z cb k := by
  by_contra hn
  rw [dist_eq, dist_eq] at h
  exact absurd h (not_lt.mpr (add_le_add (not_lt.mp hn) le_rfl))

section
variable (z : Fin 64 → ℝ) (cb : Fin 512 → Fin 64 → ℝ) (k : Fin 512)

theorem score_coe : score (fun l => (z l : EReal)) (fun k l => (cb k l : EReal)) k
    = (((∑ l, cb k l * cb k l) - 2 * ∑ l, z l * cb k l : ℝ) : EReal) := by
  unfold score
  rw [real'_two, EReal.coe_sub, EReal.coe_mul, coe_sum, coe_sum]
  simp only [EReal.coe_mul]

theorem dist_coe : dist (fun l => (z l : EReal)) (fun k l => (cb k l : EReal)) k
    = (((∑ l, z l * z l) + ((∑ l, cb k l * cb k l) - 2 * ∑ l, z l * cb k l) : ℝ) : EReal) := by
  have e : ((∑ l, z l * z l) + ((∑ l, cb k l * cb k l) - 2 * ∑ l, z l * cb k l) : ℝ)
      = (∑ l, z l * z l) - (∑ l, 2 * z l * cb k l) + ∑ l, cb k l * cb k l := by
    have : ∑ l, 2 * z l * cb k l = 2 * ∑ l, z l * cb k l := by
      rw [Finset.mul_sum]; exact Finset.sum_congr rfl fun l _ => by ring
    rw [this]; ring
  unfold dist
  rw [e, real'_two, EReal.coe_add, EReal.coe_sub, coe_sum, coe_sum, coe_sum]
  simp only [EReal.coe_mul]

theorem score_add_coe : ((((∑ l, cb k l * cb k l) - 2 * ∑ l, z l * cb k l : ℝ) : EReal) + ∑ l, (z l : EReal) * (z l : EReal))
    = ∑ l, ((cb k l : EReal) - (z l : EReal)) * ((cb k l : EReal) - (z l : EReal)) := by
  have e : (∑ l, cb k l * cb k l) - 2 * ∑ l, z l * cb k l + ∑ l, z l * z l = ∑ l, (cb k l - z l) * (cb k l - z l) := by
    rw [Finset.mul_sum, ← Finset.sum_sub_distrib, ← Finset.sum_add_distrib]
    exact Finset.sum_congr rfl fun l _ => by ring
  simp only [← EReal.coe_sub, ← EReal.coe_mul, ← coe_sum, ← EReal.coe_add]
  rw [e]
end

theorem score_add {z : Fin 64 → EReal} {cb : Fin 512 → Fin 64 → EReal} (hz : ∀ l, Real' (z l)) (hc : ∀ k l, Real' (cb k l))
    (k : Fin 512) : score z cb k + ∑ l, z l * z l = ∑ l, (cb k l - z l) * (cb k l - z l) := by
  choose a ha using hz
  choose b hb using hc
  obtain rfl : z = fun l => (a l : EReal) := funext ha
  obtain rfl : cb = fun k l => (b k l : EReal) := funext fun k => funext (hb k)
  rw [score_coe]
  exact score_add_coe a b k

/-! ### The first least entry -/

/-- `k` is the first index at which `f` is least. -/
def First (f : Fin 512 → EReal) (k : Fin 512) : Prop := (∀ j, f k ≤ f j) ∧ ∀ j, f j ≤ f k → k ≤ j

theorem exists_first (f : Fin 512 → EReal) : ∃ k, First f k := by
  classical
  obtain ⟨m, -, hm⟩ := Finset.exists_min_image Finset.univ f ⟨0, Finset.mem_univ _⟩
  let s := Finset.univ.filter fun j => f j ≤ f m
  have hs : s.Nonempty := ⟨m, by simp [s]⟩
  have h := s.min'_mem hs
  have h' : f (s.min' hs) ≤ f m := by simpa [s] using h
  refine ⟨s.min' hs, fun j => h'.trans (hm j (Finset.mem_univ _)), fun j hj => s.min'_le j ?_⟩
  simpa [s] using hj.trans h'

/-- The first index at which `f` is least. -/
def first (f : Fin 512 → EReal) : Fin 512 := (exists_first f).choose

theorem first_spec (f : Fin 512 → EReal) : First f (first f) := (exists_first f).choose_spec

theorem First.dist {z : Fin 64 → EReal} {cb : Fin 512 → Fin 64 → EReal} (hz : ∀ l, Real' (z l)) (hc : ∀ k l, Real' (cb k l))
    {k : Fin 512} (h : First (score z cb) k) : First (dist z cb) k := by
  choose a ha using hz
  choose b hb using hc
  obtain rfl : z = fun l => (a l : EReal) := funext ha
  obtain rfl : cb = fun k l => (b k l : EReal) := funext fun k => funext (hb k)
  refine ⟨fun j => ?_, fun j hj => h.2 j ?_⟩
  · have := h.1 j
    rw [score_coe, score_coe, EReal.coe_le_coe_iff] at this
    rw [dist_coe, dist_coe, EReal.coe_le_coe_iff]
    linarith
  · rw [dist_coe, dist_coe, EReal.coe_le_coe_iff] at hj
    rw [score_coe, score_coe, EReal.coe_le_coe_iff]
    linarith

theorem dist_real {z : Fin 64 → EReal} {cb : Fin 512 → Fin 64 → EReal} (hz : ∀ l, Real' (z l)) (hc : ∀ k l, Real' (cb k l))
    (k : Fin 512) : Real' (dist z cb k) := by
  choose a ha using hz
  choose b hb using hc
  obtain rfl : z = fun l => (a l : EReal) := funext ha
  obtain rfl : cb = fun k l => (b k l : EReal) := funext fun k => funext (hb k)
  exact ⟨_, dist_coe a b k⟩

/-! ### The folds that find it -/

theorem ofBits_inf : Ideal.ofBits .f32 0x7F800000#32 = ⊤ := by simp [Ideal.ofBits, Ideal.ieee]

theorem fold_min {f : Fin 512 → EReal} {k : Fin 512} (h : First f k) :
    Finset.fold min (Ideal.ofBits .f32 0x7F800000#32) f Finset.univ = f k := by
  rw [ofBits_inf]
  refine le_antisymm ?_ ?_
  · exact (Finset.fold_min_le _).mpr (Or.inr ⟨k, Finset.mem_univ _, le_rfl⟩)
  · exact (Finset.le_fold_min _).mpr ⟨le_top, fun j _ => h.1 j⟩

theorem toInt_small (k : Fin 512) : (BitVec.ofNat 32 k.val).toInt = (k.val : ℤ) := by
  have := k.isLt
  rw [BitVec.toInt_eq_toNat_cond, BitVec.toNat_ofNat, Nat.mod_eq_of_lt (by omega), if_pos (by omega)]

theorem fold_minsi {f : Fin 512 → EReal} {k : Fin 512} (h : First f k) :
    Finset.fold IntOp.minsi 2147483647#32 (fun x : Fin 512 => if f x = f k then BitVec.ofNat 32 x.val else 512#32) Finset.univ
      = BitVec.ofNat 32 k.val := by
  apply BitVec.eq_of_toInt_eq
  have e := Finset.fold_hom (op := IntOp.minsi (w := 32)) (op' := (min : ℤ → ℤ → ℤ)) (m := BitVec.toInt) (s := Finset.univ)
    (b := 2147483647#32) (f := fun x : Fin 512 => if f x = f k then BitVec.ofNat 32 x.val else 512#32) SortNet.toInt_minsi
  rw [← e, toInt_small]
  have hk := k.isLt
  refine le_antisymm ?_ ?_
  · refine (Finset.fold_min_le _).mpr (Or.inr ⟨k, Finset.mem_univ _, ?_⟩)
    rw [if_pos rfl, toInt_small]
  · refine (Finset.le_fold_min _).mpr ⟨by rw [show (2147483647#32).toInt = 2147483647 by decide]; omega, fun j _ => ?_⟩
    by_cases hj : f j = f k
    · rw [if_pos hj, toInt_small]
      have := h.2 j hj.le
      exact_mod_cast this
    · rw [if_neg hj, show (512#32).toInt = 512 by decide]; omega

/-! ### The reference's fold over pairs of a value and its index -/

/-- The lesser of two pairs, by value and then by index. -/
def lesser (a b : EReal × BitVec 32) : EReal × BitVec 32 :=
  (if a.1 < b.1 then a.1 else b.1, if a.1 < b.1 ∨ (a.1 = b.1 ∧ a.2.toInt < b.2.toInt) then a.2 else b.2)

/-- The pair `a` is the pair `p` or after it. -/
def After (p a : EReal × BitVec 32) : Prop := a = p ∨ p.1 < a.1 ∨ (a.1 = p.1 ∧ p.2.toInt < a.2.toInt)

theorem lesser_left {p a : EReal × BitVec 32} (h : After p a) : lesser p a = p := by
  obtain ⟨p1, p2⟩ := p
  obtain ⟨a1, a2⟩ := a
  rcases h with h | h | ⟨h, h'⟩
  · cases h; simp [lesser]
  · simp only at h; simp [lesser, h]
  · simp only at h h'; subst h; simp [lesser, h']

theorem lesser_right {p a : EReal × BitVec 32} (h : After p a) : lesser a p = p := by
  obtain ⟨p1, p2⟩ := p
  obtain ⟨a1, a2⟩ := a
  rcases h with h | h | ⟨h, h'⟩
  · cases h; simp [lesser]
  · simp only at h; simp [lesser, not_lt.mpr h.le, h.ne']
  · simp only at h h'; subst h; simp [lesser, not_lt.mpr h'.le]

theorem lesser_after {p a b : EReal × BitVec 32} (ha : After p a) (hb : After p b) : After p (lesser a b) := by
  obtain ⟨a1, a2⟩ := a
  obtain ⟨b1, b2⟩ := b
  by_cases h : a1 < b1
  · have : lesser (a1, a2) (b1, b2) = (a1, a2) := by simp [lesser, h]
    rw [this]; exact ha
  · by_cases h' : a1 = b1 ∧ a2.toInt < b2.toInt
    · have : lesser (a1, a2) (b1, b2) = (a1, a2) := by obtain ⟨rfl, h'⟩ := h'; simp [lesser, h']
      rw [this]; exact ha
    · have : lesser (a1, a2) (b1, b2) = (b1, b2) := by simp [lesser, h, h']
      rw [this]; exact hb

theorem foldl_lesser {p : EReal × BitVec 32} (L : List (EReal × BitVec 32)) (hL : ∀ a ∈ L, After p a) (a : EReal × BitVec 32)
    (ha : After p a) (hp : a = p ∨ p ∈ L) : L.foldl lesser a = p := by
  induction L generalizing a with
  | nil => simpa using hp
  | cons b L ih =>
    have hb := hL b (by simp)
    refine ih (fun c hc => hL c (by simp [hc])) _ (lesser_after ha hb) ?_
    rcases hp with rfl | hp
    · exact Or.inl (lesser_left hb)
    · rcases List.mem_cons.mp hp with rfl | hp
      · exact Or.inl (lesser_right ha)
      · exact Or.inr hp

/-- A list of an entry's pairs that holds the first least entry's folds to it. -/
theorem foldl_first {f : Fin 512 → EReal} {k : Fin 512} (h : First f k) (hr : f k < ⊤) (L : List (EReal × BitVec 32))
    (hL : ∀ a ∈ L, ∃ j : Fin 512, a = (f j, BitVec.ofNat 32 j.val)) (hk : (f k, BitVec.ofNat 32 k.val) ∈ L) :
    L.foldl lesser (⊤, 0#32) = (f k, BitVec.ofNat 32 k.val) := by
  refine foldl_lesser L (fun a ha => ?_) _ (Or.inr (Or.inl ?_)) (Or.inr hk)
  · obtain ⟨j, rfl⟩ := hL a ha
    rcases lt_or_eq_of_le (h.1 j) with hj | hj
    · exact Or.inr (Or.inl hj)
    · rcases lt_or_eq_of_le (h.2 j hj.ge) with hkj | rfl
      · refine Or.inr (Or.inr ⟨hj.symm, ?_⟩)
        show (BitVec.ofNat 32 k.val).toInt < (BitVec.ofNat 32 j.val).toInt
        rw [toInt_small, toInt_small]
        exact_mod_cast hkj
      · exact Or.inl rfl
  · exact hr

end Cert.EncodeMath

end
-- ==== Proof.EncodePay.lean ====
module

public import proofs.«01_k».proof.Proof.EncodeMath
public import proofs.«01_k».proof.Proof.Gen.EncodeIdeal.Skeleton

/-! The encoder's pure values at an index. -/

@[expose] public section

noncomputable section

namespace Cert.EncodePay

open Cert.EncodeIdeal Cert.EncodeIdeal.Gen Idealize.ShloMosaic Cert.Row Cert.EncodeMath

section
variable (v0 : Vec Ideal S4096x14 .f32) (v2 : Vec Ideal S14x128 .f32) (v4 v8 v10 : Vec Ideal S1x128 .f32)
  (v42 : Vec Ideal S128x64 .f32) (v44 : Vec Ideal S1x64 .f32) (v48 : Vec Ideal S64x512 .f32)

/-- The row of codes that the encoder computes. -/
def zrow (i : Fin 4096) : Fin 64 → EReal :=
  mlp (fun k => v0 (ix2 i k)) (fun k n => v2 (ix2 k n)) (fun n => v4 (ix2 0 n)) (fun n => v8 (ix2 0 n)) (fun n => v10 (ix2 0 n))
    (fun k n => v42 (ix2 k n)) (fun n => v44 (ix2 0 n))

theorem pay8_apply (i : Fin 4096) (j : Fin 64) :
    k0_pay8 (k0_pay5 v0 v2 v4 v8 v10) (k0_pay6 v0 v2 v4 v8 v10) k0_pay7 v42 v44 (ix2 i j) = zrow v0 v2 v4 v8 v10 v42 v44 i j := by
  unfold zrow mlp gelu normRow mean lin
  pointwise [k0_pay8, k0_pay5, k0_pay6, k0_pay7, k0_pay4]
  rfl

theorem pay9_apply (v35 v38 v39 : FVec Ideal S4096x128 .f32) (i : Fin 4096) (j : Fin 512) :
    k0_pay9 v35 v38 v39 v42 v44 v48 (ix2 i j) = score (fun l => k0_pay8 v35 v38 v39 v42 v44 (ix2 i l)) (fun k l => v48 (ix2 l k)) j := by
  unfold score
  pointwise [k0_pay9]

/-- The scores of row `i`. -/
abbrev scores (i : Fin 4096) : Fin 512 → EReal := score (zrow v0 v2 v4 v8 v10 v42 v44 i) fun k l => v48 (ix2 l k)

theorem pay9_score (i : Fin 4096) (j : Fin 512) :
    k0_pay9 (k0_pay5 v0 v2 v4 v8 v10) (k0_pay6 v0 v2 v4 v8 v10) k0_pay7 v42 v44 v48 (ix2 i j) = scores v0 v2 v4 v8 v10 v42 v44 v48 i j := by
  rw [pay9_apply]
  unfold scores
  congr 1
  funext l
  exact pay8_apply v0 v2 v4 v8 v10 v42 v44 i l

theorem pay10_fold (v35 v38 v39 : FVec Ideal S4096x128 .f32) (i : Fin 4096) :
    k0_pay10 v35 v38 v39 v42 v44 v48 (ix2 i 0)
      = Finset.fold min (Ideal.ofBits .f32 0x7F800000#32) (fun x => k0_pay9 v35 v38 v39 v42 v44 v48 (ix2 i x)) Finset.univ := by
  pointwise [k0_pay10]

theorem pay10_apply (i : Fin 4096) :
    k0_pay10 (k0_pay5 v0 v2 v4 v8 v10) (k0_pay6 v0 v2 v4 v8 v10) k0_pay7 v42 v44 v48 (ix2 i 0)
      = scores v0 v2 v4 v8 v10 v42 v44 v48 i (first (scores v0 v2 v4 v8 v10 v42 v44 v48 i)) := by
  rw [pay10_fold, funext (pay9_score v0 v2 v4 v8 v10 v42 v44 v48 i)]
  exact fold_min (first_spec _)

theorem pay12_fold (v35 v38 v39 : FVec Ideal S4096x128 .f32) (i : Fin 4096) :
    k0_pay12 v35 v38 v39 v42 v44 v48 (ix2 i 0)
      = Finset.fold IntOp.minsi 2147483647#32 (fun x : Fin 512 => if k0_pay9 v35 v38 v39 v42 v44 v48 (ix2 i x) = k0_pay10 v35 v38 v39 v42 v44 v48 (ix2 i 0)
          then BitVec.ofNat 32 x.val else 512#32) Finset.univ := by
  pointwise [k0_pay12, k0_pay11]

/-- The word that is stored for row `i`: the first code of least score. -/
theorem pay12_apply (i : Fin 4096) :
    k0_pay12 (k0_pay5 v0 v2 v4 v8 v10) (k0_pay6 v0 v2 v4 v8 v10) k0_pay7 v42 v44 v48 (ix2 i 0)
      = BitVec.ofNat 32 (first (scores v0 v2 v4 v8 v10 v42 v44 v48 i)).val := by
  rw [pay12_fold, pay10_apply]
  simp only [pay9_score]
  exact fold_minsi (first_spec _)

theorem pay15_sum (v35 v38 v39 : FVec Ideal S4096x128 .f32) :
    k0_pay15 v35 v38 v39 v42 v44 v48 (ix2 0 0)
      = ∑ x, (k0_pay10 v35 v38 v39 v42 v44 v48 (ix2 x 0) + ∑ l, k0_pay8 v35 v38 v39 v42 v44 (ix2 x l) * k0_pay8 v35 v38 v39 v42 v44 (ix2 x l)) := by
  pointwise [k0_pay15, k0_pay13]

/-- What is added to the commitment at one point. -/
theorem pay15_apply :
    k0_pay15 (k0_pay5 v0 v2 v4 v8 v10) (k0_pay6 v0 v2 v4 v8 v10) k0_pay7 v42 v44 v48 (ix2 0 0)
      = ∑ x, (scores v0 v2 v4 v8 v10 v42 v44 v48 x (first (scores v0 v2 v4 v8 v10 v42 v44 v48 x))
          + ∑ l, zrow v0 v2 v4 v8 v10 v42 v44 x l * zrow v0 v2 v4 v8 v10 v42 v44 x l) := by
  rw [pay15_sum]
  simp only [pay10_apply, pay8_apply]
end

end Cert.EncodePay

end
-- ==== Proof.EncodeRef.lean ====
module

public import proofs.«01_k».proof.Proof.Gen.EncodeReferenceIdeal
public import Idealize.ShloMosaic.Lib.StableHlo.Run

/-! The host program `EncodeReferenceIdeal` as the list of its 99 operations, one definition for the value of
each, and what its result buffers hold when it has run. -/

@[expose] public section

noncomputable section

namespace Cert.EncodeRef

open Cert.EncodeReferenceIdeal Cert.EncodeReferenceIdeal.Gen Idealize.ShloMosaic Idealize.ShloMosaic.TcCoe Idealize.SL.Sem Idealize.ShloMosaic.StableHlo

variable {F : FTy → Type} [FloatOps F]

/-- The arguments of the program. -/
structure Args (F : FTy → Type) where
  arg0 : (⟨S32x2048x14, .f32⟩ : BufTy).Contents (Elt F)
  arg1 : (⟨S14x128, .f32⟩ : BufTy).Contents (Elt F)
  arg2 : (⟨S128, .f32⟩ : BufTy).Contents (Elt F)
  arg3 : (⟨S128, .f32⟩ : BufTy).Contents (Elt F)
  arg4 : (⟨S128, .f32⟩ : BufTy).Contents (Elt F)
  arg5 : (⟨S128x64, .f32⟩ : BufTy).Contents (Elt F)
  arg6 : (⟨S64, .f32⟩ : BufTy).Contents (Elt F)
  arg7 : (⟨S512x64, .f32⟩ : BufTy).Contents (Elt F)

def v0 (a : Args F) : (⟨S32x2048x128, .f32⟩ : BufTy).Contents (Elt F) := ((fun l r => Host.dotGeneral dot_S32x2048x14_S14x128_S32x2048x128_2_0_01_1_n_n none l r) : (⟨S32x2048x14, .f32⟩ : BufTy).Contents (Elt F) → (⟨S14x128, .f32⟩ : BufTy).Contents (Elt F) → (⟨S32x2048x128, .f32⟩ : BufTy).Contents (Elt F)) a.arg0 a.arg1
def v1 (a : Args F) : (⟨S1x1x128, .f32⟩ : BufTy).Contents (Elt F) := (broadcastInDim S1x1x128 ![2] bcast_S128_S1x1x128_2 : (⟨S128, .f32⟩ : BufTy).Contents (Elt F) → (⟨S1x1x128, .f32⟩ : BufTy).Contents (Elt F)) a.arg2
def v2 (a : Args F) : (⟨S32x2048x128, .f32⟩ : BufTy).Contents (Elt F) := (broadcastInDim S32x2048x128 ![0, 1, 2] bcast_S1x1x128_S32x2048x128_0_1_2 : (⟨S1x1x128, .f32⟩ : BufTy).Contents (Elt F) → (⟨S32x2048x128, .f32⟩ : BufTy).Contents (Elt F)) (v1 a)
def v3 (a : Args F) : (⟨S32x2048x128, .f32⟩ : BufTy).Contents (Elt F) := (addf : (⟨S32x2048x128, .f32⟩ : BufTy).Contents (Elt F) → (⟨S32x2048x128, .f32⟩ : BufTy).Contents (Elt F) → (⟨S32x2048x128, .f32⟩ : BufTy).Contents (Elt F)) (v0 a) (v2 a)
def cst (a : Args F) : (⟨S_, .f32⟩ : BufTy).Contents (Elt F) := (constant S_ .f32 0x00000000#32)
def v4 (a : Args F) : (⟨S32x2048, .f32⟩ : BufTy).Contents (Elt F) := ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)) (v3 a) (cst a)
def v5 (a : Args F) : (⟨S32x2048x1, .f32⟩ : BufTy).Contents (Elt F) := (broadcastInDim S32x2048x1 ![0, 1] bcast_S32x2048_S32x2048x1_0_1 : (⟨S32x2048, .f32⟩ : BufTy).Contents (Elt F) → (⟨S32x2048x1, .f32⟩ : BufTy).Contents (Elt F)) (v4 a)
def cst_0 (a : Args F) : (⟨S_, .f32⟩ : BufTy).Contents (Elt F) := (constant S_ .f32 0x43000000#32)
def v6 (a : Args F) : (⟨S32x2048x1, .f32⟩ : BufTy).Contents (Elt F) := (broadcastInDim S32x2048x1 ![] bcast_S_S32x2048x1 : (⟨S_, .f32⟩ : BufTy).Contents (Elt F) → (⟨S32x2048x1, .f32⟩ : BufTy).Contents (Elt F)) (cst_0 a)
def v7 (a : Args F) : (⟨S32x2048x1, .f32⟩ : BufTy).Contents (Elt F) := (Host.divf : (⟨S32x2048x1, .f32⟩ : BufTy).Contents (Elt F) → (⟨S32x2048x1, .f32⟩ : BufTy).Contents (Elt F) → (⟨S32x2048x1, .f32⟩ : BufTy).Contents (Elt F)) (v5 a) (v6 a)
def v8 (a : Args F) : (⟨S32x2048x128, .f32⟩ : BufTy).Contents (Elt F) := (broadcastInDim S32x2048x128 ![0, 1, 2] bcast_S32x2048x1_S32x2048x128_0_1_2 : (⟨S32x2048x1, .f32⟩ : BufTy).Contents (Elt F) → (⟨S32x2048x128, .f32⟩ : BufTy).Contents (Elt F)) (v7 a)
def v9 (a : Args F) : (⟨S32x2048x128, .f32⟩ : BufTy).Contents (Elt F) := (subf : (⟨S32x2048x128, .f32⟩ : BufTy).Contents (Elt F) → (⟨S32x2048x128, .f32⟩ : BufTy).Contents (Elt F) → (⟨S32x2048x128, .f32⟩ : BufTy).Contents (Elt F)) (v3 a) (v8 a)
def v10 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v9 a) (v9 a)
def cst_1 (a : Args F) : (⟨S_, .f32⟩ : BufTy).Contents (Elt F) := (constant S_ .f32 0x00000000#32)
def v11 (a : Args F) : (⟨S32x2048, .f32⟩ : BufTy).Contents (Elt F) := ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)) (v10 a) (cst_1 a)
def v12 (a : Args F) : (⟨S32x2048x1, .f32⟩ : BufTy).Contents (Elt F) := (broadcastInDim S32x2048x1 ![0, 1] bcast_S32x2048_S32x2048x1_0_1 : (⟨S32x2048, .f32⟩ : BufTy).Contents (Elt F) → (⟨S32x2048x1, .f32⟩ : BufTy).Contents (Elt F)) (v11 a)
def cst_2 (a : Args F) : (⟨S_, .f32⟩ : BufTy).Contents (Elt F) := (constant S_ .f32 0x43000000#32)
def v13 (a : Args F) : (⟨S32x2048x1, .f32⟩ : BufTy).Contents (Elt F) := (broadcastInDim S32x2048x1 ![] bcast_S_S32x2048x1 : (⟨S_, .f32⟩ : BufTy).Contents (Elt F) → (⟨S32x2048x1, .f32⟩ : BufTy).Contents (Elt F)) (cst_2 a)
def v14 (a : Args F) : (⟨S32x2048x1, .f32⟩ : BufTy).Contents (Elt F) := (Host.divf : (⟨S32x2048x1, .f32⟩ : BufTy).Contents (Elt F) → (⟨S32x2048x1, .f32⟩ : BufTy).Contents (Elt F) → (⟨S32x2048x1, .f32⟩ : BufTy).Contents (Elt F)) (v12 a) (v13 a)
def v15 (a : Args F) : (⟨S32x2048x128, .f32⟩ : BufTy).Contents (Elt F) := (broadcastInDim S32x2048x128 ![0, 1, 2] bcast_S32x2048x1_S32x2048x128_0_1_2 : (⟨S32x2048x1, .f32⟩ : BufTy).Contents (Elt F) → (⟨S32x2048x128, .f32⟩ : BufTy).Contents (Elt F)) (v7 a)
def v16 (a : Args F) : (⟨S32x2048x128, .f32⟩ : BufTy).Contents (Elt F) := (subf : (⟨S32x2048x128, .f32⟩ : BufTy).Contents (Elt F) → (⟨S32x2048x128, .f32⟩ : BufTy).Contents (Elt F) → (⟨S32x2048x128, .f32⟩ : BufTy).Contents (Elt F)) (v3 a) (v15 a)
def cst_3 (a : Args F) : (⟨S_, .f32⟩ : BufTy).Contents (Elt F) := (constant S_ .f32 0x3727C5AC#32)
def v17 (a : Args F) : (⟨S32x2048x1, .f32⟩ : BufTy).Contents (Elt F) := (broadcastInDim S32x2048x1 ![] bcast_S_S32x2048x1 : (⟨S_, .f32⟩ : BufTy).Contents (Elt F) → (⟨S32x2048x1, .f32⟩ : BufTy).Contents (Elt F)) (cst_3 a)
def v18 (a : Args F) : (⟨S32x2048x1, .f32⟩ : BufTy).Contents (Elt F) := (addf : (⟨S32x2048x1, .f32⟩ : BufTy).Contents (Elt F) → (⟨S32x2048x1, .f32⟩ : BufTy).Contents (Elt F) → (⟨S32x2048x1, .f32⟩ : BufTy).Contents (Elt F)) (v14 a) (v17 a)
def v19 (a : Args F) : (⟨S32x2048x1, .f32⟩ : BufTy).Contents (Elt F) := (Host.sqrt : (⟨S32x2048x1, .f32⟩ : BufTy).Contents (Elt F) → (⟨S32x2048x1, .f32⟩ : BufTy).Contents (Elt F)) (v18 a)
def v20 (a : Args F) : (⟨S32x2048x128, .f32⟩ : BufTy).Contents (Elt F) := (broadcastInDim S32x2048x128 ![0, 1, 2] bcast_S32x2048x1_S32x2048x128_0_1_2 : (⟨S32x2048x1, .f32⟩ : BufTy).Contents (Elt F) → (⟨S32x2048x128, .f32⟩ : BufTy).Contents (Elt F)) (v19 a)
def v21 (a : Args F) : (⟨S32x2048x128, .f32⟩ : BufTy).Contents (Elt F) := (Host.divf : (⟨S32x2048x128, .f32⟩ : BufTy).Contents (Elt F) → (⟨S32x2048x128, .f32⟩ : BufTy).Contents (Elt F) → (⟨S32x2048x128, .f32⟩ : BufTy).Contents (Elt F)) (v16 a) (v20 a)
def v22 (a : Args F) : (⟨S1x1x128, .f32⟩ : BufTy).Contents (Elt F) := (broadcastInDim S1x1x128 ![2] bcast_S128_S1x1x128_2 : (⟨S128, .f32⟩ : BufTy).Contents (Elt F) → (⟨S1x1x128, .f32⟩ : BufTy).Contents (Elt F)) a.arg3
def v23 (a : Args F) : (⟨S32x2048x128, .f32⟩ : BufTy).Contents (Elt F) := (broadcastInDim S32x2048x128 ![0, 1, 2] bcast_S1x1x128_S32x2048x128_0_1_2 : (⟨S1x1x128, .f32⟩ : BufTy).Contents (Elt F) → (⟨S32x2048x128, .f32⟩ : BufTy).Contents (Elt F)) (v22 a)
def v24 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v21 a) (v23 a)
def v25 (a : Args F) : (⟨S1x1x128, .f32⟩ : BufTy).Contents (Elt F) := (broadcastInDim S1x1x128 ![2] bcast_S128_S1x1x128_2 : (⟨S128, .f32⟩ : BufTy).Contents (Elt F) → (⟨S1x1x128, .f32⟩ : BufTy).Contents (Elt F)) a.arg4
def v26 (a : Args F) : (⟨S32x2048x128, .f32⟩ : BufTy).Contents (Elt F) := (broadcastInDim S32x2048x128 ![0, 1, 2] bcast_S1x1x128_S32x2048x128_0_1_2 : (⟨S1x1x128, .f32⟩ : BufTy).Contents (Elt F) → (⟨S32x2048x128, .f32⟩ : BufTy).Contents (Elt F)) (v25 a)
def v27 (a : Args F) : (⟨S32x2048x128, .f32⟩ : BufTy).Contents (Elt F) := (addf : (⟨S32x2048x128, .f32⟩ : BufTy).Contents (Elt F) → (⟨S32x2048x128, .f32⟩ : BufTy).Contents (Elt F) → (⟨S32x2048x128, .f32⟩ : BufTy).Contents (Elt F)) (v24 a) (v26 a)
def cst_4 (a : Args F) : (⟨S_, .f32⟩ : BufTy).Contents (Elt F) := (constant S_ .f32 0x3F000000#32)
def v28 (a : Args F) : (⟨S32x2048x128, .f32⟩ : BufTy).Contents (Elt F) := (broadcastInDim S32x2048x128 ![] bcast_S_S32x2048x128 : (⟨S_, .f32⟩ : BufTy).Contents (Elt F) → (⟨S32x2048x128, .f32⟩ : BufTy).Contents (Elt F)) (cst_4 a)
def v29 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v28 a) (v27 a)
def v30 (a : Args F) : (⟨S32x2048x128, .f32⟩ : BufTy).Contents (Elt F) := (Host.negf : (⟨S32x2048x128, .f32⟩ : BufTy).Contents (Elt F) → (⟨S32x2048x128, .f32⟩ : BufTy).Contents (Elt F)) (v27 a)
def cst_5 (a : Args F) : (⟨S_, .f32⟩ : BufTy).Contents (Elt F) := (constant S_ .f32 0x3F3504F3#32)
def v31 (a : Args F) : (⟨S32x2048x128, .f32⟩ : BufTy).Contents (Elt F) := (broadcastInDim S32x2048x128 ![] bcast_S_S32x2048x128 : (⟨S_, .f32⟩ : BufTy).Contents (Elt F) → (⟨S32x2048x128, .f32⟩ : BufTy).Contents (Elt F)) (cst_5 a)
def v32 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v30 a) (v31 a)
def v33 (a : Args F) : (⟨S32x2048x128, .f32⟩ : BufTy).Contents (Elt F) := (Host.erfc : (⟨S32x2048x128, .f32⟩ : BufTy).Contents (Elt F) → (⟨S32x2048x128, .f32⟩ : BufTy).Contents (Elt F)) (v32 a)
def v34 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v29 a) (v33 a)
def v35 (a : Args F) : (⟨S32x2048x64, .f32⟩ : BufTy).Contents (Elt F) := ((fun l r => Host.dotGeneral dot_S32x2048x128_S128x64_S32x2048x64_2_0_01_1_n_n none l r) : (⟨S32x2048x128, .f32⟩ : BufTy).Contents (Elt F) → (⟨S128x64, .f32⟩ : BufTy).Contents (Elt F) → (⟨S32x2048x64, .f32⟩ : BufTy).Contents (Elt F)) (v34 a) a.arg5
def v36 (a : Args F) : (⟨S1x1x64, .f32⟩ : BufTy).Contents (Elt F) := (broadcastInDim S1x1x64 ![2] bcast_S64_S1x1x64_2 : (⟨S64, .f32⟩ : BufTy).Contents (Elt F) → (⟨S1x1x64, .f32⟩ : BufTy).Contents (Elt F)) a.arg6
def v37 (a : Args F) : (⟨S32x2048x64, .f32⟩ : BufTy).Contents (Elt F) := (broadcastInDim S32x2048x64 ![0, 1, 2] bcast_S1x1x64_S32x2048x64_0_1_2 : (⟨S1x1x64, .f32⟩ : BufTy).Contents (Elt F) → (⟨S32x2048x64, .f32⟩ : BufTy).Contents (Elt F)) (v36 a)
def v38 (a : Args F) : (⟨S32x2048x64, .f32⟩ : BufTy).Contents (Elt F) := (addf : (⟨S32x2048x64, .f32⟩ : BufTy).Contents (Elt F) → (⟨S32x2048x64, .f32⟩ : BufTy).Contents (Elt F) → (⟨S32x2048x64, .f32⟩ : BufTy).Contents (Elt F)) (v35 a) (v37 a)
def v39 (a : Args F) : (⟨S65536x64, .f32⟩ : BufTy).Contents (Elt F) := fun j => shapeCast S65536x64 (v38 a) shapeCasts_S32x2048x64_S65536x64 j
def v40 (a : Args F) : (⟨S65536x64, .f32⟩ : BufTy).Contents (Elt F) := (mulf : (⟨S65536x64, .f32⟩ : BufTy).Contents (Elt F) → (⟨S65536x64, .f32⟩ : BufTy).Contents (Elt F) → (⟨S65536x64, .f32⟩ : BufTy).Contents (Elt F)) (v39 a) (v39 a)
def cst_6 (a : Args F) : (⟨S_, .f32⟩ : BufTy).Contents (Elt F) := (constant S_ .f32 0x00000000#32)
def v41 (a : Args F) : (⟨S65536, .f32⟩ : BufTy).Contents (Elt F) := ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)) (v40 a) (cst_6 a)
def v42 (a : Args F) : (⟨S65536x1, .f32⟩ : BufTy).Contents (Elt F) := (broadcastInDim S65536x1 ![0] bcast_S65536_S65536x1_0 : (⟨S65536, .f32⟩ : BufTy).Contents (Elt F) → (⟨S65536x1, .f32⟩ : BufTy).Contents (Elt F)) (v41 a)
def cst_7 (a : Args F) : (⟨S_, .f32⟩ : BufTy).Contents (Elt F) := (constant S_ .f32 0x40000000#32)
def v43 (a : Args F) : (⟨S65536x64, .f32⟩ : BufTy).Contents (Elt F) := (broadcastInDim S65536x64 ![] bcast_S_S65536x64 : (⟨S_, .f32⟩ : BufTy).Contents (Elt F) → (⟨S65536x64, .f32⟩ : BufTy).Contents (Elt F)) (cst_7 a)
def v44 (a : Args F) : (⟨S65536x64, .f32⟩ : BufTy).Contents (Elt F) := (mulf : (⟨S65536x64, .f32⟩ : BufTy).Contents (Elt F) → (⟨S65536x64, .f32⟩ : BufTy).Contents (Elt F) → (⟨S65536x64, .f32⟩ : BufTy).Contents (Elt F)) (v43 a) (v39 a)
def v45 (a : Args F) : (⟨S64x512, .f32⟩ : BufTy).Contents (Elt F) := ((transpose S64x512 [1, 0] · transposes_S512x64_S64x512_1_0) : (⟨S512x64, .f32⟩ : BufTy).Contents (Elt F) → (⟨S64x512, .f32⟩ : BufTy).Contents (Elt F)) a.arg7
def v46 (a : Args F) : (⟨S65536x512, .f32⟩ : BufTy).Contents (Elt F) := ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)) (v44 a) (v45 a)
def v47 (a : Args F) : (⟨S65536x512, .f32⟩ : BufTy).Contents (Elt F) := (broadcastInDim S65536x512 ![0, 1] bcast_S65536x1_S65536x512_0_1 : (⟨S65536x1, .f32⟩ : BufTy).Contents (Elt F) → (⟨S65536x512, .f32⟩ : BufTy).Contents (Elt F)) (v42 a)
def v48 (a : Args F) : (⟨S65536x512, .f32⟩ : BufTy).Contents (Elt F) := (subf : (⟨S65536x512, .f32⟩ : BufTy).Contents (Elt F) → (⟨S65536x512, .f32⟩ : BufTy).Contents (Elt F) → (⟨S65536x512, .f32⟩ : BufTy).Contents (Elt F)) (v47 a) (v46 a)
def v49 (a : Args F) : (⟨S512x64, .f32⟩ : BufTy).Contents (Elt F) := (mulf : (⟨S512x64, .f32⟩ : BufTy).Contents (Elt F) → (⟨S512x64, .f32⟩ : BufTy).Contents (Elt F) → (⟨S512x64, .f32⟩ : BufTy).Contents (Elt F)) a.arg7 a.arg7
def cst_8 (a : Args F) : (⟨S_, .f32⟩ : BufTy).Contents (Elt F) := (constant S_ .f32 0x00000000#32)
def v50 (a : Args F) : (⟨S512, .f32⟩ : BufTy).Contents (Elt F) := ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)) (v49 a) (cst_8 a)
def v51 (a : Args F) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) (v50 a)
def v52 (a : Args F) : (⟨S65536x512, .f32⟩ : BufTy).Contents (Elt F) := (broadcastInDim S65536x512 ![0, 1] bcast_S1x512_S65536x512_0_1 : (⟨S1x512, .f32⟩ : BufTy).Contents (Elt F) → (⟨S65536x512, .f32⟩ : BufTy).Contents (Elt F)) (v51 a)
def v53 (a : Args F) : (⟨S65536x512, .f32⟩ : BufTy).Contents (Elt F) := (addf : (⟨S65536x512, .f32⟩ : BufTy).Contents (Elt F) → (⟨S65536x512, .f32⟩ : BufTy).Contents (Elt F) → (⟨S65536x512, .f32⟩ : BufTy).Contents (Elt F)) (v48 a) (v52 a)
def c0_v0 (a : Args F) : (⟨S65536x512, .i32⟩ : BufTy).Contents (Elt F) := (iotaInDim S65536x512 32 1)
def c0_cst (a : Args F) : (⟨S_, .f32⟩ : BufTy).Contents (Elt F) := (constant S_ .f32 0x7F800000#32)
def c0_c (a : Args F) : (⟨S_, .i32⟩ : BufTy).Contents (Elt F) := (constantI S_ 32 0#32)
def c0_v1_0 (a : Args F) : (⟨S65536, .f32⟩ : BufTy).Contents (Elt F) := (fun x y u v j => (Host.argReduce reducer_argmin_f32_i32 x y u v reducesTo_S65536x512_S65536_d1 h_S_ j).1) (v53 a) (c0_v0 a) (c0_cst a) (c0_c a)
def v54 (a : Args F) : (⟨S65536, .i32⟩ : BufTy).Contents (Elt F) := (fun x y u v j => (Host.argReduce reducer_argmin_f32_i32 x y u v reducesTo_S65536x512_S65536_d1 h_S_ j).2) (v53 a) (c0_v0 a) (c0_cst a) (c0_c a)
def c1_c (a : Args F) : (⟨S_, .i32⟩ : BufTy).Contents (Elt F) := (constantI S_ 32 0#32)
def c1_v0 (a : Args F) : (⟨S65536, .i32⟩ : BufTy).Contents (Elt F) := (broadcastInDim S65536 ![] bcast_S_S65536) (c1_c a)
def c1_v1 (a : Args F) : (⟨S65536, .i1⟩ : BufTy).Contents (Elt F) := (cmpi .slt) (v54 a) (c1_v0 a)
def c1_c_0 (a : Args F) : (⟨S_, .i32⟩ : BufTy).Contents (Elt F) := (constantI S_ 32 512#32)
def c1_v2 (a : Args F) : (⟨S65536, .i32⟩ : BufTy).Contents (Elt F) := (broadcastInDim S65536 ![] bcast_S_S65536) (c1_c_0 a)
def c1_v3 (a : Args F) : (⟨S65536, .i32⟩ : BufTy).Contents (Elt F) := addi (v54 a) (c1_v2 a)
def c1_v4 (a : Args F) : (⟨S65536, .i32⟩ : BufTy).Contents (Elt F) := select (c1_v1 a) (c1_v3 a) (v54 a)
def c1_v5 (a : Args F) : (⟨S65536x1, .i32⟩ : BufTy).Contents (Elt F) := (broadcastInDim S65536x1 ![0] bcast_S65536_S65536x1_0) (c1_v4 a)
def c1_c_1 (a : Args F) : (⟨S1, .i32⟩ : BufTy).Contents (Elt F) := (constantI S1 32 511#32)
def c1_c_2 (a : Args F) : (⟨S_, .i32⟩ : BufTy).Contents (Elt F) := (constantI S_ 32 0#32)
def c1_v6 (a : Args F) : (⟨S65536x1, .i32⟩ : BufTy).Contents (Elt F) := (broadcastInDim S65536x1 ![] bcast_S_S65536x1) (c1_c_2 a)
def c1_v7 (a : Args F) : (⟨S65536x1, .i1⟩ : BufTy).Contents (Elt F) := (cmpi .sge) (c1_v5 a) (c1_v6 a)
def c1_v8 (a : Args F) : (⟨S1x1, .i32⟩ : BufTy).Contents (Elt F) := (broadcastInDim S1x1 ![1] bcast_S1_S1x1_1) (c1_c_1 a)
def c1_v9 (a : Args F) : (⟨S65536x1, .i32⟩ : BufTy).Contents (Elt F) := (broadcastInDim S65536x1 ![0, 1] bcast_S1x1_S65536x1_0_1) (c1_v8 a)
def c1_v10 (a : Args F) : (⟨S65536x1, .i1⟩ : BufTy).Contents (Elt F) := (cmpi .sle) (c1_v5 a) (c1_v9 a)
def c1_v11 (a : Args F) : (⟨S65536x1, .i1⟩ : BufTy).Contents (Elt F) := andi (c1_v7 a) (c1_v10 a)
def c1_c_3 (a : Args F) : (⟨S_, .i1⟩ : BufTy).Contents (Elt F) := (constantI S_ 1 1#1)
def c1_v12 (a : Args F) : (⟨S65536, .i1⟩ : BufTy).Contents (Elt F) := (fun x v => Host.reduce IntOp.andi x v reducesTo_S65536x1_S65536_d1 h_S_) (c1_v11 a) (c1_c_3 a)
def c1_v13 (a : Args F) : (⟨S65536x64, .f32⟩ : BufTy).Contents (Elt F) := (fun x i => Host.gather gather_S512x64_S65536x1_S65536x64_1_0_n_n_0_1_164 x i) a.arg7 (c1_v5 a)
def c1_v14 (a : Args F) : (⟨S65536x64, .i1⟩ : BufTy).Contents (Elt F) := (broadcastInDim S65536x64 ![0] bcast_S65536_S65536x64_0) (c1_v12 a)
def c1_cst (a : Args F) : (⟨S_, .f32⟩ : BufTy).Contents (Elt F) := (constant S_ .f32 0x7FC00000#32)
def c1_v15 (a : Args F) : (⟨S65536x64, .f32⟩ : BufTy).Contents (Elt F) := (broadcastInDim S65536x64 ![] bcast_S_S65536x64) (c1_cst a)
def v55 (a : Args F) : (⟨S65536x64, .f32⟩ : BufTy).Contents (Elt F) := select (c1_v14 a) (c1_v13 a) (c1_v15 a)
def v56 (a : Args F) : (⟨S32x2048x64, .f32⟩ : BufTy).Contents (Elt F) := fun j => shapeCast S32x2048x64 (v55 a) shapeCasts_S65536x64_S32x2048x64 j
def v57 (a : Args F) : (⟨S65536x1, .i32⟩ : BufTy).Contents (Elt F) := fun j => shapeCast S65536x1 (v54 a) shapeCasts_S65536_S65536x1 j
def v58 (a : Args F) : (⟨S32x2048x64, .f32⟩ : BufTy).Contents (Elt F) := (subf : (⟨S32x2048x64, .f32⟩ : BufTy).Contents (Elt F) → (⟨S32x2048x64, .f32⟩ : BufTy).Contents (Elt F) → (⟨S32x2048x64, .f32⟩ : BufTy).Contents (Elt F)) (v56 a) (v38 a)
def v59 (a : Args F) : (⟨S32x2048x64, .f32⟩ : BufTy).Contents (Elt F) := (mulf : (⟨S32x2048x64, .f32⟩ : BufTy).Contents (Elt F) → (⟨S32x2048x64, .f32⟩ : BufTy).Contents (Elt F) → (⟨S32x2048x64, .f32⟩ : BufTy).Contents (Elt F)) (v58 a) (v58 a)
def cst_9 (a : Args F) : (⟨S_, .f32⟩ : BufTy).Contents (Elt F) := (constant S_ .f32 0x00000000#32)
def v60 (a : Args F) : (⟨S_, .f32⟩ : BufTy).Contents (Elt F) := ((fun x v => Host.reduceAdd x v reducesTo_S32x2048x64_S_d0_1_2 h_S_) : (⟨S32x2048x64, .f32⟩ : BufTy).Contents (Elt F) → (⟨S_, .f32⟩ : BufTy).Contents (Elt F) → (⟨S_, .f32⟩ : BufTy).Contents (Elt F)) (v59 a) (cst_9 a)
def v61 (a : Args F) : (⟨S1x1, .f32⟩ : BufTy).Contents (Elt F) := fun j => shapeCast S1x1 (v60 a) shapeCasts_S_S1x1 j

/-- The 99 operations in order. -/
abbrev ops : List (HloOp τ sig (Elt F)) :=
  [ binary main_arg0 main_arg1 main_v0 ((fun l r => Host.dotGeneral dot_S32x2048x14_S14x128_S32x2048x128_2_0_01_1_n_n none l r) : (⟨S32x2048x14, .f32⟩ : BufTy).Contents (Elt F) → (⟨S14x128, .f32⟩ : BufTy).Contents (Elt F) → (⟨S32x2048x128, .f32⟩ : BufTy).Contents (Elt F)),
    unary main_arg2 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v0 main_v2 main_v3 (addf : (⟨S32x2048x128, .f32⟩ : BufTy).Contents (Elt F) → (⟨S32x2048x128, .f32⟩ : BufTy).Contents (Elt F) → (⟨S32x2048x128, .f32⟩ : BufTy).Contents (Elt F)),
    nullary main_cst (constant S_ .f32 0x00000000#32),
    binary main_v3 main_cst main_v4 ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)),
    unary main_v4 main_v5 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_0 (constant S_ .f32 0x43000000#32),
    unary main_cst_0 main_v6 (broadcastInDim S32x2048x1 ![] bcast_S_S32x2048x1 : (⟨S_, .f32⟩ : BufTy).Contents (Elt F) → (⟨S32x2048x1, .f32⟩ : BufTy).Contents (Elt F)),
    binary main_v5 main_v6 main_v7 (Host.divf : (⟨S32x2048x1, .f32⟩ : BufTy).Contents (Elt F) → (⟨S32x2048x1, .f32⟩ : BufTy).Contents (Elt F) → (⟨S32x2048x1, .f32⟩ : BufTy).Contents (Elt F)),
    unary main_v7 main_v8 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v3 main_v8 main_v9 (subf : (⟨S32x2048x128, .f32⟩ : BufTy).Contents (Elt F) → (⟨S32x2048x128, .f32⟩ : BufTy).Contents (Elt F) → (⟨S32x2048x128, .f32⟩ : BufTy).Contents (Elt F)),
    binary main_v9 main_v9 main_v10 (mulf : (⟨S32x2048x128, .f32⟩ : BufTy).Contents (Elt F) → (⟨S32x2048x128, .f32⟩ : BufTy).Contents (Elt F) → (⟨S32x2048x128, .f32⟩ : BufTy).Contents (Elt F)),
    nullary main_cst_1 (constant S_ .f32 0x00000000#32),
    binary main_v10 main_cst_1 main_v11 ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)),
    unary main_v11 main_v12 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_2 (constant S_ .f32 0x43000000#32),
    unary main_cst_2 main_v13 (broadcastInDim S32x2048x1 ![] bcast_S_S32x2048x1 : (⟨S_, .f32⟩ : BufTy).Contents (Elt F) → (⟨S32x2048x1, .f32⟩ : BufTy).Contents (Elt F)),
    binary main_v12 main_v13 main_v14 (Host.divf : (⟨S32x2048x1, .f32⟩ : BufTy).Contents (Elt F) → (⟨S32x2048x1, .f32⟩ : BufTy).Contents (Elt F) → (⟨S32x2048x1, .f32⟩ : BufTy).Contents (Elt F)),
    unary main_v7 main_v15 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v3 main_v15 main_v16 (subf : (⟨S32x2048x128, .f32⟩ : BufTy).Contents (Elt F) → (⟨S32x2048x128, .f32⟩ : BufTy).Contents (Elt F) → (⟨S32x2048x128, .f32⟩ : BufTy).Contents (Elt F)),
    nullary main_cst_3 (constant S_ .f32 0x3727C5AC#32),
    unary main_cst_3 main_v17 (broadcastInDim S32x2048x1 ![] bcast_S_S32x2048x1 : (⟨S_, .f32⟩ : BufTy).Contents (Elt F) → (⟨S32x2048x1, .f32⟩ : BufTy).Contents (Elt F)),
    binary main_v14 main_v17 main_v18 (addf : (⟨S32x2048x1, .f32⟩ : BufTy).Contents (Elt F) → (⟨S32x2048x1, .f32⟩ : BufTy).Contents (Elt F) → (⟨S32x2048x1, .f32⟩ : BufTy).Contents (Elt F)),
    unary main_v18 main_v19 (Host.sqrt : (⟨S32x2048x1, .f32⟩ : BufTy).Contents (Elt F) → (⟨S32x2048x1, .f32⟩ : BufTy).Contents (Elt F)),
    unary main_v19 main_v20 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v16 main_v20 main_v21 (Host.divf : (⟨S32x2048x128, .f32⟩ : BufTy).Contents (Elt F) → (⟨S32x2048x128, .f32⟩ : BufTy).Contents (Elt F) → (⟨S32x2048x128, .f32⟩ : BufTy).Contents (Elt F)),
    unary main_arg3 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v21 main_v23 main_v24 (mulf : (⟨S32x2048x128, .f32⟩ : BufTy).Contents (Elt F) → (⟨S32x2048x128, .f32⟩ : BufTy).Contents (Elt F) → (⟨S32x2048x128, .f32⟩ : BufTy).Contents (Elt F)),
    unary main_arg4 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v24 main_v26 main_v27 (addf : (⟨S32x2048x128, .f32⟩ : BufTy).Contents (Elt F) → (⟨S32x2048x128, .f32⟩ : BufTy).Contents (Elt F) → (⟨S32x2048x128, .f32⟩ : BufTy).Contents (Elt F)),
    nullary main_cst_4 (constant S_ .f32 0x3F000000#32),
    unary main_cst_4 main_v28 (broadcastInDim S32x2048x128 ![] bcast_S_S32x2048x128 : (⟨S_, .f32⟩ : BufTy).Contents (Elt F) → (⟨S32x2048x128, .f32⟩ : BufTy).Contents (Elt F)),
    binary main_v28 main_v27 main_v29 (mulf : (⟨S32x2048x128, .f32⟩ : BufTy).Contents (Elt F) → (⟨S32x2048x128, .f32⟩ : BufTy).Contents (Elt F) → (⟨S32x2048x128, .f32⟩ : BufTy).Contents (Elt F)),
    unary main_v27 main_v30 (Host.negf : (⟨S32x2048x128, .f32⟩ : BufTy).Contents (Elt F) → (⟨S32x2048x128, .f32⟩ : BufTy).Contents (Elt F)),
    nullary main_cst_5 (constant S_ .f32 0x3F3504F3#32),
    unary main_cst_5 main_v31 (broadcastInDim S32x2048x128 ![] bcast_S_S32x2048x128 : (⟨S_, .f32⟩ : BufTy).Contents (Elt F) → (⟨S32x2048x128, .f32⟩ : BufTy).Contents (Elt F)),
    binary main_v30 main_v31 main_v32 (mulf : (⟨S32x2048x128, .f32⟩ : BufTy).Contents (Elt F) → (⟨S32x2048x128, .f32⟩ : BufTy).Contents (Elt F) → (⟨S32x2048x128, .f32⟩ : BufTy).Contents (Elt F)),
    unary main_v32 main_v33 (Host.erfc : (⟨S32x2048x128, .f32⟩ : BufTy).Contents (Elt F) → (⟨S32x2048x128, .f32⟩ : BufTy).Contents (Elt F)),
    binary main_v29 main_v33 main_v34 (mulf : (⟨S32x2048x128, .f32⟩ : BufTy).Contents (Elt F) → (⟨S32x2048x128, .f32⟩ : BufTy).Contents (Elt F) → (⟨S32x2048x128, .f32⟩ : BufTy).Contents (Elt F)),
    binary main_v34 main_arg5 main_v35 ((fun l r => Host.dotGeneral dot_S32x2048x128_S128x64_S32x2048x64_2_0_01_1_n_n none l r) : (⟨S32x2048x128, .f32⟩ : BufTy).Contents (Elt F) → (⟨S128x64, .f32⟩ : BufTy).Contents (Elt F) → (⟨S32x2048x64, .f32⟩ : BufTy).Contents (Elt F)),
    unary main_arg6 main_v36 (broadcastInDim S1x1x64 ![2] bcast_S64_S1x1x64_2 : (⟨S64, .f32⟩ : BufTy).Contents (Elt F) → (⟨S1x1x64, .f32⟩ : BufTy).Contents (Elt F)),
    unary main_v36 main_v37 (broadcastInDim S32x2048x64 ![0, 1, 2] bcast_S1x1x64_S32x2048x64_0_1_2 : (⟨S1x1x64, .f32⟩ : BufTy).Contents (Elt F) → (⟨S32x2048x64, .f32⟩ : BufTy).Contents (Elt F)),
    binary main_v35 main_v37 main_v38 (addf : (⟨S32x2048x64, .f32⟩ : BufTy).Contents (Elt F) → (⟨S32x2048x64, .f32⟩ : BufTy).Contents (Elt F) → (⟨S32x2048x64, .f32⟩ : BufTy).Contents (Elt F)),
    reshape main_v38 main_v39 (rfl : (.f32 : EltTy) = .f32) shapeCasts_S32x2048x64_S65536x64,
    binary main_v39 main_v39 main_v40 (mulf : (⟨S65536x64, .f32⟩ : BufTy).Contents (Elt F) → (⟨S65536x64, .f32⟩ : BufTy).Contents (Elt F) → (⟨S65536x64, .f32⟩ : BufTy).Contents (Elt F)),
    nullary main_cst_6 (constant S_ .f32 0x00000000#32),
    binary main_v40 main_cst_6 main_v41 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v41 main_v42 (broadcastInDim S65536x1 ![0] bcast_S65536_S65536x1_0 : (⟨S65536, .f32⟩ : BufTy).Contents (Elt F) → (⟨S65536x1, .f32⟩ : BufTy).Contents (Elt F)),
    nullary main_cst_7 (constant S_ .f32 0x40000000#32),
    unary main_cst_7 main_v43 (broadcastInDim S65536x64 ![] bcast_S_S65536x64 : (⟨S_, .f32⟩ : BufTy).Contents (Elt F) → (⟨S65536x64, .f32⟩ : BufTy).Contents (Elt F)),
    binary main_v43 main_v39 main_v44 (mulf : (⟨S65536x64, .f32⟩ : BufTy).Contents (Elt F) → (⟨S65536x64, .f32⟩ : BufTy).Contents (Elt F) → (⟨S65536x64, .f32⟩ : BufTy).Contents (Elt F)),
    unary main_arg7 main_v45 ((transpose S64x512 [1, 0] · transposes_S512x64_S64x512_1_0) : (⟨S512x64, .f32⟩ : BufTy).Contents (Elt F) → (⟨S64x512, .f32⟩ : BufTy).Contents (Elt F)),
    binary main_v44 main_v45 main_v46 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)),
    unary main_v42 main_v47 (broadcastInDim S65536x512 ![0, 1] bcast_S65536x1_S65536x512_0_1 : (⟨S65536x1, .f32⟩ : BufTy).Contents (Elt F) → (⟨S65536x512, .f32⟩ : BufTy).Contents (Elt F)),
    binary main_v47 main_v46 main_v48 (subf : (⟨S65536x512, .f32⟩ : BufTy).Contents (Elt F) → (⟨S65536x512, .f32⟩ : BufTy).Contents (Elt F) → (⟨S65536x512, .f32⟩ : BufTy).Contents (Elt F)),
    binary main_arg7 main_arg7 main_v49 (mulf : (⟨S512x64, .f32⟩ : BufTy).Contents (Elt F) → (⟨S512x64, .f32⟩ : BufTy).Contents (Elt F) → (⟨S512x64, .f32⟩ : BufTy).Contents (Elt F)),
    nullary main_cst_8 (constant S_ .f32 0x00000000#32),
    binary main_v49 main_cst_8 main_v50 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v50 main_v51 (broadcastInDim S1x512 ![1] bcast_S512_S1x512_1 : (⟨S512, .f32⟩ : BufTy).Contents (Elt F) → (⟨S1x512, .f32⟩ : BufTy).Contents (Elt F)),
    unary main_v51 main_v52 (broadcastInDim S65536x512 ![0, 1] bcast_S1x512_S65536x512_0_1 : (⟨S1x512, .f32⟩ : BufTy).Contents (Elt F) → (⟨S65536x512, .f32⟩ : BufTy).Contents (Elt F)),
    binary main_v48 main_v52 main_v53 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S65536x512, .i32⟩) main_call0_v0) (iotaInDim S65536x512 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x512, .f32⟩) main_v53) (TRef.of (T := ⟨S65536x512, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x512_S65536_d1 h_S_ j).1),
    TRef.quaternary (TRef.of (T := ⟨S65536x512, .f32⟩) main_v53) (TRef.of (T := ⟨S65536x512, .i32⟩) main_call0_v0) (TRef.of (T := ⟨S_, .f32⟩) main_call0_cst) (TRef.of (T := ⟨S_, .i32⟩) main_call0_c) (TRef.of (T := ⟨S65536, .i32⟩) main_v54) (fun x y u v j => (Host.argReduce reducer_argmin_f32_i32 x y u v reducesTo_S65536x512_S65536_d1 h_S_ j).2),
    TRef.nullary (TRef.of (T := ⟨S_, .i32⟩) main_call1_c) (constantI S_ 32 0#32),
    TRef.unary (TRef.of (T := ⟨S_, .i32⟩) main_call1_c) (TRef.of (T := ⟨S65536, .i32⟩) main_call1_v0) (broadcastInDim S65536 ![] bcast_S_S65536),
    TRef.binary (TRef.of (T := ⟨S65536, .i32⟩) main_v54) (TRef.of (T := ⟨S65536, .i32⟩) main_call1_v0) (TRef.of (T := ⟨S65536, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S65536, .i32⟩) main_call1_v2) (broadcastInDim S65536 ![] bcast_S_S65536),
    TRef.binary (TRef.of (T := ⟨S65536, .i32⟩) main_v54) (TRef.of (T := ⟨S65536, .i32⟩) main_call1_v2) (TRef.of (T := ⟨S65536, .i32⟩) main_call1_v3) addi,
    TRef.ternary (TRef.of (T := ⟨S65536, .i1⟩) main_call1_v1) (TRef.of (T := ⟨S65536, .i32⟩) main_call1_v3) (TRef.of (T := ⟨S65536, .i32⟩) main_v54) (TRef.of (T := ⟨S65536, .i32⟩) main_call1_v4) select,
    TRef.unary (TRef.of (T := ⟨S65536, .i32⟩) main_call1_v4) (TRef.of (T := ⟨S65536x1, .i32⟩) main_call1_v5) (broadcastInDim S65536x1 ![0] bcast_S65536_S65536x1_0),
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S65536x1, .i32⟩) main_call1_v6) (broadcastInDim S65536x1 ![] bcast_S_S65536x1),
    TRef.binary (TRef.of (T := ⟨S65536x1, .i32⟩) main_call1_v5) (TRef.of (T := ⟨S65536x1, .i32⟩) main_call1_v6) (TRef.of (T := ⟨S65536x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S65536x1, .i32⟩) main_call1_v9) (broadcastInDim S65536x1 ![0, 1] bcast_S1x1_S65536x1_0_1),
    TRef.binary (TRef.of (T := ⟨S65536x1, .i32⟩) main_call1_v5) (TRef.of (T := ⟨S65536x1, .i32⟩) main_call1_v9) (TRef.of (T := ⟨S65536x1, .i1⟩) main_call1_v10) (cmpi .sle),
    TRef.binary (TRef.of (T := ⟨S65536x1, .i1⟩) main_call1_v7) (TRef.of (T := ⟨S65536x1, .i1⟩) main_call1_v10) (TRef.of (T := ⟨S65536x1, .i1⟩) main_call1_v11) andi,
    TRef.nullary (TRef.of (T := ⟨S_, .i1⟩) main_call1_c_3) (constantI S_ 1 1#1),
    TRef.binary (TRef.of (T := ⟨S65536x1, .i1⟩) main_call1_v11) (TRef.of (T := ⟨S_, .i1⟩) main_call1_c_3) (TRef.of (T := ⟨S65536, .i1⟩) main_call1_v12) (fun x v => Host.reduce IntOp.andi x v reducesTo_S65536x1_S65536_d1 h_S_),
    TRef.binary (TRef.of (T := ⟨S512x64, .f32⟩) main_arg7) (TRef.of (T := ⟨S65536x1, .i32⟩) main_call1_v5) (TRef.of (T := ⟨S65536x64, .f32⟩) main_call1_v13) (fun x i => Host.gather gather_S512x64_S65536x1_S65536x64_1_0_n_n_0_1_164 x i),
    TRef.unary (TRef.of (T := ⟨S65536, .i1⟩) main_call1_v12) (TRef.of (T := ⟨S65536x64, .i1⟩) main_call1_v14) (broadcastInDim S65536x64 ![0] bcast_S65536_S65536x64_0),
    TRef.nullary (TRef.of (T := ⟨S_, .f32⟩) main_call1_cst) (constant S_ .f32 0x7FC00000#32),
    TRef.unary (TRef.of (T := ⟨S_, .f32⟩) main_call1_cst) (TRef.of (T := ⟨S65536x64, .f32⟩) main_call1_v15) (broadcastInDim S65536x64 ![] bcast_S_S65536x64),
    TRef.ternary (TRef.of (T := ⟨S65536x64, .i1⟩) main_call1_v14) (TRef.of (T := ⟨S65536x64, .f32⟩) main_call1_v13) (TRef.of (T := ⟨S65536x64, .f32⟩) main_call1_v15) (TRef.of (T := ⟨S65536x64, .f32⟩) main_v55) select,
    reshape main_v55 main_v56 (rfl : (.f32 : EltTy) = .f32) shapeCasts_S65536x64_S32x2048x64,
    reshape main_v54 main_v57 (rfl : (.i32 : EltTy) = .i32) shapeCasts_S65536_S65536x1,
    binary main_v56 main_v38 main_v58 (subf : (⟨S32x2048x64, .f32⟩ : BufTy).Contents (Elt F) → (⟨S32x2048x64, .f32⟩ : BufTy).Contents (Elt F) → (⟨S32x2048x64, .f32⟩ : BufTy).Contents (Elt F)),
    binary main_v58 main_v58 main_v59 (mulf : (⟨S32x2048x64, .f32⟩ : BufTy).Contents (Elt F) → (⟨S32x2048x64, .f32⟩ : BufTy).Contents (Elt F) → (⟨S32x2048x64, .f32⟩ : BufTy).Contents (Elt F)),
    nullary main_cst_9 (constant S_ .f32 0x00000000#32),
    binary main_v59 main_cst_9 main_v60 ((fun x v => Host.reduceAdd x v reducesTo_S32x2048x64_S_d0_1_2 h_S_) : (⟨S32x2048x64, .f32⟩ : BufTy).Contents (Elt F) → (⟨S_, .f32⟩ : BufTy).Contents (Elt F) → (⟨S_, .f32⟩ : BufTy).Contents (Elt F)),
    reshape main_v60 main_v61 (rfl : (.f32 : EltTy) = .f32) shapeCasts_S_S1x1 ]

set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., reshape_bufs_sub .., binary_bufs_sub .., binary_bufs_sub .., nullary_bufs_sub .., binary_bufs_sub .., reshape_bufs_sub ..⟩

/-- The arguments read off a memory. -/
def argsOf (m : (ℓ : Loc nD τ sig) → Buf (Elt F) ℓ) (c : Dev nD) : Args F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7)⟩

abbrev ops0 : List (HloOp τ sig (Elt F)) :=
  [ binary main_arg0 main_arg1 main_v0 ((fun l r => Host.dotGeneral dot_S32x2048x14_S14x128_S32x2048x128_2_0_01_1_n_n none l r) : (⟨S32x2048x14, .f32⟩ : BufTy).Contents (Elt F) → (⟨S14x128, .f32⟩ : BufTy).Contents (Elt F) → (⟨S32x2048x128, .f32⟩ : BufTy).Contents (Elt F)),
    unary main_arg2 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v0 main_v2 main_v3 (addf : (⟨S32x2048x128, .f32⟩ : BufTy).Contents (Elt F) → (⟨S32x2048x128, .f32⟩ : BufTy).Contents (Elt F) → (⟨S32x2048x128, .f32⟩ : BufTy).Contents (Elt F)),
    nullary main_cst (constant S_ .f32 0x00000000#32),
    binary main_v3 main_cst main_v4 ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)),
    unary main_v4 main_v5 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_0 (constant S_ .f32 0x43000000#32),
    unary main_cst_0 main_v6 (broadcastInDim S32x2048x1 ![] bcast_S_S32x2048x1 : (⟨S_, .f32⟩ : BufTy).Contents (Elt F) → (⟨S32x2048x1, .f32⟩ : BufTy).Contents (Elt F)),
    binary main_v5 main_v6 main_v7 (Host.divf : (⟨S32x2048x1, .f32⟩ : BufTy).Contents (Elt F) → (⟨S32x2048x1, .f32⟩ : BufTy).Contents (Elt F) → (⟨S32x2048x1, .f32⟩ : BufTy).Contents (Elt F)),
    unary main_v7 main_v8 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v3 main_v8 main_v9 (subf : (⟨S32x2048x128, .f32⟩ : BufTy).Contents (Elt F) → (⟨S32x2048x128, .f32⟩ : BufTy).Contents (Elt F) → (⟨S32x2048x128, .f32⟩ : BufTy).Contents (Elt F)),
    binary main_v9 main_v9 main_v10 (mulf : (⟨S32x2048x128, .f32⟩ : BufTy).Contents (Elt F) → (⟨S32x2048x128, .f32⟩ : BufTy).Contents (Elt F) → (⟨S32x2048x128, .f32⟩ : BufTy).Contents (Elt F)),
    nullary main_cst_1 (constant S_ .f32 0x00000000#32),
    binary main_v10 main_cst_1 main_v11 ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)),
    unary main_v11 main_v12 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_2 (constant S_ .f32 0x43000000#32),
    unary main_cst_2 main_v13 (broadcastInDim S32x2048x1 ![] bcast_S_S32x2048x1 : (⟨S_, .f32⟩ : BufTy).Contents (Elt F) → (⟨S32x2048x1, .f32⟩ : BufTy).Contents (Elt F)),
    binary main_v12 main_v13 main_v14 (Host.divf : (⟨S32x2048x1, .f32⟩ : BufTy).Contents (Elt F) → (⟨S32x2048x1, .f32⟩ : BufTy).Contents (Elt F) → (⟨S32x2048x1, .f32⟩ : BufTy).Contents (Elt F)),
    unary main_v7 main_v15 (broadcastInDim S32x2048x128 ![0, 1, 2] bcast_S32x2048x1_S32x2048x128_0_1_2 : (⟨S32x2048x1, .f32⟩ : BufTy).Contents (Elt F) → (⟨S32x2048x128, .f32⟩ : BufTy).Contents (Elt F)) ]
abbrev ops1 : List (HloOp τ sig (Elt F)) :=
  [ binary main_v3 main_v15 main_v16 (subf : (⟨S32x2048x128, .f32⟩ : BufTy).Contents (Elt F) → (⟨S32x2048x128, .f32⟩ : BufTy).Contents (Elt F) → (⟨S32x2048x128, .f32⟩ : BufTy).Contents (Elt F)),
    nullary main_cst_3 (constant S_ .f32 0x3727C5AC#32),
    unary main_cst_3 main_v17 (broadcastInDim S32x2048x1 ![] bcast_S_S32x2048x1 : (⟨S_, .f32⟩ : BufTy).Contents (Elt F) → (⟨S32x2048x1, .f32⟩ : BufTy).Contents (Elt F)),
    binary main_v14 main_v17 main_v18 (addf : (⟨S32x2048x1, .f32⟩ : BufTy).Contents (Elt F) → (⟨S32x2048x1, .f32⟩ : BufTy).Contents (Elt F) → (⟨S32x2048x1, .f32⟩ : BufTy).Contents (Elt F)),
    unary main_v18 main_v19 (Host.sqrt : (⟨S32x2048x1, .f32⟩ : BufTy).Contents (Elt F) → (⟨S32x2048x1, .f32⟩ : BufTy).Contents (Elt F)),
    unary main_v19 main_v20 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v16 main_v20 main_v21 (Host.divf : (⟨S32x2048x128, .f32⟩ : BufTy).Contents (Elt F) → (⟨S32x2048x128, .f32⟩ : BufTy).Contents (Elt F) → (⟨S32x2048x128, .f32⟩ : BufTy).Contents (Elt F)),
    unary main_arg3 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v21 main_v23 main_v24 (mulf : (⟨S32x2048x128, .f32⟩ : BufTy).Contents (Elt F) → (⟨S32x2048x128, .f32⟩ : BufTy).Contents (Elt F) → (⟨S32x2048x128, .f32⟩ : BufTy).Contents (Elt F)),
    unary main_arg4 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v24 main_v26 main_v27 (addf : (⟨S32x2048x128, .f32⟩ : BufTy).Contents (Elt F) → (⟨S32x2048x128, .f32⟩ : BufTy).Contents (Elt F) → (⟨S32x2048x128, .f32⟩ : BufTy).Contents (Elt F)),
    nullary main_cst_4 (constant S_ .f32 0x3F000000#32),
    unary main_cst_4 main_v28 (broadcastInDim S32x2048x128 ![] bcast_S_S32x2048x128 : (⟨S_, .f32⟩ : BufTy).Contents (Elt F) → (⟨S32x2048x128, .f32⟩ : BufTy).Contents (Elt F)),
    binary main_v28 main_v27 main_v29 (mulf : (⟨S32x2048x128, .f32⟩ : BufTy).Contents (Elt F) → (⟨S32x2048x128, .f32⟩ : BufTy).Contents (Elt F) → (⟨S32x2048x128, .f32⟩ : BufTy).Contents (Elt F)),
    unary main_v27 main_v30 (Host.negf : (⟨S32x2048x128, .f32⟩ : BufTy).Contents (Elt F) → (⟨S32x2048x128, .f32⟩ : BufTy).Contents (Elt F)),
    nullary main_cst_5 (constant S_ .f32 0x3F3504F3#32),
    unary main_cst_5 main_v31 (broadcastInDim S32x2048x128 ![] bcast_S_S32x2048x128 : (⟨S_, .f32⟩ : BufTy).Contents (Elt F) → (⟨S32x2048x128, .f32⟩ : BufTy).Contents (Elt F)),
    binary main_v30 main_v31 main_v32 (mulf : (⟨S32x2048x128, .f32⟩ : BufTy).Contents (Elt F) → (⟨S32x2048x128, .f32⟩ : BufTy).Contents (Elt F) → (⟨S32x2048x128, .f32⟩ : BufTy).Contents (Elt F)) ]
abbrev ops2 : List (HloOp τ sig (Elt F)) :=
  [ unary main_v32 main_v33 (Host.erfc : (⟨S32x2048x128, .f32⟩ : BufTy).Contents (Elt F) → (⟨S32x2048x128, .f32⟩ : BufTy).Contents (Elt F)),
    binary main_v29 main_v33 main_v34 (mulf : (⟨S32x2048x128, .f32⟩ : BufTy).Contents (Elt F) → (⟨S32x2048x128, .f32⟩ : BufTy).Contents (Elt F) → (⟨S32x2048x128, .f32⟩ : BufTy).Contents (Elt F)),
    binary main_v34 main_arg5 main_v35 ((fun l r => Host.dotGeneral dot_S32x2048x128_S128x64_S32x2048x64_2_0_01_1_n_n none l r) : (⟨S32x2048x128, .f32⟩ : BufTy).Contents (Elt F) → (⟨S128x64, .f32⟩ : BufTy).Contents (Elt F) → (⟨S32x2048x64, .f32⟩ : BufTy).Contents (Elt F)),
    unary main_arg6 main_v36 (broadcastInDim S1x1x64 ![2] bcast_S64_S1x1x64_2 : (⟨S64, .f32⟩ : BufTy).Contents (Elt F) → (⟨S1x1x64, .f32⟩ : BufTy).Contents (Elt F)),
    unary main_v36 main_v37 (broadcastInDim S32x2048x64 ![0, 1, 2] bcast_S1x1x64_S32x2048x64_0_1_2 : (⟨S1x1x64, .f32⟩ : BufTy).Contents (Elt F) → (⟨S32x2048x64, .f32⟩ : BufTy).Contents (Elt F)),
    binary main_v35 main_v37 main_v38 (addf : (⟨S32x2048x64, .f32⟩ : BufTy).Contents (Elt F) → (⟨S32x2048x64, .f32⟩ : BufTy).Contents (Elt F) → (⟨S32x2048x64, .f32⟩ : BufTy).Contents (Elt F)),
    reshape main_v38 main_v39 (rfl : (.f32 : EltTy) = .f32) shapeCasts_S32x2048x64_S65536x64,
    binary main_v39 main_v39 main_v40 (mulf : (⟨S65536x64, .f32⟩ : BufTy).Contents (Elt F) → (⟨S65536x64, .f32⟩ : BufTy).Contents (Elt F) → (⟨S65536x64, .f32⟩ : BufTy).Contents (Elt F)),
    nullary main_cst_6 (constant S_ .f32 0x00000000#32),
    binary main_v40 main_cst_6 main_v41 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v41 main_v42 (broadcastInDim S65536x1 ![0] bcast_S65536_S65536x1_0 : (⟨S65536, .f32⟩ : BufTy).Contents (Elt F) → (⟨S65536x1, .f32⟩ : BufTy).Contents (Elt F)),
    nullary main_cst_7 (constant S_ .f32 0x40000000#32),
    unary main_cst_7 main_v43 (broadcastInDim S65536x64 ![] bcast_S_S65536x64 : (⟨S_, .f32⟩ : BufTy).Contents (Elt F) → (⟨S65536x64, .f32⟩ : BufTy).Contents (Elt F)),
    binary main_v43 main_v39 main_v44 (mulf : (⟨S65536x64, .f32⟩ : BufTy).Contents (Elt F) → (⟨S65536x64, .f32⟩ : BufTy).Contents (Elt F) → (⟨S65536x64, .f32⟩ : BufTy).Contents (Elt F)),
    unary main_arg7 main_v45 ((transpose S64x512 [1, 0] · transposes_S512x64_S64x512_1_0) : (⟨S512x64, .f32⟩ : BufTy).Contents (Elt F) → (⟨S64x512, .f32⟩ : BufTy).Contents (Elt F)),
    binary main_v44 main_v45 main_v46 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)),
    unary main_v42 main_v47 (broadcastInDim S65536x512 ![0, 1] bcast_S65536x1_S65536x512_0_1 : (⟨S65536x1, .f32⟩ : BufTy).Contents (Elt F) → (⟨S65536x512, .f32⟩ : BufTy).Contents (Elt F)),
    binary main_v47 main_v46 main_v48 (subf : (⟨S65536x512, .f32⟩ : BufTy).Contents (Elt F) → (⟨S65536x512, .f32⟩ : BufTy).Contents (Elt F) → (⟨S65536x512, .f32⟩ : BufTy).Contents (Elt F)),
    binary main_arg7 main_arg7 main_v49 (mulf : (⟨S512x64, .f32⟩ : BufTy).Contents (Elt F) → (⟨S512x64, .f32⟩ : BufTy).Contents (Elt F) → (⟨S512x64, .f32⟩ : BufTy).Contents (Elt F)),
    nullary main_cst_8 (constant S_ .f32 0x00000000#32) ]
abbrev ops3 : List (HloOp τ sig (Elt F)) :=
  [ binary main_v49 main_cst_8 main_v50 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v50 main_v51 (broadcastInDim S1x512 ![1] bcast_S512_S1x512_1 : (⟨S512, .f32⟩ : BufTy).Contents (Elt F) → (⟨S1x512, .f32⟩ : BufTy).Contents (Elt F)),
    unary main_v51 main_v52 (broadcastInDim S65536x512 ![0, 1] bcast_S1x512_S65536x512_0_1 : (⟨S1x512, .f32⟩ : BufTy).Contents (Elt F) → (⟨S65536x512, .f32⟩ : BufTy).Contents (Elt F)),
    binary main_v48 main_v52 main_v53 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S65536x512, .i32⟩) main_call0_v0) (iotaInDim S65536x512 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x512, .f32⟩) main_v53) (TRef.of (T := ⟨S65536x512, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x512_S65536_d1 h_S_ j).1),
    TRef.quaternary (TRef.of (T := ⟨S65536x512, .f32⟩) main_v53) (TRef.of (T := ⟨S65536x512, .i32⟩) main_call0_v0) (TRef.of (T := ⟨S_, .f32⟩) main_call0_cst) (TRef.of (T := ⟨S_, .i32⟩) main_call0_c) (TRef.of (T := ⟨S65536, .i32⟩) main_v54) (fun x y u v j => (Host.argReduce reducer_argmin_f32_i32 x y u v reducesTo_S65536x512_S65536_d1 h_S_ j).2),
    TRef.nullary (TRef.of (T := ⟨S_, .i32⟩) main_call1_c) (constantI S_ 32 0#32),
    TRef.unary (TRef.of (T := ⟨S_, .i32⟩) main_call1_c) (TRef.of (T := ⟨S65536, .i32⟩) main_call1_v0) (broadcastInDim S65536 ![] bcast_S_S65536),
    TRef.binary (TRef.of (T := ⟨S65536, .i32⟩) main_v54) (TRef.of (T := ⟨S65536, .i32⟩) main_call1_v0) (TRef.of (T := ⟨S65536, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S65536, .i32⟩) main_call1_v2) (broadcastInDim S65536 ![] bcast_S_S65536),
    TRef.binary (TRef.of (T := ⟨S65536, .i32⟩) main_v54) (TRef.of (T := ⟨S65536, .i32⟩) main_call1_v2) (TRef.of (T := ⟨S65536, .i32⟩) main_call1_v3) addi,
    TRef.ternary (TRef.of (T := ⟨S65536, .i1⟩) main_call1_v1) (TRef.of (T := ⟨S65536, .i32⟩) main_call1_v3) (TRef.of (T := ⟨S65536, .i32⟩) main_v54) (TRef.of (T := ⟨S65536, .i32⟩) main_call1_v4) select,
    TRef.unary (TRef.of (T := ⟨S65536, .i32⟩) main_call1_v4) (TRef.of (T := ⟨S65536x1, .i32⟩) main_call1_v5) (broadcastInDim S65536x1 ![0] bcast_S65536_S65536x1_0),
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S65536x1, .i32⟩) main_call1_v6) (broadcastInDim S65536x1 ![] bcast_S_S65536x1) ]
abbrev ops4 : List (HloOp τ sig (Elt F)) :=
  [ TRef.binary (TRef.of (T := ⟨S65536x1, .i32⟩) main_call1_v5) (TRef.of (T := ⟨S65536x1, .i32⟩) main_call1_v6) (TRef.of (T := ⟨S65536x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S65536x1, .i32⟩) main_call1_v9) (broadcastInDim S65536x1 ![0, 1] bcast_S1x1_S65536x1_0_1),
    TRef.binary (TRef.of (T := ⟨S65536x1, .i32⟩) main_call1_v5) (TRef.of (T := ⟨S65536x1, .i32⟩) main_call1_v9) (TRef.of (T := ⟨S65536x1, .i1⟩) main_call1_v10) (cmpi .sle),
    TRef.binary (TRef.of (T := ⟨S65536x1, .i1⟩) main_call1_v7) (TRef.of (T := ⟨S65536x1, .i1⟩) main_call1_v10) (TRef.of (T := ⟨S65536x1, .i1⟩) main_call1_v11) andi,
    TRef.nullary (TRef.of (T := ⟨S_, .i1⟩) main_call1_c_3) (constantI S_ 1 1#1),
    TRef.binary (TRef.of (T := ⟨S65536x1, .i1⟩) main_call1_v11) (TRef.of (T := ⟨S_, .i1⟩) main_call1_c_3) (TRef.of (T := ⟨S65536, .i1⟩) main_call1_v12) (fun x v => Host.reduce IntOp.andi x v reducesTo_S65536x1_S65536_d1 h_S_),
    TRef.binary (TRef.of (T := ⟨S512x64, .f32⟩) main_arg7) (TRef.of (T := ⟨S65536x1, .i32⟩) main_call1_v5) (TRef.of (T := ⟨S65536x64, .f32⟩) main_call1_v13) (fun x i => Host.gather gather_S512x64_S65536x1_S65536x64_1_0_n_n_0_1_164 x i),
    TRef.unary (TRef.of (T := ⟨S65536, .i1⟩) main_call1_v12) (TRef.of (T := ⟨S65536x64, .i1⟩) main_call1_v14) (broadcastInDim S65536x64 ![0] bcast_S65536_S65536x64_0),
    TRef.nullary (TRef.of (T := ⟨S_, .f32⟩) main_call1_cst) (constant S_ .f32 0x7FC00000#32),
    TRef.unary (TRef.of (T := ⟨S_, .f32⟩) main_call1_cst) (TRef.of (T := ⟨S65536x64, .f32⟩) main_call1_v15) (broadcastInDim S65536x64 ![] bcast_S_S65536x64),
    TRef.ternary (TRef.of (T := ⟨S65536x64, .i1⟩) main_call1_v14) (TRef.of (T := ⟨S65536x64, .f32⟩) main_call1_v13) (TRef.of (T := ⟨S65536x64, .f32⟩) main_call1_v15) (TRef.of (T := ⟨S65536x64, .f32⟩) main_v55) select,
    reshape main_v55 main_v56 (rfl : (.f32 : EltTy) = .f32) shapeCasts_S65536x64_S32x2048x64,
    reshape main_v54 main_v57 (rfl : (.i32 : EltTy) = .i32) shapeCasts_S65536_S65536x1,
    binary main_v56 main_v38 main_v58 (subf : (⟨S32x2048x64, .f32⟩ : BufTy).Contents (Elt F) → (⟨S32x2048x64, .f32⟩ : BufTy).Contents (Elt F) → (⟨S32x2048x64, .f32⟩ : BufTy).Contents (Elt F)),
    binary main_v58 main_v58 main_v59 (mulf : (⟨S32x2048x64, .f32⟩ : BufTy).Contents (Elt F) → (⟨S32x2048x64, .f32⟩ : BufTy).Contents (Elt F) → (⟨S32x2048x64, .f32⟩ : BufTy).Contents (Elt F)),
    nullary main_cst_9 (constant S_ .f32 0x00000000#32),
    binary main_v59 main_cst_9 main_v60 ((fun x v => Host.reduceAdd x v reducesTo_S32x2048x64_S_d0_1_2 h_S_) : (⟨S32x2048x64, .f32⟩ : BufTy).Contents (Elt F) → (⟨S_, .f32⟩ : BufTy).Contents (Elt F) → (⟨S_, .f32⟩ : BufTy).Contents (Elt F)),
    reshape main_v60 main_v61 (rfl : (.f32 : EltTy) = .f32) shapeCasts_S_S1x1 ]
theorem ops_split : (ops : List (HloOp τ sig (Elt F))) = ops0 ++ (ops1 ++ (ops2 ++ (ops3 ++ (ops4)))) := rfl
theorem after_append (l l2 : List (HloOp τ sig (Elt F))) (G : Valuation τ sig (Elt F)) : after (l ++ l2) G = after l2 (after l G) := by
  induction l generalizing G with
  | nil => rfl
  | cons o l ih => exact ih _
/-- What is read later holds its value after 0 operations. -/
structure At0 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
/-- What is read later holds its value after 20 operations. -/
structure At1 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v3 : G (Proc.devRef .tc main_v3) = Cert.EncodeRef.v3 a
  v14 : G (Proc.devRef .tc main_v14) = Cert.EncodeRef.v14 a
  v15 : G (Proc.devRef .tc main_v15) = Cert.EncodeRef.v15 a
/-- What is read later holds its value after 40 operations. -/
structure At2 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v29 : G (Proc.devRef .tc main_v29) = Cert.EncodeRef.v29 a
  v32 : G (Proc.devRef .tc main_v32) = Cert.EncodeRef.v32 a
/-- What is read later holds its value after 60 operations. -/
structure At3 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v38 : G (Proc.devRef .tc main_v38) = Cert.EncodeRef.v38 a
  v48 : G (Proc.devRef .tc main_v48) = Cert.EncodeRef.v48 a
  v49 : G (Proc.devRef .tc main_v49) = Cert.EncodeRef.v49 a
  cst_8 : G (Proc.devRef .tc main_cst_8) = Cert.EncodeRef.cst_8 a
/-- What is read later holds its value after 80 operations. -/
structure At4 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v38 : G (Proc.devRef .tc main_v38) = Cert.EncodeRef.v38 a
  v54 : G (Proc.devRef .tc main_v54) = Cert.EncodeRef.v54 a
  c1_v5 : G (Proc.devRef .tc main_call1_v5) = Cert.EncodeRef.c1_v5 a
  c1_c_1 : G (Proc.devRef .tc main_call1_c_1) = Cert.EncodeRef.c1_c_1 a
  c1_v6 : G (Proc.devRef .tc main_call1_v6) = Cert.EncodeRef.c1_v6 a
/-- What is read later holds its value after 99 operations. -/
structure At5 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v57 : G (Proc.devRef .tc main_v57) = Cert.EncodeRef.v57 a
  v61 : G (Proc.devRef .tc main_v61) = Cert.EncodeRef.v61 a
set_option maxHeartbeats 8000000 in
theorem step0 (a : Args F) (G : Valuation τ sig (Elt F)) (h : At0 a G) : At1 a (after ops0 G) := by
  obtain ⟨h_arg0, h_arg1, h_arg2, h_arg3, h_arg4, h_arg5, h_arg6, h_arg7⟩ := h
  refine ⟨?_, ?_, ?_, ?_, ?_, ?_, ?_, ?_, ?_, ?_, ?_⟩
  · simp only [ops0, TRef.binary, TRef.nullary, TRef.ternary, TRef.unary, TRef.quaternary, TRef.toBuf, TRef.ofBuf, cast_eq]; after_results_simp; rw [h_arg0]
  · simp only [ops0, TRef.binary, TRef.nullary, TRef.ternary, TRef.unary, TRef.quaternary, TRef.toBuf, TRef.ofBuf, cast_eq]; after_results_simp; rw [h_arg1]
  · simp only [ops0, TRef.binary, TRef.nullary, TRef.ternary, TRef.unary, TRef.quaternary, TRef.toBuf, TRef.ofBuf, cast_eq]; after_results_simp; rw [h_arg2]
  · simp only [ops0, TRef.binary, TRef.nullary, TRef.ternary, TRef.unary, TRef.quaternary, TRef.toBuf, TRef.ofBuf, cast_eq]; after_results_simp; rw [h_arg3]
  · simp only [ops0, TRef.binary, TRef.nullary, TRef.ternary, TRef.unary, TRef.quaternary, TRef.toBuf, TRef.ofBuf, cast_eq]; after_results_simp; rw [h_arg4]
  · simp only [ops0, TRef.binary, TRef.nullary, TRef.ternary, TRef.unary, TRef.quaternary, TRef.toBuf, TRef.ofBuf, cast_eq]; after_results_simp; rw [h_arg5]
  · simp only [ops0, TRef.binary, TRef.nullary, TRef.ternary, TRef.unary, TRef.quaternary, TRef.toBuf, TRef.ofBuf, cast_eq]; after_results_simp; rw [h_arg6]
  · simp only [ops0, TRef.binary, TRef.nullary, TRef.ternary, TRef.unary, TRef.quaternary, TRef.toBuf, TRef.ofBuf, cast_eq]; after_results_simp; rw [h_arg7]
  · simp only [ops0, TRef.binary, TRef.nullary, TRef.ternary, TRef.unary, TRef.quaternary, TRef.toBuf, TRef.ofBuf, cast_eq]; after_results_simp; rw [h_arg0, h_arg1, h_arg2]; rfl
  · simp only [ops0, TRef.binary, TRef.nullary, TRef.ternary, TRef.unary, TRef.quaternary, TRef.toBuf, TRef.ofBuf, cast_eq]; after_results_simp; rw [h_arg0, h_arg1, h_arg2]; rfl
  · simp only [ops0, TRef.binary, TRef.nullary, TRef.ternary, TRef.unary, TRef.quaternary, TRef.toBuf, TRef.ofBuf, cast_eq]; after_results_simp; rw [h_arg0, h_arg1, h_arg2]; rfl
set_option maxHeartbeats 8000000 in
theorem step1 (a : Args F) (G : Valuation τ sig (Elt F)) (h : At1 a G) : At2 a (after ops1 G) := by
  obtain ⟨h_arg0, h_arg1, h_arg2, h_arg3, h_arg4, h_arg5, h_arg6, h_arg7, h_v3, h_v14, h_v15⟩ := h
  refine ⟨?_, ?_, ?_, ?_, ?_, ?_, ?_, ?_, ?_, ?_⟩
  · simp only [ops1, TRef.binary, TRef.nullary, TRef.ternary, TRef.unary, TRef.quaternary, TRef.toBuf, TRef.ofBuf, cast_eq]; after_results_simp; rw [h_arg0]
  · simp only [ops1, TRef.binary, TRef.nullary, TRef.ternary, TRef.unary, TRef.quaternary, TRef.toBuf, TRef.ofBuf, cast_eq]; after_results_simp; rw [h_arg1]
  · simp only [ops1, TRef.binary, TRef.nullary, TRef.ternary, TRef.unary, TRef.quaternary, TRef.toBuf, TRef.ofBuf, cast_eq]; after_results_simp; rw [h_arg2]
  · simp only [ops1, TRef.binary, TRef.nullary, TRef.ternary, TRef.unary, TRef.quaternary, TRef.toBuf, TRef.ofBuf, cast_eq]; after_results_simp; rw [h_arg3]
  · simp only [ops1, TRef.binary, TRef.nullary, TRef.ternary, TRef.unary, TRef.quaternary, TRef.toBuf, TRef.ofBuf, cast_eq]; after_results_simp; rw [h_arg4]
  · simp only [ops1, TRef.binary, TRef.nullary, TRef.ternary, TRef.unary, TRef.quaternary, TRef.toBuf, TRef.ofBuf, cast_eq]; after_results_simp; rw [h_arg5]
  · simp only [ops1, TRef.binary, TRef.nullary, TRef.ternary, TRef.unary, TRef.quaternary, TRef.toBuf, TRef.ofBuf, cast_eq]; after_results_simp; rw [h_arg6]
  · simp only [ops1, TRef.binary, TRef.nullary, TRef.ternary, TRef.unary, TRef.quaternary, TRef.toBuf, TRef.ofBuf, cast_eq]; after_results_simp; rw [h_arg7]
  · simp only [ops1, TRef.binary, TRef.nullary, TRef.ternary, TRef.unary, TRef.quaternary, TRef.toBuf, TRef.ofBuf, cast_eq]; after_results_simp; rw [h_arg3, h_arg4, h_v3, h_v14, h_v15]; rfl
  · simp only [ops1, TRef.binary, TRef.nullary, TRef.ternary, TRef.unary, TRef.quaternary, TRef.toBuf, TRef.ofBuf, cast_eq]; after_results_simp; rw [h_arg3, h_arg4, h_v3, h_v14, h_v15]; rfl
set_option maxHeartbeats 8000000 in
theorem step2 (a : Args F) (G : Valuation τ sig (Elt F)) (h : At2 a G) : At3 a (after ops2 G) := by
  obtain ⟨h_arg0, h_arg1, h_arg2, h_arg3, h_arg4, h_arg5, h_arg6, h_arg7, h_v29, h_v32⟩ := h
  refine ⟨?_, ?_, ?_, ?_, ?_, ?_, ?_, ?_, ?_, ?_, ?_, ?_⟩
  · simp only [ops2, TRef.binary, TRef.nullary, TRef.ternary, TRef.unary, TRef.quaternary, TRef.toBuf, TRef.ofBuf, cast_eq]; after_results_simp; rw [h_arg0]
  · simp only [ops2, TRef.binary, TRef.nullary, TRef.ternary, TRef.unary, TRef.quaternary, TRef.toBuf, TRef.ofBuf, cast_eq]; after_results_simp; rw [h_arg1]
  · simp only [ops2, TRef.binary, TRef.nullary, TRef.ternary, TRef.unary, TRef.quaternary, TRef.toBuf, TRef.ofBuf, cast_eq]; after_results_simp; rw [h_arg2]
  · simp only [ops2, TRef.binary, TRef.nullary, TRef.ternary, TRef.unary, TRef.quaternary, TRef.toBuf, TRef.ofBuf, cast_eq]; after_results_simp; rw [h_arg3]
  · simp only [ops2, TRef.binary, TRef.nullary, TRef.ternary, TRef.unary, TRef.quaternary, TRef.toBuf, TRef.ofBuf, cast_eq]; after_results_simp; rw [h_arg4]
  · simp only [ops2, TRef.binary, TRef.nullary, TRef.ternary, TRef.unary, TRef.quaternary, TRef.toBuf, TRef.ofBuf, cast_eq]; after_results_simp; rw [h_arg5]
  · simp only [ops2, TRef.binary, TRef.nullary, TRef.ternary, TRef.unary, TRef.quaternary, TRef.toBuf, TRef.ofBuf, cast_eq]; after_results_simp; rw [h_arg6]
  · simp only [ops2, TRef.binary, TRef.nullary, TRef.ternary, TRef.unary, TRef.quaternary, TRef.toBuf, TRef.ofBuf, cast_eq]; after_results_simp; rw [h_arg7]
  · simp only [ops2, TRef.binary, TRef.nullary, TRef.ternary, TRef.unary, TRef.quaternary, TRef.toBuf, TRef.ofBuf, cast_eq]; after_results_simp; rw [h_arg5, h_arg6, h_v29, h_v32]; rfl
  · simp only [ops2, TRef.binary, TRef.nullary, TRef.ternary, TRef.unary, TRef.quaternary, TRef.toBuf, TRef.ofBuf, cast_eq]; after_results_simp; rw [h_arg5, h_arg6, h_arg7, h_v29, h_v32]; rfl
  · simp only [ops2, TRef.binary, TRef.nullary, TRef.ternary, TRef.unary, TRef.quaternary, TRef.toBuf, TRef.ofBuf, cast_eq]; after_results_simp; rw [h_arg7]; rfl
  · simp only [ops2, TRef.binary, TRef.nullary, TRef.ternary, TRef.unary, TRef.quaternary, TRef.toBuf, TRef.ofBuf, cast_eq]; after_results_simp; skip; rfl
set_option maxHeartbeats 8000000 in
theorem step3 (a : Args F) (G : Valuation τ sig (Elt F)) (h : At3 a G) : At4 a (after ops3 G) := by
  obtain ⟨h_arg0, h_arg1, h_arg2, h_arg3, h_arg4, h_arg5, h_arg6, h_arg7, h_v38, h_v48, h_v49, h_cst_8⟩ := h
  refine ⟨?_, ?_, ?_, ?_, ?_, ?_, ?_, ?_, ?_, ?_, ?_, ?_, ?_⟩
  · simp only [ops3, TRef.binary, TRef.nullary, TRef.ternary, TRef.unary, TRef.quaternary, TRef.toBuf, TRef.ofBuf, cast_eq]; after_results_simp; rw [h_arg0]
  · simp only [ops3, TRef.binary, TRef.nullary, TRef.ternary, TRef.unary, TRef.quaternary, TRef.toBuf, TRef.ofBuf, cast_eq]; after_results_simp; rw [h_arg1]
  · simp only [ops3, TRef.binary, TRef.nullary, TRef.ternary, TRef.unary, TRef.quaternary, TRef.toBuf, TRef.ofBuf, cast_eq]; after_results_simp; rw [h_arg2]
  · simp only [ops3, TRef.binary, TRef.nullary, TRef.ternary, TRef.unary, TRef.quaternary, TRef.toBuf, TRef.ofBuf, cast_eq]; after_results_simp; rw [h_arg3]
  · simp only [ops3, TRef.binary, TRef.nullary, TRef.ternary, TRef.unary, TRef.quaternary, TRef.toBuf, TRef.ofBuf, cast_eq]; after_results_simp; rw [h_arg4]
  · simp only [ops3, TRef.binary, TRef.nullary, TRef.ternary, TRef.unary, TRef.quaternary, TRef.toBuf, TRef.ofBuf, cast_eq]; after_results_simp; rw [h_arg5]
  · simp only [ops3, TRef.binary, TRef.nullary, TRef.ternary, TRef.unary, TRef.quaternary, TRef.toBuf, TRef.ofBuf, cast_eq]; after_results_simp; rw [h_arg6]
  · simp only [ops3, TRef.binary, TRef.nullary, TRef.ternary, TRef.unary, TRef.quaternary, TRef.toBuf, TRef.ofBuf, cast_eq]; after_results_simp; rw [h_arg7]
  · simp only [ops3, TRef.binary, TRef.nullary, TRef.ternary, TRef.unary, TRef.quaternary, TRef.toBuf, TRef.ofBuf, cast_eq]; after_results_simp; rw [h_v38]
  · simp only [ops3, TRef.binary, TRef.nullary, TRef.ternary, TRef.unary, TRef.quaternary, TRef.toBuf, TRef.ofBuf, cast_eq]; after_results_simp; rw [h_v48, h_v49, h_cst_8]; rfl
  · simp only [ops3, TRef.binary, TRef.nullary, TRef.ternary, TRef.unary, TRef.quaternary, TRef.toBuf, TRef.ofBuf, cast_eq]; after_results_simp; rw [h_v48, h_v49, h_cst_8]; rfl
  · simp only [ops3, TRef.binary, TRef.nullary, TRef.ternary, TRef.unary, TRef.quaternary, TRef.toBuf, TRef.ofBuf, cast_eq]; after_results_simp; skip; rfl
  · simp only [ops3, TRef.binary, TRef.nullary, TRef.ternary, TRef.unary, TRef.quaternary, TRef.toBuf, TRef.ofBuf, cast_eq]; after_results_simp; skip; rfl
set_option maxHeartbeats 8000000 in
theorem step4 (a : Args F) (G : Valuation τ sig (Elt F)) (h : At4 a G) : At5 a (after ops4 G) := by
  obtain ⟨h_arg0, h_arg1, h_arg2, h_arg3, h_arg4, h_arg5, h_arg6, h_arg7, h_v38, h_v54, h_c1_v5, h_c1_c_1, h_c1_v6⟩ := h
  refine ⟨?_, ?_, ?_, ?_, ?_, ?_, ?_, ?_, ?_, ?_⟩
  · simp only [ops4, TRef.binary, TRef.nullary, TRef.ternary, TRef.unary, TRef.quaternary, TRef.toBuf, TRef.ofBuf, cast_eq]; after_results_simp; rw [h_arg0]
  · simp only [ops4, TRef.binary, TRef.nullary, TRef.ternary, TRef.unary, TRef.quaternary, TRef.toBuf, TRef.ofBuf, cast_eq]; after_results_simp; rw [h_arg1]
  · simp only [ops4, TRef.binary, TRef.nullary, TRef.ternary, TRef.unary, TRef.quaternary, TRef.toBuf, TRef.ofBuf, cast_eq]; after_results_simp; rw [h_arg2]
  · simp only [ops4, TRef.binary, TRef.nullary, TRef.ternary, TRef.unary, TRef.quaternary, TRef.toBuf, TRef.ofBuf, cast_eq]; after_results_simp; rw [h_arg3]
  · simp only [ops4, TRef.binary, TRef.nullary, TRef.ternary, TRef.unary, TRef.quaternary, TRef.toBuf, TRef.ofBuf, cast_eq]; after_results_simp; rw [h_arg4]
  · simp only [ops4, TRef.binary, TRef.nullary, TRef.ternary, TRef.unary, TRef.quaternary, TRef.toBuf, TRef.ofBuf, cast_eq]; after_results_simp; rw [h_arg5]
  · simp only [ops4, TRef.binary, TRef.nullary, TRef.ternary, TRef.unary, TRef.quaternary, TRef.toBuf, TRef.ofBuf, cast_eq]; after_results_simp; rw [h_arg6]
  · simp only [ops4, TRef.binary, TRef.nullary, TRef.ternary, TRef.unary, TRef.quaternary, TRef.toBuf, TRef.ofBuf, cast_eq]; after_results_simp; rw [h_arg7]
  · simp only [ops4, TRef.binary, TRef.nullary, TRef.ternary, TRef.unary, TRef.quaternary, TRef.toBuf, TRef.ofBuf, cast_eq]; after_results_simp; rw [h_v54]; rfl
  · simp only [ops4, TRef.binary, TRef.nullary, TRef.ternary, TRef.unary, TRef.quaternary, TRef.toBuf, TRef.ofBuf, cast_eq]; after_results_simp; rw [h_arg7, h_v38, h_c1_v5, h_c1_c_1, h_c1_v6]; rfl
set_option maxHeartbeats 8000000 in
/-- Every weakly fair run ends with each result at its value and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = v57 (argsOf m c)
      ∧ r.2.mem ((c.tc : Thread nD τ).loc main_v61) = v61 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
      have h0 : At0 (argsOf m c) (fun b => m (c, b)) := ⟨rfl, rfl, rfl, rfl, rfl, rfl, rfl, rfl⟩
      have h1 := step0 _ _ h0
      have h2 := step1 _ _ h1
      have h3 := step2 _ _ h2
      have h4 := step3 _ _ h3
      have h5 := step4 _ _ h4
      have e : ∀ b : Ref sig .tc, r.2.mem ((c.tc : Thread nD τ).loc b) = _ := h c
      simp only [ops_split, after_append] at e
      exact ⟨(e main_v57).trans h5.v57, (e main_v61).trans h5.v61, (e main_arg0).trans h5.arg0, (e main_arg1).trans h5.arg1, (e main_arg2).trans h5.arg2, (e main_arg3).trans h5.arg3, (e main_arg4).trans h5.arg4, (e main_arg5).trans h5.arg5, (e main_arg6).trans h5.arg6, (e main_arg7).trans h5.arg7⟩)
    (run_seq scopedRefs_eq scopedSems_eq defs main (fun _ => ops) main_eq (fun _ => ops_sub) m ρ)

end Cert.EncodeRef

end
-- ==== Proof.EncodeRefPay.lean ====
module

public import proofs.«01_k».proof.Proof.EncodeMath
public import proofs.«01_k».proof.Proof.EncodeRef

/-! The reference's rows, distances and sum at an index. -/

@[expose] public section

noncomputable section

namespace Cert.EncodeRefPay

open Cert.EncodeReferenceIdeal Idealize.ShloMosaic Cert.Row Cert.EncodeMath

/-- The row of codes of position (s, t). -/
def refRow (a : EncodeRef.Args Ideal) (s : Fin 32) (t : Fin 2048) : Fin 64 → EReal :=
  mlp (fun k => a.arg0 (ix3 s t k)) (fun k n => a.arg1 (ix2 k n)) (fun n => a.arg2 (ix1 n))
    (fun n => a.arg3 (ix1 n)) (fun n => a.arg4 (ix1 n)) (fun k n => a.arg5 (ix2 k n)) (fun n => a.arg6 (ix1 n))

theorem ref38_apply (a : EncodeRef.Args Ideal) (s : Fin 32) (t : Fin 2048) (l : Fin 64) :
    EncodeRef.v38 a (ix3 s t l) = refRow a s t l := by
  unfold refRow mlp gelu normRow mean lin
  pointwise [EncodeRef.v0, EncodeRef.v1, EncodeRef.v2, EncodeRef.v3, EncodeRef.cst, EncodeRef.v4, EncodeRef.v5, EncodeRef.cst_0, EncodeRef.v6, EncodeRef.v7, EncodeRef.v8, EncodeRef.v9, EncodeRef.v10, EncodeRef.cst_1, EncodeRef.v11, EncodeRef.v12, EncodeRef.cst_2, EncodeRef.v13, EncodeRef.v14, EncodeRef.v15, EncodeRef.v16, EncodeRef.cst_3, EncodeRef.v17, EncodeRef.v18, EncodeRef.v19, EncodeRef.v20, EncodeRef.v21, EncodeRef.v22, EncodeRef.v23, EncodeRef.v24, EncodeRef.v25, EncodeRef.v26, EncodeRef.v27, EncodeRef.cst_4, EncodeRef.v28, EncodeRef.v29, EncodeRef.v30, EncodeRef.cst_5, EncodeRef.v31, EncodeRef.v32, EncodeRef.v33, EncodeRef.v34, EncodeRef.v35, EncodeRef.v36, EncodeRef.v37, EncodeRef.v38]
  simp only [neg_mul, Ideal.erfc_neg]

theorem ref39_apply (a : EncodeRef.Args Ideal) (s : Fin 32) (t : Fin 2048) (l : Fin 64) (n : Fin 65536) (hn : n.val = s.val * 2048 + t.val) :
    EncodeRef.v39 a (ix2 n l) = refRow a s t l := by
  have e : EncodeRef.v39 a (ix2 n l) = EncodeRef.v38 a (ix3 ⟨n.val / 2048, by omega⟩ ⟨n.val % 2048, by omega⟩ l) := by
    pointwise [EncodeRef.v39]
  rw [e, ref38_apply]
  congr 1
  · apply Fin.ext; show n.val / 2048 = s.val; omega
  · apply Fin.ext; show n.val % 2048 = t.val; omega

theorem ref53_apply (a : EncodeRef.Args Ideal) (n : Fin 65536) (k : Fin 512) :
    EncodeRef.v53 a (ix2 n k) = EncodeMath.dist (fun l => EncodeRef.v39 a (ix2 n l)) (fun k l => a.arg7 (ix2 k l)) k := by
  unfold EncodeMath.dist
  pointwise [EncodeRef.v40, EncodeRef.cst_6, EncodeRef.v41, EncodeRef.v42, EncodeRef.cst_7, EncodeRef.v43, EncodeRef.v44, EncodeRef.v45, EncodeRef.v46, EncodeRef.v47, EncodeRef.v48, EncodeRef.v49, EncodeRef.cst_8, EncodeRef.v50, EncodeRef.v51, EncodeRef.v52, EncodeRef.v53]

theorem ref61_apply (a : EncodeRef.Args Ideal) (i j : Fin 1) :
    EncodeRef.v61 a (ix2 i j) = ∑ s : Fin 32, ∑ t : Fin 2048, ∑ l : Fin 64,
      (EncodeRef.v55 a (ix2 ⟨s.val * 2048 + t.val, by omega⟩ l) - EncodeRef.v38 a (ix3 s t l))
        * (EncodeRef.v55 a (ix2 ⟨s.val * 2048 + t.val, by omega⟩ l) - EncodeRef.v38 a (ix3 s t l)) := by
  pointwise [EncodeRef.v61, EncodeRef.v60, EncodeRef.v59, EncodeRef.v58, EncodeRef.v56, EncodeRef.cst_9]

end Cert.EncodeRefPay

end
-- ==== Proof.EncodeArg.lean ====
module

public import proofs.«01_k».proof.Proof.EncodeRefPay
public import Idealize.ShloMosaic.Lib.ReduceAll
public import Idealize.ShloMosaic.PureOps.Ideal.Laws

/-! The reference's codes, and the rows of the table they name. -/

@[expose] public section

noncomputable section

namespace Cert.EncodeArg

open Cert.EncodeReferenceIdeal Cert.EncodeReferenceIdeal.Gen Idealize.ShloMosaic Cert.EncodeMath

/-- The reference's choice between two pairs. -/
theorem reducer_eq : (reducer_argmin_f32_i32 (F := Ideal)) = lesser := by
  funext a b
  obtain ⟨a1, a2⟩ := a
  obtain ⟨b1, b2⟩ := b
  have h1 : FloatOps.cmpf (F := Ideal) (φ := .f32) .olt a1 b1 = BitVec.ofBool (decide (a1 < b1)) := by simp [Ideal.cmpf_def, Ideal.cmp]
  have h2 : FloatOps.cmpf (F := Ideal) (φ := .f32) .une a1 a1 = 0#1 := by simp [Ideal.cmpf_def, Ideal.cmp]
  have h3 : FloatOps.cmpf (F := Ideal) (φ := .f32) .oeq a1 b1 = BitVec.ofBool (decide (a1 = b1)) := by simp [Ideal.cmpf_def, Ideal.cmp]
  have h4 : IntOp.cmpi .slt a2 b2 = BitVec.ofBool (decide (a2.toInt < b2.toInt)) := by
    show BitVec.ofBool (a2.slt b2) = _
    rw [BitVec.slt_eq_decide]
  unfold reducer_argmin_f32_i32 lesser
  dsimp only
  rw [h1, h2, h3, h4]
  by_cases c1 : a1 < b1 <;> by_cases c2 : a1 = b1 <;> by_cases c3 : a2.toInt < b2.toInt <;>
    simp [c1, c2, c3, Scalar.select, IntOp.ori, IntOp.andi]

theorem mem_fiber {s t : Shape} {axes : List (Fin s.rank)} {α β : Type} (x : s.Idx → α) (y : s.Idx → β) (h : s.ReducesTo axes t) (j : t.Idx) (a : α × β) :
    a ∈ Host.argReduceFiber x y h j ↔ ∃ i, h.drop i = j ∧ a = (x i, y i) := by
  unfold Host.argReduceFiber
  constructor
  · intro ha
    obtain ⟨r, hr, rfl⟩ := List.mem_map.mp ha
    exact ⟨_, of_decide_eq_true (List.mem_filter.mp hr).2, rfl⟩
  · rintro ⟨i, hi, rfl⟩
    refine List.mem_map.mpr ⟨s.rowMajor i, List.mem_filter.mpr ⟨List.mem_finRange _, ?_⟩, ?_⟩
    · rw [Equiv.symm_apply_apply, hi, decide_eq_true_eq]
    · rw [Equiv.symm_apply_apply]

/-- A fold of the reference's choice over 512 values and their numbers finds the first minimum. -/
theorem arg_first {s t u : Shape} {axes : List (Fin s.rank)} (x : FVec Ideal s .f32) (y : s.Idx → BitVec 32) (ix : u.Idx → Ideal .f32) (iy : u.Idx → BitVec 32)
    (h : s.ReducesTo axes t) (hu : 0 < u.numel) (j : t.Idx) (f : Fin 512 → EReal) (k : Fin 512) (hF : First f k) (hr : f k < ⊤)
    (hx : ix (Shape.Idx.first hu) = (⊤ : EReal)) (hy : iy (Shape.Idx.first hu) = 0#32)
    (h1 : ∀ i, h.drop i = j → ∃ q : Fin 512, x i = f q ∧ y i = BitVec.ofNat 32 q.val)
    (h2 : ∃ i, h.drop i = j ∧ x i = f k ∧ y i = BitVec.ofNat 32 k.val)
    (g : t.Idx → BitVec 32) (hg : g = fun j => (Host.argReduce reducer_argmin_f32_i32 x y ix iy h hu j).2) :
    g j = BitVec.ofNat 32 k.val := by
  rw [hg]
  dsimp only
  rw [Ideal.argReduce_eq_reduce2, Host.reduce2_eq_foldl_fiber, reducer_eq, hx, hy]
  have hf := foldl_first hF hr (Host.argReduceFiber x y h j) ?_ ?_
  · exact congrArg Prod.snd hf
  · intro a ha
    obtain ⟨i, hi, rfl⟩ := (mem_fiber x y h j a).mp ha
    obtain ⟨q, e1, e2⟩ := h1 i hi
    exact ⟨q, by rw [e1, e2]⟩
  · obtain ⟨i, hi, e1, e2⟩ := h2
    exact (mem_fiber x y h j _).mpr ⟨i, hi, by rw [e1, e2]⟩

theorem drop_gen {a b : ℕ} (h : (⟨2, ![a, b]⟩ : Shape).ReducesTo [1] ⟨1, ![a]⟩) (p : Fin a) (q : Fin b) :
    h.drop (ix2 p q) = ix1 p := by
  funext c
  match c with
  | ⟨0, _⟩ => exact Fin.ext (Shape.ReducesTo.drop_apply_val h (ix2 p q) 0)

theorem drop_row (p : Fin 65536) (q : Fin 512) : reducesTo_S65536x512_S65536_d1.drop (ix2 p q : S65536x512.Idx) = (ix1 p : S65536.Idx) :=
  drop_gen reducesTo_S65536x512_S65536_d1 p q

theorem bcast_row {a b : ℕ} {α : Type} (h : (⟨1, ![a]⟩ : Shape).BroadcastsInDim ⟨2, ![a, b]⟩ ![0]) (ha : a ≠ 1) (x : (⟨1, ![a]⟩ : Shape).Idx → α) (p : Fin a) (q : Fin b) :
    broadcastInDim ⟨2, ![a, b]⟩ ![0] h x (ix2 p q) = x (ix1 p) :=
  broadcastInDim_apply _ _ _ _ _ (fun c => match c with | ⟨0, _⟩ => by first | rfl | simp [ha] | trace_state)

/-- The codes as one fold over the distances. -/
def fold (a : EncodeRef.Args Ideal) : IVec S65536 32 := fun j =>
  (Host.argReduce (F := Ideal) (s := S65536x512) (t := S65536) (u := S_) reducer_argmin_f32_i32 (EncodeRef.v53 a) (EncodeRef.c0_v0 a) (EncodeRef.c0_cst a) (EncodeRef.c0_c a) reducesTo_S65536x512_S65536_d1 h_S_ j).2

theorem v54_eq (a : EncodeRef.Args Ideal) : EncodeRef.v54 a = fold a := rfl

theorem inf_apply (a : EncodeRef.Args Ideal) (j : S_.Idx) : EncodeRef.c0_cst a j = (⊤ : EReal) := by
  unfold EncodeRef.c0_cst constant
  exact ofBits_inf

theorem fiber_row (x : FVec Ideal S65536x512 .f32) (y : IVec S65536x512 32) (hy : ∀ p q, y (ix2 p q) = BitVec.ofNat 32 q.val) (n : Fin 65536) (i : S65536x512.Idx)
    (hi : reducesTo_S65536x512_S65536_d1.drop i = (ix1 n : S65536.Idx)) : ∃ q : Fin 512, x i = x (ix2 n q) ∧ y i = BitVec.ofNat 32 q.val := by
  obtain ⟨p, q, rfl⟩ : ∃ (p : Fin 65536) (q : Fin 512), i = ix2 p q := ⟨_, _, ValueIdx.eq_ix2 i⟩
  rw [drop_row p q] at hi
  have hp : p = n := congrFun hi (0 : Fin 1)
  rw [hp]
  exact ⟨q, rfl, hy n q⟩

/-- The code of row `n`, the distances' first minimum being `k`. -/
theorem v54_apply (a : EncodeRef.Args Ideal) (n : Fin 65536) (k : Fin 512)
    (h : First (fun k => (EncodeRef.v53 a (ix2 n k) : EReal)) k) (hr : (EncodeRef.v53 a (ix2 n k) : EReal) < ⊤) :
    EncodeRef.v54 a (ix1 n) = BitVec.ofNat 32 k.val := by
  have hy : ∀ p q, (EncodeRef.c0_v0 a : IVec S65536x512 32) (ix2 p q) = BitVec.ofNat 32 q.val := fun _ _ => rfl
  rw [v54_eq]
  exact arg_first (s := S65536x512) (t := S65536) (u := S_) (EncodeRef.v53 a) (EncodeRef.c0_v0 a) (EncodeRef.c0_cst a) (EncodeRef.c0_c a)
    reducesTo_S65536x512_S65536_d1 h_S_ (ix1 n) (fun k => EncodeRef.v53 a (ix2 n k)) k h hr (inf_apply a _) rfl
    (fiber_row (EncodeRef.v53 a) (EncodeRef.c0_v0 a) hy n) ⟨ix2 n k, drop_row n k, rfl, hy n k⟩ (fold a) rfl

/-- A vector as a column. -/
theorem column_apply {α : Type} (x : S65536.Idx → α) (h : S65536.ShapeCasts S65536x1) (n : Fin 65536) (u : Fin 1) :
    shapeCast S65536x1 x h (ix2 n u) = x (ix1 n) := by
  have e : Shape.reshapeEquiv h (ix2 n u) = ix1 n := by
    refine Shape.reshapeEquiv_eq_of_rowMajor _ ?_
    rw [Shape.rowMajor_val_two, Shape.rowMajor_val_one]
    show n.val = n.val * 1 + u.val
    omega
  unfold shapeCast
  rw [e]

theorem column_eq {α : Type} (x : S65536.Idx → α) (h : S65536.ShapeCasts S65536x1) (g : S65536x1.Idx → α)
    (hg : g = fun j => shapeCast S65536x1 x h j) (n : Fin 65536) (u : Fin 1) : g (ix2 n u) = x (ix1 n) := by
  rw [hg]
  exact column_apply x h n u

theorem v57_eq (a : EncodeRef.Args Ideal) : EncodeRef.v57 a = fun j => shapeCast S65536x1 (EncodeRef.v54 a) shapeCasts_S65536_S65536x1 j := rfl

theorem v57_apply (a : EncodeRef.Args Ideal) (n : Fin 65536) (u : Fin 1) : EncodeRef.v57 a (ix2 n u) = EncodeRef.v54 a (ix1 n) :=
  column_eq (EncodeRef.v54 a) shapeCasts_S65536_S65536x1 (EncodeRef.v57 a) (v57_eq a) n u

/-- The gather of whole rows at (n, l), its row number in range. -/
theorem gather_apply {α : Type} (x : S512x64.Idx → α) (idx : IVec S65536x1 32) (n : Fin 65536) (l : Fin 64)
    (k : Fin 512) (h : idx (ix2 n 0) = BitVec.ofNat 32 k.val) :
    Host.gather gather_S512x64_S65536x1_S65536x64_1_0_n_n_0_1_164 x idx (ix2 n l) = x (ix2 k l) := by
  unfold Host.gather
  congr 1
  funext a
  refine Fin.ext ?_
  show gather_S512x64_S65536x1_S65536x64_1_0_n_n_0_1_164.start (ix2 n l) idx a + gather_S512x64_S65536x1_S65536x64_1_0_n_n_0_1_164.batchCoord (ix2 n l) a
    + gather_S512x64_S65536x1_S65536x64_1_0_n_n_0_1_164.offCoord (ix2 n l) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S512x64_S65536x1_S65536x64_1_0_n_n_0_1_164.startIndexMap from List.mem_singleton.mpr rfl)]
    have hsi : gather_S512x64_S65536x1_S65536x64_1_0_n_n_0_1_164.siIdx (ix2 n l) ⟨List.idxOf (0 : Fin 2) gather_S512x64_S65536x1_S65536x64_1_0_n_n_0_1_164.startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, h]
    show min (BitVec.ofNat 32 k.val).toInt.toNat (512 - 1) + 0 + 0 = k.val
    have hk := k.isLt
    rw [toInt_small]
    omega
  · unfold GatherDims.start
    rw [dif_neg (show ¬ (1 : Fin 2) ∈ gather_S512x64_S65536x1_S65536x64_1_0_n_n_0_1_164.startIndexMap from (show ¬ (1 : Fin 2) ∈ ([0] : List (Fin 2)) by decide))]
    unfold GatherDims.offCoord
    rw [dif_pos ((GatherDims.mem_sKept _ _).mpr ⟨show ¬ (1 : Fin 2) ∈ ([0] : List (Fin 2)) by decide, List.not_mem_nil⟩)]
    show 0 + 0 + l.val = l.val
    omega

section
variable (w : IVec S65536 32) (K : Fin 65536 → Fin 512)

/-- Row numbers are not negative, so the reference's wrap-around leaves them. -/
theorem starts_apply (hK : ∀ n, w (ix1 n) = BitVec.ofNat 32 (K n).val) (n : Fin 65536) (u : Fin 1) :
    broadcastInDim S65536x1 ![0] bcast_S65536_S65536x1_0 (select (cmpi .slt w (broadcastInDim S65536 ![] bcast_S_S65536 (constantI S_ 32 0#32)))
      (addi w (broadcastInDim S65536 ![] bcast_S_S65536 (constantI S_ 32 512#32))) w) (ix2 n u) = BitVec.ofNat 32 (K n).val := by
  refine (bcast_row bcast_S65536_S65536x1_0 (by decide) _ n u).trans ?_
  have h0 : ¬ (BitVec.ofNat 32 (K n).val).slt 0#32 = true := by
    rw [BitVec.slt_eq_decide, decide_eq_true_eq, toInt_small]
    have : (0#32).toInt = 0 := by decide
    omega
  show Scalar.select (BitVec.ofBool ((w (ix1 n)).slt 0#32)) _ (w (ix1 n)) = _
  rw [hK]
  rw [Bool.not_eq_true] at h0
  rw [h0]
  rfl

/-- The row of the table that row `n`'s code names. -/
theorem rows_apply (st : IVec S65536x1 32) (hst : ∀ n u, st (ix2 n u) = BitVec.ofNat 32 (K n).val) (x : FVec Ideal S512x64 .f32) (y : FVec Ideal S65536x64 .f32)
    (n : Fin 65536) (l : Fin 64) :
    select (broadcastInDim S65536x64 ![0] bcast_S65536_S65536x64_0 (Host.reduce IntOp.andi
        (andi (cmpi .sge st (broadcastInDim S65536x1 ![] bcast_S_S65536x1 (constantI S_ 32 0#32)))
          (cmpi .sle st (broadcastInDim S65536x1 ![0, 1] bcast_S1x1_S65536x1_0_1 (broadcastInDim S1x1 ![1] bcast_S1_S1x1_1 (constantI S1 32 511#32)))))
        (constantI S_ 1 1#1) reducesTo_S65536x1_S65536_d1 h_S_))
      (Host.gather gather_S512x64_S65536x1_S65536x64_1_0_n_n_0_1_164 x st) y (ix2 n l) = x (ix2 (K n) l) := by
  rw [ValueIdx.select_apply, bcast_row bcast_S65536_S65536x64_0 (by decide) _ n l, Host.reduce_andi_one _ _ _ _ _ rfl fun i => ?_]
  · exact gather_apply x st n l (K n) (hst n 0)
  · obtain ⟨p, q, rfl⟩ : ∃ (p : Fin 65536) (q : Fin 1), i = ix2 p q := ⟨_, _, ValueIdx.eq_ix2 i⟩
    show IntOp.andi (BitVec.ofBool (BitVec.sle 0#32 (st (ix2 p q)))) (BitVec.ofBool (BitVec.sle (st (ix2 p q)) 511#32)) = 1#1
    rw [hst]
    have hk := (K p).isLt
    have a0 : BitVec.sle 0#32 (BitVec.ofNat 32 (K p).val) = true := by
      rw [BitVec.sle_eq_decide, decide_eq_true_eq, toInt_small]
      have : (0#32).toInt = 0 := by decide
      omega
    have a1 : BitVec.sle (BitVec.ofNat 32 (K p).val) 511#32 = true := by
      rw [BitVec.sle_eq_decide, decide_eq_true_eq, toInt_small]
      have : (511#32).toInt = 511 := by decide
      omega
    rw [a0, a1]
    rfl

end

/-- The reference's row numbers. -/
theorem c1_v5_eq (a : EncodeRef.Args Ideal) : EncodeRef.c1_v5 a
    = broadcastInDim S65536x1 ![0] bcast_S65536_S65536x1_0 (select (cmpi .slt (EncodeRef.v54 a) (broadcastInDim S65536 ![] bcast_S_S65536 (constantI S_ 32 0#32)))
      (addi (EncodeRef.v54 a) (broadcastInDim S65536 ![] bcast_S_S65536 (constantI S_ 32 512#32))) (EncodeRef.v54 a)) := rfl

/-- The reference's rows of the table. -/
theorem v55_eq (a : EncodeRef.Args Ideal) : EncodeRef.v55 a
    = select (broadcastInDim S65536x64 ![0] bcast_S65536_S65536x64_0 (Host.reduce IntOp.andi
        (andi (cmpi .sge (EncodeRef.c1_v5 a) (broadcastInDim S65536x1 ![] bcast_S_S65536x1 (constantI S_ 32 0#32)))
          (cmpi .sle (EncodeRef.c1_v5 a) (broadcastInDim S65536x1 ![0, 1] bcast_S1x1_S65536x1_0_1 (broadcastInDim S1x1 ![1] bcast_S1_S1x1_1 (constantI S1 32 511#32)))))
        (constantI S_ 1 1#1) reducesTo_S65536x1_S65536_d1 h_S_))
      (Host.gather gather_S512x64_S65536x1_S65536x64_1_0_n_n_0_1_164 a.arg7 (EncodeRef.c1_v5 a)) (EncodeRef.c1_v15 a) := rfl

theorem v55_apply (a : EncodeRef.Args Ideal) (K : Fin 65536 → Fin 512) (hK : ∀ n, EncodeRef.v54 a (ix1 n) = BitVec.ofNat 32 (K n).val) (n : Fin 65536) (l : Fin 64) :
    EncodeRef.v55 a (ix2 n l) = a.arg7 (ix2 (K n) l) := by
  have hst : ∀ n u, EncodeRef.c1_v5 a (ix2 n u) = BitVec.ofNat 32 (K n).val := fun n u => by
    rw [c1_v5_eq]
    exact starts_apply (EncodeRef.v54 a) K hK n u
  rw [v55_eq]
  exact rows_apply K (EncodeRef.c1_v5 a) hst a.arg7 (EncodeRef.c1_v15 a) n l

end Cert.EncodeArg

end
-- ==== Proof.EncodeFinal.lean ====
module

public import proofs.«01_k».proof.Proof.EncodeRun
public import proofs.«01_k».proof.Proof.EncodePay
public import proofs.«01_k».proof.Proof.EncodeArg

/-! The encoder's codes and commitment and the reference's are the same functions of real arguments. -/

@[expose] public section

noncomputable section

namespace Cert.EncodeFinal

open Cert.EncodeIdeal Cert.EncodeIdeal.Gen Idealize.ShloMosaic Idealize.ShloMosaic.TcCoe Cert.Row Cert.EncodeMath Cert.EncodePay Cert.EncodeRun Cert.EncodeRefPay

/-- A sum over `n` blocks of `B`. -/
theorem sum_blocks (B : ℕ) (g : ℕ → EReal) (n : ℕ) : ∑ s ∈ Finset.range n, ∑ t ∈ Finset.range B, g (s * B + t) = ∑ i ∈ Finset.range (n * B), g i := by
  induction n with
  | zero => simp
  | succ n ih => rw [Finset.sum_range_succ, ih, Nat.succ_mul, Finset.sum_range_add]

theorem row_apply {α : Type} (x : S128.Idx → α) (n : Fin 128) : shapeCast S1x128 x shapeCasts_S128_S1x128 (ix2 0 n) = x (ix1 n) := by
  pointwise []

theorem row64_apply {α : Type} (x : S64.Idx → α) (n : Fin 64) : shapeCast S1x64 x shapeCasts_S64_S1x64 (ix2 0 n) = x (ix1 n) := by
  pointwise []

theorem flat_apply {α : Type} (x : S32x2048x14.Idx → α) (h : S32x2048x14.ShapeCasts S65536x14) (n : Fin 65536) (k : Fin 14) :
    shapeCast S65536x14 x h (ix2 n k) = x (ix3 ⟨n.val / 2048, by omega⟩ ⟨n.val % 2048, by omega⟩ k) := by
  have e : Shape.reshapeEquiv h (ix2 n k) = ix3 ⟨n.val / 2048, by omega⟩ ⟨n.val % 2048, by omega⟩ k := by
    refine Shape.reshapeEquiv_eq_of_rowMajor _ ?_
    rw [Shape.rowMajor_val_two, Shape.rowMajor_val_three]
    show (n.val / 2048 * 2048 + n.val % 2048) * 14 + k.val = n.val * 14 + k.val
    omega
  unfold shapeCast
  rw [e]

theorem swap_apply {α : Type} (x : S512x64.Idx → α) (h : S512x64.Transposes [1, 0] S64x512) (l : Fin 64) (k : Fin 512) :
    transpose S64x512 [1, 0] x h (ix2 l k) = x (ix2 k l) := by
  pointwise []

section
variable (a : EncodeRef.Args Ideal)

/-- Row `n` of the encoder's output. -/
def row (n : Fin 65536) : Fin 64 → EReal := refRow a ⟨n.val / 2048, by omega⟩ ⟨n.val % 2048, by omega⟩

/-- The table. -/
def book (k : Fin 512) (l : Fin 64) : EReal := a.arg7 (ix2 k l)

/-- The code of row `n`. -/
def code (n : Fin 65536) : Fin 512 := first (score (row a n) (book a))

/-- Row `n`'s squared distance to its code. -/
def gap (n : ℕ) : EReal :=
  if h : n < 65536 then ∑ l, (book a (code a ⟨n, h⟩) l - row a ⟨n, h⟩ l) * (book a (code a ⟨n, h⟩) l - row a ⟨n, h⟩ l) else 0

/-- Every entry of the arguments is real. -/
structure Fin' : Prop where
  h0 : ∀ i, Real' (a.arg0 i)
  h1 : ∀ i, Real' (a.arg1 i)
  h2 : ∀ i, Real' (a.arg2 i)
  h3 : ∀ i, Real' (a.arg3 i)
  h4 : ∀ i, Real' (a.arg4 i)
  h5 : ∀ i, Real' (a.arg5 i)
  h6 : ∀ i, Real' (a.arg6 i)
  h7 : ∀ i, Real' (a.arg7 i)

variable {a} (hf : Fin' a)
include hf

theorem row_real (n : Fin 65536) (l : Fin 64) : Real' (row a n l) :=
  Real'.mlp (fun _ => hf.h0 _) (fun _ _ => hf.h1 _) (fun _ => hf.h2 _) (fun _ => hf.h3 _) (fun _ => hf.h4 _) (fun _ _ => hf.h5 _) (fun _ => hf.h6 _) l

theorem book_real (k : Fin 512) (l : Fin 64) : Real' (book a k l) := hf.h7 _

/-- The reference's distances. -/
theorem ref_dist (n : Fin 65536) : (fun k => (EncodeRef.v53 a (ix2 n k) : EReal)) = EncodeMath.dist (row a n) (book a) := by
  funext k
  rw [ref53_apply]
  have e : (fun l => (EncodeRef.v39 a (ix2 n l) : EReal)) = row a n := funext fun l =>
    ref39_apply a ⟨n.val / 2048, by omega⟩ ⟨n.val % 2048, by omega⟩ l n (by show n.val = n.val / 2048 * 2048 + n.val % 2048; omega)
  rw [e]
  rfl

/-- The reference's codes. -/
theorem ref_code (n : Fin 65536) : EncodeRef.v54 a (ix1 n) = BitVec.ofNat 32 (code a n).val := by
  have hF : First (EncodeMath.dist (row a n) (book a)) (code a n) := First.dist (row_real hf n) (book_real hf) (first_spec _)
  have hr : EncodeMath.dist (row a n) (book a) (code a n) < ⊤ := by
    obtain ⟨r, hr⟩ := dist_real (row_real hf n) (book_real hf) (code a n)
    rw [hr]
    exact EReal.coe_lt_top r
  refine EncodeArg.v54_apply a n (code a n) ?_ ?_
  · rw [ref_dist hf]; exact hF
  · rw [← congrFun (ref_dist hf n) (code a n)] at hr; exact hr

/-- The reference's commitment. -/
theorem ref_sum (i j : Fin 1) : EncodeRef.v61 a (ix2 i j) = ∑ n ∈ Finset.range 65536, gap a n := by
  rw [ref61_apply]
  have e : ∀ (s : Fin 32) (t : Fin 2048), (∑ l : Fin 64,
      (EncodeRef.v55 a (ix2 ⟨s.val * 2048 + t.val, by omega⟩ l) - EncodeRef.v38 a (ix3 s t l))
        * (EncodeRef.v55 a (ix2 ⟨s.val * 2048 + t.val, by omega⟩ l) - EncodeRef.v38 a (ix3 s t l))) = gap a (s.val * 2048 + t.val) := by
    intro s t
    unfold gap
    rw [dif_pos (by omega)]
    refine Finset.sum_congr rfl fun l _ => ?_
    have e38 : EncodeRef.v38 a (ix3 s t l) = row a ⟨s.val * 2048 + t.val, by omega⟩ l := by
      rw [ref38_apply]
      unfold row
      congr 1
      · apply Fin.ext; show s.val = (s.val * 2048 + t.val) / 2048; omega
      · apply Fin.ext; show t.val = (s.val * 2048 + t.val) % 2048; omega
    rw [EncodeArg.v55_apply a (code a) (ref_code hf), e38]
    rfl
  simp only [e]
  rw [Fin.sum_univ_eq_sum_range (fun s => ∑ t : Fin 2048, gap a (s * 2048 + t.val)) 32]
  have e2 : ∀ s, ∑ t : Fin 2048, gap a (s * 2048 + t.val) = ∑ t ∈ Finset.range 2048, gap a (s * 2048 + t) := fun s =>
    Fin.sum_univ_eq_sum_range (fun t => gap a (s * 2048 + t)) 2048
  simp only [e2]
  exact sum_blocks 2048 (gap a) 32

end

section
variable (m : (ℓ : Loc nD τ sig) → Buf (Elt Ideal) ℓ) (c : Dev nD) {a : EncodeRef.Args Ideal} (hf : Fin' a)
    (h0 : m ((c.tc : Thread nD τ).loc main_arg0) = a.arg0) (h1 : m ((c.tc : Thread nD τ).loc main_arg1) = a.arg1)
    (h2 : m ((c.tc : Thread nD τ).loc main_arg2) = a.arg2) (h3 : m ((c.tc : Thread nD τ).loc main_arg3) = a.arg3)
    (h4 : m ((c.tc : Thread nD τ).loc main_arg4) = a.arg4) (h5 : m ((c.tc : Thread nD τ).loc main_arg5) = a.arg5)
    (h6 : m ((c.tc : Thread nD τ).loc main_arg6) = a.arg6) (h7 : m ((c.tc : Thread nD τ).loc main_arg7) = a.arg7)

include h0 h1 h2 h3 h4 h5 h6 in
/-- The rows of block `t`. -/
theorem zrow_eq (t : Fin cfg0.N) (i : Fin 4096) (n : Fin 65536) (hn : n.val = t.val * 4096 + i.val) :
    zrow (iblk m c 0 t) (V m c main_arg1) (V m c main_v2) (V m c main_v3) (V m c main_v4) (V m c main_arg5) (V m c main_v5) i = row a n := by
  unfold zrow row refRow
  rw [V_main_arg1, V_main_arg5, V_v2, V_v3, V_v4, V_v5, h1, h2, h3, h4, h5, h6]
  congr 1
  · funext k
    rw [iblk0 m c t i k n hn, V_v0, h0]
    exact flat_apply _ _ n k
  · funext k; exact row_apply _ k
  · funext k; exact row_apply _ k
  · funext k; exact row_apply _ k
  · funext k; exact row64_apply _ k

include h7 in
theorem book_eq : (fun k l => (V m c main_v1 : FVec Ideal S64x512 .f32) (ix2 l k)) = book a := by
  rw [V_v1, h7]
  funext k l
  exact swap_apply _ _ l k

include h0 h1 h2 h3 h4 h5 h6 h7 in
theorem codesAt_apply (t : Fin cfg0.N) (i : Fin 4096) (n : Fin 65536) (hn : n.val = t.val * 4096 + i.val) :
    codesAt m c t (ix2 i 0) = BitVec.ofNat 32 (code a n).val := by
  unfold codesAt EncodeOut.codes
  rw [pay12_apply]
  unfold scores code
  rw [zrow_eq m c h0 h1 h2 h3 h4 h5 h6 t i n hn, book_eq m c h7]

include hf h0 h1 h2 h3 h4 h5 h6 h7 in
/-- The codes. -/
theorem codes_eq : G8 m c = EncodeRef.v57 a := by
  funext y
  obtain ⟨n, u, rfl⟩ : ∃ (n : Fin 65536) (u : Fin 1), y = ix2 n u := ⟨_, _, ValueIdx.eq_ix2 y⟩
  have hN : cfg0.N = 16 := N_0
  obtain ⟨t, ht⟩ : ∃ t : Fin cfg0.N, t.val = n.val / 4096 := ⟨⟨n.val / 4096, by rw [hN]; omega⟩, rfl⟩
  have hn : n.val = t.val * 4096 + (⟨n.val % 4096, by omega⟩ : Fin 4096).val := by dsimp only; omega
  refine (G8_apply m c t ⟨n.val % 4096, by omega⟩ n u hn).trans ?_
  refine (codesAt_apply m c h0 h1 h2 h3 h4 h5 h6 h7 t _ n hn).trans ?_
  exact ((EncodeArg.v57_apply a n u).trans (ref_code hf n)).symm

include hf h0 h1 h2 h3 h4 h5 h6 h7 in
theorem partAt_apply (t : Fin cfg0.N) : partAt m c t (ix2 0 0) = ∑ i ∈ Finset.range 4096, gap a (t.val * 4096 + i) := by
  have hN : cfg0.N = 16 := N_0
  have ht := t.isLt
  unfold partAt EncodeOut.part
  rw [pay15_apply, ← Fin.sum_univ_eq_sum_range (fun i => gap a (t.val * 4096 + i)) 4096]
  refine Finset.sum_congr rfl fun i _ => ?_
  have hn : t.val * 4096 + i.val < 65536 := by omega
  unfold gap scores
  rw [dif_pos hn, zrow_eq m c h0 h1 h2 h3 h4 h5 h6 t i ⟨_, hn⟩ rfl, book_eq m c h7]
  exact score_add (row_real hf _) (book_real hf) _

theorem pay2_apply (p : FVec Ideal S1x1 .f32) (x : EReal) : (k0_pay2 p x : EReal) = x + p (ix2 0 0) := by
  unfold k0_pay2
  exact congrArg (fun j => x + p j) (EncodeOut.idx11 _ _)

theorem chain_zero (h : 0 < cfg0.N) : chain m c 0 h = k0_pay2 (F := Ideal) (partAt m c ⟨0, h⟩) (Scalar.ofBits (F := Ideal) .f32 0x00000000#32) := by rw [chain]

theorem chain_succ (n : ℕ) (h : n + 1 < cfg0.N) : chain m c (n + 1) h = k0_pay2 (partAt m c ⟨n + 1, h⟩) (chain m c n (Nat.lt_of_succ_lt h)) := by rw [chain]

theorem zero_val : (Scalar.ofBits .f32 0x00000000#32 : Ideal .f32) = (0 : EReal) := by
  show Ideal.ofBits .f32 0x00000000#32 = 0
  simp [Ideal.ofBits, Ideal.ieee]

include hf h0 h1 h2 h3 h4 h5 h6 h7 in
theorem chain_apply (n : ℕ) : ∀ h : n < cfg0.N, chain m c n h = ∑ i ∈ Finset.range ((n + 1) * 4096), gap a i := by
  induction n with
  | zero =>
    intro h
    rw [chain_zero, pay2_apply, zero_val, partAt_apply m c hf h0 h1 h2 h3 h4 h5 h6 h7, ← sum_blocks, Finset.sum_range_one, zero_add]
  | succ n ih =>
    intro h
    rw [chain_succ, pay2_apply, partAt_apply m c hf h0 h1 h2 h3 h4 h5 h6 h7, ih, Nat.succ_mul (n + 1), Finset.sum_range_add]

include hf h0 h1 h2 h3 h4 h5 h6 h7 in
/-- The commitment. -/
theorem sum_eq : G9 m c = EncodeRef.v61 a := by
  funext y
  obtain ⟨i, j, rfl⟩ : ∃ (i : Fin 1) (j : Fin 1), y = ix2 i j := ⟨_, _, ValueIdx.eq_ix2 y⟩
  rw [ref_sum hf]
  exact chain_apply m c hf h0 h1 h2 h3 h4 h5 h6 h7 15 _

end

end Cert.EncodeFinal

end
-- ==== Proof.EncodeFin.lean ====
module

public import proofs.«01_k».proof.Proof.EncodeMath
public import proofs.«01_k».proof.Pre_finite
public import Idealize.ShloMosaic.Lib.ReduceAll
public import Idealize.ShloMosaic.PureOps.Ideal.Laws

/-! What the encoder's precondition says of its arrays: every entry is a real number. -/

@[expose] public section

noncomputable section

namespace Cert.EncodeFin

open Idealize.ShloMosaic Idealize.ShloMosaic.ValueIdx Cert.EncodeMath

theorem real_of_abs {x : EReal} (h : max x (-x) < ⊤) : Real' x := by
  induction x with
  | bot => simp at h
  | coe r => exact ⟨r, rfl⟩
  | top => simp at h

theorem all_real {s : Shape} {axes : List (Fin s.rank)} (x : FVec Ideal s .f32) (hb : Pre_finite.S_.BroadcastsInDim s (![] : Fin 0 → Fin s.rank))
    (h : s.ReducesTo axes Pre_finite.S_) (hu : 0 < Pre_finite.S_.numel) (j : Pre_finite.S_.Idx)
    (e : Host.reduce IntOp.andi (cmpf .olt (Host.absf x) (broadcastInDim s ![] hb (constant (F := Ideal) Pre_finite.S_ .f32 0x7F800000#32)))
      (constantI Pre_finite.S_ 1 1#1) h hu j = 1#1) (i : s.Idx) : Real' (x i) := by
  haveI : Subsingleton Pre_finite.S_.Idx := ⟨fun a b => funext fun k => k.elim0⟩
  have e1 := Host.reduce_andi_all _ _ _ _ _ e i
  have e2 : Ideal.cmp .olt (max (x i) (-(x i))) (Ideal.ofBits .f32 0x7F800000#32) = 1#1 := e1
  rw [ofBits_inf] at e2
  refine real_of_abs ?_
  by_contra hc
  simp [Ideal.cmp, hc] at e2

theorem real_of_pre [Cert.Pre_finite.Facts] (a0 : FVec Ideal Pre_finite.S32x2048x14 .f32) (a1 : FVec Ideal Pre_finite.S14x128 .f32)
    (a2 a3 a4 : FVec Ideal Pre_finite.S128 .f32) (a5 : FVec Ideal Pre_finite.S128x64 .f32) (a6 : FVec Ideal Pre_finite.S64 .f32)
    (a7 : FVec Ideal Pre_finite.S512x64 .f32)
    (h : Cert.Pre_finite.fn (F := Ideal) a0 a1 a2 a3 a4 a5 a6 a7 = fun _ => 1#1) :
    (∀ i, Real' (a0 i)) ∧ (∀ i, Real' (a1 i)) ∧ (∀ i, Real' (a2 i)) ∧ (∀ i, Real' (a3 i)) ∧ (∀ i, Real' (a4 i)) ∧ (∀ i, Real' (a5 i))
      ∧ (∀ i, Real' (a6 i)) ∧ ∀ i, Real' (a7 i) := by
  have sp : ∀ p q : BitVec 1, IntOp.andi p q = 1#1 → p = 1#1 ∧ q = 1#1 := by decide
  have e := congrFun h (fun k => k.elim0)
  simp only [Pre_finite.fn, Pre_finite.fn_part1, Pre_finite.fn_part2, andi] at e
  obtain ⟨e, e7⟩ := sp _ _ e
  obtain ⟨e, e6⟩ := sp _ _ e
  obtain ⟨e, e5⟩ := sp _ _ e
  obtain ⟨e, e4⟩ := sp _ _ e
  obtain ⟨e, e3⟩ := sp _ _ e
  obtain ⟨e, e2⟩ := sp _ _ e
  obtain ⟨e0, e1⟩ := sp _ _ e
  exact ⟨all_real _ _ _ _ _ e0, all_real _ _ _ _ _ e1, all_real _ _ _ _ _ e2, all_real _ _ _ _ _ e3, all_real _ _ _ _ _ e4,
    all_real _ _ _ _ _ e5, all_real _ _ _ _ _ e6, all_real _ _ _ _ _ e7⟩

end Cert.EncodeFin

end
-- ==== Proof.EncodeClaims.lean ====
/-
  The claims about the encoder's call: its frame at both instances, the reference's, and the equality of the codes and of
  the commitment, for arguments whose entries are real numbers.
-/
module

public import proofs.«01_k».proof.Defs
public import proofs.«01_k».proof.Proof.EncodeFinal
public import proofs.«01_k».proof.Proof.EncodeFin
public import proofs.«01_k».proof.Proof.Gen.Encode.Frame
public import Idealize.ShloMosaic.Lib.Quiescent

@[expose] public section

namespace Cert.Proof

open Idealize.ShloMosaic Idealize.SL.Sem

/-- The encoder's frame at the bit-exact instance. -/
theorem frame_encode : Cert.quiescent_Encode := fun m ρ _ => Cert.Encode.Gen.frame (F := Bits) m ρ

/-- The encoder's frame at the ideal instance. -/
theorem frame_encode_ideal : Cert.quiescent_EncodeIdeal := fun m ρ _ => Cert.EncodeIdeal.Gen.frame (F := Ideal) m ρ

/-- The reference's frame; it has no semaphore. -/
theorem frame_encode_reference : Cert.quiescent_EncodeReferenceIdeal := fun m ρ _ =>
  (θ_run Cert.EncodeReferenceIdeal.defs _ _).mono (fun r h => ⟨fun c => (h c).2.2, sem_eq_zero_of_no_sems (by decide) r.2⟩)
    (EncodeRef.run (F := Ideal) m ρ)

/-- The same two frames under the precondition of the values. -/
theorem frame_encode_ideal_pre [Cert.Pre_finite.Facts] : Cert.quiescent_EncodeIdeal_pre_finite := fun m ρ _ => Cert.EncodeIdeal.Gen.frame (F := Ideal) m ρ

theorem frame_encode_reference_pre [Cert.Pre_finite.Facts] : Cert.quiescent_EncodeReferenceIdeal_pre_finite := fun m ρ _ => frame_encode_reference m ρ trivial

/-- The encoder leaves what the reference leaves. -/
theorem algebraic_encode [Cert.Pre_finite.Facts] : Cert.algebraic_EncodeIdeal_EncodeReferenceIdeal_pre_finite := by
  intro m ρ m' ρ' hpre hagree
  refine ⟨fun c => EncodeRef.v57 (EncodeRef.argsOf m' c), fun c => EncodeRef.v61 (EncodeRef.argsOf m' c), ?_, EncodeRef.run (F := Ideal) m' ρ'⟩
  have hf : ∀ c, EncodeFinal.Fin' (EncodeRef.argsOf m' c) := fun c => by
    obtain ⟨h0, h1, h2, h3, h4, h5, h6, h7⟩ := hagree c
    obtain ⟨r0, r1, r2, r3, r4, r5, r6, r7⟩ := EncodeFin.real_of_pre _ _ _ _ _ _ _ _ (hpre c)
    exact ⟨fun i => Eq.mpr (congrArg EncodeMath.Real' (congrFun h0 i)) (r0 i), fun i => Eq.mpr (congrArg EncodeMath.Real' (congrFun h1 i)) (r1 i), fun i => Eq.mpr (congrArg EncodeMath.Real' (congrFun h2 i)) (r2 i), fun i => Eq.mpr (congrArg EncodeMath.Real' (congrFun h3 i)) (r3 i),
      fun i => Eq.mpr (congrArg EncodeMath.Real' (congrFun h4 i)) (r4 i), fun i => Eq.mpr (congrArg EncodeMath.Real' (congrFun h5 i)) (r5 i), fun i => Eq.mpr (congrArg EncodeMath.Real' (congrFun h6 i)) (r6 i), fun i => Eq.mpr (congrArg EncodeMath.Real' (congrFun h7 i)) (r7 i)⟩
  refine (θ_run Cert.EncodeIdeal.defs _ _).mono (fun _ h c => ⟨(h.1 c).1.trans ?_, (h.1 c).2.trans ?_, h.2 c⟩)
    (θ_run_and (EncodeRun.run (F := Ideal) m ρ) (Cert.EncodeIdeal.Gen.unchanged (F := Ideal) m ρ))
  · obtain ⟨h0, h1, h2, h3, h4, h5, h6, h7⟩ := hagree c
    exact EncodeFinal.codes_eq m c (hf c) h0.symm h1.symm h2.symm h3.symm h4.symm h5.symm h6.symm h7.symm
  · obtain ⟨h0, h1, h2, h3, h4, h5, h6, h7⟩ := hagree c
    exact EncodeFinal.sum_eq m c (hf c) h0.symm h1.symm h2.symm h3.symm h4.symm h5.symm h6.symm h7.symm

end Cert.Proof
-- ==== Proof.TallyOut.lean ====
module

public import proofs.«01_k».proof.Proof.Row
public import Idealize.ShloMosaic.Lib.KernelVsHost
public import proofs.«01_k».proof.Proof.Gen.TallyIdeal.Frame
public import Idealize.ShloMosaic.Lib.Pipeline.Value

/-! What one point of the encoder's grid leaves in the staging buffer of the counts. -/

@[expose] public section

noncomputable section

namespace Cert.TallyOut

open Cert.TallyIdeal Cert.TallyIdeal.Gen Idealize.ShloMosaic Idealize.ShloMosaic.TcCoe Idealize.SL.Sem

theorem hz : (![0, 0] : Fin 2 → Nat) = fun _ => 0 := funext fun a => by fin_cases a <;> rfl

section
variable {F : FTy → Type} [FloatOps F]

/-- The counts of one block. -/
abbrev part (x0 : Vec F S4096x14 .f32) (x1 : Vec F S14x128 .f32) (x2 x3 x4 : Vec F S1x128 .f32) (x5 : Vec F S128x64 .f32)
    (x6 : Vec F S1x64 .f32) (x7 : Vec F S64x512 .f32) : FVec F S1x512 .f32 :=
  k0_pay14 (k0_pay5 x0 x1 x2 x3 x4) (k0_pay6 x0 x1 x2 x3 x4) k0_pay7 x5 x6 x7

theorem out10_A (c : Dev nD) (i : grid0.Coords) (arg1 : Memref sig .tc .vmem S4096x14 .f32) (h0 : arg1.IsWhole) (arg2 : Memref sig .tc .vmem S14x128 .f32) (h1 : arg2.IsWhole) (arg3 : Memref sig .tc .vmem S1x128 .f32) (h2 : arg3.IsWhole) (arg4 : Memref sig .tc .vmem S1x128 .f32) (h3 : arg4.IsWhole) (arg5 : Memref sig .tc .vmem S1x128 .f32) (h4 : arg5.IsWhole) (arg6 : Memref sig .tc .vmem S128x64 .f32) (h5 : arg6.IsWhole) (arg7 : Memref sig .tc .vmem S1x64 .f32) (h6 : arg7.IsWhole) (arg8 : Memref sig .tc .vmem S64x512 .f32) (h7 : arg8.IsWhole) (arg9 : Memref sig .tc .vmem S4096x1 .i32) (h8 : arg9.IsWhole) (arg10 : Memref sig .tc .smem S1x1 .f32) (h9 : arg10.IsWhole) (arg11 : Memref sig .tc .vmem S1x512 .f32) (h10 : arg11.IsWhole) (hc : cond0_0 i)
    (x0 : Vec F S4096x14 .f32) (x1 : Vec F S14x128 .f32) (x2 : Vec F S1x128 .f32) (x3 : Vec F S1x128 .f32) (x4 : Vec F S1x128 .f32) (x5 : Vec F S128x64 .f32) (x6 : Vec F S1x64 .f32) (x7 : Vec F S64x512 .f32) :
    out0_A_10 c i arg1 h0 arg2 h1 arg3 h2 arg4 h3 arg5 h4 arg6 h5 arg7 h6 arg8 h7 arg9 h8 arg10 h9 arg11 h10 hc x0 x1 x2 x3 x4 x5 x6 x7 = k0_pay3 (part x0 x1 x2 x3 x4 x5 x6 x7) k0_pay1 := by
  unfold out0_A_10
  rw [View.read_writes_eq_canon _ _ _ (cover0_A_10 c i arg1 h0 arg2 h1 arg3 h2 arg4 h3 arg5 h4 arg6 h5 arg7 h6 arg8 h7 arg9 h8 arg10 h9 arg11 h10 hc x0 x1 x2 x3 x4 x5 x6 x7)]
  unfold kernelRun0_A
  dsimp only
  sl_unfold_words
  rw [View.canon_cons_unit_zero (S := S1x512) hz]
  try rw [View.readCov_unit_zero (S := S1x512) _ hz]
  simp only [View.readAt_eq_ld, h0.read_unread, h1.read_unread, h2.read_unread, h3.read_unread, h4.read_unread, h5.read_unread, h6.read_unread, h7.read_unread, View.ld_unit_zero (S := S4096x14) hz, View.ld_unit_zero (S := S14x128) hz, View.ld_unit_zero (S := S1x128) hz, View.ld_unit_zero (S := S128x64) hz, View.ld_unit_zero (S := S1x64) hz, View.ld_unit_zero (S := S64x512) hz]

theorem out10_B (c : Dev nD) (i : grid0.Coords) (arg1 : Memref sig .tc .vmem S4096x14 .f32) (h0 : arg1.IsWhole) (arg2 : Memref sig .tc .vmem S14x128 .f32) (h1 : arg2.IsWhole) (arg3 : Memref sig .tc .vmem S1x128 .f32) (h2 : arg3.IsWhole) (arg4 : Memref sig .tc .vmem S1x128 .f32) (h3 : arg4.IsWhole) (arg5 : Memref sig .tc .vmem S1x128 .f32) (h4 : arg5.IsWhole) (arg6 : Memref sig .tc .vmem S128x64 .f32) (h5 : arg6.IsWhole) (arg7 : Memref sig .tc .vmem S1x64 .f32) (h6 : arg7.IsWhole) (arg8 : Memref sig .tc .vmem S64x512 .f32) (h7 : arg8.IsWhole) (arg9 : Memref sig .tc .vmem S4096x1 .i32) (h8 : arg9.IsWhole) (arg10 : Memref sig .tc .smem S1x1 .f32) (h9 : arg10.IsWhole) (arg11 : Memref sig .tc .vmem S1x512 .f32) (h10 : arg11.IsWhole) (hc : ¬cond0_0 i)
    (x0 : Vec F S4096x14 .f32) (x1 : Vec F S14x128 .f32) (x2 : Vec F S1x128 .f32) (x3 : Vec F S1x128 .f32) (x4 : Vec F S1x128 .f32) (x5 : Vec F S128x64 .f32) (x6 : Vec F S1x64 .f32) (x7 : Vec F S64x512 .f32) (xo9 : Vec F S1x1 .f32) (xo10 : Vec F S1x512 .f32) :
    out0_B_10 c i arg1 h0 arg2 h1 arg3 h2 arg4 h3 arg5 h4 arg6 h5 arg7 h6 arg8 h7 arg9 h8 arg10 h9 arg11 h10 hc x0 x1 x2 x3 x4 x5 x6 x7 xo9 xo10 = k0_pay3 (part x0 x1 x2 x3 x4 x5 x6 x7) xo10 := by
  unfold out0_B_10
  rw [View.read_writes_eq_canon _ _ _ (cover0_B_10 c i arg1 h0 arg2 h1 arg3 h2 arg4 h3 arg5 h4 arg6 h5 arg7 h6 arg8 h7 arg9 h8 arg10 h9 arg11 h10 hc x0 x1 x2 x3 x4 x5 x6 x7 xo9 xo10)]
  unfold kernelRun0_B
  dsimp only
  sl_unfold_words
  rw [View.canon_unit_zero hz]
  simp only [View.readAt_eq_ld, h0.read_unread, h1.read_unread, h2.read_unread, h3.read_unread, h4.read_unread, h5.read_unread, h6.read_unread, h7.read_unread, View.ld_unit_zero (S := S4096x14) hz, View.ld_unit_zero (S := S14x128) hz, View.ld_unit_zero (S := S1x128) hz, View.ld_unit_zero (S := S128x64) hz, View.ld_unit_zero (S := S1x64) hz, View.ld_unit_zero (S := S64x512) hz, h10.read_unread, View.ld_unit_zero (S := S1x512) hz]

end

end Cert.TallyOut

end
-- ==== Proof.TallyRun.lean ====
module

public import proofs.«01_k».proof.Proof.TallyOut

/-! The encoder's run: the counts as a function of what the call finds. -/

@[expose] public section

noncomputable section

namespace Cert.TallyRun

open Cert.TallyIdeal Cert.TallyIdeal.Gen Idealize.ShloMosaic Idealize.ShloMosaic.TcCoe Idealize.SL.Sem Cert.TallyOut

section
variable {F : FTy → Type} [FloatOps F]
variable (m : (ℓ : Loc nD τ sig) → Buf (Elt F) ℓ) (ρ : Dev nD → PrngReg)

theorem idx0 : ∀ t : Fin cfg0.N, win0_0.index t (0 : Fin 2) = t.val ∧ win0_0.index t (1 : Fin 2) = 0 :=
  (by decide +kernel : ∀ t : Fin grid0.N, _)

theorem emb0 (t : Fin cfg0.N) (i : Fin 4096) (k : Fin 14) (n : Fin 65536) (hn : n.val = t.val * 4096 + i.val) :
    ((cfg0.win 0).blk t).view.emb (ix2 i k : S4096x14.Idx) = (ix2 n k : S65536x14.Idx) := by
  obtain ⟨e0, e1⟩ := idx0 t
  funext a; apply Fin.ext
  match a with
  | ⟨0, _⟩ => show win0_0.index t (0 : Fin 2) * 4096 + 1 * i.val = n.val; omega
  | ⟨1, _⟩ => show win0_0.index t (1 : Fin 2) * 14 + 1 * k.val = k.val; omega

theorem idx1 : ∀ t : Fin cfg0.N, win0_1.index t (0 : Fin 2) = 0 ∧ win0_1.index t (1 : Fin 2) = 0 :=
  (by decide +kernel : ∀ t : Fin grid0.N, _)

theorem emb1 (t : Fin cfg0.N) (j : S14x128.Idx) : ((cfg0.win 1).blk t).view.emb j = j := by
  obtain ⟨e0, e1⟩ := idx1 t
  funext a; apply Fin.ext
  match a with
  | ⟨0, _⟩ => show win0_1.index t (0 : Fin 2) * 14 + 1 * (j 0).val = (j 0).val; omega
  | ⟨1, _⟩ => show win0_1.index t (1 : Fin 2) * 128 + 1 * (j 1).val = (j 1).val; omega

theorem iblk1 (c : Dev nD) (t : Fin cfg0.N) : iblk m c 1 t = V m c main_arg1 := by
  funext j; show V m c main_arg1 (((cfg0.win 1).blk t).view.emb j) = V m c main_arg1 j; rw [emb1]

theorem idx2 : ∀ t : Fin cfg0.N, win0_2.index t (0 : Fin 2) = 0 ∧ win0_2.index t (1 : Fin 2) = 0 :=
  (by decide +kernel : ∀ t : Fin grid0.N, _)

theorem emb2 (t : Fin cfg0.N) (j : S1x128.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem iblk2 (c : Dev nD) (t : Fin cfg0.N) : iblk m c 2 t = V m c main_v2 := by
  funext j; show V m c main_v2 (((cfg0.win 2).blk t).view.emb j) = V m c main_v2 j; rw [emb2]

theorem idx3 : ∀ t : Fin cfg0.N, win0_3.index t (0 : Fin 2) = 0 ∧ win0_3.index t (1 : Fin 2) = 0 :=
  (by decide +kernel : ∀ t : Fin grid0.N, _)

theorem emb3 (t : Fin cfg0.N) (j : S1x128.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem iblk3 (c : Dev nD) (t : Fin cfg0.N) : iblk m c 3 t = V m c main_v3 := by
  funext j; show V m c main_v3 (((cfg0.win 3).blk t).view.emb j) = V m c main_v3 j; rw [emb3]

theorem idx4 : ∀ t : Fin cfg0.N, win0_4.index t (0 : Fin 2) = 0 ∧ win0_4.index t (1 : Fin 2) = 0 :=
  (by decide +kernel : ∀ t : Fin grid0.N, _)

theorem emb4 (t : Fin cfg0.N) (j : S1x128.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem iblk4 (c : Dev nD) (t : Fin cfg0.N) : iblk m c 4 t = V m c main_v4 := by
  funext j; show V m c main_v4 (((cfg0.win 4).blk t).view.emb j) = V m c main_v4 j; rw [emb4]

theorem idx5 : ∀ t : Fin cfg0.N, win0_5.index t (0 : Fin 2) = 0 ∧ win0_5.index t (1 : Fin 2) = 0 :=
  (by decide +kernel : ∀ t : Fin grid0.N, _)

theorem emb5 (t : Fin cfg0.N) (j : S128x64.Idx) : ((cfg0.win 5).blk t).view.emb j = j := by
  obtain ⟨e0, e1⟩ := idx5 t
  funext a; apply Fin.ext
  match a with
  | ⟨0, _⟩ => show win0_5.index t (0 : Fin 2) * 128 + 1 * (j 0).val = (j 0).val; omega
  | ⟨1, _⟩ => show win0_5.index t (1 : Fin 2) * 64 + 1 * (j 1).val = (j 1).val; omega

theorem iblk5 (c : Dev nD) (t : Fin cfg0.N) : iblk m c 5 t = V m c main_arg5 := by
  funext j; show V m c main_arg5 (((cfg0.win 5).blk t).view.emb j) = V m c main_arg5 j; rw [emb5]

theorem idx6 : ∀ t : Fin cfg0.N, win0_6.index t (0 : Fin 2) = 0 ∧ win0_6.index t (1 : Fin 2) = 0 :=
  (by decide +kernel : ∀ t : Fin grid0.N, _)

theorem emb6 (t : Fin cfg0.N) (j : S1x64.Idx) : ((cfg0.win 6).blk t).view.emb j = j := by
  obtain ⟨e0, e1⟩ := idx6 t
  funext a; apply Fin.ext
  match a with
  | ⟨0, _⟩ => show win0_6.index t (0 : Fin 2) * 1 + 1 * (j 0).val = (j 0).val; omega
  | ⟨1, _⟩ => show win0_6.index t (1 : Fin 2) * 64 + 1 * (j 1).val = (j 1).val; omega

theorem iblk6 (c : Dev nD) (t : Fin cfg0.N) : iblk m c 6 t = V m c main_v5 := by
  funext j; show V m c main_v5 (((cfg0.win 6).blk t).view.emb j) = V m c main_v5 j; rw [emb6]

theorem idx7 : ∀ t : Fin cfg0.N, win0_7.index t (0 : Fin 2) = 0 ∧ win0_7.index t (1 : Fin 2) = 0 :=
  (by decide +kernel : ∀ t : Fin grid0.N, _)

theorem emb7 (t : Fin cfg0.N) (j : S64x512.Idx) : ((cfg0.win 7).blk t).view.emb j = j := by
  obtain ⟨e0, e1⟩ := idx7 t
  funext a; apply Fin.ext
  match a with
  | ⟨0, _⟩ => show win0_7.index t (0 : Fin 2) * 64 + 1 * (j 0).val = (j 0).val; omega
  | ⟨1, _⟩ => show win0_7.index t (1 : Fin 2) * 512 + 1 * (j 1).val = (j 1).val; omega

theorem iblk7 (c : Dev nD) (t : Fin cfg0.N) : iblk m c 7 t = V m c main_v1 := by
  funext j; show V m c main_v1 (((cfg0.win 7).blk t).view.emb j) = V m c main_v1 j; rw [emb7]

theorem idx10 : ∀ t : Fin cfg0.N, win0_10.index t (0 : Fin 2) = 0 ∧ win0_10.index t (1 : Fin 2) = 0 :=
  (by decide +kernel : ∀ t : Fin grid0.N, _)

theorem emb10 (t : Fin cfg0.N) (j : S1x512.Idx) : ((cfg0.win 10).blk t).view.emb j = j := by
  obtain ⟨e0, e1⟩ := idx10 t
  funext a; apply Fin.ext
  match a with
  | ⟨0, _⟩ => show win0_10.index t (0 : Fin 2) * 1 + 1 * (j 0).val = (j 0).val; omega
  | ⟨1, _⟩ => show win0_10.index t (1 : Fin 2) * 512 + 1 * (j 1).val = (j 1).val; omega

theorem iblk0 (c : Dev nD) (t : Fin cfg0.N) (i : Fin 4096) (k : Fin 14) (n : Fin 65536) (hn : n.val = t.val * 4096 + i.val) :
    (iblk m c 0 t : Vec F S4096x14 .f32) (ix2 i k) = (V m c main_v0 : Vec F S65536x14 .f32) (ix2 n k) := by
  show V m c main_v0 (((cfg0.win 0).blk t).view.emb (ix2 i k)) = V m c main_v0 (ix2 n k)
  rw [emb0 t i k n hn]

/-- The counts of block `t`. -/
def partAt (c : Dev nD) (t : Fin cfg0.N) : FVec F S1x512 .f32 :=
  part (iblk m c 0 t) (V m c main_arg1) (V m c main_v2) (V m c main_v3) (V m c main_v4) (V m c main_arg5) (V m c main_v5) (V m c main_v1)

/-- The counts after point `n`. -/
def chain (c : Dev nD) : (n : ℕ) → n < cfg0.N → FVec F S1x512 .f32
  | 0, h => k0_pay3 (partAt m c ⟨0, h⟩) k0_pay1
  | n + 1, h => k0_pay3 (partAt m c ⟨n + 1, h⟩) (chain c n (Nat.lt_of_succ_lt h))

theorem outs10 (c : Dev nD) : ∀ (n : ℕ) (h : n < cfg0.N), (outsAt0 m c n h).2.2 = chain m c n h
  | 0, h => by
    rw [outsAt0_A m c ⟨0, h⟩ rfl]
    dsimp only
    rw [out10_A, iblk1, iblk2, iblk3, iblk4, iblk5, iblk6, iblk7]
    rfl
  | n + 1, h => by
    have hN : cfg0.N = 16 := N_0
    have hB : ¬(⟨n + 1, h⟩ : Fin cfg0.N).val % 16 = 0 := by dsimp only; omega
    rw [outsAt0_B m c ⟨n + 1, h⟩ hB]
    dsimp only
    rw [out10_B, iblk1, iblk2, iblk3, iblk4, iblk5, iblk6, iblk7]
    show k0_pay3 _ (outsAt0 m c n _).2.2 = _
    rw [outs10 c n]
    rfl

/-- The result array of the counts. -/
def G10 (c : Dev nD) : Vec F S1x512 .f32 := chain m c 15 (by rw [show cfg0.N = 16 from N_0]; decide)

theorem cut10 (t : Fin cfg0.N) (X : Vec F S1x512 .f32) :
    (cfg0.win 10).cut (grid0.coords t) X = ((cfg0.win 10).blk t).view.read (Elt F) X := by
  funext j
  show X j = X (((cfg0.win 10).blk t).view.emb j)
  rw [emb10]

theorem flushed10 (c : Dev nD) (t : Fin cfg0.N) (hf : (cfg0.win 10).flush t = true) :
    (dats m 0 c).flushed 10 t = ((cfg0.win 10).blk t).view.read (Elt F) (G10 m c) := by
  have hN : cfg0.N = 16 := N_0
  have h15 : t.val = 15 := by have := (flush0_10 t).mp hf; have := t.isLt; omega
  have hc : chain m c t.val t.isLt = G10 m c := by
    have e : t = ⟨15, by rw [hN]; decide⟩ := Fin.ext h15
    rw [e]
    rfl
  show (cfg0.win 10).cut (grid0.coords _) ((dats m 0 c).after 10 _) = _
  rw [after0_10, outs10, hc]
  exact cut10 t (G10 m c)

theorem covered10 (i : S1x512.Idx) :
    ∃ t : Fin cfg0.N, (cfg0.win 10).flush t = true ∧ i ∈ ((cfg0.win 10).blk t).view.set := by
  have hN : cfg0.N = 16 := N_0
  obtain ⟨t, ht⟩ : ∃ t : Fin cfg0.N, t.val = 15 := ⟨⟨15, by rw [hN]; decide⟩, rfl⟩
  refine ⟨t, (flush0_10 _).mpr (by rw [ht]), ?_⟩
  have h := ((cfg0.win 10).blk t).view.emb_mem_set i
  rwa [emb10] at h

theorem final10 (c : Dev nD) : (dats m 0 c).arrAt 10 cfg0.N = G10 m c :=
  (dats m 0 c).arrAt_eq_of_cover 10 (G10 m c) (flushed10 m c) covered10

theorem run : θ_run defs (onTc (τ := τ) (main (F := F))) ⟨m, fun _ => 0, ρ⟩ fun r => ∀ c : Dev nD,
      r.2.mem ((c.tc : Thread nD τ).loc main_v6_2) = G10 m c :=
  (θ_run defs _ _).mono (fun _ h c => ((h c).1 10).trans (final10 m c)) (run_main m ρ)

theorem V_v0 (c : Dev nD) : V m c main_v0
    = shapeCast S65536x14 (m ((c : Thread nD τ).loc main_arg0) : Vec F S32x2048x14 .f32) shapeCasts_S32x2048x14_S65536x14 := by
  unfold V
  simp only [hostOps0, List.flatten_cons, List.flatten_nil, List.append_nil, List.cons_append, List.nil_append]
  after_results_simp
  rfl

theorem V_v1 (c : Dev nD) : V m c main_v1
    = transpose S64x512 [1, 0] (m ((c : Thread nD τ).loc main_arg7) : Vec F S512x64 .f32) transposes_S512x64_S64x512_1_0 := by
  unfold V
  simp only [hostOps0, List.flatten_cons, List.flatten_nil, List.append_nil, List.cons_append, List.nil_append]
  after_results_simp

theorem V_v2 (c : Dev nD) : V m c main_v2
    = shapeCast S1x128 (m ((c : Thread nD τ).loc main_arg2) : Vec F S128 .f32) shapeCasts_S128_S1x128 := by
  unfold V
  simp only [hostOps0, List.flatten_cons, List.flatten_nil, List.append_nil, List.cons_append, List.nil_append]
  after_results_simp
  rfl

theorem V_v3 (c : Dev nD) : V m c main_v3
    = shapeCast S1x128 (m ((c : Thread nD τ).loc main_arg3) : Vec F S128 .f32) shapeCasts_S128_S1x128 := by
  unfold V
  simp only [hostOps0, List.flatten_cons, List.flatten_nil, List.append_nil, List.cons_append, List.nil_append]
  after_results_simp
  rfl

theorem V_v4 (c : Dev nD) : V m c main_v4
    = shapeCast S1x128 (m ((c : Thread nD τ).loc main_arg4) : Vec F S128 .f32) shapeCasts_S128_S1x128 := by
  unfold V
  simp only [hostOps0, List.flatten_cons, List.flatten_nil, List.append_nil, List.cons_append, List.nil_append]
  after_results_simp
  rfl

theorem V_v5 (c : Dev nD) : V m c main_v5
    = shapeCast S1x64 (m ((c : Thread nD τ).loc main_arg6) : Vec F S64 .f32) shapeCasts_S64_S1x64 := by
  unfold V
  simp only [hostOps0, List.flatten_cons, List.flatten_nil, List.append_nil, List.cons_append, List.nil_append]
  after_results_simp
  rfl

end

end Cert.TallyRun

end
-- ==== Proof.TallyPay.lean ====
module

public import proofs.«01_k».proof.Proof.EncodeMath
public import proofs.«01_k».proof.Proof.Gen.TallyIdeal.Skeleton

/-! The pure values of the encoder at an index, for the counts. -/

@[expose] public section

noncomputable section

namespace Cert.TallyPay

open Cert.TallyIdeal Cert.TallyIdeal.Gen Idealize.ShloMosaic Cert.Row Cert.EncodeMath

section
variable (v0 : Vec Ideal S4096x14 .f32) (v2 : Vec Ideal S14x128 .f32) (v4 v8 v10 : Vec Ideal S1x128 .f32)
  (v42 : Vec Ideal S128x64 .f32) (v44 : Vec Ideal S1x64 .f32) (v48 : Vec Ideal S64x512 .f32)

/-- The row of codes that the encoder computes. -/
def zrow (i : Fin 4096) : Fin 64 → EReal :=
  mlp (fun k => v0 (ix2 i k)) (fun k n => v2 (ix2 k n)) (fun n => v4 (ix2 0 n)) (fun n => v8 (ix2 0 n)) (fun n => v10 (ix2 0 n))
    (fun k n => v42 (ix2 k n)) (fun n => v44 (ix2 0 n))

theorem pay8_apply (i : Fin 4096) (j : Fin 64) :
    k0_pay8 (k0_pay5 v0 v2 v4 v8 v10) (k0_pay6 v0 v2 v4 v8 v10) k0_pay7 v42 v44 (ix2 i j) = zrow v0 v2 v4 v8 v10 v42 v44 i j := by
  unfold zrow mlp gelu normRow mean lin
  pointwise [k0_pay8, k0_pay5, k0_pay6, k0_pay7, k0_pay4]
  rfl

theorem pay9_apply (v35 v38 v39 : FVec Ideal S4096x128 .f32) (i : Fin 4096) (j : Fin 512) :
    k0_pay9 v35 v38 v39 v42 v44 v48 (ix2 i j) = score (fun l => k0_pay8 v35 v38 v39 v42 v44 (ix2 i l)) (fun k l => v48 (ix2 l k)) j := by
  unfold score
  pointwise [k0_pay9]

/-- The scores of row `i`. -/
abbrev scores (i : Fin 4096) : Fin 512 → EReal := score (zrow v0 v2 v4 v8 v10 v42 v44 i) fun k l => v48 (ix2 l k)

theorem pay9_score (i : Fin 4096) (j : Fin 512) :
    k0_pay9 (k0_pay5 v0 v2 v4 v8 v10) (k0_pay6 v0 v2 v4 v8 v10) k0_pay7 v42 v44 v48 (ix2 i j) = scores v0 v2 v4 v8 v10 v42 v44 v48 i j := by
  rw [pay9_apply]
  unfold scores
  congr 1
  funext l
  exact pay8_apply v0 v2 v4 v8 v10 v42 v44 i l

theorem pay10_fold (v35 v38 v39 : FVec Ideal S4096x128 .f32) (i : Fin 4096) :
    k0_pay10 v35 v38 v39 v42 v44 v48 (ix2 i 0)
      = Finset.fold min (Ideal.ofBits .f32 0x7F800000#32) (fun x => k0_pay9 v35 v38 v39 v42 v44 v48 (ix2 i x)) Finset.univ := by
  pointwise [k0_pay10]

theorem pay10_apply (i : Fin 4096) :
    k0_pay10 (k0_pay5 v0 v2 v4 v8 v10) (k0_pay6 v0 v2 v4 v8 v10) k0_pay7 v42 v44 v48 (ix2 i 0)
      = scores v0 v2 v4 v8 v10 v42 v44 v48 i (first (scores v0 v2 v4 v8 v10 v42 v44 v48 i)) := by
  rw [pay10_fold, funext (pay9_score v0 v2 v4 v8 v10 v42 v44 v48 i)]
  exact fold_min (first_spec _)

theorem pay14_sum (v35 v38 v39 : FVec Ideal S4096x128 .f32) (k : Fin 512) :
    k0_pay14 v35 v38 v39 v42 v44 v48 (ix2 0 k)
      = ∑ x : Fin 4096, (if k0_pay9 v35 v38 v39 v42 v44 v48 (ix2 x k) = k0_pay10 v35 v38 v39 v42 v44 v48 (ix2 x 0) then (1 : EReal) else 0) := by
  pointwise [k0_pay14, k0_pay11, k0_pay13]
  refine Finset.sum_congr rfl fun x _ => ?_
  have h1 : (FloatOps.sitofp .f32 1#32 : Ideal .f32) = (1 : EReal) := by
    show (((1#32 : BitVec 32).toInt : ℝ) : EReal) = 1
    simp
  have h0 : (FloatOps.sitofp .f32 0#32 : Ideal .f32) = (0 : EReal) := by
    show (((0#32 : BitVec 32).toInt : ℝ) : EReal) = 0
    simp
  split_ifs with h
  · simpa [h] using h1
  · simpa [h] using h0

/-- What is added to the count of code `k` at one point: the rows in which its score is the least. -/
theorem pay14_apply (k : Fin 512) :
    k0_pay14 (k0_pay5 v0 v2 v4 v8 v10) (k0_pay6 v0 v2 v4 v8 v10) k0_pay7 v42 v44 v48 (ix2 0 k)
      = ∑ x, (if scores v0 v2 v4 v8 v10 v42 v44 v48 x k = scores v0 v2 v4 v8 v10 v42 v44 v48 x (first (scores v0 v2 v4 v8 v10 v42 v44 v48 x)) then (1 : EReal) else 0) := by
  rw [pay14_sum]
  simp only [pay10_apply, pay9_score]

theorem pay3_apply (p x : FVec Ideal S1x512 .f32) (k : Fin 512) : (k0_pay3 p x (ix2 0 k) : EReal) = x (ix2 0 k) + p (ix2 0 k) := by
  pointwise [k0_pay3]

theorem pay1_apply (k : Fin 512) : (k0_pay1 (F := Ideal) (ix2 0 k) : EReal) = 0 := by
  pointwise [k0_pay1]
end

end Cert.TallyPay

end
-- ==== Proof.TallyRef.lean ====
module

public import proofs.«01_k».proof.Proof.Gen.TallyReferenceIdeal
public import Idealize.ShloMosaic.Lib.StableHlo.Run

/-! The host program `TallyReferenceIdeal` as the list of its 79 operations, one definition for the value of
each, and what its result buffers hold when it has run. -/

@[expose] public section

noncomputable section

namespace Cert.TallyRef

open Cert.TallyReferenceIdeal Cert.TallyReferenceIdeal.Gen Idealize.ShloMosaic Idealize.ShloMosaic.TcCoe Idealize.SL.Sem Idealize.ShloMosaic.StableHlo

variable {F : FTy → Type} [FloatOps F]

/-- The arguments of the program. -/
structure Args (F : FTy → Type) where
  arg0 : (⟨S32x2048x14, .f32⟩ : BufTy).Contents (Elt F)
  arg1 : (⟨S14x128, .f32⟩ : BufTy).Contents (Elt F)
  arg2 : (⟨S128, .f32⟩ : BufTy).Contents (Elt F)
  arg3 : (⟨S128, .f32⟩ : BufTy).Contents (Elt F)
  arg4 : (⟨S128, .f32⟩ : BufTy).Contents (Elt F)
  arg5 : (⟨S128x64, .f32⟩ : BufTy).Contents (Elt F)
  arg6 : (⟨S64, .f32⟩ : BufTy).Contents (Elt F)
  arg7 : (⟨S512x64, .f32⟩ : BufTy).Contents (Elt F)

def v0 (a : Args F) : (⟨S32x2048x128, .f32⟩ : BufTy).Contents (Elt F) := ((fun l r => Host.dotGeneral dot_S32x2048x14_S14x128_S32x2048x128_2_0_01_1_n_n none l r) : (⟨S32x2048x14, .f32⟩ : BufTy).Contents (Elt F) → (⟨S14x128, .f32⟩ : BufTy).Contents (Elt F) → (⟨S32x2048x128, .f32⟩ : BufTy).Contents (Elt F)) a.arg0 a.arg1
def v1 (a : Args F) : (⟨S1x1x128, .f32⟩ : BufTy).Contents (Elt F) := (broadcastInDim S1x1x128 ![2] bcast_S128_S1x1x128_2 : (⟨S128, .f32⟩ : BufTy).Contents (Elt F) → (⟨S1x1x128, .f32⟩ : BufTy).Contents (Elt F)) a.arg2
def v2 (a : Args F) : (⟨S32x2048x128, .f32⟩ : BufTy).Contents (Elt F) := (broadcastInDim S32x2048x128 ![0, 1, 2] bcast_S1x1x128_S32x2048x128_0_1_2 : (⟨S1x1x128, .f32⟩ : BufTy).Contents (Elt F) → (⟨S32x2048x128, .f32⟩ : BufTy).Contents (Elt F)) (v1 a)
def v3 (a : Args F) : (⟨S32x2048x128, .f32⟩ : BufTy).Contents (Elt F) := (addf : (⟨S32x2048x128, .f32⟩ : BufTy).Contents (Elt F) → (⟨S32x2048x128, .f32⟩ : BufTy).Contents (Elt F) → (⟨S32x2048x128, .f32⟩ : BufTy).Contents (Elt F)) (v0 a) (v2 a)
def cst (a : Args F) : (⟨S_, .f32⟩ : BufTy).Contents (Elt F) := (constant S_ .f32 0x00000000#32)
def v4 (a : Args F) : (⟨S32x2048, .f32⟩ : BufTy).Contents (Elt F) := ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)) (v3 a) (cst a)
def v5 (a : Args F) : (⟨S32x2048x1, .f32⟩ : BufTy).Contents (Elt F) := (broadcastInDim S32x2048x1 ![0, 1] bcast_S32x2048_S32x2048x1_0_1 : (⟨S32x2048, .f32⟩ : BufTy).Contents (Elt F) → (⟨S32x2048x1, .f32⟩ : BufTy).Contents (Elt F)) (v4 a)
def cst_0 (a : Args F) : (⟨S_, .f32⟩ : BufTy).Contents (Elt F) := (constant S_ .f32 0x43000000#32)
def v6 (a : Args F) : (⟨S32x2048x1, .f32⟩ : BufTy).Contents (Elt F) := (broadcastInDim S32x2048x1 ![] bcast_S_S32x2048x1 : (⟨S_, .f32⟩ : BufTy).Contents (Elt F) → (⟨S32x2048x1, .f32⟩ : BufTy).Contents (Elt F)) (cst_0 a)
def v7 (a : Args F) : (⟨S32x2048x1, .f32⟩ : BufTy).Contents (Elt F) := (Host.divf : (⟨S32x2048x1, .f32⟩ : BufTy).Contents (Elt F) → (⟨S32x2048x1, .f32⟩ : BufTy).Contents (Elt F) → (⟨S32x2048x1, .f32⟩ : BufTy).Contents (Elt F)) (v5 a) (v6 a)
def v8 (a : Args F) : (⟨S32x2048x128, .f32⟩ : BufTy).Contents (Elt F) := (broadcastInDim S32x2048x128 ![0, 1, 2] bcast_S32x2048x1_S32x2048x128_0_1_2 : (⟨S32x2048x1, .f32⟩ : BufTy).Contents (Elt F) → (⟨S32x2048x128, .f32⟩ : BufTy).Contents (Elt F)) (v7 a)
def v9 (a : Args F) : (⟨S32x2048x128, .f32⟩ : BufTy).Contents (Elt F) := (subf : (⟨S32x2048x128, .f32⟩ : BufTy).Contents (Elt F) → (⟨S32x2048x128, .f32⟩ : BufTy).Contents (Elt F) → (⟨S32x2048x128, .f32⟩ : BufTy).Contents (Elt F)) (v3 a) (v8 a)
def v10 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v9 a) (v9 a)
def cst_1 (a : Args F) : (⟨S_, .f32⟩ : BufTy).Contents (Elt F) := (constant S_ .f32 0x00000000#32)
def v11 (a : Args F) : (⟨S32x2048, .f32⟩ : BufTy).Contents (Elt F) := ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)) (v10 a) (cst_1 a)
def v12 (a : Args F) : (⟨S32x2048x1, .f32⟩ : BufTy).Contents (Elt F) := (broadcastInDim S32x2048x1 ![0, 1] bcast_S32x2048_S32x2048x1_0_1 : (⟨S32x2048, .f32⟩ : BufTy).Contents (Elt F) → (⟨S32x2048x1, .f32⟩ : BufTy).Contents (Elt F)) (v11 a)
def cst_2 (a : Args F) : (⟨S_, .f32⟩ : BufTy).Contents (Elt F) := (constant S_ .f32 0x43000000#32)
def v13 (a : Args F) : (⟨S32x2048x1, .f32⟩ : BufTy).Contents (Elt F) := (broadcastInDim S32x2048x1 ![] bcast_S_S32x2048x1 : (⟨S_, .f32⟩ : BufTy).Contents (Elt F) → (⟨S32x2048x1, .f32⟩ : BufTy).Contents (Elt F)) (cst_2 a)
def v14 (a : Args F) : (⟨S32x2048x1, .f32⟩ : BufTy).Contents (Elt F) := (Host.divf : (⟨S32x2048x1, .f32⟩ : BufTy).Contents (Elt F) → (⟨S32x2048x1, .f32⟩ : BufTy).Contents (Elt F) → (⟨S32x2048x1, .f32⟩ : BufTy).Contents (Elt F)) (v12 a) (v13 a)
def v15 (a : Args F) : (⟨S32x2048x128, .f32⟩ : BufTy).Contents (Elt F) := (broadcastInDim S32x2048x128 ![0, 1, 2] bcast_S32x2048x1_S32x2048x128_0_1_2 : (⟨S32x2048x1, .f32⟩ : BufTy).Contents (Elt F) → (⟨S32x2048x128, .f32⟩ : BufTy).Contents (Elt F)) (v7 a)
def v16 (a : Args F) : (⟨S32x2048x128, .f32⟩ : BufTy).Contents (Elt F) := (subf : (⟨S32x2048x128, .f32⟩ : BufTy).Contents (Elt F) → (⟨S32x2048x128, .f32⟩ : BufTy).Contents (Elt F) → (⟨S32x2048x128, .f32⟩ : BufTy).Contents (Elt F)) (v3 a) (v15 a)
def cst_3 (a : Args F) : (⟨S_, .f32⟩ : BufTy).Contents (Elt F) := (constant S_ .f32 0x3727C5AC#32)
def v17 (a : Args F) : (⟨S32x2048x1, .f32⟩ : BufTy).Contents (Elt F) := (broadcastInDim S32x2048x1 ![] bcast_S_S32x2048x1 : (⟨S_, .f32⟩ : BufTy).Contents (Elt F) → (⟨S32x2048x1, .f32⟩ : BufTy).Contents (Elt F)) (cst_3 a)
def v18 (a : Args F) : (⟨S32x2048x1, .f32⟩ : BufTy).Contents (Elt F) := (addf : (⟨S32x2048x1, .f32⟩ : BufTy).Contents (Elt F) → (⟨S32x2048x1, .f32⟩ : BufTy).Contents (Elt F) → (⟨S32x2048x1, .f32⟩ : BufTy).Contents (Elt F)) (v14 a) (v17 a)
def v19 (a : Args F) : (⟨S32x2048x1, .f32⟩ : BufTy).Contents (Elt F) := (Host.sqrt : (⟨S32x2048x1, .f32⟩ : BufTy).Contents (Elt F) → (⟨S32x2048x1, .f32⟩ : BufTy).Contents (Elt F)) (v18 a)
def v20 (a : Args F) : (⟨S32x2048x128, .f32⟩ : BufTy).Contents (Elt F) := (broadcastInDim S32x2048x128 ![0, 1, 2] bcast_S32x2048x1_S32x2048x128_0_1_2 : (⟨S32x2048x1, .f32⟩ : BufTy).Contents (Elt F) → (⟨S32x2048x128, .f32⟩ : BufTy).Contents (Elt F)) (v19 a)
def v21 (a : Args F) : (⟨S32x2048x128, .f32⟩ : BufTy).Contents (Elt F) := (Host.divf : (⟨S32x2048x128, .f32⟩ : BufTy).Contents (Elt F) → (⟨S32x2048x128, .f32⟩ : BufTy).Contents (Elt F) → (⟨S32x2048x128, .f32⟩ : BufTy).Contents (Elt F)) (v16 a) (v20 a)
def v22 (a : Args F) : (⟨S1x1x128, .f32⟩ : BufTy).Contents (Elt F) := (broadcastInDim S1x1x128 ![2] bcast_S128_S1x1x128_2 : (⟨S128, .f32⟩ : BufTy).Contents (Elt F) → (⟨S1x1x128, .f32⟩ : BufTy).Contents (Elt F)) a.arg3
def v23 (a : Args F) : (⟨S32x2048x128, .f32⟩ : BufTy).Contents (Elt F) := (broadcastInDim S32x2048x128 ![0, 1, 2] bcast_S1x1x128_S32x2048x128_0_1_2 : (⟨S1x1x128, .f32⟩ : BufTy).Contents (Elt F) → (⟨S32x2048x128, .f32⟩ : BufTy).Contents (Elt F)) (v22 a)
def v24 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v21 a) (v23 a)
def v25 (a : Args F) : (⟨S1x1x128, .f32⟩ : BufTy).Contents (Elt F) := (broadcastInDim S1x1x128 ![2] bcast_S128_S1x1x128_2 : (⟨S128, .f32⟩ : BufTy).Contents (Elt F) → (⟨S1x1x128, .f32⟩ : BufTy).Contents (Elt F)) a.arg4
def v26 (a : Args F) : (⟨S32x2048x128, .f32⟩ : BufTy).Contents (Elt F) := (broadcastInDim S32x2048x128 ![0, 1, 2] bcast_S1x1x128_S32x2048x128_0_1_2 : (⟨S1x1x128, .f32⟩ : BufTy).Contents (Elt F) → (⟨S32x2048x128, .f32⟩ : BufTy).Contents (Elt F)) (v25 a)
def v27 (a : Args F) : (⟨S32x2048x128, .f32⟩ : BufTy).Contents (Elt F) := (addf : (⟨S32x2048x128, .f32⟩ : BufTy).Contents (Elt F) → (⟨S32x2048x128, .f32⟩ : BufTy).Contents (Elt F) → (⟨S32x2048x128, .f32⟩ : BufTy).Contents (Elt F)) (v24 a) (v26 a)
def cst_4 (a : Args F) : (⟨S_, .f32⟩ : BufTy).Contents (Elt F) := (constant S_ .f32 0x3F000000#32)
def v28 (a : Args F) : (⟨S32x2048x128, .f32⟩ : BufTy).Contents (Elt F) := (broadcastInDim S32x2048x128 ![] bcast_S_S32x2048x128 : (⟨S_, .f32⟩ : BufTy).Contents (Elt F) → (⟨S32x2048x128, .f32⟩ : BufTy).Contents (Elt F)) (cst_4 a)
def v29 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v28 a) (v27 a)
def v30 (a : Args F) : (⟨S32x2048x128, .f32⟩ : BufTy).Contents (Elt F) := (Host.negf : (⟨S32x2048x128, .f32⟩ : BufTy).Contents (Elt F) → (⟨S32x2048x128, .f32⟩ : BufTy).Contents (Elt F)) (v27 a)
def cst_5 (a : Args F) : (⟨S_, .f32⟩ : BufTy).Contents (Elt F) := (constant S_ .f32 0x3F3504F3#32)
def v31 (a : Args F) : (⟨S32x2048x128, .f32⟩ : BufTy).Contents (Elt F) := (broadcastInDim S32x2048x128 ![] bcast_S_S32x2048x128 : (⟨S_, .f32⟩ : BufTy).Contents (Elt F) → (⟨S32x2048x128, .f32⟩ : BufTy).Contents (Elt F)) (cst_5 a)
def v32 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v30 a) (v31 a)
def v33 (a : Args F) : (⟨S32x2048x128, .f32⟩ : BufTy).Contents (Elt F) := (Host.erfc : (⟨S32x2048x128, .f32⟩ : BufTy).Contents (Elt F) → (⟨S32x2048x128, .f32⟩ : BufTy).Contents (Elt F)) (v32 a)
def v34 (a : Args F) : (⟨S32x2048x128, .f32⟩ : BufTy).Contents (Elt F) := (mulf : (⟨S32x2048x128, .f32⟩ : BufTy).Contents (Elt F) → (⟨S32x2048x128, .f32⟩ : BufTy).Contents (Elt F) → (⟨S32x2048x128, .f32⟩ : BufTy).Contents (Elt F)) (v29 a) (v33 a)
def v35 (a : Args F) : (⟨S32x2048x64, .f32⟩ : BufTy).Contents (Elt F) := ((fun l r => Host.dotGeneral dot_S32x2048x128_S128x64_S32x2048x64_2_0_01_1_n_n none l r) : (⟨S32x2048x128, .f32⟩ : BufTy).Contents (Elt F) → (⟨S128x64, .f32⟩ : BufTy).Contents (Elt F) → (⟨S32x2048x64, .f32⟩ : BufTy).Contents (Elt F)) (v34 a) a.arg5
def v36 (a : Args F) : (⟨S1x1x64, .f32⟩ : BufTy).Contents (Elt F) := (broadcastInDim S1x1x64 ![2] bcast_S64_S1x1x64_2 : (⟨S64, .f32⟩ : BufTy).Contents (Elt F) → (⟨S1x1x64, .f32⟩ : BufTy).Contents (Elt F)) a.arg6
def v37 (a : Args F) : (⟨S32x2048x64, .f32⟩ : BufTy).Contents (Elt F) := (broadcastInDim S32x2048x64 ![0, 1, 2] bcast_S1x1x64_S32x2048x64_0_1_2 : (⟨S1x1x64, .f32⟩ : BufTy).Contents (Elt F) → (⟨S32x2048x64, .f32⟩ : BufTy).Contents (Elt F)) (v36 a)
def v38 (a : Args F) : (⟨S32x2048x64, .f32⟩ : BufTy).Contents (Elt F) := (addf : (⟨S32x2048x64, .f32⟩ : BufTy).Contents (Elt F) → (⟨S32x2048x64, .f32⟩ : BufTy).Contents (Elt F) → (⟨S32x2048x64, .f32⟩ : BufTy).Contents (Elt F)) (v35 a) (v37 a)
def v39 (a : Args F) : (⟨S65536x64, .f32⟩ : BufTy).Contents (Elt F) := fun j => shapeCast S65536x64 (v38 a) shapeCasts_S32x2048x64_S65536x64 j
def v40 (a : Args F) : (⟨S65536x64, .f32⟩ : BufTy).Contents (Elt F) := (mulf : (⟨S65536x64, .f32⟩ : BufTy).Contents (Elt F) → (⟨S65536x64, .f32⟩ : BufTy).Contents (Elt F) → (⟨S65536x64, .f32⟩ : BufTy).Contents (Elt F)) (v39 a) (v39 a)
def cst_6 (a : Args F) : (⟨S_, .f32⟩ : BufTy).Contents (Elt F) := (constant S_ .f32 0x00000000#32)
def v41 (a : Args F) : (⟨S65536, .f32⟩ : BufTy).Contents (Elt F) := ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)) (v40 a) (cst_6 a)
def v42 (a : Args F) : (⟨S65536x1, .f32⟩ : BufTy).Contents (Elt F) := (broadcastInDim S65536x1 ![0] bcast_S65536_S65536x1_0 : (⟨S65536, .f32⟩ : BufTy).Contents (Elt F) → (⟨S65536x1, .f32⟩ : BufTy).Contents (Elt F)) (v41 a)
def cst_7 (a : Args F) : (⟨S_, .f32⟩ : BufTy).Contents (Elt F) := (constant S_ .f32 0x40000000#32)
def v43 (a : Args F) : (⟨S65536x64, .f32⟩ : BufTy).Contents (Elt F) := (broadcastInDim S65536x64 ![] bcast_S_S65536x64 : (⟨S_, .f32⟩ : BufTy).Contents (Elt F) → (⟨S65536x64, .f32⟩ : BufTy).Contents (Elt F)) (cst_7 a)
def v44 (a : Args F) : (⟨S65536x64, .f32⟩ : BufTy).Contents (Elt F) := (mulf : (⟨S65536x64, .f32⟩ : BufTy).Contents (Elt F) → (⟨S65536x64, .f32⟩ : BufTy).Contents (Elt F) → (⟨S65536x64, .f32⟩ : BufTy).Contents (Elt F)) (v43 a) (v39 a)
def v45 (a : Args F) : (⟨S64x512, .f32⟩ : BufTy).Contents (Elt F) := ((transpose S64x512 [1, 0] · transposes_S512x64_S64x512_1_0) : (⟨S512x64, .f32⟩ : BufTy).Contents (Elt F) → (⟨S64x512, .f32⟩ : BufTy).Contents (Elt F)) a.arg7
def v46 (a : Args F) : (⟨S65536x512, .f32⟩ : BufTy).Contents (Elt F) := ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)) (v44 a) (v45 a)
def v47 (a : Args F) : (⟨S65536x512, .f32⟩ : BufTy).Contents (Elt F) := (broadcastInDim S65536x512 ![0, 1] bcast_S65536x1_S65536x512_0_1 : (⟨S65536x1, .f32⟩ : BufTy).Contents (Elt F) → (⟨S65536x512, .f32⟩ : BufTy).Contents (Elt F)) (v42 a)
def v48 (a : Args F) : (⟨S65536x512, .f32⟩ : BufTy).Contents (Elt F) := (subf : (⟨S65536x512, .f32⟩ : BufTy).Contents (Elt F) → (⟨S65536x512, .f32⟩ : BufTy).Contents (Elt F) → (⟨S65536x512, .f32⟩ : BufTy).Contents (Elt F)) (v47 a) (v46 a)
def v49 (a : Args F) : (⟨S512x64, .f32⟩ : BufTy).Contents (Elt F) := (mulf : (⟨S512x64, .f32⟩ : BufTy).Contents (Elt F) → (⟨S512x64, .f32⟩ : BufTy).Contents (Elt F) → (⟨S512x64, .f32⟩ : BufTy).Contents (Elt F)) a.arg7 a.arg7
def cst_8 (a : Args F) : (⟨S_, .f32⟩ : BufTy).Contents (Elt F) := (constant S_ .f32 0x00000000#32)
def v50 (a : Args F) : (⟨S512, .f32⟩ : BufTy).Contents (Elt F) := ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)) (v49 a) (cst_8 a)
def v51 (a : Args F) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) (v50 a)
def v52 (a : Args F) : (⟨S65536x512, .f32⟩ : BufTy).Contents (Elt F) := (broadcastInDim S65536x512 ![0, 1] bcast_S1x512_S65536x512_0_1 : (⟨S1x512, .f32⟩ : BufTy).Contents (Elt F) → (⟨S65536x512, .f32⟩ : BufTy).Contents (Elt F)) (v51 a)
def v53 (a : Args F) : (⟨S65536x512, .f32⟩ : BufTy).Contents (Elt F) := (addf : (⟨S65536x512, .f32⟩ : BufTy).Contents (Elt F) → (⟨S65536x512, .f32⟩ : BufTy).Contents (Elt F) → (⟨S65536x512, .f32⟩ : BufTy).Contents (Elt F)) (v48 a) (v52 a)
def c0_v0 (a : Args F) : (⟨S65536x512, .i32⟩ : BufTy).Contents (Elt F) := (iotaInDim S65536x512 32 1)
def c0_cst (a : Args F) : (⟨S_, .f32⟩ : BufTy).Contents (Elt F) := (constant S_ .f32 0x7F800000#32)
def c0_c (a : Args F) : (⟨S_, .i32⟩ : BufTy).Contents (Elt F) := (constantI S_ 32 0#32)
def c0_v1_0 (a : Args F) : (⟨S65536, .f32⟩ : BufTy).Contents (Elt F) := (fun x y u v j => (Host.argReduce reducer_argmin_f32_i32 x y u v reducesTo_S65536x512_S65536_d1 h_S_ j).1) (v53 a) (c0_v0 a) (c0_cst a) (c0_c a)
def v54 (a : Args F) : (⟨S65536, .i32⟩ : BufTy).Contents (Elt F) := (fun x y u v j => (Host.argReduce reducer_argmin_f32_i32 x y u v reducesTo_S65536x512_S65536_d1 h_S_ j).2) (v53 a) (c0_v0 a) (c0_cst a) (c0_c a)
def v55 (a : Args F) : (⟨S65536x1, .i32⟩ : BufTy).Contents (Elt F) := (broadcastInDim S65536x1 ![0] bcast_S65536_S65536x1_0 : (⟨S65536, .i32⟩ : BufTy).Contents (Elt F) → (⟨S65536x1, .i32⟩ : BufTy).Contents (Elt F)) (v54 a)
def v56 (a : Args F) : (⟨S512, .i32⟩ : BufTy).Contents (Elt F) := (iotaInDim S512 32 0)
def v57 (a : Args F) : (⟨S1x512, .i32⟩ : BufTy).Contents (Elt F) := (broadcastInDim S1x512 ![1] bcast_S512_S1x512_1 : (⟨S512, .i32⟩ : BufTy).Contents (Elt F) → (⟨S1x512, .i32⟩ : BufTy).Contents (Elt F)) (v56 a)
def v58 (a : Args F) : (⟨S65536x512, .i32⟩ : BufTy).Contents (Elt F) := (broadcastInDim S65536x512 ![0, 1] bcast_S65536x1_S65536x512_0_1 : (⟨S65536x1, .i32⟩ : BufTy).Contents (Elt F) → (⟨S65536x512, .i32⟩ : BufTy).Contents (Elt F)) (v55 a)
def v59 (a : Args F) : (⟨S65536x512, .i32⟩ : BufTy).Contents (Elt F) := (broadcastInDim S65536x512 ![0, 1] bcast_S1x512_S65536x512_0_1 : (⟨S1x512, .i32⟩ : BufTy).Contents (Elt F) → (⟨S65536x512, .i32⟩ : BufTy).Contents (Elt F)) (v57 a)
def v60 (a : Args F) : (⟨S65536x512, .i1⟩ : BufTy).Contents (Elt F) := (cmpi .eq : (⟨S65536x512, .i32⟩ : BufTy).Contents (Elt F) → (⟨S65536x512, .i32⟩ : BufTy).Contents (Elt F) → (⟨S65536x512, .i1⟩ : BufTy).Contents (Elt F)) (v58 a) (v59 a)
def v61 (a : Args F) : (⟨S65536x512, .f32⟩ : BufTy).Contents (Elt F) := (uitofp .f32 : (⟨S65536x512, .i1⟩ : BufTy).Contents (Elt F) → (⟨S65536x512, .f32⟩ : BufTy).Contents (Elt F)) (v60 a)
def cst_9 (a : Args F) : (⟨S_, .f32⟩ : BufTy).Contents (Elt F) := (constant S_ .f32 0x00000000#32)
def v62 (a : Args F) : (⟨S512, .f32⟩ : BufTy).Contents (Elt F) := ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)) (v61 a) (cst_9 a)
def v63 (a : Args F) : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) (v62 a)

/-- The 79 operations in order. -/
abbrev ops : List (HloOp τ sig (Elt F)) :=
  [ binary main_arg0 main_arg1 main_v0 ((fun l r => Host.dotGeneral dot_S32x2048x14_S14x128_S32x2048x128_2_0_01_1_n_n none l r) : (⟨S32x2048x14, .f32⟩ : BufTy).Contents (Elt F) → (⟨S14x128, .f32⟩ : BufTy).Contents (Elt F) → (⟨S32x2048x128, .f32⟩ : BufTy).Contents (Elt F)),
    unary main_arg2 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v0 main_v2 main_v3 (addf : (⟨S32x2048x128, .f32⟩ : BufTy).Contents (Elt F) → (⟨S32x2048x128, .f32⟩ : BufTy).Contents (Elt F) → (⟨S32x2048x128, .f32⟩ : BufTy).Contents (Elt F)),
    nullary main_cst (constant S_ .f32 0x00000000#32),
    binary main_v3 main_cst main_v4 ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)),
    unary main_v4 main_v5 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_0 (constant S_ .f32 0x43000000#32),
    unary main_cst_0 main_v6 (broadcastInDim S32x2048x1 ![] bcast_S_S32x2048x1 : (⟨S_, .f32⟩ : BufTy).Contents (Elt F) → (⟨S32x2048x1, .f32⟩ : BufTy).Contents (Elt F)),
    binary main_v5 main_v6 main_v7 (Host.divf : (⟨S32x2048x1, .f32⟩ : BufTy).Contents (Elt F) → (⟨S32x2048x1, .f32⟩ : BufTy).Contents (Elt F) → (⟨S32x2048x1, .f32⟩ : BufTy).Contents (Elt F)),
    unary main_v7 main_v8 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v3 main_v8 main_v9 (subf : (⟨S32x2048x128, .f32⟩ : BufTy).Contents (Elt F) → (⟨S32x2048x128, .f32⟩ : BufTy).Contents (Elt F) → (⟨S32x2048x128, .f32⟩ : BufTy).Contents (Elt F)),
    binary main_v9 main_v9 main_v10 (mulf : (⟨S32x2048x128, .f32⟩ : BufTy).Contents (Elt F) → (⟨S32x2048x128, .f32⟩ : BufTy).Contents (Elt F) → (⟨S32x2048x128, .f32⟩ : BufTy).Contents (Elt F)),
    nullary main_cst_1 (constant S_ .f32 0x00000000#32),
    binary main_v10 main_cst_1 main_v11 ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)),
    unary main_v11 main_v12 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_2 (constant S_ .f32 0x43000000#32),
    unary main_cst_2 main_v13 (broadcastInDim S32x2048x1 ![] bcast_S_S32x2048x1 : (⟨S_, .f32⟩ : BufTy).Contents (Elt F) → (⟨S32x2048x1, .f32⟩ : BufTy).Contents (Elt F)),
    binary main_v12 main_v13 main_v14 (Host.divf : (⟨S32x2048x1, .f32⟩ : BufTy).Contents (Elt F) → (⟨S32x2048x1, .f32⟩ : BufTy).Contents (Elt F) → (⟨S32x2048x1, .f32⟩ : BufTy).Contents (Elt F)),
    unary main_v7 main_v15 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v3 main_v15 main_v16 (subf : (⟨S32x2048x128, .f32⟩ : BufTy).Contents (Elt F) → (⟨S32x2048x128, .f32⟩ : BufTy).Contents (Elt F) → (⟨S32x2048x128, .f32⟩ : BufTy).Contents (Elt F)),
    nullary main_cst_3 (constant S_ .f32 0x3727C5AC#32),
    unary main_cst_3 main_v17 (broadcastInDim S32x2048x1 ![] bcast_S_S32x2048x1 : (⟨S_, .f32⟩ : BufTy).Contents (Elt F) → (⟨S32x2048x1, .f32⟩ : BufTy).Contents (Elt F)),
    binary main_v14 main_v17 main_v18 (addf : (⟨S32x2048x1, .f32⟩ : BufTy).Contents (Elt F) → (⟨S32x2048x1, .f32⟩ : BufTy).Contents (Elt F) → (⟨S32x2048x1, .f32⟩ : BufTy).Contents (Elt F)),
    unary main_v18 main_v19 (Host.sqrt : (⟨S32x2048x1, .f32⟩ : BufTy).Contents (Elt F) → (⟨S32x2048x1, .f32⟩ : BufTy).Contents (Elt F)),
    unary main_v19 main_v20 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v16 main_v20 main_v21 (Host.divf : (⟨S32x2048x128, .f32⟩ : BufTy).Contents (Elt F) → (⟨S32x2048x128, .f32⟩ : BufTy).Contents (Elt F) → (⟨S32x2048x128, .f32⟩ : BufTy).Contents (Elt F)),
    unary main_arg3 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v21 main_v23 main_v24 (mulf : (⟨S32x2048x128, .f32⟩ : BufTy).Contents (Elt F) → (⟨S32x2048x128, .f32⟩ : BufTy).Contents (Elt F) → (⟨S32x2048x128, .f32⟩ : BufTy).Contents (Elt F)),
    unary main_arg4 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v24 main_v26 main_v27 (addf : (⟨S32x2048x128, .f32⟩ : BufTy).Contents (Elt F) → (⟨S32x2048x128, .f32⟩ : BufTy).Contents (Elt F) → (⟨S32x2048x128, .f32⟩ : BufTy).Contents (Elt F)),
    nullary main_cst_4 (constant S_ .f32 0x3F000000#32),
    unary main_cst_4 main_v28 (broadcastInDim S32x2048x128 ![] bcast_S_S32x2048x128 : (⟨S_, .f32⟩ : BufTy).Contents (Elt F) → (⟨S32x2048x128, .f32⟩ : BufTy).Contents (Elt F)),
    binary main_v28 main_v27 main_v29 (mulf : (⟨S32x2048x128, .f32⟩ : BufTy).Contents (Elt F) → (⟨S32x2048x128, .f32⟩ : BufTy).Contents (Elt F) → (⟨S32x2048x128, .f32⟩ : BufTy).Contents (Elt F)),
    unary main_v27 main_v30 (Host.negf : (⟨S32x2048x128, .f32⟩ : BufTy).Contents (Elt F) → (⟨S32x2048x128, .f32⟩ : BufTy).Contents (Elt F)),
    nullary main_cst_5 (constant S_ .f32 0x3F3504F3#32),
    unary main_cst_5 main_v31 (broadcastInDim S32x2048x128 ![] bcast_S_S32x2048x128 : (⟨S_, .f32⟩ : BufTy).Contents (Elt F) → (⟨S32x2048x128, .f32⟩ : BufTy).Contents (Elt F)),
    binary main_v30 main_v31 main_v32 (mulf : (⟨S32x2048x128, .f32⟩ : BufTy).Contents (Elt F) → (⟨S32x2048x128, .f32⟩ : BufTy).Contents (Elt F) → (⟨S32x2048x128, .f32⟩ : BufTy).Contents (Elt F)),
    unary main_v32 main_v33 (Host.erfc : (⟨S32x2048x128, .f32⟩ : BufTy).Contents (Elt F) → (⟨S32x2048x128, .f32⟩ : BufTy).Contents (Elt F)),
    binary main_v29 main_v33 main_v34 (mulf : (⟨S32x2048x128, .f32⟩ : BufTy).Contents (Elt F) → (⟨S32x2048x128, .f32⟩ : BufTy).Contents (Elt F) → (⟨S32x2048x128, .f32⟩ : BufTy).Contents (Elt F)),
    binary main_v34 main_arg5 main_v35 ((fun l r => Host.dotGeneral dot_S32x2048x128_S128x64_S32x2048x64_2_0_01_1_n_n none l r) : (⟨S32x2048x128, .f32⟩ : BufTy).Contents (Elt F) → (⟨S128x64, .f32⟩ : BufTy).Contents (Elt F) → (⟨S32x2048x64, .f32⟩ : BufTy).Contents (Elt F)),
    unary main_arg6 main_v36 (broadcastInDim S1x1x64 ![2] bcast_S64_S1x1x64_2 : (⟨S64, .f32⟩ : BufTy).Contents (Elt F) → (⟨S1x1x64, .f32⟩ : BufTy).Contents (Elt F)),
    unary main_v36 main_v37 (broadcastInDim S32x2048x64 ![0, 1, 2] bcast_S1x1x64_S32x2048x64_0_1_2 : (⟨S1x1x64, .f32⟩ : BufTy).Contents (Elt F) → (⟨S32x2048x64, .f32⟩ : BufTy).Contents (Elt F)),
    binary main_v35 main_v37 main_v38 (addf : (⟨S32x2048x64, .f32⟩ : BufTy).Contents (Elt F) → (⟨S32x2048x64, .f32⟩ : BufTy).Contents (Elt F) → (⟨S32x2048x64, .f32⟩ : BufTy).Contents (Elt F)),
    reshape main_v38 main_v39 (rfl : (.f32 : EltTy) = .f32) shapeCasts_S32x2048x64_S65536x64,
    binary main_v39 main_v39 main_v40 (mulf : (⟨S65536x64, .f32⟩ : BufTy).Contents (Elt F) → (⟨S65536x64, .f32⟩ : BufTy).Contents (Elt F) → (⟨S65536x64, .f32⟩ : BufTy).Contents (Elt F)),
    nullary main_cst_6 (constant S_ .f32 0x00000000#32),
    binary main_v40 main_cst_6 main_v41 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v41 main_v42 (broadcastInDim S65536x1 ![0] bcast_S65536_S65536x1_0 : (⟨S65536, .f32⟩ : BufTy).Contents (Elt F) → (⟨S65536x1, .f32⟩ : BufTy).Contents (Elt F)),
    nullary main_cst_7 (constant S_ .f32 0x40000000#32),
    unary main_cst_7 main_v43 (broadcastInDim S65536x64 ![] bcast_S_S65536x64 : (⟨S_, .f32⟩ : BufTy).Contents (Elt F) → (⟨S65536x64, .f32⟩ : BufTy).Contents (Elt F)),
    binary main_v43 main_v39 main_v44 (mulf : (⟨S65536x64, .f32⟩ : BufTy).Contents (Elt F) → (⟨S65536x64, .f32⟩ : BufTy).Contents (Elt F) → (⟨S65536x64, .f32⟩ : BufTy).Contents (Elt F)),
    unary main_arg7 main_v45 ((transpose S64x512 [1, 0] · transposes_S512x64_S64x512_1_0) : (⟨S512x64, .f32⟩ : BufTy).Contents (Elt F) → (⟨S64x512, .f32⟩ : BufTy).Contents (Elt F)),
    binary main_v44 main_v45 main_v46 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)),
    unary main_v42 main_v47 (broadcastInDim S65536x512 ![0, 1] bcast_S65536x1_S65536x512_0_1 : (⟨S65536x1, .f32⟩ : BufTy).Contents (Elt F) → (⟨S65536x512, .f32⟩ : BufTy).Contents (Elt F)),
    binary main_v47 main_v46 main_v48 (subf : (⟨S65536x512, .f32⟩ : BufTy).Contents (Elt F) → (⟨S65536x512, .f32⟩ : BufTy).Contents (Elt F) → (⟨S65536x512, .f32⟩ : BufTy).Contents (Elt F)),
    binary main_arg7 main_arg7 main_v49 (mulf : (⟨S512x64, .f32⟩ : BufTy).Contents (Elt F) → (⟨S512x64, .f32⟩ : BufTy).Contents (Elt F) → (⟨S512x64, .f32⟩ : BufTy).Contents (Elt F)),
    nullary main_cst_8 (constant S_ .f32 0x00000000#32),
    binary main_v49 main_cst_8 main_v50 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v50 main_v51 (broadcastInDim S1x512 ![1] bcast_S512_S1x512_1 : (⟨S512, .f32⟩ : BufTy).Contents (Elt F) → (⟨S1x512, .f32⟩ : BufTy).Contents (Elt F)),
    unary main_v51 main_v52 (broadcastInDim S65536x512 ![0, 1] bcast_S1x512_S65536x512_0_1 : (⟨S1x512, .f32⟩ : BufTy).Contents (Elt F) → (⟨S65536x512, .f32⟩ : BufTy).Contents (Elt F)),
    binary main_v48 main_v52 main_v53 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S65536x512, .i32⟩) main_call0_v0) (iotaInDim S65536x512 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x512, .f32⟩) main_v53) (TRef.of (T := ⟨S65536x512, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x512_S65536_d1 h_S_ j).1),
    TRef.quaternary (TRef.of (T := ⟨S65536x512, .f32⟩) main_v53) (TRef.of (T := ⟨S65536x512, .i32⟩) main_call0_v0) (TRef.of (T := ⟨S_, .f32⟩) main_call0_cst) (TRef.of (T := ⟨S_, .i32⟩) main_call0_c) (TRef.of (T := ⟨S65536, .i32⟩) main_v54) (fun x y u v j => (Host.argReduce reducer_argmin_f32_i32 x y u v reducesTo_S65536x512_S65536_d1 h_S_ j).2),
    unary main_v54 main_v55 (broadcastInDim S65536x1 ![0] bcast_S65536_S65536x1_0 : (⟨S65536, .i32⟩ : BufTy).Contents (Elt F) → (⟨S65536x1, .i32⟩ : BufTy).Contents (Elt F)),
    nullary main_v56 (iotaInDim S512 32 0),
    unary main_v56 main_v57 (broadcastInDim S1x512 ![1] bcast_S512_S1x512_1 : (⟨S512, .i32⟩ : BufTy).Contents (Elt F) → (⟨S1x512, .i32⟩ : BufTy).Contents (Elt F)),
    unary main_v55 main_v58 (broadcastInDim S65536x512 ![0, 1] bcast_S65536x1_S65536x512_0_1 : (⟨S65536x1, .i32⟩ : BufTy).Contents (Elt F) → (⟨S65536x512, .i32⟩ : BufTy).Contents (Elt F)),
    unary main_v57 main_v59 (broadcastInDim S65536x512 ![0, 1] bcast_S1x512_S65536x512_0_1 : (⟨S1x512, .i32⟩ : BufTy).Contents (Elt F) → (⟨S65536x512, .i32⟩ : BufTy).Contents (Elt F)),
    binary main_v58 main_v59 main_v60 (cmpi .eq : (⟨S65536x512, .i32⟩ : BufTy).Contents (Elt F) → (⟨S65536x512, .i32⟩ : BufTy).Contents (Elt F) → (⟨S65536x512, .i1⟩ : BufTy).Contents (Elt F)),
    unary main_v60 main_v61 (uitofp .f32 : (⟨S65536x512, .i1⟩ : BufTy).Contents (Elt F) → (⟨S65536x512, .f32⟩ : BufTy).Contents (Elt F)),
    nullary main_cst_9 (constant S_ .f32 0x00000000#32),
    binary main_v61 main_cst_9 main_v62 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_v62 main_v63 (broadcastInDim S1x512 ![1] bcast_S512_S1x512_1 : (⟨S512, .f32⟩ : BufTy).Contents (Elt F) → (⟨S1x512, .f32⟩ : BufTy).Contents (Elt F)) ]

set_option maxHeartbeats 8000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., unary_bufs_sub .., binary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., unary_bufs_sub .., binary_bufs_sub .., unary_bufs_sub .., nullary_bufs_sub .., binary_bufs_sub .., unary_bufs_sub ..⟩

/-- The arguments read off a memory. -/
def argsOf (m : (ℓ : Loc nD τ sig) → Buf (Elt F) ℓ) (c : Dev nD) : Args F :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7)⟩

abbrev ops0 : List (HloOp τ sig (Elt F)) :=
  [ binary main_arg0 main_arg1 main_v0 ((fun l r => Host.dotGeneral dot_S32x2048x14_S14x128_S32x2048x128_2_0_01_1_n_n none l r) : (⟨S32x2048x14, .f32⟩ : BufTy).Contents (Elt F) → (⟨S14x128, .f32⟩ : BufTy).Contents (Elt F) → (⟨S32x2048x128, .f32⟩ : BufTy).Contents (Elt F)),
    unary main_arg2 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v0 main_v2 main_v3 (addf : (⟨S32x2048x128, .f32⟩ : BufTy).Contents (Elt F) → (⟨S32x2048x128, .f32⟩ : BufTy).Contents (Elt F) → (⟨S32x2048x128, .f32⟩ : BufTy).Contents (Elt F)),
    nullary main_cst (constant S_ .f32 0x00000000#32),
    binary main_v3 main_cst main_v4 ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)),
    unary main_v4 main_v5 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_0 (constant S_ .f32 0x43000000#32),
    unary main_cst_0 main_v6 (broadcastInDim S32x2048x1 ![] bcast_S_S32x2048x1 : (⟨S_, .f32⟩ : BufTy).Contents (Elt F) → (⟨S32x2048x1, .f32⟩ : BufTy).Contents (Elt F)),
    binary main_v5 main_v6 main_v7 (Host.divf : (⟨S32x2048x1, .f32⟩ : BufTy).Contents (Elt F) → (⟨S32x2048x1, .f32⟩ : BufTy).Contents (Elt F) → (⟨S32x2048x1, .f32⟩ : BufTy).Contents (Elt F)),
    unary main_v7 main_v8 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v3 main_v8 main_v9 (subf : (⟨S32x2048x128, .f32⟩ : BufTy).Contents (Elt F) → (⟨S32x2048x128, .f32⟩ : BufTy).Contents (Elt F) → (⟨S32x2048x128, .f32⟩ : BufTy).Contents (Elt F)),
    binary main_v9 main_v9 main_v10 (mulf : (⟨S32x2048x128, .f32⟩ : BufTy).Contents (Elt F) → (⟨S32x2048x128, .f32⟩ : BufTy).Contents (Elt F) → (⟨S32x2048x128, .f32⟩ : BufTy).Contents (Elt F)),
    nullary main_cst_1 (constant S_ .f32 0x00000000#32),
    binary main_v10 main_cst_1 main_v11 ((fun x v => Host.reduceAdd x v reducesTo_S32x2048x128_S32x2048_d2 h_S_) : (⟨S32x2048x128, .f32⟩ : BufTy).Contents (Elt F) → (⟨S_, .f32⟩ : BufTy).Contents (Elt F) → (⟨S32x2048, .f32⟩ : BufTy).Contents (Elt F)),
    unary main_v11 main_v12 (broadcastInDim S32x2048x1 ![0, 1] bcast_S32x2048_S32x2048x1_0_1 : (⟨S32x2048, .f32⟩ : BufTy).Contents (Elt F) → (⟨S32x2048x1, .f32⟩ : BufTy).Contents (Elt F)),
    nullary main_cst_2 (constant S_ .f32 0x43000000#32),
    unary main_cst_2 main_v13 (broadcastInDim S32x2048x1 ![] bcast_S_S32x2048x1 : (⟨S_, .f32⟩ : BufTy).Contents (Elt F) → (⟨S32x2048x1, .f32⟩ : BufTy).Contents (Elt F)),
    binary main_v12 main_v13 main_v14 (Host.divf : (⟨S32x2048x1, .f32⟩ : BufTy).Contents (Elt F) → (⟨S32x2048x1, .f32⟩ : BufTy).Contents (Elt F) → (⟨S32x2048x1, .f32⟩ : BufTy).Contents (Elt F)),
    unary main_v7 main_v15 (broadcastInDim S32x2048x128 ![0, 1, 2] bcast_S32x2048x1_S32x2048x128_0_1_2 : (⟨S32x2048x1, .f32⟩ : BufTy).Contents (Elt F) → (⟨S32x2048x128, .f32⟩ : BufTy).Contents (Elt F)) ]
abbrev ops1 : List (HloOp τ sig (Elt F)) :=
  [ binary main_v3 main_v15 main_v16 (subf : (⟨S32x2048x128, .f32⟩ : BufTy).Contents (Elt F) → (⟨S32x2048x128, .f32⟩ : BufTy).Contents (Elt F) → (⟨S32x2048x128, .f32⟩ : BufTy).Contents (Elt F)),
    nullary main_cst_3 (constant S_ .f32 0x3727C5AC#32),
    unary main_cst_3 main_v17 (broadcastInDim S32x2048x1 ![] bcast_S_S32x2048x1 : (⟨S_, .f32⟩ : BufTy).Contents (Elt F) → (⟨S32x2048x1, .f32⟩ : BufTy).Contents (Elt F)),
    binary main_v14 main_v17 main_v18 (addf : (⟨S32x2048x1, .f32⟩ : BufTy).Contents (Elt F) → (⟨S32x2048x1, .f32⟩ : BufTy).Contents (Elt F) → (⟨S32x2048x1, .f32⟩ : BufTy).Contents (Elt F)),
    unary main_v18 main_v19 (Host.sqrt : (⟨S32x2048x1, .f32⟩ : BufTy).Contents (Elt F) → (⟨S32x2048x1, .f32⟩ : BufTy).Contents (Elt F)),
    unary main_v19 main_v20 (broadcastInDim S32x2048x128 ![0, 1, 2] bcast_S32x2048x1_S32x2048x128_0_1_2 : (⟨S32x2048x1, .f32⟩ : BufTy).Contents (Elt F) → (⟨S32x2048x128, .f32⟩ : BufTy).Contents (Elt F)),
    binary main_v16 main_v20 main_v21 (Host.divf : (⟨S32x2048x128, .f32⟩ : BufTy).Contents (Elt F) → (⟨S32x2048x128, .f32⟩ : BufTy).Contents (Elt F) → (⟨S32x2048x128, .f32⟩ : BufTy).Contents (Elt F)),
    unary main_arg3 main_v22 (broadcastInDim S1x1x128 ![2] bcast_S128_S1x1x128_2 : (⟨S128, .f32⟩ : BufTy).Contents (Elt F) → (⟨S1x1x128, .f32⟩ : BufTy).Contents (Elt F)),
    unary main_v22 main_v23 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v21 main_v23 main_v24 (mulf : (⟨S32x2048x128, .f32⟩ : BufTy).Contents (Elt F) → (⟨S32x2048x128, .f32⟩ : BufTy).Contents (Elt F) → (⟨S32x2048x128, .f32⟩ : BufTy).Contents (Elt F)),
    unary main_arg4 main_v25 (broadcastInDim S1x1x128 ![2] bcast_S128_S1x1x128_2 : (⟨S128, .f32⟩ : BufTy).Contents (Elt F) → (⟨S1x1x128, .f32⟩ : BufTy).Contents (Elt F)),
    unary main_v25 main_v26 (broadcastInDim S32x2048x128 ![0, 1, 2] bcast_S1x1x128_S32x2048x128_0_1_2 : (⟨S1x1x128, .f32⟩ : BufTy).Contents (Elt F) → (⟨S32x2048x128, .f32⟩ : BufTy).Contents (Elt F)),
    binary main_v24 main_v26 main_v27 (addf : (⟨S32x2048x128, .f32⟩ : BufTy).Contents (Elt F) → (⟨S32x2048x128, .f32⟩ : BufTy).Contents (Elt F) → (⟨S32x2048x128, .f32⟩ : BufTy).Contents (Elt F)),
    nullary main_cst_4 (constant S_ .f32 0x3F000000#32),
    unary main_cst_4 main_v28 (broadcastInDim S32x2048x128 ![] bcast_S_S32x2048x128 : (⟨S_, .f32⟩ : BufTy).Contents (Elt F) → (⟨S32x2048x128, .f32⟩ : BufTy).Contents (Elt F)),
    binary main_v28 main_v27 main_v29 (mulf : (⟨S32x2048x128, .f32⟩ : BufTy).Contents (Elt F) → (⟨S32x2048x128, .f32⟩ : BufTy).Contents (Elt F) → (⟨S32x2048x128, .f32⟩ : BufTy).Contents (Elt F)),
    unary main_v27 main_v30 (Host.negf : (⟨S32x2048x128, .f32⟩ : BufTy).Contents (Elt F) → (⟨S32x2048x128, .f32⟩ : BufTy).Contents (Elt F)),
    nullary main_cst_5 (constant S_ .f32 0x3F3504F3#32),
    unary main_cst_5 main_v31 (broadcastInDim S32x2048x128 ![] bcast_S_S32x2048x128 : (⟨S_, .f32⟩ : BufTy).Contents (Elt F) → (⟨S32x2048x128, .f32⟩ : BufTy).Contents (Elt F)),
    binary main_v30 main_v31 main_v32 (mulf : (⟨S32x2048x128, .f32⟩ : BufTy).Contents (Elt F) → (⟨S32x2048x128, .f32⟩ : BufTy).Contents (Elt F) → (⟨S32x2048x128, .f32⟩ : BufTy).Contents (Elt F)) ]
abbrev ops2 : List (HloOp τ sig (Elt F)) :=
  [ unary main_v32 main_v33 (Host.erfc : (⟨S32x2048x128, .f32⟩ : BufTy).Contents (Elt F) → (⟨S32x2048x128, .f32⟩ : BufTy).Contents (Elt F)),
    binary main_v29 main_v33 main_v34 (mulf : (⟨S32x2048x128, .f32⟩ : BufTy).Contents (Elt F) → (⟨S32x2048x128, .f32⟩ : BufTy).Contents (Elt F) → (⟨S32x2048x128, .f32⟩ : BufTy).Contents (Elt F)),
    binary main_v34 main_arg5 main_v35 ((fun l r => Host.dotGeneral dot_S32x2048x128_S128x64_S32x2048x64_2_0_01_1_n_n none l r) : (⟨S32x2048x128, .f32⟩ : BufTy).Contents (Elt F) → (⟨S128x64, .f32⟩ : BufTy).Contents (Elt F) → (⟨S32x2048x64, .f32⟩ : BufTy).Contents (Elt F)),
    unary main_arg6 main_v36 (broadcastInDim S1x1x64 ![2] bcast_S64_S1x1x64_2 : (⟨S64, .f32⟩ : BufTy).Contents (Elt F) → (⟨S1x1x64, .f32⟩ : BufTy).Contents (Elt F)),
    unary main_v36 main_v37 (broadcastInDim S32x2048x64 ![0, 1, 2] bcast_S1x1x64_S32x2048x64_0_1_2 : (⟨S1x1x64, .f32⟩ : BufTy).Contents (Elt F) → (⟨S32x2048x64, .f32⟩ : BufTy).Contents (Elt F)),
    binary main_v35 main_v37 main_v38 (addf : (⟨S32x2048x64, .f32⟩ : BufTy).Contents (Elt F) → (⟨S32x2048x64, .f32⟩ : BufTy).Contents (Elt F) → (⟨S32x2048x64, .f32⟩ : BufTy).Contents (Elt F)),
    reshape main_v38 main_v39 (rfl : (.f32 : EltTy) = .f32) shapeCasts_S32x2048x64_S65536x64,
    binary main_v39 main_v39 main_v40 (mulf : (⟨S65536x64, .f32⟩ : BufTy).Contents (Elt F) → (⟨S65536x64, .f32⟩ : BufTy).Contents (Elt F) → (⟨S65536x64, .f32⟩ : BufTy).Contents (Elt F)),
    nullary main_cst_6 (constant S_ .f32 0x00000000#32),
    binary main_v40 main_cst_6 main_v41 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v41 main_v42 (broadcastInDim S65536x1 ![0] bcast_S65536_S65536x1_0 : (⟨S65536, .f32⟩ : BufTy).Contents (Elt F) → (⟨S65536x1, .f32⟩ : BufTy).Contents (Elt F)),
    nullary main_cst_7 (constant S_ .f32 0x40000000#32),
    unary main_cst_7 main_v43 (broadcastInDim S65536x64 ![] bcast_S_S65536x64 : (⟨S_, .f32⟩ : BufTy).Contents (Elt F) → (⟨S65536x64, .f32⟩ : BufTy).Contents (Elt F)),
    binary main_v43 main_v39 main_v44 (mulf : (⟨S65536x64, .f32⟩ : BufTy).Contents (Elt F) → (⟨S65536x64, .f32⟩ : BufTy).Contents (Elt F) → (⟨S65536x64, .f32⟩ : BufTy).Contents (Elt F)),
    unary main_arg7 main_v45 ((transpose S64x512 [1, 0] · transposes_S512x64_S64x512_1_0) : (⟨S512x64, .f32⟩ : BufTy).Contents (Elt F) → (⟨S64x512, .f32⟩ : BufTy).Contents (Elt F)),
    binary main_v44 main_v45 main_v46 ((fun l r => Host.dotGeneral dot_S65536x64_S64x512_S65536x512_1_0_0_1_n_n none l r) : (⟨S65536x64, .f32⟩ : BufTy).Contents (Elt F) → (⟨S64x512, .f32⟩ : BufTy).Contents (Elt F) → (⟨S65536x512, .f32⟩ : BufTy).Contents (Elt F)),
    unary main_v42 main_v47 (broadcastInDim S65536x512 ![0, 1] bcast_S65536x1_S65536x512_0_1 : (⟨S65536x1, .f32⟩ : BufTy).Contents (Elt F) → (⟨S65536x512, .f32⟩ : BufTy).Contents (Elt F)),
    binary main_v47 main_v46 main_v48 (subf : (⟨S65536x512, .f32⟩ : BufTy).Contents (Elt F) → (⟨S65536x512, .f32⟩ : BufTy).Contents (Elt F) → (⟨S65536x512, .f32⟩ : BufTy).Contents (Elt F)),
    binary main_arg7 main_arg7 main_v49 (mulf : (⟨S512x64, .f32⟩ : BufTy).Contents (Elt F) → (⟨S512x64, .f32⟩ : BufTy).Contents (Elt F) → (⟨S512x64, .f32⟩ : BufTy).Contents (Elt F)),
    nullary main_cst_8 (constant S_ .f32 0x00000000#32) ]
abbrev ops3 : List (HloOp τ sig (Elt F)) :=
  [ binary main_v49 main_cst_8 main_v50 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v50 main_v51 (broadcastInDim S1x512 ![1] bcast_S512_S1x512_1 : (⟨S512, .f32⟩ : BufTy).Contents (Elt F) → (⟨S1x512, .f32⟩ : BufTy).Contents (Elt F)),
    unary main_v51 main_v52 (broadcastInDim S65536x512 ![0, 1] bcast_S1x512_S65536x512_0_1 : (⟨S1x512, .f32⟩ : BufTy).Contents (Elt F) → (⟨S65536x512, .f32⟩ : BufTy).Contents (Elt F)),
    binary main_v48 main_v52 main_v53 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S65536x512, .i32⟩) main_call0_v0) (iotaInDim S65536x512 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x512, .f32⟩) main_v53) (TRef.of (T := ⟨S65536x512, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x512_S65536_d1 h_S_ j).1),
    TRef.quaternary (TRef.of (T := ⟨S65536x512, .f32⟩) main_v53) (TRef.of (T := ⟨S65536x512, .i32⟩) main_call0_v0) (TRef.of (T := ⟨S_, .f32⟩) main_call0_cst) (TRef.of (T := ⟨S_, .i32⟩) main_call0_c) (TRef.of (T := ⟨S65536, .i32⟩) main_v54) (fun x y u v j => (Host.argReduce reducer_argmin_f32_i32 x y u v reducesTo_S65536x512_S65536_d1 h_S_ j).2),
    unary main_v54 main_v55 (broadcastInDim S65536x1 ![0] bcast_S65536_S65536x1_0 : (⟨S65536, .i32⟩ : BufTy).Contents (Elt F) → (⟨S65536x1, .i32⟩ : BufTy).Contents (Elt F)),
    nullary main_v56 (iotaInDim S512 32 0),
    unary main_v56 main_v57 (broadcastInDim S1x512 ![1] bcast_S512_S1x512_1 : (⟨S512, .i32⟩ : BufTy).Contents (Elt F) → (⟨S1x512, .i32⟩ : BufTy).Contents (Elt F)),
    unary main_v55 main_v58 (broadcastInDim S65536x512 ![0, 1] bcast_S65536x1_S65536x512_0_1 : (⟨S65536x1, .i32⟩ : BufTy).Contents (Elt F) → (⟨S65536x512, .i32⟩ : BufTy).Contents (Elt F)),
    unary main_v57 main_v59 (broadcastInDim S65536x512 ![0, 1] bcast_S1x512_S65536x512_0_1 : (⟨S1x512, .i32⟩ : BufTy).Contents (Elt F) → (⟨S65536x512, .i32⟩ : BufTy).Contents (Elt F)),
    binary main_v58 main_v59 main_v60 (cmpi .eq : (⟨S65536x512, .i32⟩ : BufTy).Contents (Elt F) → (⟨S65536x512, .i32⟩ : BufTy).Contents (Elt F) → (⟨S65536x512, .i1⟩ : BufTy).Contents (Elt F)),
    unary main_v60 main_v61 (uitofp .f32 : (⟨S65536x512, .i1⟩ : BufTy).Contents (Elt F) → (⟨S65536x512, .f32⟩ : BufTy).Contents (Elt F)),
    nullary main_cst_9 (constant S_ .f32 0x00000000#32),
    binary main_v61 main_cst_9 main_v62 ((fun x v => Host.reduceAdd x v reducesTo_S65536x512_S512_d0 h_S_) : (⟨S65536x512, .f32⟩ : BufTy).Contents (Elt F) → (⟨S_, .f32⟩ : BufTy).Contents (Elt F) → (⟨S512, .f32⟩ : BufTy).Contents (Elt F)),
    unary main_v62 main_v63 (broadcastInDim S1x512 ![1] bcast_S512_S1x512_1 : (⟨S512, .f32⟩ : BufTy).Contents (Elt F) → (⟨S1x512, .f32⟩ : BufTy).Contents (Elt F)) ]
theorem ops_split : (ops : List (HloOp τ sig (Elt F))) = ops0 ++ (ops1 ++ (ops2 ++ (ops3))) := rfl
theorem after_append (l l2 : List (HloOp τ sig (Elt F))) (G : Valuation τ sig (Elt F)) : after (l ++ l2) G = after l2 (after l G) := by
  induction l generalizing G with
  | nil => rfl
  | cons o l ih => exact ih _
/-- What is read later holds its value after 0 operations. -/
structure At0 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
/-- What is read later holds its value after 20 operations. -/
structure At1 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v3 : G (Proc.devRef .tc main_v3) = Cert.TallyRef.v3 a
  v14 : G (Proc.devRef .tc main_v14) = Cert.TallyRef.v14 a
  v15 : G (Proc.devRef .tc main_v15) = Cert.TallyRef.v15 a
/-- What is read later holds its value after 40 operations. -/
structure At2 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v29 : G (Proc.devRef .tc main_v29) = Cert.TallyRef.v29 a
  v32 : G (Proc.devRef .tc main_v32) = Cert.TallyRef.v32 a
/-- What is read later holds its value after 60 operations. -/
structure At3 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v48 : G (Proc.devRef .tc main_v48) = Cert.TallyRef.v48 a
  v49 : G (Proc.devRef .tc main_v49) = Cert.TallyRef.v49 a
  cst_8 : G (Proc.devRef .tc main_cst_8) = Cert.TallyRef.cst_8 a
/-- What is read later holds its value after 79 operations. -/
structure At4 (a : Args F) (G : Valuation τ sig (Elt F)) : Prop where
  arg0 : G (Proc.devRef .tc main_arg0) = a.arg0
  arg1 : G (Proc.devRef .tc main_arg1) = a.arg1
  arg2 : G (Proc.devRef .tc main_arg2) = a.arg2
  arg3 : G (Proc.devRef .tc main_arg3) = a.arg3
  arg4 : G (Proc.devRef .tc main_arg4) = a.arg4
  arg5 : G (Proc.devRef .tc main_arg5) = a.arg5
  arg6 : G (Proc.devRef .tc main_arg6) = a.arg6
  arg7 : G (Proc.devRef .tc main_arg7) = a.arg7
  v63 : G (Proc.devRef .tc main_v63) = Cert.TallyRef.v63 a
set_option maxHeartbeats 8000000 in
theorem step0 (a : Args F) (G : Valuation τ sig (Elt F)) (h : At0 a G) : At1 a (after ops0 G) := by
  obtain ⟨h_arg0, h_arg1, h_arg2, h_arg3, h_arg4, h_arg5, h_arg6, h_arg7⟩ := h
  refine ⟨?_, ?_, ?_, ?_, ?_, ?_, ?_, ?_, ?_, ?_, ?_⟩
  · simp only [ops0, TRef.binary, TRef.nullary, TRef.ternary, TRef.unary, TRef.quaternary, TRef.toBuf, TRef.ofBuf, cast_eq]; after_results_simp; rw [h_arg0]
  · simp only [ops0, TRef.binary, TRef.nullary, TRef.ternary, TRef.unary, TRef.quaternary, TRef.toBuf, TRef.ofBuf, cast_eq]; after_results_simp; rw [h_arg1]
  · simp only [ops0, TRef.binary, TRef.nullary, TRef.ternary, TRef.unary, TRef.quaternary, TRef.toBuf, TRef.ofBuf, cast_eq]; after_results_simp; rw [h_arg2]
  · simp only [ops0, TRef.binary, TRef.nullary, TRef.ternary, TRef.unary, TRef.quaternary, TRef.toBuf, TRef.ofBuf, cast_eq]; after_results_simp; rw [h_arg3]
  · simp only [ops0, TRef.binary, TRef.nullary, TRef.ternary, TRef.unary, TRef.quaternary, TRef.toBuf, TRef.ofBuf, cast_eq]; after_results_simp; rw [h_arg4]
  · simp only [ops0, TRef.binary, TRef.nullary, TRef.ternary, TRef.unary, TRef.quaternary, TRef.toBuf, TRef.ofBuf, cast_eq]; after_results_simp; rw [h_arg5]
  · simp only [ops0, TRef.binary, TRef.nullary, TRef.ternary, TRef.unary, TRef.quaternary, TRef.toBuf, TRef.ofBuf, cast_eq]; after_results_simp; rw [h_arg6]
  · simp only [ops0, TRef.binary, TRef.nullary, TRef.ternary, TRef.unary, TRef.quaternary, TRef.toBuf, TRef.ofBuf, cast_eq]; after_results_simp; rw [h_arg7]
  · simp only [ops0, TRef.binary, TRef.nullary, TRef.ternary, TRef.unary, TRef.quaternary, TRef.toBuf, TRef.ofBuf, cast_eq]; after_results_simp; rw [h_arg0, h_arg1, h_arg2]; rfl
  · simp only [ops0, TRef.binary, TRef.nullary, TRef.ternary, TRef.unary, TRef.quaternary, TRef.toBuf, TRef.ofBuf, cast_eq]; after_results_simp; rw [h_arg0, h_arg1, h_arg2]; rfl
  · simp only [ops0, TRef.binary, TRef.nullary, TRef.ternary, TRef.unary, TRef.quaternary, TRef.toBuf, TRef.ofBuf, cast_eq]; after_results_simp; rw [h_arg0, h_arg1, h_arg2]; rfl
set_option maxHeartbeats 8000000 in
theorem step1 (a : Args F) (G : Valuation τ sig (Elt F)) (h : At1 a G) : At2 a (after ops1 G) := by
  obtain ⟨h_arg0, h_arg1, h_arg2, h_arg3, h_arg4, h_arg5, h_arg6, h_arg7, h_v3, h_v14, h_v15⟩ := h
  refine ⟨?_, ?_, ?_, ?_, ?_, ?_, ?_, ?_, ?_, ?_⟩
  · simp only [ops1, TRef.binary, TRef.nullary, TRef.ternary, TRef.unary, TRef.quaternary, TRef.toBuf, TRef.ofBuf, cast_eq]; after_results_simp; rw [h_arg0]
  · simp only [ops1, TRef.binary, TRef.nullary, TRef.ternary, TRef.unary, TRef.quaternary, TRef.toBuf, TRef.ofBuf, cast_eq]; after_results_simp; rw [h_arg1]
  · simp only [ops1, TRef.binary, TRef.nullary, TRef.ternary, TRef.unary, TRef.quaternary, TRef.toBuf, TRef.ofBuf, cast_eq]; after_results_simp; rw [h_arg2]
  · simp only [ops1, TRef.binary, TRef.nullary, TRef.ternary, TRef.unary, TRef.quaternary, TRef.toBuf, TRef.ofBuf, cast_eq]; after_results_simp; rw [h_arg3]
  · simp only [ops1, TRef.binary, TRef.nullary, TRef.ternary, TRef.unary, TRef.quaternary, TRef.toBuf, TRef.ofBuf, cast_eq]; after_results_simp; rw [h_arg4]
  · simp only [ops1, TRef.binary, TRef.nullary, TRef.ternary, TRef.unary, TRef.quaternary, TRef.toBuf, TRef.ofBuf, cast_eq]; after_results_simp; rw [h_arg5]
  · simp only [ops1, TRef.binary, TRef.nullary, TRef.ternary, TRef.unary, TRef.quaternary, TRef.toBuf, TRef.ofBuf, cast_eq]; after_results_simp; rw [h_arg6]
  · simp only [ops1, TRef.binary, TRef.nullary, TRef.ternary, TRef.unary, TRef.quaternary, TRef.toBuf, TRef.ofBuf, cast_eq]; after_results_simp; rw [h_arg7]
  · simp only [ops1, TRef.binary, TRef.nullary, TRef.ternary, TRef.unary, TRef.quaternary, TRef.toBuf, TRef.ofBuf, cast_eq]; after_results_simp; rw [h_arg3, h_arg4, h_v3, h_v14, h_v15]; rfl
  · simp only [ops1, TRef.binary, TRef.nullary, TRef.ternary, TRef.unary, TRef.quaternary, TRef.toBuf, TRef.ofBuf, cast_eq]; after_results_simp; rw [h_arg3, h_arg4, h_v3, h_v14, h_v15]; rfl
set_option maxHeartbeats 8000000 in
theorem step2 (a : Args F) (G : Valuation τ sig (Elt F)) (h : At2 a G) : At3 a (after ops2 G) := by
  obtain ⟨h_arg0, h_arg1, h_arg2, h_arg3, h_arg4, h_arg5, h_arg6, h_arg7, h_v29, h_v32⟩ := h
  refine ⟨?_, ?_, ?_, ?_, ?_, ?_, ?_, ?_, ?_, ?_, ?_⟩
  · simp only [ops2, TRef.binary, TRef.nullary, TRef.ternary, TRef.unary, TRef.quaternary, TRef.toBuf, TRef.ofBuf, cast_eq]; after_results_simp; rw [h_arg0]
  · simp only [ops2, TRef.binary, TRef.nullary, TRef.ternary, TRef.unary, TRef.quaternary, TRef.toBuf, TRef.ofBuf, cast_eq]; after_results_simp; rw [h_arg1]
  · simp only [ops2, TRef.binary, TRef.nullary, TRef.ternary, TRef.unary, TRef.quaternary, TRef.toBuf, TRef.ofBuf, cast_eq]; after_results_simp; rw [h_arg2]
  · simp only [ops2, TRef.binary, TRef.nullary, TRef.ternary, TRef.unary, TRef.quaternary, TRef.toBuf, TRef.ofBuf, cast_eq]; after_results_simp; rw [h_arg3]
  · simp only [ops2, TRef.binary, TRef.nullary, TRef.ternary, TRef.unary, TRef.quaternary, TRef.toBuf, TRef.ofBuf, cast_eq]; after_results_simp; rw [h_arg4]
  · simp only [ops2, TRef.binary, TRef.nullary, TRef.ternary, TRef.unary, TRef.quaternary, TRef.toBuf, TRef.ofBuf, cast_eq]; after_results_simp; rw [h_arg5]
  · simp only [ops2, TRef.binary, TRef.nullary, TRef.ternary, TRef.unary, TRef.quaternary, TRef.toBuf, TRef.ofBuf, cast_eq]; after_results_simp; rw [h_arg6]
  · simp only [ops2, TRef.binary, TRef.nullary, TRef.ternary, TRef.unary, TRef.quaternary, TRef.toBuf, TRef.ofBuf, cast_eq]; after_results_simp; rw [h_arg7]
  · simp only [ops2, TRef.binary, TRef.nullary, TRef.ternary, TRef.unary, TRef.quaternary, TRef.toBuf, TRef.ofBuf, cast_eq]; after_results_simp; rw [h_arg5, h_arg6, h_arg7, h_v29, h_v32]; rfl
  · simp only [ops2, TRef.binary, TRef.nullary, TRef.ternary, TRef.unary, TRef.quaternary, TRef.toBuf, TRef.ofBuf, cast_eq]; after_results_simp; rw [h_arg7]; rfl
  · simp only [ops2, TRef.binary, TRef.nullary, TRef.ternary, TRef.unary, TRef.quaternary, TRef.toBuf, TRef.ofBuf, cast_eq]; after_results_simp; skip; rfl
set_option maxHeartbeats 8000000 in
theorem step3 (a : Args F) (G : Valuation τ sig (Elt F)) (h : At3 a G) : At4 a (after ops3 G) := by
  obtain ⟨h_arg0, h_arg1, h_arg2, h_arg3, h_arg4, h_arg5, h_arg6, h_arg7, h_v48, h_v49, h_cst_8⟩ := h
  refine ⟨?_, ?_, ?_, ?_, ?_, ?_, ?_, ?_, ?_⟩
  · simp only [ops3, TRef.binary, TRef.nullary, TRef.ternary, TRef.unary, TRef.quaternary, TRef.toBuf, TRef.ofBuf, cast_eq]; after_results_simp; rw [h_arg0]
  · simp only [ops3, TRef.binary, TRef.nullary, TRef.ternary, TRef.unary, TRef.quaternary, TRef.toBuf, TRef.ofBuf, cast_eq]; after_results_simp; rw [h_arg1]
  · simp only [ops3, TRef.binary, TRef.nullary, TRef.ternary, TRef.unary, TRef.quaternary, TRef.toBuf, TRef.ofBuf, cast_eq]; after_results_simp; rw [h_arg2]
  · simp only [ops3, TRef.binary, TRef.nullary, TRef.ternary, TRef.unary, TRef.quaternary, TRef.toBuf, TRef.ofBuf, cast_eq]; after_results_simp; rw [h_arg3]
  · simp only [ops3, TRef.binary, TRef.nullary, TRef.ternary, TRef.unary, TRef.quaternary, TRef.toBuf, TRef.ofBuf, cast_eq]; after_results_simp; rw [h_arg4]
  · simp only [ops3, TRef.binary, TRef.nullary, TRef.ternary, TRef.unary, TRef.quaternary, TRef.toBuf, TRef.ofBuf, cast_eq]; after_results_simp; rw [h_arg5]
  · simp only [ops3, TRef.binary, TRef.nullary, TRef.ternary, TRef.unary, TRef.quaternary, TRef.toBuf, TRef.ofBuf, cast_eq]; after_results_simp; rw [h_arg6]
  · simp only [ops3, TRef.binary, TRef.nullary, TRef.ternary, TRef.unary, TRef.quaternary, TRef.toBuf, TRef.ofBuf, cast_eq]; after_results_simp; rw [h_arg7]
  · simp only [ops3, TRef.binary, TRef.nullary, TRef.ternary, TRef.unary, TRef.quaternary, TRef.toBuf, TRef.ofBuf, cast_eq]; after_results_simp; rw [h_v48, h_v49, h_cst_8]; rfl
set_option maxHeartbeats 8000000 in
/-- Every weakly fair run ends with each result at its value and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = v63 (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
      have h0 : At0 (argsOf m c) (fun b => m (c, b)) := ⟨rfl, rfl, rfl, rfl, rfl, rfl, rfl, rfl⟩
      have h1 := step0 _ _ h0
      have h2 := step1 _ _ h1
      have h3 := step2 _ _ h2
      have h4 := step3 _ _ h3
      have e : ∀ b : Ref sig .tc, r.2.mem ((c.tc : Thread nD τ).loc b) = _ := h c
      simp only [ops_split, after_append] at e
      exact ⟨(e main_v63).trans h4.v63, (e main_arg0).trans h4.arg0, (e main_arg1).trans h4.arg1, (e main_arg2).trans h4.arg2, (e main_arg3).trans h4.arg3, (e main_arg4).trans h4.arg4, (e main_arg5).trans h4.arg5, (e main_arg6).trans h4.arg6, (e main_arg7).trans h4.arg7⟩)
    (run_seq scopedRefs_eq scopedSems_eq defs main (fun _ => ops) main_eq (fun _ => ops_sub) m ρ)

end Cert.TallyRef

end
-- ==== Proof.TallyRefPay.lean ====
module

public import proofs.«01_k».proof.Proof.EncodeMath
public import proofs.«01_k».proof.Proof.TallyRef

/-! The rows and distances of the reference of the counts, at an index. -/

@[expose] public section

noncomputable section

namespace Cert.TallyRefPay

open Cert.TallyReferenceIdeal Idealize.ShloMosaic Cert.Row Cert.EncodeMath

/-- The row of codes of position (s, t). -/
def refRow (a : TallyRef.Args Ideal) (s : Fin 32) (t : Fin 2048) : Fin 64 → EReal :=
  mlp (fun k => a.arg0 (ix3 s t k)) (fun k n => a.arg1 (ix2 k n)) (fun n => a.arg2 (ix1 n))
    (fun n => a.arg3 (ix1 n)) (fun n => a.arg4 (ix1 n)) (fun k n => a.arg5 (ix2 k n)) (fun n => a.arg6 (ix1 n))

theorem ref38_apply (a : TallyRef.Args Ideal) (s : Fin 32) (t : Fin 2048) (l : Fin 64) :
    TallyRef.v38 a (ix3 s t l) = refRow a s t l := by
  unfold refRow mlp gelu normRow mean lin
  pointwise [TallyRef.v0, TallyRef.v1, TallyRef.v2, TallyRef.v3, TallyRef.cst, TallyRef.v4, TallyRef.v5, TallyRef.cst_0, TallyRef.v6, TallyRef.v7, TallyRef.v8, TallyRef.v9, TallyRef.v10, TallyRef.cst_1, TallyRef.v11, TallyRef.v12, TallyRef.cst_2, TallyRef.v13, TallyRef.v14, TallyRef.v15, TallyRef.v16, TallyRef.cst_3, TallyRef.v17, TallyRef.v18, TallyRef.v19, TallyRef.v20, TallyRef.v21, TallyRef.v22, TallyRef.v23, TallyRef.v24, TallyRef.v25, TallyRef.v26, TallyRef.v27, TallyRef.cst_4, TallyRef.v28, TallyRef.v29, TallyRef.v30, TallyRef.cst_5, TallyRef.v31, TallyRef.v32, TallyRef.v33, TallyRef.v34, TallyRef.v35, TallyRef.v36, TallyRef.v37, TallyRef.v38]
  simp only [neg_mul, Ideal.erfc_neg]

theorem ref39_apply (a : TallyRef.Args Ideal) (s : Fin 32) (t : Fin 2048) (l : Fin 64) (n : Fin 65536) (hn : n.val = s.val * 2048 + t.val) :
    TallyRef.v39 a (ix2 n l) = refRow a s t l := by
  have e : TallyRef.v39 a (ix2 n l) = TallyRef.v38 a (ix3 ⟨n.val / 2048, by omega⟩ ⟨n.val % 2048, by omega⟩ l) := by
    pointwise [TallyRef.v39]
  rw [e, ref38_apply]
  congr 1
  · apply Fin.ext; show n.val / 2048 = s.val; omega
  · apply Fin.ext; show n.val % 2048 = t.val; omega

theorem ref53_apply (a : TallyRef.Args Ideal) (n : Fin 65536) (k : Fin 512) :
    TallyRef.v53 a (ix2 n k) = EncodeMath.dist (fun l => TallyRef.v39 a (ix2 n l)) (fun k l => a.arg7 (ix2 k l)) k := by
  unfold EncodeMath.dist
  pointwise [TallyRef.v40, TallyRef.cst_6, TallyRef.v41, TallyRef.v42, TallyRef.cst_7, TallyRef.v43, TallyRef.v44, TallyRef.v45, TallyRef.v46, TallyRef.v47, TallyRef.v48, TallyRef.v49, TallyRef.cst_8, TallyRef.v50, TallyRef.v51, TallyRef.v52, TallyRef.v53]

end Cert.TallyRefPay

end
-- ==== Proof.TallyArg.lean ====
module

public import proofs.«01_k».proof.Proof.TallyRefPay
public import proofs.«01_k».proof.Proof.EncodeArg
public import Idealize.ShloMosaic.Lib.ReduceAll
public import Idealize.ShloMosaic.PureOps.Ideal.Laws

/-! The codes and the counts of the reference of the counts. -/

@[expose] public section

noncomputable section

namespace Cert.TallyArg

open Cert.TallyReferenceIdeal Cert.TallyReferenceIdeal.Gen Idealize.ShloMosaic Cert.EncodeMath
open Cert.EncodeArg (mem_fiber drop_gen)

/-- The reference's choice between two pairs. -/
theorem reducer_eq : (reducer_argmin_f32_i32 (F := Ideal)) = lesser := by
  funext a b
  obtain ⟨a1, a2⟩ := a
  obtain ⟨b1, b2⟩ := b
  have h1 : FloatOps.cmpf (F := Ideal) (φ := .f32) .olt a1 b1 = BitVec.ofBool (decide (a1 < b1)) := by simp [Ideal.cmpf_def, Ideal.cmp]
  have h2 : FloatOps.cmpf (F := Ideal) (φ := .f32) .une a1 a1 = 0#1 := by simp [Ideal.cmpf_def, Ideal.cmp]
  have h3 : FloatOps.cmpf (F := Ideal) (φ := .f32) .oeq a1 b1 = BitVec.ofBool (decide (a1 = b1)) := by simp [Ideal.cmpf_def, Ideal.cmp]
  have h4 : IntOp.cmpi .slt a2 b2 = BitVec.ofBool (decide (a2.toInt < b2.toInt)) := by
    show BitVec.ofBool (a2.slt b2) = _
    rw [BitVec.slt_eq_decide]
  unfold reducer_argmin_f32_i32 lesser
  dsimp only
  rw [h1, h2, h3, h4]
  by_cases c1 : a1 < b1 <;> by_cases c2 : a1 = b1 <;> by_cases c3 : a2.toInt < b2.toInt <;>
    simp [c1, c2, c3, Scalar.select, IntOp.ori, IntOp.andi]

/-- A fold of the reference's choice over 512 values and their numbers finds the first minimum. -/
theorem arg_first {s t u : Shape} {axes : List (Fin s.rank)} (x : FVec Ideal s .f32) (y : s.Idx → BitVec 32) (ix : u.Idx → Ideal .f32) (iy : u.Idx → BitVec 32)
    (h : s.ReducesTo axes t) (hu : 0 < u.numel) (j : t.Idx) (f : Fin 512 → EReal) (k : Fin 512) (hF : First f k) (hr : f k < ⊤)
    (hx : ix (Shape.Idx.first hu) = (⊤ : EReal)) (hy : iy (Shape.Idx.first hu) = 0#32)
    (h1 : ∀ i, h.drop i = j → ∃ q : Fin 512, x i = f q ∧ y i = BitVec.ofNat 32 q.val)
    (h2 : ∃ i, h.drop i = j ∧ x i = f k ∧ y i = BitVec.ofNat 32 k.val)
    (g : t.Idx → BitVec 32) (hg : g = fun j => (Host.argReduce reducer_argmin_f32_i32 x y ix iy h hu j).2) :
    g j = BitVec.ofNat 32 k.val := by
  rw [hg]
  dsimp only
  rw [Ideal.argReduce_eq_reduce2, Host.reduce2_eq_foldl_fiber, reducer_eq, hx, hy]
  have hf := foldl_first hF hr (Host.argReduceFiber x y h j) ?_ ?_
  · exact congrArg Prod.snd hf
  · intro a ha
    obtain ⟨i, hi, rfl⟩ := (mem_fiber x y h j a).mp ha
    obtain ⟨q, e1, e2⟩ := h1 i hi
    exact ⟨q, by rw [e1, e2]⟩
  · obtain ⟨i, hi, e1, e2⟩ := h2
    exact (mem_fiber x y h j _).mpr ⟨i, hi, by rw [e1, e2]⟩

theorem drop_row (p : Fin 65536) (q : Fin 512) : reducesTo_S65536x512_S65536_d1.drop (ix2 p q : S65536x512.Idx) = (ix1 p : S65536.Idx) :=
  drop_gen reducesTo_S65536x512_S65536_d1 p q

/-- The codes as one fold over the distances. -/
def fold (a : TallyRef.Args Ideal) : IVec S65536 32 := fun j =>
  (Host.argReduce (F := Ideal) (s := S65536x512) (t := S65536) (u := S_) reducer_argmin_f32_i32 (TallyRef.v53 a) (TallyRef.c0_v0 a) (TallyRef.c0_cst a) (TallyRef.c0_c a) reducesTo_S65536x512_S65536_d1 h_S_ j).2

theorem v54_eq (a : TallyRef.Args Ideal) : TallyRef.v54 a = fold a := rfl

theorem inf_apply (a : TallyRef.Args Ideal) (j : S_.Idx) : TallyRef.c0_cst a j = (⊤ : EReal) := by
  unfold TallyRef.c0_cst constant
  exact ofBits_inf

theorem fiber_row (x : FVec Ideal S65536x512 .f32) (y : IVec S65536x512 32) (hy : ∀ p q, y (ix2 p q) = BitVec.ofNat 32 q.val) (n : Fin 65536) (i : S65536x512.Idx)
    (hi : reducesTo_S65536x512_S65536_d1.drop i = (ix1 n : S65536.Idx)) : ∃ q : Fin 512, x i = x (ix2 n q) ∧ y i = BitVec.ofNat 32 q.val := by
  obtain ⟨p, q, rfl⟩ : ∃ (p : Fin 65536) (q : Fin 512), i = ix2 p q := ⟨_, _, ValueIdx.eq_ix2 i⟩
  rw [drop_row p q] at hi
  have hp : p = n := congrFun hi (0 : Fin 1)
  rw [hp]
  exact ⟨q, rfl, hy n q⟩

/-- The code of row `n`, the distances' first minimum being `k`. -/
theorem v54_apply (a : TallyRef.Args Ideal) (n : Fin 65536) (k : Fin 512)
    (h : First (fun k => (TallyRef.v53 a (ix2 n k) : EReal)) k) (hr : (TallyRef.v53 a (ix2 n k) : EReal) < ⊤) :
    TallyRef.v54 a (ix1 n) = BitVec.ofNat 32 k.val := by
  have hy : ∀ p q, (TallyRef.c0_v0 a : IVec S65536x512 32) (ix2 p q) = BitVec.ofNat 32 q.val := fun _ _ => rfl
  rw [v54_eq]
  exact arg_first (s := S65536x512) (t := S65536) (u := S_) (TallyRef.v53 a) (TallyRef.c0_v0 a) (TallyRef.c0_cst a) (TallyRef.c0_c a)
    reducesTo_S65536x512_S65536_d1 h_S_ (ix1 n) (fun k => TallyRef.v53 a (ix2 n k)) k h hr (inf_apply a _) rfl
    (fiber_row (TallyRef.v53 a) (TallyRef.c0_v0 a) hy n) ⟨ix2 n k, drop_row n k, rfl, hy n k⟩ (fold a) rfl

/-- Whether row `n`'s word is the number of code `k`. -/
theorem same_apply (w : IVec S65536 32) (n : Fin 65536) (k : Fin 512) :
    cmpi .eq (broadcastInDim S65536x512 ![0, 1] bcast_S65536x1_S65536x512_0_1 (broadcastInDim S65536x1 ![0] bcast_S65536_S65536x1_0 w))
      (broadcastInDim S65536x512 ![0, 1] bcast_S1x512_S65536x512_0_1 (broadcastInDim S1x512 ![1] bcast_S512_S1x512_1 (iotaInDim S512 32 0))) (ix2 n k)
      = BitVec.ofBool (decide (w (ix1 n) = BitVec.ofNat 32 k.val)) := by
  pointwise []
  show BitVec.ofBool (w (ix1 n) == BitVec.ofNat 32 k.val) = _
  by_cases h : w (ix1 n) = BitVec.ofNat 32 k.val
  · simp [h]
  · rw [decide_eq_false h, beq_false_of_ne h]

theorem v60_eq (a : TallyRef.Args Ideal) : TallyRef.v60 a
    = cmpi .eq (broadcastInDim S65536x512 ![0, 1] bcast_S65536x1_S65536x512_0_1 (broadcastInDim S65536x1 ![0] bcast_S65536_S65536x1_0 (TallyRef.v54 a)))
      (broadcastInDim S65536x512 ![0, 1] bcast_S1x512_S65536x512_0_1 (broadcastInDim S1x512 ![1] bcast_S512_S1x512_1 (iotaInDim S512 32 0))) := rfl

theorem v60_apply (a : TallyRef.Args Ideal) (n : Fin 65536) (k : Fin 512) :
    TallyRef.v60 a (ix2 n k) = BitVec.ofBool (decide (TallyRef.v54 a (ix1 n) = BitVec.ofNat 32 k.val)) :=
  (congrFun (v60_eq a) (ix2 n k)).trans (same_apply (TallyRef.v54 a) n k)

/-- Two codes' words are the same only if the codes are. -/
theorem word_inj {p q : Fin 512} (h : BitVec.ofNat 32 p.val = BitVec.ofNat 32 q.val) : p = q := by
  have hp := toInt_small p
  have hq := toInt_small q
  rw [h] at hp
  exact Fin.ext (by omega)

theorem v63_sum (a : TallyRef.Args Ideal) (u : Fin 1) (k : Fin 512) :
    TallyRef.v63 a (ix2 u k) = ∑ n : Fin 65536, (FloatOps.uitofp .f32 (TallyRef.v60 a (ix2 n k)) : Ideal .f32) := by
  pointwise [TallyRef.v63, TallyRef.v62, TallyRef.v61, TallyRef.cst_9]

/-- The reference's count of code `k`, the rows' codes being `K`. -/
theorem v63_apply (a : TallyRef.Args Ideal) (K : Fin 65536 → Fin 512) (hK : ∀ n, TallyRef.v54 a (ix1 n) = BitVec.ofNat 32 (K n).val) (u : Fin 1) (k : Fin 512) :
    TallyRef.v63 a (ix2 u k) = ∑ n : Fin 65536, (if K n = k then (1 : EReal) else 0) := by
  rw [v63_sum]
  refine Finset.sum_congr rfl fun n _ => ?_
  rw [v60_apply, hK]
  by_cases h : K n = k
  · rw [if_pos h, h]
    have h1 : (FloatOps.uitofp .f32 1#1 : Ideal .f32) = (1 : EReal) := by
      show (((1#1 : BitVec 1).toNat : ℝ) : EReal) = 1
      simp
    simpa using h1
  · rw [if_neg h, decide_eq_false (fun e => h (word_inj e))]
    have h0 : (FloatOps.uitofp .f32 0#1 : Ideal .f32) = (0 : EReal) := by
      show (((0#1 : BitVec 1).toNat : ℝ) : EReal) = 0
      simp
    simpa using h0

end Cert.TallyArg

end
-- ==== Proof.TallyPre.lean ====
module

public import proofs.«01_k».proof.Proof.TallyArg
public import proofs.«01_k».proof.Pre_untied

/-! What the precondition of the counts says: every code but the argmin is farther than the nearest. -/

@[expose] public section

noncomputable section

namespace Cert.TallyPre

open Cert.Pre_untied Cert.Pre_untied.Facts Idealize.ShloMosaic Cert.EncodeMath

variable [Cert.Pre_untied.Facts]

/-- Whether code `k` is farther than the nearest. -/
def farther (x : FVec Ideal S65536x512 .f32) : IVec S65536x512 1 :=
  cmpf .ogt x (broadcastInDim S65536x512 ![0, 1] bcast_S65536x1_S65536x512_0_1 (broadcastInDim S65536x1 ![0] bcast_S65536_S65536x1_0
    ((fun x v => Host.reduce FloatOps.minimumf x v reducesTo_S65536x512_S65536_d1 h_S_) x (constant (F := Ideal) S_ .f32 0x7F800000#32))))

theorem farther_apply (x : FVec Ideal S65536x512 .f32) (n : Fin 65536) (k : Fin 512) :
    farther x (ix2 n k) = BitVec.ofBool (decide (Finset.fold min (Ideal.ofBits .f32 0x7F800000#32) (fun q : Fin 512 => x (ix2 n q)) Finset.univ < x (ix2 n k))) := by
  pointwise [farther]

set_option maxRecDepth 100000 in
set_option maxHeartbeats 4000000 in
theorem fn_eq (a : TallyRef.Args Ideal) :
    fn (F := Ideal) a.arg0 a.arg1 a.arg2 a.arg3 a.arg4 a.arg5 a.arg6 a.arg7
      = Host.reduce IntOp.andi (ori (TallyRef.v60 a) (farther (TallyRef.v53 a))) (constantI S_ 1 1#1) reducesTo_S65536x512_S_d0_1 h_S_ := rfl

theorem of_pre (a : TallyRef.Args Ideal) (h : fn (F := Ideal) a.arg0 a.arg1 a.arg2 a.arg3 a.arg4 a.arg5 a.arg6 a.arg7 = fun _ => 1#1)
    (n : Fin 65536) (k : Fin 512) : IntOp.ori (TallyRef.v60 a (ix2 n k)) (farther (TallyRef.v53 a) (ix2 n k)) = 1#1 := by
  haveI : Subsingleton S_.Idx := ⟨fun a b => funext fun k => k.elim0⟩
  rw [fn_eq] at h
  exact Host.reduce_andi_all _ _ _ _ _ (congrFun h fun k => k.elim0) (ix2 n k)

end Cert.TallyPre

end
-- ==== Proof.TallyFinal.lean ====
module

public import proofs.«01_k».proof.Proof.TallyRun
public import proofs.«01_k».proof.Proof.TallyPay
public import proofs.«01_k».proof.Proof.TallyPre
public import proofs.«01_k».proof.Proof.EncodeFinal

/-! The encoder's counts and the reference's are the same function of arguments in which no row has two nearest codes. -/

@[expose] public section

noncomputable section

namespace Cert.TallyFinal

open Cert.TallyIdeal Cert.TallyIdeal.Gen Idealize.ShloMosaic Idealize.ShloMosaic.TcCoe Cert.Row Cert.EncodeMath Cert.TallyPay Cert.TallyRun Cert.TallyRefPay

theorem row_apply {α : Type} (x : S128.Idx → α) (n : Fin 128) : shapeCast S1x128 x shapeCasts_S128_S1x128 (ix2 0 n) = x (ix1 n) := by
  pointwise []

theorem row64_apply {α : Type} (x : S64.Idx → α) (n : Fin 64) : shapeCast S1x64 x shapeCasts_S64_S1x64 (ix2 0 n) = x (ix1 n) := by
  pointwise []

theorem flat_apply {α : Type} (x : S32x2048x14.Idx → α) (h : S32x2048x14.ShapeCasts S65536x14) (n : Fin 65536) (k : Fin 14) :
    shapeCast S65536x14 x h (ix2 n k) = x (ix3 ⟨n.val / 2048, by omega⟩ ⟨n.val % 2048, by omega⟩ k) := by
  have e : Shape.reshapeEquiv h (ix2 n k) = ix3 ⟨n.val / 2048, by omega⟩ ⟨n.val % 2048, by omega⟩ k := by
    refine Shape.reshapeEquiv_eq_of_rowMajor _ ?_
    rw [Shape.rowMajor_val_two, Shape.rowMajor_val_three]
    show (n.val / 2048 * 2048 + n.val % 2048) * 14 + k.val = n.val * 14 + k.val
    omega
  unfold shapeCast
  rw [e]

theorem swap_apply {α : Type} (x : S512x64.Idx → α) (h : S512x64.Transposes [1, 0] S64x512) (l : Fin 64) (k : Fin 512) :
    transpose S64x512 [1, 0] x h (ix2 l k) = x (ix2 k l) := by
  pointwise []

section
variable (a : TallyRef.Args Ideal)

/-- Row `n` of the encoder's output. -/
def row (n : Fin 65536) : Fin 64 → EReal := refRow a ⟨n.val / 2048, by omega⟩ ⟨n.val % 2048, by omega⟩

/-- The table. -/
def book (k : Fin 512) (l : Fin 64) : EReal := a.arg7 (ix2 k l)

/-- The code of row `n`. -/
def code (n : Fin 65536) : Fin 512 := first (EncodeMath.dist (row a n) (book a))

/-- Whether row `n`'s code is `k`, as a number. -/
def hit (k : Fin 512) (n : ℕ) : EReal := if h : n < 65536 then (if code a ⟨n, h⟩ = k then 1 else 0) else 0

/-- The reference's distances. -/
theorem ref_dist (n : Fin 65536) : (fun k => (TallyRef.v53 a (ix2 n k) : EReal)) = EncodeMath.dist (row a n) (book a) := by
  funext k
  rw [ref53_apply]
  have e : (fun l => (TallyRef.v39 a (ix2 n l) : EReal)) = row a n := funext fun l =>
    ref39_apply a ⟨n.val / 2048, by omega⟩ ⟨n.val % 2048, by omega⟩ l n (by show n.val = n.val / 2048 * 2048 + n.val % 2048; omega)
  rw [e]
  rfl

variable [Cert.Pre_untied.Facts] {a} (hu : ∀ (n : Fin 65536) (k : Fin 512), IntOp.ori (TallyRef.v60 a (ix2 n k)) (TallyPre.farther (TallyRef.v53 a) (ix2 n k)) = 1#1)
include hu

/-- A code that the reference does not choose is farther than the nearest. -/
theorem nearer (n : Fin 65536) (k : Fin 512) (hk : TallyRef.v54 a (ix1 n) ≠ BitVec.ofNat 32 k.val) :
    EncodeMath.dist (row a n) (book a) (code a n) < EncodeMath.dist (row a n) (book a) k := by
  by_contra hn
  have hF : First (EncodeMath.dist (row a n) (book a)) (code a n) := first_spec _
  have e := hu n k
  have hd : (TallyRef.v53 a (ix2 n k) : EReal) = EncodeMath.dist (row a n) (book a) k := congrFun (ref_dist a n) k
  rw [TallyArg.v60_apply, decide_eq_false hk, TallyPre.farther_apply, ref_dist, fold_min hF, hd, decide_eq_false hn] at e
  exact absurd e (by decide)

/-- The nearest distance is not the greatest value: some code is farther. -/
theorem near_top (n : Fin 65536) : EncodeMath.dist (row a n) (book a) (code a n) < ⊤ := by
  by_cases h : TallyRef.v54 a (ix1 n) = BitVec.ofNat 32 (0 : Fin 512).val
  · refine (nearer hu n 1 fun e => ?_).trans_le le_top
    exact absurd (TallyArg.word_inj (h.symm.trans e)) (by decide)
  · exact (nearer hu n 0 h).trans_le le_top

/-- The reference's codes. -/
theorem ref_code (n : Fin 65536) : TallyRef.v54 a (ix1 n) = BitVec.ofNat 32 (code a n).val := by
  have hr := near_top hu n
  refine TallyArg.v54_apply a n (code a n) ?_ ?_
  · rw [ref_dist]; exact first_spec _
  · rw [← congrFun (ref_dist a n) (code a n)] at hr; exact hr

theorem code_lt (n : Fin 65536) (k : Fin 512) (h : code a n ≠ k) : score (row a n) (book a) (code a n) < score (row a n) (book a) k :=
  score_lt (nearer hu n k fun e => h (TallyArg.word_inj ((ref_code hu n).symm.trans e)))

/-- The lowest score is the nearest code's. -/
theorem first_score (n : Fin 65536) : first (score (row a n) (book a)) = code a n := by
  by_contra h
  exact absurd ((first_spec (score (row a n) (book a))).1 (code a n)) (not_le.mpr (code_lt hu n _ fun e => h e.symm))

/-- Only the nearest code has the lowest score. -/
theorem score_iff (n : Fin 65536) (k : Fin 512) :
    score (row a n) (book a) k = score (row a n) (book a) (first (score (row a n) (book a))) ↔ code a n = k := by
  rw [first_score hu]
  refine ⟨fun h => ?_, fun h => by rw [h]⟩
  by_contra hne
  exact absurd h (code_lt hu n k hne).ne'

/-- The reference's counts. -/
theorem ref_count (u : Fin 1) (k : Fin 512) : TallyRef.v63 a (ix2 u k) = ∑ i ∈ Finset.range 65536, hit a k i := by
  rw [TallyArg.v63_apply a (code a) (ref_code hu), ← Fin.sum_univ_eq_sum_range (fun i => hit a k i) 65536]
  refine Finset.sum_congr rfl fun n _ => ?_
  unfold hit
  rw [dif_pos n.isLt]

end

section
variable (m : (ℓ : Loc nD τ sig) → Buf (Elt Ideal) ℓ) (c : Dev nD) {a : TallyRef.Args Ideal}
    (h0 : m ((c.tc : Thread nD τ).loc main_arg0) = a.arg0) (h1 : m ((c.tc : Thread nD τ).loc main_arg1) = a.arg1)
    (h2 : m ((c.tc : Thread nD τ).loc main_arg2) = a.arg2) (h3 : m ((c.tc : Thread nD τ).loc main_arg3) = a.arg3)
    (h4 : m ((c.tc : Thread nD τ).loc main_arg4) = a.arg4) (h5 : m ((c.tc : Thread nD τ).loc main_arg5) = a.arg5)
    (h6 : m ((c.tc : Thread nD τ).loc main_arg6) = a.arg6) (h7 : m ((c.tc : Thread nD τ).loc main_arg7) = a.arg7)

include h0 h1 h2 h3 h4 h5 h6 in
/-- The rows of block `t`. -/
theorem zrow_eq (t : Fin cfg0.N) (i : Fin 4096) (n : Fin 65536) (hn : n.val = t.val * 4096 + i.val) :
    zrow (iblk m c 0 t) (V m c main_arg1) (V m c main_v2) (V m c main_v3) (V m c main_v4) (V m c main_arg5) (V m c main_v5) i = row a n := by
  unfold zrow row refRow
  rw [V_main_arg1, V_main_arg5, V_v2, V_v3, V_v4, V_v5, h1, h2, h3, h4, h5, h6]
  congr 1
  · funext k
    rw [iblk0 m c t i k n hn, V_v0, h0]
    exact flat_apply _ _ n k
  · funext k; exact row_apply _ k
  · funext k; exact row_apply _ k
  · funext k; exact row_apply _ k
  · funext k; exact row64_apply _ k

include h7 in
theorem book_eq : (fun k l => (V m c main_v1 : FVec Ideal S64x512 .f32) (ix2 l k)) = book a := by
  rw [V_v1, h7]
  funext k l
  exact swap_apply _ _ l k

theorem chain_zero (h : 0 < cfg0.N) : chain m c 0 h = k0_pay3 (F := Ideal) (partAt m c ⟨0, h⟩) (k0_pay1 (F := Ideal)) := by rw [chain]

theorem chain_succ (n : ℕ) (h : n + 1 < cfg0.N) : chain m c (n + 1) h = k0_pay3 (partAt m c ⟨n + 1, h⟩) (chain m c n (Nat.lt_of_succ_lt h)) := by rw [chain]

variable [Cert.Pre_untied.Facts] (hu : ∀ (n : Fin 65536) (k : Fin 512), IntOp.ori (TallyRef.v60 a (ix2 n k)) (TallyPre.farther (TallyRef.v53 a) (ix2 n k)) = 1#1)

include hu h0 h1 h2 h3 h4 h5 h6 h7 in
theorem partAt_apply (t : Fin cfg0.N) (k : Fin 512) : partAt m c t (ix2 0 k) = ∑ i ∈ Finset.range 4096, hit a k (t.val * 4096 + i) := by
  have hN : cfg0.N = 16 := N_0
  have ht := t.isLt
  unfold partAt TallyOut.part
  rw [pay14_apply, ← Fin.sum_univ_eq_sum_range (fun i => hit a k (t.val * 4096 + i)) 4096]
  refine Finset.sum_congr rfl fun i _ => ?_
  have hn : t.val * 4096 + i.val < 65536 := by omega
  unfold hit scores
  rw [dif_pos hn, zrow_eq m c h0 h1 h2 h3 h4 h5 h6 t i ⟨_, hn⟩ rfl, book_eq m c h7]
  exact if_congr (score_iff hu ⟨_, hn⟩ k) rfl rfl

include hu h0 h1 h2 h3 h4 h5 h6 h7 in
theorem chain_apply (k : Fin 512) (n : ℕ) : ∀ h : n < cfg0.N, chain m c n h (ix2 0 k) = ∑ i ∈ Finset.range ((n + 1) * 4096), hit a k i := by
  induction n with
  | zero =>
    intro h
    rw [chain_zero, pay3_apply, pay1_apply, partAt_apply m c h0 h1 h2 h3 h4 h5 h6 h7 hu, ← EncodeFinal.sum_blocks, Finset.sum_range_one, zero_add]
  | succ n ih =>
    intro h
    rw [chain_succ, pay3_apply, partAt_apply m c h0 h1 h2 h3 h4 h5 h6 h7 hu, ih, Nat.succ_mul (n + 1), Finset.sum_range_add]

include hu h0 h1 h2 h3 h4 h5 h6 h7 in
/-- The counts. -/
theorem counts_eq : G10 m c = TallyRef.v63 a := by
  funext y
  obtain ⟨i, k, rfl⟩ : ∃ (i : Fin 1) (k : Fin 512), y = ix2 i k := ⟨_, _, ValueIdx.eq_ix2 y⟩
  rw [ref_count hu, Subsingleton.elim i 0]
  exact chain_apply m c h0 h1 h2 h3 h4 h5 h6 h7 hu k 15 _

end

end Cert.TallyFinal

end
-- ==== Proof.TallyClaims.lean ====
/-
  The claims about the encoder's call and its counts: its frame at both instances, the reference's, and the equality of the
  counts, for arguments in which no row has two nearest codes.
-/
module

public import proofs.«01_k».proof.Defs
public import proofs.«01_k».proof.Proof.TallyFinal
public import proofs.«01_k».proof.Proof.Gen.Tally.Frame
public import Idealize.ShloMosaic.Lib.Quiescent

@[expose] public section

namespace Cert.Proof

open Idealize.ShloMosaic Idealize.SL.Sem

/-- The frame of the encoder with its counts at the bit-exact instance. -/
theorem frame_tally : Cert.quiescent_Tally := fun m ρ _ => Cert.Tally.Gen.frame (F := Bits) m ρ

/-- The frame of the encoder with its counts at the ideal instance. -/
theorem frame_tally_ideal : Cert.quiescent_TallyIdeal := fun m ρ _ => Cert.TallyIdeal.Gen.frame (F := Ideal) m ρ

/-- The reference's frame; it has no semaphore. -/
theorem frame_tally_reference : Cert.quiescent_TallyReferenceIdeal := fun m ρ _ =>
  (θ_run Cert.TallyReferenceIdeal.defs _ _).mono (fun r h => ⟨fun c => (h c).2, sem_eq_zero_of_no_sems (by decide) r.2⟩)
    (TallyRef.run (F := Ideal) m ρ)

/-- The same two frames under the precondition of the values. -/
theorem frame_tally_ideal_pre [Cert.Pre_untied.Facts] : Cert.quiescent_TallyIdeal_pre_untied := fun m ρ _ => Cert.TallyIdeal.Gen.frame (F := Ideal) m ρ

theorem frame_tally_reference_pre [Cert.Pre_untied.Facts] : Cert.quiescent_TallyReferenceIdeal_pre_untied := fun m ρ _ => frame_tally_reference m ρ trivial

/-- The encoder leaves the counts that the reference leaves. -/
theorem algebraic_tally [Cert.Pre_untied.Facts] : Cert.algebraic_TallyIdeal_TallyReferenceIdeal_pre_untied := by
  intro m ρ m' ρ' hpre hagree
  refine ⟨fun c => TallyRef.v63 (TallyRef.argsOf m' c), ?_, TallyRef.run (F := Ideal) m' ρ'⟩
  have hp : ∀ c (n : Fin 65536) (k : Fin 512), IntOp.ori (TallyRef.v60 (TallyRef.argsOf m' c) (ix2 n k)) (TallyPre.farther (TallyRef.v53 (TallyRef.argsOf m' c)) (ix2 n k)) = 1#1 := fun c => by
    obtain ⟨h0, h1, h2, h3, h4, h5, h6, h7⟩ := hagree c
    exact TallyPre.of_pre _ ((congr (congr (congr (congr (congr (congr (congr (congrArg (Cert.Pre_untied.fn (F := Ideal)) h0) h1) h2) h3) h4) h5) h6) h7).trans (hpre c))
  refine (θ_run Cert.TallyIdeal.defs _ _).mono (fun _ h c => ⟨(h.1 c).trans ?_, h.2 c⟩)
    (θ_run_and (TallyRun.run (F := Ideal) m ρ) (Cert.TallyIdeal.Gen.unchanged (F := Ideal) m ρ))
  obtain ⟨h0, h1, h2, h3, h4, h5, h6, h7⟩ := hagree c
  exact TallyFinal.counts_eq m c h0.symm h1.symm h2.symm h3.symm h4.symm h5.symm h6.symm h7.symm (hp c)

end Cert.Proof
-- ==== Proof.lean ====
/-
  The claims of the calls and of their references, put together.
-/
module

public import proofs.«01_k».proof.Proof.GatherClaims
public import proofs.«01_k».proof.Proof.DecodeClaims
public import proofs.«01_k».proof.Proof.EncodeClaims
public import proofs.«01_k».proof.Proof.TallyClaims
public import proofs.«01_k».proof.Proof.Gen.Pre_in_range
public import proofs.«01_k».proof.Proof.Gen.Pre_finite
public import proofs.«01_k».proof.Proof.Gen.Pre_untied

@[expose] public section

namespace Cert.Proof

theorem claim : Cert.Claim :=
  ⟨Cert.Gather.Gen.facts, Cert.GatherIdeal.Gen.facts, Cert.GatherReferenceIdeal.Gen.facts, Cert.Decode.Gen.facts, Cert.DecodeIdeal.Gen.facts, Cert.DecodeReferenceIdeal.Gen.facts, Cert.Encode.Gen.facts, Cert.EncodeIdeal.Gen.facts, Cert.EncodeReferenceIdeal.Gen.facts, Cert.Tally.Gen.facts, Cert.TallyIdeal.Gen.facts, Cert.TallyReferenceIdeal.Gen.facts, Cert.Pre_in_range.Gen.facts, Cert.Pre_finite.Gen.facts, Cert.Pre_untied.Gen.facts,
   frame_gather, frame_gather_ideal, frame_gather_reference, frame_gather_reference_pre, frame_decode, frame_decode_ideal, frame_decode_reference,
   frame_encode, frame_encode_ideal, frame_encode_ideal_pre, frame_encode_reference, frame_encode_reference_pre, frame_tally, frame_tally_ideal, frame_tally_ideal_pre, frame_tally_reference, frame_tally_reference_pre,
   trivial, algebraic_gather, trivial, algebraic_decode, trivial, algebraic_encode, trivial, algebraic_tally⟩

end Cert.Proof

end
